-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v585)) (v1 : (c : Dev Cert.KernelIdeal.nD) → Buf (Elt Ideal) ((c.tc : Thread Cert.KernelIdeal.nD Cert.KernelIdeal.τ).loc Cert.KernelIdeal.main_v586)) (v2 : (c : Dev Cert.KernelIdeal.nD) → Buf (Elt Ideal) ((c.tc : Thread Cert.KernelIdeal.nD Cert.KernelIdeal.τ).loc Cert.KernelIdeal.main_v587)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v585) = v0 c
          ∧ r.2.mem ((c.tc : Thread Cert.KernelIdeal.nD Cert.KernelIdeal.τ).loc Cert.KernelIdeal.main_v586) = v1 c
          ∧ r.2.mem ((c.tc : Thread Cert.KernelIdeal.nD Cert.KernelIdeal.τ).loc Cert.KernelIdeal.main_v587) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v821) = v0 c
          ∧ r.2.mem ((c.tc : Thread Cert.ReferenceIdeal.nD Cert.ReferenceIdeal.τ).loc Cert.ReferenceIdeal.main_v732) = v1 c
          ∧ r.2.mem ((c.tc : Thread Cert.ReferenceIdeal.nD Cert.ReferenceIdeal.τ).loc Cert.ReferenceIdeal.main_v733) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x112x112x21 : Shape := ⟨4, ![4, 112, 112, 21]⟩
abbrev S4x112x112x256 : Shape := ⟨4, ![4, 112, 112, 256]⟩
abbrev S277x256 : Shape := ⟨2, ![277, 256]⟩
abbrev S256 : Shape := ⟨1, ![256]⟩
abbrev S277x21 : Shape := ⟨2, ![277, 21]⟩
abbrev S21 : Shape := ⟨1, ![21]⟩
abbrev S_ : Shape := ⟨0, ![]⟩

class Facts : Prop where
  bcast_S_S4x112x112x21 : S_.BroadcastsInDim S4x112x112x21 (![] : Fin 0 → Fin S4x112x112x21.rank)
  bcast_S_S4x112x112x256 : S_.BroadcastsInDim S4x112x112x256 (![] : Fin 0 → Fin S4x112x112x256.rank)
  bcast_S_S277x256 : S_.BroadcastsInDim S277x256 (![] : Fin 0 → Fin S277x256.rank)
  bcast_S_S256 : S_.BroadcastsInDim S256 (![] : Fin 0 → Fin S256.rank)
  bcast_S_S277x21 : S_.BroadcastsInDim S277x21 (![] : Fin 0 → Fin S277x21.rank)
  bcast_S_S21 : S_.BroadcastsInDim S21 (![] : Fin 0 → Fin S21.rank)

variable [Facts]

def fn_part1 {F : FTy → Type} [FloatOps F] (main_arg6 : FVec F S277x256 .f32) (main_arg7 : FVec F S256 .f32) (main_arg8 : FVec F S277x21 .f32) (main_arg9 : FVec F S21 .f32) (main_v2 : IVec S4x112x112x21 1) (main_v5 : IVec S4x112x112x256 1) (main_v8 : IVec S277x256 1) (main_v11 : IVec S256 1) (main_v14 : IVec S277x256 1) (main_v17 : IVec S256 1) : IVec S4x112x112x21 1 × IVec S4x112x112x256 1 × IVec S277x256 1 × IVec S256 1 × IVec S277x256 1 × IVec S256 1 × IVec S277x256 1 × IVec S256 1 × IVec S277x21 1 × IVec S21 1 :=
  let main_v18 : FVec F S277x256 .f32 := Host.absf main_arg6
  let main_cst_5 : FVec F S_ .f32 := constant S_ .f32 0x7F800000#32
  let main_v19 : FVec F S277x256 .f32 := broadcastInDim S277x256 ![] bcast_S_S277x256 main_cst_5
  let main_v20 : IVec S277x256 1 := cmpf .olt main_v18 main_v19
  let main_v21 : FVec F S256 .f32 := Host.absf main_arg7
  let main_cst_6 : FVec F S_ .f32 := constant S_ .f32 0x7F800000#32
  let main_v22 : FVec F S256 .f32 := broadcastInDim S256 ![] bcast_S_S256 main_cst_6
  let main_v23 : IVec S256 1 := cmpf .olt main_v21 main_v22
  let main_v24 : FVec F S277x21 .f32 := Host.absf main_arg8
  let main_cst_7 : FVec F S_ .f32 := constant S_ .f32 0x7F800000#32
  let main_v25 : FVec F S277x21 .f32 := broadcastInDim S277x21 ![] bcast_S_S277x21 main_cst_7
  let main_v26 : IVec S277x21 1 := cmpf .olt main_v24 main_v25
  let main_v27 : FVec F S21 .f32 := Host.absf main_arg9
  let main_cst_8 : FVec F S_ .f32 := constant S_ .f32 0x7F800000#32
  let main_v28 : FVec F S21 .f32 := broadcastInDim S21 ![] bcast_S_S21 main_cst_8
  let main_v29 : IVec S21 1 := cmpf .olt main_v27 main_v28
  (main_v2, main_v5, main_v8, main_v11, main_v14, main_v17, main_v20, main_v23, main_v26, main_v29)

def fn {F : FTy → Type} [FloatOps F] (main_arg0 : FVec F S4x112x112x21 .f32) (main_arg1 : FVec F S4x112x112x256 .f32) (main_arg2 : FVec F S277x256 .f32) (main_arg3 : FVec F S256 .f32) (main_arg4 : FVec F S277x256 .f32) (main_arg5 : FVec F S256 .f32) (main_arg6 : FVec F S277x256 .f32) (main_arg7 : FVec F S256 .f32) (main_arg8 : FVec F S277x21 .f32) (main_arg9 : FVec F S21 .f32) : IVec S4x112x112x21 1 × IVec S4x112x112x256 1 × IVec S277x256 1 × IVec S256 1 × IVec S277x256 1 × IVec S256 1 × IVec S277x256 1 × IVec S256 1 × IVec S277x21 1 × IVec S21 1 :=
  let main_v0 : FVec F S4x112x112x21 .f32 := Host.absf main_arg0
  let main_cst : FVec F S_ .f32 := constant S_ .f32 0x7F800000#32
  let main_v1 : FVec F S4x112x112x21 .f32 := broadcastInDim S4x112x112x21 ![] bcast_S_S4x112x112x21 main_cst
  let main_v2 : IVec S4x112x112x21 1 := cmpf .olt main_v0 main_v1
  let main_v3 : FVec F S4x112x112x256 .f32 := Host.absf main_arg1
  let main_cst_0 : FVec F S_ .f32 := constant S_ .f32 0x7F800000#32
  let main_v4 : FVec F S4x112x112x256 .f32 := broadcastInDim S4x112x112x256 ![] bcast_S_S4x112x112x256 main_cst_0
  let main_v5 : IVec S4x112x112x256 1 := cmpf .olt main_v3 main_v4
  let main_v6 : FVec F S277x256 .f32 := Host.absf main_arg2
  let main_cst_1 : FVec F S_ .f32 := constant S_ .f32 0x7F800000#32
  let main_v7 : FVec F S277x256 .f32 := broadcastInDim S277x256 ![] bcast_S_S277x256 main_cst_1
  let main_v8 : IVec S277x256 1 := cmpf .olt main_v6 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_v12 : FVec F S277x256 .f32 := Host.absf main_arg4
  let main_cst_3 : FVec F S_ .f32 := constant S_ .f32 0x7F800000#32
  let main_v13 : FVec F S277x256 .f32 := broadcastInDim S277x256 ![] bcast_S_S277x256 main_cst_3
  let main_v14 : IVec S277x256 1 := cmpf .olt main_v12 main_v13
  let main_v15 : FVec F S256 .f32 := Host.absf main_arg5
  let main_cst_4 : FVec F S_ .f32 := constant S_ .f32 0x7F800000#32
  let main_v16 : FVec F S256 .f32 := broadcastInDim S256 ![] bcast_S_S256 main_cst_4
  let main_v17 : IVec S256 1 := cmpf .olt main_v15 main_v16
  fn_part1 (F := F) main_arg6 main_arg7 main_arg8 main_arg9 main_v2 main_v5 main_v8 main_v11 main_v14 main_v17
-- ==== Kernel.lean ====
abbrev S4x112x112x21 : Shape := ⟨4, ![4, 112, 112, 21]⟩
abbrev S4x112x112x256 : Shape := ⟨4, ![4, 112, 112, 256]⟩
abbrev S277x256 : Shape := ⟨2, ![277, 256]⟩
abbrev S256 : Shape := ⟨1, ![256]⟩
abbrev S277x21 : Shape := ⟨2, ![277, 21]⟩
abbrev S21 : Shape := ⟨1, ![21]⟩
abbrev S4x1x112x21 : Shape := ⟨4, ![4, 1, 112, 21]⟩
abbrev S4x111x112x21 : Shape := ⟨4, ![4, 111, 112, 21]⟩
abbrev S_ : Shape := ⟨0, ![]⟩
abbrev S4x112x1x112x21 : Shape := ⟨5, ![4, 112, 1, 112, 21]⟩
abbrev S4x112x2x112x21 : Shape := ⟨5, ![4, 112, 2, 112, 21]⟩
abbrev S4x224x112x21 : Shape := ⟨4, ![4, 224, 112, 21]⟩
abbrev S4x224x1x21 : Shape := ⟨4, ![4, 224, 1, 21]⟩
abbrev S4x224x111x21 : Shape := ⟨4, ![4, 224, 111, 21]⟩
abbrev S4x224x112x1x21 : Shape := ⟨5, ![4, 224, 112, 1, 21]⟩
abbrev S4x224x112x2x21 : Shape := ⟨5, ![4, 224, 112, 2, 21]⟩
abbrev S4x224x224x21 : Shape := ⟨4, ![4, 224, 224, 21]⟩
abbrev S4x224x224 : Shape := ⟨3, ![4, 224, 224]⟩
abbrev S4x224x224x1 : Shape := ⟨4, ![4, 224, 224, 1]⟩
abbrev S4x50176 : Shape := ⟨2, ![4, 50176]⟩
abbrev S4x8192 : Shape := ⟨2, ![4, 8192]⟩
abbrev S4x8192x1 : Shape := ⟨3, ![4, 8192, 1]⟩
abbrev S4x8192x2 : Shape := ⟨3, ![4, 8192, 2]⟩
abbrev S4x8192x21 : Shape := ⟨3, ![4, 8192, 21]⟩
abbrev S4x8192x256 : Shape := ⟨3, ![4, 8192, 256]⟩
abbrev S4x8192x277 : Shape := ⟨3, ![4, 8192, 277]⟩
abbrev S1x1x256 : Shape := ⟨3, ![1, 1, 256]⟩
abbrev S1x1x21 : Shape := ⟨3, ![1, 1, 21]⟩
abbrev S4x50176x21 : Shape := ⟨3, ![4, 50176, 21]⟩
abbrev S4 : Shape := ⟨1, ![4]⟩
abbrev S4x1 : Shape := ⟨2, ![4, 1]⟩
abbrev S4x1x224x21 : Shape := ⟨4, ![4, 1, 224, 21]⟩
abbrev S4x223x224x21 : Shape := ⟨4, ![4, 223, 224, 21]⟩
abbrev S4x224x1x224x21 : Shape := ⟨5, ![4, 224, 1, 224, 21]⟩
abbrev S4x224x2x224x21 : Shape := ⟨5, ![4, 224, 2, 224, 21]⟩
abbrev S4x448x224x21 : Shape := ⟨4, ![4, 448, 224, 21]⟩
abbrev S4x448x1x21 : Shape := ⟨4, ![4, 448, 1, 21]⟩
abbrev S4x448x223x21 : Shape := ⟨4, ![4, 448, 223, 21]⟩
abbrev S4x448x224x1x21 : Shape := ⟨5, ![4, 448, 224, 1, 21]⟩
abbrev S4x448x224x2x21 : Shape := ⟨5, ![4, 448, 224, 2, 21]⟩
abbrev S4x448x448x21 : Shape := ⟨4, ![4, 448, 448, 21]⟩
abbrev S4x448x448 : Shape := ⟨3, ![4, 448, 448]⟩
abbrev S4x448x448x1 : Shape := ⟨4, ![4, 448, 448, 1]⟩
abbrev S4x200704 : Shape := ⟨2, ![4, 200704]⟩
abbrev S4x200704x21 : Shape := ⟨3, ![4, 200704, 21]⟩
abbrev S1 : Shape := ⟨1, ![1]⟩
abbrev S1x1x1 : Shape := ⟨3, ![1, 1, 1]⟩
abbrev S32768x277 : Shape := ⟨2, ![32768, 277]⟩
abbrev S1x256 : Shape := ⟨2, ![1, 256]⟩
abbrev S1x21 : Shape := ⟨2, ![1, 21]⟩
abbrev S32768x21 : Shape := ⟨2, ![32768, 21]⟩
abbrev S1024x277 : Shape := ⟨2, ![1024, 277]⟩
abbrev S1024x21 : Shape := ⟨2, ![1024, 21]⟩
abbrev S1024x256 : Shape := ⟨2, ![1024, 256]⟩
abbrev S256x256 : Shape := ⟨2, ![256, 256]⟩
abbrev S21x256 : Shape := ⟨2, ![21, 256]⟩
abbrev S256x21 : Shape := ⟨2, ![256, 21]⟩
abbrev S21x21 : Shape := ⟨2, ![21, 21]⟩
abbrev S4x21x448x448 : Shape := ⟨4, ![4, 21, 448, 448]⟩
abbrev S224x448 : Shape := ⟨2, ![224, 448]⟩
abbrev S84x448x448 : Shape := ⟨3, ![84, 448, 448]⟩
abbrev S84x224x448 : Shape := ⟨3, ![84, 224, 448]⟩
abbrev S1x448x448 : Shape := ⟨3, ![1, 448, 448]⟩
abbrev S1x224x448 : Shape := ⟨3, ![1, 224, 448]⟩
abbrev S448x448 : Shape := ⟨2, ![448, 448]⟩
abbrev S4x21x224x448 : Shape := ⟨4, ![4, 21, 224, 448]⟩
abbrev S448x224 : Shape := ⟨2, ![448, 224]⟩
abbrev S4x21x224x224 : Shape := ⟨4, ![4, 21, 224, 224]⟩
abbrev S1x21x224x448 : Shape := ⟨4, ![1, 21, 224, 448]⟩
abbrev S1x21x224x224 : Shape := ⟨4, ![1, 21, 224, 224]⟩
abbrev S21x224x448 : Shape := ⟨3, ![21, 224, 448]⟩
abbrev S4704x448 : Shape := ⟨2, ![4704, 448]⟩
abbrev S4704x224 : Shape := ⟨2, ![4704, 224]⟩
abbrev S21x224x224 : Shape := ⟨3, ![21, 224, 224]⟩
abbrev S224x224 : Shape := ⟨2, ![224, 224]⟩
abbrev S1x224x224 : Shape := ⟨3, ![1, 224, 224]⟩
abbrev S4x16384x21 : Shape := ⟨3, ![4, 16384, 21]⟩
abbrev S4x16384x2 : Shape := ⟨3, ![4, 16384, 2]⟩

abbrev nBuf : Space → Nat
  | .hbm => 936
  | .vmem => 22
  | .smem => 0
  | _ => 0

abbrev hbmTy0_0 (i : Nat) : BufTy := match i % 128 with
  | 0 => ⟨S4x112x112x21, .f32⟩
  | 1 => ⟨S4x112x112x256, .f32⟩
  | 2 => ⟨S277x256, .f32⟩
  | 3 => ⟨S256, .f32⟩
  | 4 => ⟨S277x256, .f32⟩
  | 5 => ⟨S256, .f32⟩
  | 6 => ⟨S277x256, .f32⟩
  | 7 => ⟨S256, .f32⟩
  | 8 => ⟨S277x21, .f32⟩
  | 9 => ⟨S21, .f32⟩
  | 10 => ⟨S4x1x112x21, .f32⟩
  | 11 => ⟨S4x111x112x21, .f32⟩
  | 12 => ⟨S4x112x112x21, .f32⟩
  | 13 => ⟨S4x111x112x21, .f32⟩
  | 14 => ⟨S4x1x112x21, .f32⟩
  | 15 => ⟨S4x112x112x21, .f32⟩
  | 16 => ⟨S_, .f32⟩
  | 17 => ⟨S4x112x112x21, .f32⟩
  | 18 => ⟨S4x112x112x21, .f32⟩
  | 19 => ⟨S_, .f32⟩
  | 20 => ⟨S4x112x112x21, .f32⟩
  | 21 => ⟨S4x112x112x21, .f32⟩
  | 22 => ⟨S4x112x112x21, .f32⟩
  | 23 => ⟨S_, .f32⟩
  | 24 => ⟨S4x112x112x21, .f32⟩
  | 25 => ⟨S4x112x112x21, .f32⟩
  | 26 => ⟨S_, .f32⟩
  | 27 => ⟨S4x112x112x21, .f32⟩
  | 28 => ⟨S4x112x112x21, .f32⟩
  | 29 => ⟨S4x112x112x21, .f32⟩
  | 30 => ⟨S4x112x1x112x21, .f32⟩
  | 31 => ⟨S4x112x1x112x21, .f32⟩
  | 32 => ⟨S4x112x2x112x21, .f32⟩
  | 33 => ⟨S4x224x112x21, .f32⟩
  | 34 => ⟨S4x224x1x21, .f32⟩
  | 35 => ⟨S4x224x111x21, .f32⟩
  | 36 => ⟨S4x224x112x21, .f32⟩
  | 37 => ⟨S4x224x111x21, .f32⟩
  | 38 => ⟨S4x224x1x21, .f32⟩
  | 39 => ⟨S4x224x112x21, .f32⟩
  | 40 => ⟨S_, .f32⟩
  | 41 => ⟨S4x224x112x21, .f32⟩
  | 42 => ⟨S4x224x112x21, .f32⟩
  | 43 => ⟨S_, .f32⟩
  | 44 => ⟨S4x224x112x21, .f32⟩
  | 45 => ⟨S4x224x112x21, .f32⟩
  | 46 => ⟨S4x224x112x21, .f32⟩
  | 47 => ⟨S_, .f32⟩
  | 48 => ⟨S4x224x112x21, .f32⟩
  | 49 => ⟨S4x224x112x21, .f32⟩
  | 50 => ⟨S_, .f32⟩
  | 51 => ⟨S4x224x112x21, .f32⟩
  | 52 => ⟨S4x224x112x21, .f32⟩
  | 53 => ⟨S4x224x112x21, .f32⟩
  | 54 => ⟨S4x224x112x1x21, .f32⟩
  | 55 => ⟨S4x224x112x1x21, .f32⟩
  | 56 => ⟨S4x224x112x2x21, .f32⟩
  | 57 => ⟨S4x224x224x21, .f32⟩
  | 58 => ⟨S_, .f32⟩
  | 59 => ⟨S4x224x224, .f32⟩
  | 60 => ⟨S4x224x224x21, .i32⟩
  | 61 => ⟨S4x224x224x1, .f32⟩
  | 62 => ⟨S4x224x224x21, .f32⟩
  | 63 => ⟨S4x224x224x21, .i1⟩
  | 64 => ⟨S_, .i32⟩
  | 65 => ⟨S_, .i32⟩
  | 66 => ⟨S4x224x224x21, .i32⟩
  | 67 => ⟨S4x224x224x21, .i32⟩
  | 68 => ⟨S_, .i32⟩
  | 69 => ⟨S4x224x224, .i32⟩
  | 70 => ⟨S4x224x224x1, .i32⟩
  | 71 => ⟨S4x224x224x21, .i32⟩
  | 72 => ⟨S4x224x224x21, .i1⟩
  | 73 => ⟨S_, .f32⟩
  | 74 => ⟨S_, .f32⟩
  | 75 => ⟨S4x224x224x21, .f32⟩
  | 76 => ⟨S4x224x224x21, .f32⟩
  | 77 => ⟨S_, .f32⟩
  | 78 => ⟨S4x224x224, .f32⟩
  | 79 => ⟨S4x224x224, .f32⟩
  | 80 => ⟨S4x50176, .f32⟩
  | 81 => ⟨S4x8192, .f32⟩
  | 82 => ⟨S4x8192, .i32⟩
  | 83 => ⟨S_, .i32⟩
  | 84 => ⟨S_, .i32⟩
  | 85 => ⟨S_, .i32⟩
  | 86 => ⟨S_, .i1⟩
  | 87 => ⟨S_, .i32⟩
  | 88 => ⟨S_, .i32⟩
  | 89 => ⟨S4x8192, .i32⟩
  | 90 => ⟨S4x8192, .i32⟩
  | 91 => ⟨S_, .i32⟩
  | 92 => ⟨S4x8192, .i32⟩
  | 93 => ⟨S4x8192, .i1⟩
  | 94 => ⟨S_, .i32⟩
  | 95 => ⟨S4x8192, .i32⟩
  | 96 => ⟨S4x8192, .i1⟩
  | 97 => ⟨S_, .i32⟩
  | 98 => ⟨S_, .i1⟩
  | 99 => ⟨S4x8192, .i1⟩
  | 100 => ⟨S4x8192, .i1⟩
  | 101 => ⟨S4x8192, .i1⟩
  | 102 => ⟨S4x8192, .i32⟩
  | 103 => ⟨S4x8192, .i32⟩
  | 104 => ⟨S4x8192, .i32⟩
  | 105 => ⟨S4x8192, .f32⟩
  | 106 => ⟨S_, .i32⟩
  | 107 => ⟨S_, .i32⟩
  | 108 => ⟨S4x8192, .i32⟩
  | 109 => ⟨S4x8192, .i32⟩
  | 110 => ⟨S4x8192, .i32⟩
  | 111 => ⟨S_, .i32⟩
  | 112 => ⟨S4x8192, .i32⟩
  | 113 => ⟨S4x8192, .i1⟩
  | 114 => ⟨S4x8192, .i32⟩
  | 115 => ⟨S4x8192, .i32⟩
  | 116 => ⟨S_, .i32⟩
  | 117 => ⟨S4x8192, .i32⟩
  | 118 => ⟨S4x8192, .i1⟩
  | 119 => ⟨S4x8192, .i1⟩
  | 120 => ⟨S_, .i32⟩
  | 121 => ⟨S4x8192, .i32⟩
  | 122 => ⟨S4x8192, .i32⟩
  | 123 => ⟨S4x8192, .i32⟩
  | 124 => ⟨S4x8192, .f32⟩
  | 125 => ⟨S_, .f32⟩
  | 126 => ⟨S4x8192, .f32⟩
  | 127 => ⟨S4x8192, .f32⟩
  | _ => ⟨S4x112x112x21, .f32⟩

abbrev hbmTy0_1 (i : Nat) : BufTy := match i % 128 with
  | 0 => ⟨S_, .f32⟩
  | 1 => ⟨S4x8192, .f32⟩
  | 2 => ⟨S4x8192, .f32⟩
  | 3 => ⟨S_, .f32⟩
  | 4 => ⟨S4x8192, .f32⟩
  | 5 => ⟨S4x8192, .f32⟩
  | 6 => ⟨S_, .f32⟩
  | 7 => ⟨S4x8192, .f32⟩
  | 8 => ⟨S4x8192, .f32⟩
  | 9 => ⟨S4x8192x1, .f32⟩
  | 10 => ⟨S4x8192x1, .f32⟩
  | 11 => ⟨S4x8192x2, .f32⟩
  | 12 => ⟨S4x8192x1, .f32⟩
  | 13 => ⟨S4x8192, .f32⟩
  | 14 => ⟨S_, .f32⟩
  | 15 => ⟨S4x8192, .f32⟩
  | 16 => ⟨S4x8192, .f32⟩
  | 17 => ⟨S_, .f32⟩
  | 18 => ⟨S4x8192, .f32⟩
  | 19 => ⟨S4x8192, .f32⟩
  | 20 => ⟨S4x8192x1, .f32⟩
  | 21 => ⟨S4x8192, .f32⟩
  | 22 => ⟨S_, .f32⟩
  | 23 => ⟨S4x8192, .f32⟩
  | 24 => ⟨S4x8192, .f32⟩
  | 25 => ⟨S_, .f32⟩
  | 26 => ⟨S4x8192, .f32⟩
  | 27 => ⟨S4x8192, .f32⟩
  | 28 => ⟨S4x8192, .f32⟩
  | 29 => ⟨S4x8192, .f32⟩
  | 30 => ⟨S4x8192, .f32⟩
  | 31 => ⟨S4x8192x1, .f32⟩
  | 32 => ⟨S4x8192, .f32⟩
  | 33 => ⟨S4x8192x1, .f32⟩
  | 34 => ⟨S_, .i32⟩
  | 35 => ⟨S_, .i32⟩
  | 36 => ⟨S_, .f32⟩
  | 37 => ⟨S4x8192, .f32⟩
  | 38 => ⟨S4x8192, .f32⟩
  | 39 => ⟨S_, .f32⟩
  | 40 => ⟨S4x8192, .f32⟩
  | 41 => ⟨S4x8192, .f32⟩
  | 42 => ⟨S4x8192, .i32⟩
  | 43 => ⟨S_, .f32⟩
  | 44 => ⟨S4x8192, .f32⟩
  | 45 => ⟨S4x8192, .f32⟩
  | 46 => ⟨S_, .i32⟩
  | 47 => ⟨S_, .i32⟩
  | 48 => ⟨S_, .f32⟩
  | 49 => ⟨S4x8192, .f32⟩
  | 50 => ⟨S4x8192, .f32⟩
  | 51 => ⟨S_, .f32⟩
  | 52 => ⟨S4x8192, .f32⟩
  | 53 => ⟨S4x8192, .f32⟩
  | 54 => ⟨S4x8192, .i32⟩
  | 55 => ⟨S_, .i32⟩
  | 56 => ⟨S_, .i32⟩
  | 57 => ⟨S_, .f32⟩
  | 58 => ⟨S4x8192, .f32⟩
  | 59 => ⟨S4x8192, .f32⟩
  | 60 => ⟨S_, .f32⟩
  | 61 => ⟨S4x8192, .f32⟩
  | 62 => ⟨S4x8192, .f32⟩
  | 63 => ⟨S4x8192, .i32⟩
  | 64 => ⟨S_, .f32⟩
  | 65 => ⟨S4x8192, .f32⟩
  | 66 => ⟨S4x8192, .f32⟩
  | 67 => ⟨S_, .i32⟩
  | 68 => ⟨S_, .i32⟩
  | 69 => ⟨S_, .f32⟩
  | 70 => ⟨S4x8192, .f32⟩
  | 71 => ⟨S4x8192, .f32⟩
  | 72 => ⟨S_, .f32⟩
  | 73 => ⟨S4x8192, .f32⟩
  | 74 => ⟨S4x8192, .f32⟩
  | 75 => ⟨S4x8192, .i32⟩
  | 76 => ⟨S_, .i32⟩
  | 77 => ⟨S4x8192, .i32⟩
  | 78 => ⟨S4x8192, .i1⟩
  | 79 => ⟨S_, .i32⟩
  | 80 => ⟨S4x8192, .i32⟩
  | 81 => ⟨S4x8192, .i32⟩
  | 82 => ⟨S4x8192, .i32⟩
  | 83 => ⟨S_, .i32⟩
  | 84 => ⟨S4x8192, .i32⟩
  | 85 => ⟨S4x8192, .i1⟩
  | 86 => ⟨S_, .i32⟩
  | 87 => ⟨S4x8192, .i32⟩
  | 88 => ⟨S4x8192, .i32⟩
  | 89 => ⟨S4x8192, .i32⟩
  | 90 => ⟨S4x8192x1, .i32⟩
  | 91 => ⟨S4x8192x1, .i32⟩
  | 92 => ⟨S4x8192x2, .i32⟩
  | 93 => ⟨S4x8192x21, .f32⟩
  | 94 => ⟨S_, .i32⟩
  | 95 => ⟨S4x8192, .i32⟩
  | 96 => ⟨S4x8192, .i1⟩
  | 97 => ⟨S_, .i32⟩
  | 98 => ⟨S4x8192, .i32⟩
  | 99 => ⟨S4x8192, .i32⟩
  | 100 => ⟨S4x8192, .i32⟩
  | 101 => ⟨S_, .i32⟩
  | 102 => ⟨S4x8192, .i32⟩
  | 103 => ⟨S4x8192, .i1⟩
  | 104 => ⟨S_, .i32⟩
  | 105 => ⟨S4x8192, .i32⟩
  | 106 => ⟨S4x8192, .i32⟩
  | 107 => ⟨S4x8192, .i32⟩
  | 108 => ⟨S4x8192x1, .i32⟩
  | 109 => ⟨S4x8192x1, .i32⟩
  | 110 => ⟨S4x8192x2, .i32⟩
  | 111 => ⟨S4x8192x21, .f32⟩
  | 112 => ⟨S_, .i32⟩
  | 113 => ⟨S4x8192, .i32⟩
  | 114 => ⟨S4x8192, .i1⟩
  | 115 => ⟨S_, .i32⟩
  | 116 => ⟨S4x8192, .i32⟩
  | 117 => ⟨S4x8192, .i32⟩
  | 118 => ⟨S4x8192, .i32⟩
  | 119 => ⟨S_, .i32⟩
  | 120 => ⟨S4x8192, .i32⟩
  | 121 => ⟨S4x8192, .i1⟩
  | 122 => ⟨S_, .i32⟩
  | 123 => ⟨S4x8192, .i32⟩
  | 124 => ⟨S4x8192, .i32⟩
  | 125 => ⟨S4x8192, .i32⟩
  | 126 => ⟨S4x8192x1, .i32⟩
  | 127 => ⟨S4x8192x1, .i32⟩
  | _ => ⟨S4x112x112x21, .f32⟩

abbrev hbmTy0_2 (i : Nat) : BufTy := match i % 128 with
  | 0 => ⟨S4x8192x2, .i32⟩
  | 1 => ⟨S4x8192x21, .f32⟩
  | 2 => ⟨S_, .i32⟩
  | 3 => ⟨S4x8192, .i32⟩
  | 4 => ⟨S4x8192, .i1⟩
  | 5 => ⟨S_, .i32⟩
  | 6 => ⟨S4x8192, .i32⟩
  | 7 => ⟨S4x8192, .i32⟩
  | 8 => ⟨S4x8192, .i32⟩
  | 9 => ⟨S_, .i32⟩
  | 10 => ⟨S4x8192, .i32⟩
  | 11 => ⟨S4x8192, .i1⟩
  | 12 => ⟨S_, .i32⟩
  | 13 => ⟨S4x8192, .i32⟩
  | 14 => ⟨S4x8192, .i32⟩
  | 15 => ⟨S4x8192, .i32⟩
  | 16 => ⟨S4x8192x1, .i32⟩
  | 17 => ⟨S4x8192x1, .i32⟩
  | 18 => ⟨S4x8192x2, .i32⟩
  | 19 => ⟨S4x8192x21, .f32⟩
  | 20 => ⟨S_, .f32⟩
  | 21 => ⟨S4x8192x1, .f32⟩
  | 22 => ⟨S4x8192x1, .f32⟩
  | 23 => ⟨S4x8192x21, .f32⟩
  | 24 => ⟨S4x8192x21, .f32⟩
  | 25 => ⟨S_, .f32⟩
  | 26 => ⟨S4x8192x1, .f32⟩
  | 27 => ⟨S4x8192x1, .f32⟩
  | 28 => ⟨S4x8192x21, .f32⟩
  | 29 => ⟨S4x8192x21, .f32⟩
  | 30 => ⟨S4x8192x21, .f32⟩
  | 31 => ⟨S4x8192x21, .f32⟩
  | 32 => ⟨S_, .f32⟩
  | 33 => ⟨S4x8192x1, .f32⟩
  | 34 => ⟨S4x8192x1, .f32⟩
  | 35 => ⟨S4x8192x21, .f32⟩
  | 36 => ⟨S4x8192x21, .f32⟩
  | 37 => ⟨S4x8192x21, .f32⟩
  | 38 => ⟨S_, .f32⟩
  | 39 => ⟨S4x8192x1, .f32⟩
  | 40 => ⟨S4x8192x1, .f32⟩
  | 41 => ⟨S4x8192x21, .f32⟩
  | 42 => ⟨S4x8192x21, .f32⟩
  | 43 => ⟨S4x8192x21, .f32⟩
  | 44 => ⟨S4x8192x21, .f32⟩
  | 45 => ⟨S4x8192x21, .f32⟩
  | 46 => ⟨S4x8192x21, .f32⟩
  | 47 => ⟨S4x8192x21, .f32⟩
  | 48 => ⟨S4x8192x21, .f32⟩
  | 49 => ⟨S4x8192x21, .f32⟩
  | 50 => ⟨S4x8192x21, .f32⟩
  | 51 => ⟨S4x8192x1, .f32⟩
  | 52 => ⟨S4x8192, .f32⟩
  | 53 => ⟨S_, .f32⟩
  | 54 => ⟨S4x8192, .f32⟩
  | 55 => ⟨S4x8192, .f32⟩
  | 56 => ⟨S_, .f32⟩
  | 57 => ⟨S4x8192, .f32⟩
  | 58 => ⟨S4x8192, .f32⟩
  | 59 => ⟨S4x8192x1, .f32⟩
  | 60 => ⟨S4x8192, .f32⟩
  | 61 => ⟨S_, .f32⟩
  | 62 => ⟨S4x8192, .f32⟩
  | 63 => ⟨S4x8192, .f32⟩
  | 64 => ⟨S_, .f32⟩
  | 65 => ⟨S4x8192, .f32⟩
  | 66 => ⟨S4x8192, .f32⟩
  | 67 => ⟨S4x8192, .f32⟩
  | 68 => ⟨S4x8192, .f32⟩
  | 69 => ⟨S4x8192, .f32⟩
  | 70 => ⟨S4x8192x1, .f32⟩
  | 71 => ⟨S4x8192, .f32⟩
  | 72 => ⟨S4x8192x1, .f32⟩
  | 73 => ⟨S_, .i32⟩
  | 74 => ⟨S_, .i32⟩
  | 75 => ⟨S_, .f32⟩
  | 76 => ⟨S4x8192, .f32⟩
  | 77 => ⟨S4x8192, .f32⟩
  | 78 => ⟨S_, .f32⟩
  | 79 => ⟨S4x8192, .f32⟩
  | 80 => ⟨S4x8192, .f32⟩
  | 81 => ⟨S4x8192, .i32⟩
  | 82 => ⟨S_, .f32⟩
  | 83 => ⟨S4x8192, .f32⟩
  | 84 => ⟨S4x8192, .f32⟩
  | 85 => ⟨S_, .i32⟩
  | 86 => ⟨S_, .i32⟩
  | 87 => ⟨S_, .f32⟩
  | 88 => ⟨S4x8192, .f32⟩
  | 89 => ⟨S4x8192, .f32⟩
  | 90 => ⟨S_, .f32⟩
  | 91 => ⟨S4x8192, .f32⟩
  | 92 => ⟨S4x8192, .f32⟩
  | 93 => ⟨S4x8192, .i32⟩
  | 94 => ⟨S_, .i32⟩
  | 95 => ⟨S_, .i32⟩
  | 96 => ⟨S_, .f32⟩
  | 97 => ⟨S4x8192, .f32⟩
  | 98 => ⟨S4x8192, .f32⟩
  | 99 => ⟨S_, .f32⟩
  | 100 => ⟨S4x8192, .f32⟩
  | 101 => ⟨S4x8192, .f32⟩
  | 102 => ⟨S4x8192, .i32⟩
  | 103 => ⟨S_, .f32⟩
  | 104 => ⟨S4x8192, .f32⟩
  | 105 => ⟨S4x8192, .f32⟩
  | 106 => ⟨S_, .i32⟩
  | 107 => ⟨S_, .i32⟩
  | 108 => ⟨S_, .f32⟩
  | 109 => ⟨S4x8192, .f32⟩
  | 110 => ⟨S4x8192, .f32⟩
  | 111 => ⟨S_, .f32⟩
  | 112 => ⟨S4x8192, .f32⟩
  | 113 => ⟨S4x8192, .f32⟩
  | 114 => ⟨S4x8192, .i32⟩
  | 115 => ⟨S_, .i32⟩
  | 116 => ⟨S4x8192, .i32⟩
  | 117 => ⟨S4x8192, .i1⟩
  | 118 => ⟨S_, .i32⟩
  | 119 => ⟨S4x8192, .i32⟩
  | 120 => ⟨S4x8192, .i32⟩
  | 121 => ⟨S4x8192, .i32⟩
  | 122 => ⟨S_, .i32⟩
  | 123 => ⟨S4x8192, .i32⟩
  | 124 => ⟨S4x8192, .i1⟩
  | 125 => ⟨S_, .i32⟩
  | 126 => ⟨S4x8192, .i32⟩
  | 127 => ⟨S4x8192, .i32⟩
  | _ => ⟨S4x112x112x21, .f32⟩

abbrev hbmTy0_3 (i : Nat) : BufTy := match i % 128 with
  | 0 => ⟨S4x8192, .i32⟩
  | 1 => ⟨S4x8192x1, .i32⟩
  | 2 => ⟨S4x8192x1, .i32⟩
  | 3 => ⟨S4x8192x2, .i32⟩
  | 4 => ⟨S4x8192x256, .f32⟩
  | 5 => ⟨S_, .i32⟩
  | 6 => ⟨S4x8192, .i32⟩
  | 7 => ⟨S4x8192, .i1⟩
  | 8 => ⟨S_, .i32⟩
  | 9 => ⟨S4x8192, .i32⟩
  | 10 => ⟨S4x8192, .i32⟩
  | 11 => ⟨S4x8192, .i32⟩
  | 12 => ⟨S_, .i32⟩
  | 13 => ⟨S4x8192, .i32⟩
  | 14 => ⟨S4x8192, .i1⟩
  | 15 => ⟨S_, .i32⟩
  | 16 => ⟨S4x8192, .i32⟩
  | 17 => ⟨S4x8192, .i32⟩
  | 18 => ⟨S4x8192, .i32⟩
  | 19 => ⟨S4x8192x1, .i32⟩
  | 20 => ⟨S4x8192x1, .i32⟩
  | 21 => ⟨S4x8192x2, .i32⟩
  | 22 => ⟨S4x8192x256, .f32⟩
  | 23 => ⟨S_, .i32⟩
  | 24 => ⟨S4x8192, .i32⟩
  | 25 => ⟨S4x8192, .i1⟩
  | 26 => ⟨S_, .i32⟩
  | 27 => ⟨S4x8192, .i32⟩
  | 28 => ⟨S4x8192, .i32⟩
  | 29 => ⟨S4x8192, .i32⟩
  | 30 => ⟨S_, .i32⟩
  | 31 => ⟨S4x8192, .i32⟩
  | 32 => ⟨S4x8192, .i1⟩
  | 33 => ⟨S_, .i32⟩
  | 34 => ⟨S4x8192, .i32⟩
  | 35 => ⟨S4x8192, .i32⟩
  | 36 => ⟨S4x8192, .i32⟩
  | 37 => ⟨S4x8192x1, .i32⟩
  | 38 => ⟨S4x8192x1, .i32⟩
  | 39 => ⟨S4x8192x2, .i32⟩
  | 40 => ⟨S4x8192x256, .f32⟩
  | 41 => ⟨S_, .i32⟩
  | 42 => ⟨S4x8192, .i32⟩
  | 43 => ⟨S4x8192, .i1⟩
  | 44 => ⟨S_, .i32⟩
  | 45 => ⟨S4x8192, .i32⟩
  | 46 => ⟨S4x8192, .i32⟩
  | 47 => ⟨S4x8192, .i32⟩
  | 48 => ⟨S_, .i32⟩
  | 49 => ⟨S4x8192, .i32⟩
  | 50 => ⟨S4x8192, .i1⟩
  | 51 => ⟨S_, .i32⟩
  | 52 => ⟨S4x8192, .i32⟩
  | 53 => ⟨S4x8192, .i32⟩
  | 54 => ⟨S4x8192, .i32⟩
  | 55 => ⟨S4x8192x1, .i32⟩
  | 56 => ⟨S4x8192x1, .i32⟩
  | 57 => ⟨S4x8192x2, .i32⟩
  | 58 => ⟨S4x8192x256, .f32⟩
  | 59 => ⟨S_, .f32⟩
  | 60 => ⟨S4x8192x1, .f32⟩
  | 61 => ⟨S4x8192x1, .f32⟩
  | 62 => ⟨S4x8192x256, .f32⟩
  | 63 => ⟨S4x8192x256, .f32⟩
  | 64 => ⟨S_, .f32⟩
  | 65 => ⟨S4x8192x1, .f32⟩
  | 66 => ⟨S4x8192x1, .f32⟩
  | 67 => ⟨S4x8192x256, .f32⟩
  | 68 => ⟨S4x8192x256, .f32⟩
  | 69 => ⟨S4x8192x256, .f32⟩
  | 70 => ⟨S4x8192x256, .f32⟩
  | 71 => ⟨S_, .f32⟩
  | 72 => ⟨S4x8192x1, .f32⟩
  | 73 => ⟨S4x8192x1, .f32⟩
  | 74 => ⟨S4x8192x256, .f32⟩
  | 75 => ⟨S4x8192x256, .f32⟩
  | 76 => ⟨S4x8192x256, .f32⟩
  | 77 => ⟨S_, .f32⟩
  | 78 => ⟨S4x8192x1, .f32⟩
  | 79 => ⟨S4x8192x1, .f32⟩
  | 80 => ⟨S4x8192x256, .f32⟩
  | 81 => ⟨S4x8192x256, .f32⟩
  | 82 => ⟨S4x8192x256, .f32⟩
  | 83 => ⟨S4x8192x256, .f32⟩
  | 84 => ⟨S4x8192x256, .f32⟩
  | 85 => ⟨S4x8192x256, .f32⟩
  | 86 => ⟨S4x8192x256, .f32⟩
  | 87 => ⟨S4x8192x256, .f32⟩
  | 88 => ⟨S4x8192x256, .f32⟩
  | 89 => ⟨S4x8192x256, .f32⟩
  | 90 => ⟨S4x8192x277, .f32⟩
  | 91 => ⟨S4x8192x256, .f32⟩
  | 92 => ⟨S1x1x256, .f32⟩
  | 93 => ⟨S4x8192x256, .f32⟩
  | 94 => ⟨S4x8192x256, .f32⟩
  | 95 => ⟨S_, .f32⟩
  | 96 => ⟨S4x8192x256, .f32⟩
  | 97 => ⟨S4x8192x256, .f32⟩
  | 98 => ⟨S4x8192x277, .f32⟩
  | 99 => ⟨S4x8192x256, .f32⟩
  | 100 => ⟨S1x1x256, .f32⟩
  | 101 => ⟨S4x8192x256, .f32⟩
  | 102 => ⟨S4x8192x256, .f32⟩
  | 103 => ⟨S_, .f32⟩
  | 104 => ⟨S4x8192x256, .f32⟩
  | 105 => ⟨S4x8192x256, .f32⟩
  | 106 => ⟨S4x8192x277, .f32⟩
  | 107 => ⟨S4x8192x256, .f32⟩
  | 108 => ⟨S1x1x256, .f32⟩
  | 109 => ⟨S4x8192x256, .f32⟩
  | 110 => ⟨S4x8192x256, .f32⟩
  | 111 => ⟨S_, .f32⟩
  | 112 => ⟨S4x8192x256, .f32⟩
  | 113 => ⟨S4x8192x256, .f32⟩
  | 114 => ⟨S4x8192x277, .f32⟩
  | 115 => ⟨S4x8192x21, .f32⟩
  | 116 => ⟨S1x1x21, .f32⟩
  | 117 => ⟨S4x8192x21, .f32⟩
  | 118 => ⟨S4x8192x21, .f32⟩
  | 119 => ⟨S4x50176x21, .f32⟩
  | 120 => ⟨S4, .i32⟩
  | 121 => ⟨S4x1, .i32⟩
  | 122 => ⟨S_, .i32⟩
  | 123 => ⟨S4x1, .i32⟩
  | 124 => ⟨S4x1, .i1⟩
  | 125 => ⟨S_, .i32⟩
  | 126 => ⟨S4x1, .i32⟩
  | 127 => ⟨S4x1, .i32⟩
  | _ => ⟨S4x112x112x21, .f32⟩

abbrev hbmTy0_4 (i : Nat) : BufTy := match i % 128 with
  | 0 => ⟨S4x1, .i32⟩
  | 1 => ⟨S_, .i32⟩
  | 2 => ⟨S4x8192, .i32⟩
  | 3 => ⟨S4x8192, .i1⟩
  | 4 => ⟨S_, .i32⟩
  | 5 => ⟨S4x8192, .i32⟩
  | 6 => ⟨S4x8192, .i32⟩
  | 7 => ⟨S4x8192, .i32⟩
  | 8 => ⟨S4x8192, .i32⟩
  | 9 => ⟨S4x8192x1, .i32⟩
  | 10 => ⟨S4x8192x1, .i32⟩
  | 11 => ⟨S4x8192x2, .i32⟩
  | 12 => ⟨S4x50176x21, .f32⟩
  | 13 => ⟨S4x224x224x21, .f32⟩
  | 14 => ⟨S4x1x224x21, .f32⟩
  | 15 => ⟨S4x223x224x21, .f32⟩
  | 16 => ⟨S4x224x224x21, .f32⟩
  | 17 => ⟨S4x223x224x21, .f32⟩
  | 18 => ⟨S4x1x224x21, .f32⟩
  | 19 => ⟨S4x224x224x21, .f32⟩
  | 20 => ⟨S_, .f32⟩
  | 21 => ⟨S4x224x224x21, .f32⟩
  | 22 => ⟨S4x224x224x21, .f32⟩
  | 23 => ⟨S_, .f32⟩
  | 24 => ⟨S4x224x224x21, .f32⟩
  | 25 => ⟨S4x224x224x21, .f32⟩
  | 26 => ⟨S4x224x224x21, .f32⟩
  | 27 => ⟨S_, .f32⟩
  | 28 => ⟨S4x224x224x21, .f32⟩
  | 29 => ⟨S4x224x224x21, .f32⟩
  | 30 => ⟨S_, .f32⟩
  | 31 => ⟨S4x224x224x21, .f32⟩
  | 32 => ⟨S4x224x224x21, .f32⟩
  | 33 => ⟨S4x224x224x21, .f32⟩
  | 34 => ⟨S4x224x1x224x21, .f32⟩
  | 35 => ⟨S4x224x1x224x21, .f32⟩
  | 36 => ⟨S4x224x2x224x21, .f32⟩
  | 37 => ⟨S4x448x224x21, .f32⟩
  | 38 => ⟨S4x448x1x21, .f32⟩
  | 39 => ⟨S4x448x223x21, .f32⟩
  | 40 => ⟨S4x448x224x21, .f32⟩
  | 41 => ⟨S4x448x223x21, .f32⟩
  | 42 => ⟨S4x448x1x21, .f32⟩
  | 43 => ⟨S4x448x224x21, .f32⟩
  | 44 => ⟨S_, .f32⟩
  | 45 => ⟨S4x448x224x21, .f32⟩
  | 46 => ⟨S4x448x224x21, .f32⟩
  | 47 => ⟨S_, .f32⟩
  | 48 => ⟨S4x448x224x21, .f32⟩
  | 49 => ⟨S4x448x224x21, .f32⟩
  | 50 => ⟨S4x448x224x21, .f32⟩
  | 51 => ⟨S_, .f32⟩
  | 52 => ⟨S4x448x224x21, .f32⟩
  | 53 => ⟨S4x448x224x21, .f32⟩
  | 54 => ⟨S_, .f32⟩
  | 55 => ⟨S4x448x224x21, .f32⟩
  | 56 => ⟨S4x448x224x21, .f32⟩
  | 57 => ⟨S4x448x224x21, .f32⟩
  | 58 => ⟨S4x448x224x1x21, .f32⟩
  | 59 => ⟨S4x448x224x1x21, .f32⟩
  | 60 => ⟨S4x448x224x2x21, .f32⟩
  | 61 => ⟨S4x448x448x21, .f32⟩
  | 62 => ⟨S_, .f32⟩
  | 63 => ⟨S4x448x448, .f32⟩
  | 64 => ⟨S4x448x448x21, .i32⟩
  | 65 => ⟨S4x448x448x1, .f32⟩
  | 66 => ⟨S4x448x448x21, .f32⟩
  | 67 => ⟨S4x448x448x21, .i1⟩
  | 68 => ⟨S_, .i32⟩
  | 69 => ⟨S_, .i32⟩
  | 70 => ⟨S4x448x448x21, .i32⟩
  | 71 => ⟨S4x448x448x21, .i32⟩
  | 72 => ⟨S_, .i32⟩
  | 73 => ⟨S4x448x448, .i32⟩
  | 74 => ⟨S4x448x448x1, .i32⟩
  | 75 => ⟨S4x448x448x21, .i32⟩
  | 76 => ⟨S4x448x448x21, .i1⟩
  | 77 => ⟨S_, .f32⟩
  | 78 => ⟨S_, .f32⟩
  | 79 => ⟨S4x448x448x21, .f32⟩
  | 80 => ⟨S4x448x448x21, .f32⟩
  | 81 => ⟨S_, .f32⟩
  | 82 => ⟨S4x448x448, .f32⟩
  | 83 => ⟨S4x448x448, .f32⟩
  | 84 => ⟨S4x200704, .f32⟩
  | 85 => ⟨S4x8192, .f32⟩
  | 86 => ⟨S4x8192, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S4x8192, .i32⟩
  | 94 => ⟨S4x8192, .i32⟩
  | 95 => ⟨S_, .i32⟩
  | 96 => ⟨S4x8192, .i32⟩
  | 97 => ⟨S4x8192, .i1⟩
  | 98 => ⟨S_, .i32⟩
  | 99 => ⟨S4x8192, .i32⟩
  | 100 => ⟨S4x8192, .i1⟩
  | 101 => ⟨S_, .i32⟩
  | 102 => ⟨S_, .i1⟩
  | 103 => ⟨S4x8192, .i1⟩
  | 104 => ⟨S4x8192, .i1⟩
  | 105 => ⟨S4x8192, .i1⟩
  | 106 => ⟨S4x8192, .i32⟩
  | 107 => ⟨S4x8192, .i32⟩
  | 108 => ⟨S4x8192, .i32⟩
  | 109 => ⟨S4x8192, .f32⟩
  | 110 => ⟨S_, .i32⟩
  | 111 => ⟨S_, .i32⟩
  | 112 => ⟨S4x8192, .i32⟩
  | 113 => ⟨S4x8192, .i32⟩
  | 114 => ⟨S4x8192, .i32⟩
  | 115 => ⟨S_, .i32⟩
  | 116 => ⟨S4x8192, .i32⟩
  | 117 => ⟨S4x8192, .i1⟩
  | 118 => ⟨S4x8192, .i32⟩
  | 119 => ⟨S4x8192, .i32⟩
  | 120 => ⟨S_, .i32⟩
  | 121 => ⟨S4x8192, .i32⟩
  | 122 => ⟨S4x8192, .i1⟩
  | 123 => ⟨S4x8192, .i1⟩
  | 124 => ⟨S_, .i32⟩
  | 125 => ⟨S4x8192, .i32⟩
  | 126 => ⟨S4x8192, .i32⟩
  | 127 => ⟨S4x8192, .i32⟩
  | _ => ⟨S4x112x112x21, .f32⟩

abbrev hbmTy0_5 (i : Nat) : BufTy := match i % 128 with
  | 0 => ⟨S4x8192, .f32⟩
  | 1 => ⟨S_, .f32⟩
  | 2 => ⟨S4x8192, .f32⟩
  | 3 => ⟨S4x8192, .f32⟩
  | 4 => ⟨S_, .f32⟩
  | 5 => ⟨S4x8192, .f32⟩
  | 6 => ⟨S4x8192, .f32⟩
  | 7 => ⟨S_, .f32⟩
  | 8 => ⟨S4x8192, .f32⟩
  | 9 => ⟨S4x8192, .f32⟩
  | 10 => ⟨S_, .f32⟩
  | 11 => ⟨S4x8192, .f32⟩
  | 12 => ⟨S4x8192, .f32⟩
  | 13 => ⟨S4x8192x1, .f32⟩
  | 14 => ⟨S4x8192x1, .f32⟩
  | 15 => ⟨S4x8192x2, .f32⟩
  | 16 => ⟨S4x200704x21, .f32⟩
  | 17 => ⟨S4x8192x1, .i32⟩
  | 18 => ⟨S_, .i32⟩
  | 19 => ⟨S4x8192x1, .i32⟩
  | 20 => ⟨S4x8192x1, .i1⟩
  | 21 => ⟨S_, .i32⟩
  | 22 => ⟨S4x8192x1, .i32⟩
  | 23 => ⟨S4x8192x1, .i32⟩
  | 24 => ⟨S4x8192x1, .i32⟩
  | 25 => ⟨S1, .i32⟩
  | 26 => ⟨S_, .i32⟩
  | 27 => ⟨S4x8192x1, .i32⟩
  | 28 => ⟨S4x8192x1, .i1⟩
  | 29 => ⟨S1x1x1, .i32⟩
  | 30 => ⟨S4x8192x1, .i32⟩
  | 31 => ⟨S4x8192x1, .i1⟩
  | 32 => ⟨S4x8192x1, .i1⟩
  | 33 => ⟨S_, .i1⟩
  | 34 => ⟨S4x8192, .i1⟩
  | 35 => ⟨S4x8192x21, .f32⟩
  | 36 => ⟨S4x8192x21, .i1⟩
  | 37 => ⟨S_, .f32⟩
  | 38 => ⟨S4x8192x21, .f32⟩
  | 39 => ⟨S4x8192x21, .f32⟩
  | 40 => ⟨S4x8192x1, .f32⟩
  | 41 => ⟨S4x8192, .f32⟩
  | 42 => ⟨S_, .f32⟩
  | 43 => ⟨S4x8192, .f32⟩
  | 44 => ⟨S4x8192, .f32⟩
  | 45 => ⟨S_, .f32⟩
  | 46 => ⟨S4x8192, .f32⟩
  | 47 => ⟨S4x8192, .f32⟩
  | 48 => ⟨S4x8192x1, .f32⟩
  | 49 => ⟨S4x8192, .f32⟩
  | 50 => ⟨S_, .f32⟩
  | 51 => ⟨S4x8192, .f32⟩
  | 52 => ⟨S4x8192, .f32⟩
  | 53 => ⟨S_, .f32⟩
  | 54 => ⟨S4x8192, .f32⟩
  | 55 => ⟨S4x8192, .f32⟩
  | 56 => ⟨S4x8192, .f32⟩
  | 57 => ⟨S4x8192, .f32⟩
  | 58 => ⟨S4x8192, .f32⟩
  | 59 => ⟨S4x8192x1, .f32⟩
  | 60 => ⟨S4x8192, .f32⟩
  | 61 => ⟨S4x8192x1, .f32⟩
  | 62 => ⟨S_, .i32⟩
  | 63 => ⟨S_, .i32⟩
  | 64 => ⟨S_, .f32⟩
  | 65 => ⟨S4x8192, .f32⟩
  | 66 => ⟨S4x8192, .f32⟩
  | 67 => ⟨S_, .f32⟩
  | 68 => ⟨S4x8192, .f32⟩
  | 69 => ⟨S4x8192, .f32⟩
  | 70 => ⟨S4x8192, .i32⟩
  | 71 => ⟨S_, .f32⟩
  | 72 => ⟨S4x8192, .f32⟩
  | 73 => ⟨S4x8192, .f32⟩
  | 74 => ⟨S_, .i32⟩
  | 75 => ⟨S_, .i32⟩
  | 76 => ⟨S_, .f32⟩
  | 77 => ⟨S4x8192, .f32⟩
  | 78 => ⟨S4x8192, .f32⟩
  | 79 => ⟨S_, .f32⟩
  | 80 => ⟨S4x8192, .f32⟩
  | 81 => ⟨S4x8192, .f32⟩
  | 82 => ⟨S4x8192, .i32⟩
  | 83 => ⟨S_, .i32⟩
  | 84 => ⟨S_, .i32⟩
  | 85 => ⟨S_, .f32⟩
  | 86 => ⟨S4x8192, .f32⟩
  | 87 => ⟨S4x8192, .f32⟩
  | 88 => ⟨S_, .f32⟩
  | 89 => ⟨S4x8192, .f32⟩
  | 90 => ⟨S4x8192, .f32⟩
  | 91 => ⟨S4x8192, .i32⟩
  | 92 => ⟨S_, .f32⟩
  | 93 => ⟨S4x8192, .f32⟩
  | 94 => ⟨S4x8192, .f32⟩
  | 95 => ⟨S_, .i32⟩
  | 96 => ⟨S_, .i32⟩
  | 97 => ⟨S_, .f32⟩
  | 98 => ⟨S4x8192, .f32⟩
  | 99 => ⟨S4x8192, .f32⟩
  | 100 => ⟨S_, .f32⟩
  | 101 => ⟨S4x8192, .f32⟩
  | 102 => ⟨S4x8192, .f32⟩
  | 103 => ⟨S4x8192, .i32⟩
  | 104 => ⟨S_, .i32⟩
  | 105 => ⟨S4x8192, .i32⟩
  | 106 => ⟨S4x8192, .i1⟩
  | 107 => ⟨S_, .i32⟩
  | 108 => ⟨S4x8192, .i32⟩
  | 109 => ⟨S4x8192, .i32⟩
  | 110 => ⟨S4x8192, .i32⟩
  | 111 => ⟨S_, .i32⟩
  | 112 => ⟨S4x8192, .i32⟩
  | 113 => ⟨S4x8192, .i1⟩
  | 114 => ⟨S_, .i32⟩
  | 115 => ⟨S4x8192, .i32⟩
  | 116 => ⟨S4x8192, .i32⟩
  | 117 => ⟨S4x8192, .i32⟩
  | 118 => ⟨S4x8192x1, .i32⟩
  | 119 => ⟨S4x8192x1, .i32⟩
  | 120 => ⟨S4x8192x2, .i32⟩
  | 121 => ⟨S4x8192x256, .f32⟩
  | 122 => ⟨S_, .i32⟩
  | 123 => ⟨S4x8192, .i32⟩
  | 124 => ⟨S4x8192, .i1⟩
  | 125 => ⟨S_, .i32⟩
  | 126 => ⟨S4x8192, .i32⟩
  | 127 => ⟨S4x8192, .i32⟩
  | _ => ⟨S4x112x112x21, .f32⟩

abbrev hbmTy0_6 (i : Nat) : BufTy := match i % 128 with
  | 0 => ⟨S4x8192, .i32⟩
  | 1 => ⟨S_, .i32⟩
  | 2 => ⟨S4x8192, .i32⟩
  | 3 => ⟨S4x8192, .i1⟩
  | 4 => ⟨S_, .i32⟩
  | 5 => ⟨S4x8192, .i32⟩
  | 6 => ⟨S4x8192, .i32⟩
  | 7 => ⟨S4x8192, .i32⟩
  | 8 => ⟨S4x8192x1, .i32⟩
  | 9 => ⟨S4x8192x1, .i32⟩
  | 10 => ⟨S4x8192x2, .i32⟩
  | 11 => ⟨S4x8192x256, .f32⟩
  | 12 => ⟨S_, .i32⟩
  | 13 => ⟨S4x8192, .i32⟩
  | 14 => ⟨S4x8192, .i1⟩
  | 15 => ⟨S_, .i32⟩
  | 16 => ⟨S4x8192, .i32⟩
  | 17 => ⟨S4x8192, .i32⟩
  | 18 => ⟨S4x8192, .i32⟩
  | 19 => ⟨S_, .i32⟩
  | 20 => ⟨S4x8192, .i32⟩
  | 21 => ⟨S4x8192, .i1⟩
  | 22 => ⟨S_, .i32⟩
  | 23 => ⟨S4x8192, .i32⟩
  | 24 => ⟨S4x8192, .i32⟩
  | 25 => ⟨S4x8192, .i32⟩
  | 26 => ⟨S4x8192x1, .i32⟩
  | 27 => ⟨S4x8192x1, .i32⟩
  | 28 => ⟨S4x8192x2, .i32⟩
  | 29 => ⟨S4x8192x256, .f32⟩
  | 30 => ⟨S_, .i32⟩
  | 31 => ⟨S4x8192, .i32⟩
  | 32 => ⟨S4x8192, .i1⟩
  | 33 => ⟨S_, .i32⟩
  | 34 => ⟨S4x8192, .i32⟩
  | 35 => ⟨S4x8192, .i32⟩
  | 36 => ⟨S4x8192, .i32⟩
  | 37 => ⟨S_, .i32⟩
  | 38 => ⟨S4x8192, .i32⟩
  | 39 => ⟨S4x8192, .i1⟩
  | 40 => ⟨S_, .i32⟩
  | 41 => ⟨S4x8192, .i32⟩
  | 42 => ⟨S4x8192, .i32⟩
  | 43 => ⟨S4x8192, .i32⟩
  | 44 => ⟨S4x8192x1, .i32⟩
  | 45 => ⟨S4x8192x1, .i32⟩
  | 46 => ⟨S4x8192x2, .i32⟩
  | 47 => ⟨S4x8192x256, .f32⟩
  | 48 => ⟨S_, .f32⟩
  | 49 => ⟨S4x8192x1, .f32⟩
  | 50 => ⟨S4x8192x1, .f32⟩
  | 51 => ⟨S4x8192x256, .f32⟩
  | 52 => ⟨S4x8192x256, .f32⟩
  | 53 => ⟨S_, .f32⟩
  | 54 => ⟨S4x8192x1, .f32⟩
  | 55 => ⟨S4x8192x1, .f32⟩
  | 56 => ⟨S4x8192x256, .f32⟩
  | 57 => ⟨S4x8192x256, .f32⟩
  | 58 => ⟨S4x8192x256, .f32⟩
  | 59 => ⟨S4x8192x256, .f32⟩
  | 60 => ⟨S_, .f32⟩
  | 61 => ⟨S4x8192x1, .f32⟩
  | 62 => ⟨S4x8192x1, .f32⟩
  | 63 => ⟨S4x8192x256, .f32⟩
  | 64 => ⟨S4x8192x256, .f32⟩
  | 65 => ⟨S4x8192x256, .f32⟩
  | 66 => ⟨S_, .f32⟩
  | 67 => ⟨S4x8192x1, .f32⟩
  | 68 => ⟨S4x8192x1, .f32⟩
  | 69 => ⟨S4x8192x256, .f32⟩
  | 70 => ⟨S4x8192x256, .f32⟩
  | 71 => ⟨S4x8192x256, .f32⟩
  | 72 => ⟨S4x8192x256, .f32⟩
  | 73 => ⟨S4x8192x256, .f32⟩
  | 74 => ⟨S4x8192x256, .f32⟩
  | 75 => ⟨S4x8192x256, .f32⟩
  | 76 => ⟨S4x8192x256, .f32⟩
  | 77 => ⟨S4x8192x256, .f32⟩
  | 78 => ⟨S4x8192x256, .f32⟩
  | 79 => ⟨S4x8192x277, .f32⟩
  | 80 => ⟨S32768x277, .f32⟩
  | 81 => ⟨S1x256, .f32⟩
  | 82 => ⟨S1x256, .f32⟩
  | 83 => ⟨S1x256, .f32⟩
  | 84 => ⟨S1x21, .f32⟩
  | 85 => ⟨S32768x21, .f32⟩
  | 86 => ⟨S4x8192x21, .f32⟩
  | 87 => ⟨S4, .i32⟩
  | 88 => ⟨S4x1, .i32⟩
  | 89 => ⟨S_, .i32⟩
  | 90 => ⟨S4x1, .i32⟩
  | 91 => ⟨S4x1, .i1⟩
  | 92 => ⟨S_, .i32⟩
  | 93 => ⟨S4x1, .i32⟩
  | 94 => ⟨S4x1, .i32⟩
  | 95 => ⟨S4x1, .i32⟩
  | 96 => ⟨S_, .i32⟩
  | 97 => ⟨S4x8192, .i32⟩
  | 98 => ⟨S4x8192, .i1⟩
  | 99 => ⟨S_, .i32⟩
  | 100 => ⟨S4x8192, .i32⟩
  | 101 => ⟨S4x8192, .i32⟩
  | 102 => ⟨S4x8192, .i32⟩
  | 103 => ⟨S4x8192, .i32⟩
  | 104 => ⟨S4x8192x1, .i32⟩
  | 105 => ⟨S4x8192x1, .i32⟩
  | 106 => ⟨S4x8192x2, .i32⟩
  | 107 => ⟨S4x200704x21, .f32⟩
  | 108 => ⟨S4x448x448x21, .f32⟩
  | 109 => ⟨S4x21x448x448, .f32⟩
  | 110 => ⟨S224x448, .i32⟩
  | 111 => ⟨S224x448, .i32⟩
  | 112 => ⟨S_, .i32⟩
  | 113 => ⟨S224x448, .i32⟩
  | 114 => ⟨S224x448, .i32⟩
  | 115 => ⟨S224x448, .i1⟩
  | 116 => ⟨S_, .i32⟩
  | 117 => ⟨S224x448, .i32⟩
  | 118 => ⟨S224x448, .i32⟩
  | 119 => ⟨S_, .i32⟩
  | 120 => ⟨S224x448, .i32⟩
  | 121 => ⟨S224x448, .i32⟩
  | 122 => ⟨S224x448, .i1⟩
  | 123 => ⟨S224x448, .i1⟩
  | 124 => ⟨S_, .i32⟩
  | 125 => ⟨S224x448, .i32⟩
  | 126 => ⟨S224x448, .i32⟩
  | 127 => ⟨S_, .i32⟩
  | _ => ⟨S4x112x112x21, .f32⟩

abbrev hbmTy0_7 (i : Nat) : BufTy := match i % 128 with
  | 0 => ⟨S224x448, .i32⟩
  | 1 => ⟨S224x448, .i32⟩
  | 2 => ⟨S224x448, .i1⟩
  | 3 => ⟨S_, .i32⟩
  | 4 => ⟨S224x448, .i32⟩
  | 5 => ⟨S224x448, .i32⟩
  | 6 => ⟨S_, .i32⟩
  | 7 => ⟨S224x448, .i32⟩
  | 8 => ⟨S224x448, .i32⟩
  | 9 => ⟨S224x448, .i1⟩
  | 10 => ⟨S224x448, .i1⟩
  | 11 => ⟨S_, .f32⟩
  | 12 => ⟨S_, .f32⟩
  | 13 => ⟨S224x448, .f32⟩
  | 14 => ⟨S224x448, .f32⟩
  | 15 => ⟨S224x448, .f32⟩
  | 16 => ⟨S_, .f32⟩
  | 17 => ⟨S224x448, .f32⟩
  | 18 => ⟨S224x448, .f32⟩
  | 19 => ⟨S_, .i32⟩
  | 20 => ⟨S224x448, .i32⟩
  | 21 => ⟨S224x448, .i1⟩
  | 22 => ⟨S_, .i32⟩
  | 23 => ⟨S224x448, .i32⟩
  | 24 => ⟨S224x448, .i1⟩
  | 25 => ⟨S224x448, .i1⟩
  | 26 => ⟨S_, .f32⟩
  | 27 => ⟨S_, .f32⟩
  | 28 => ⟨S224x448, .f32⟩
  | 29 => ⟨S224x448, .f32⟩
  | 30 => ⟨S224x448, .f32⟩
  | 31 => ⟨S224x448, .f32⟩
  | 32 => ⟨S84x448x448, .f32⟩
  | 33 => ⟨S84x224x448, .f32⟩
  | 34 => ⟨S4x21x224x448, .f32⟩
  | 35 => ⟨S448x224, .f32⟩
  | 36 => ⟨S4x21x224x224, .f32⟩
  | 37 => ⟨S4x224x224x21, .f32⟩
  | 38 => ⟨S4x16384x21, .f32⟩
  | 39 => ⟨S4x16384x2, .f32⟩
  | _ => ⟨S4x112x112x21, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S4x112x112x21, .f32⟩

abbrev bufTy : (tb : Table) → Fin (tcTables nBuf tb) → BufTy
  | .hbm, ⟨i, _⟩ => hbmTy i
  | .local _ .vmem, ⟨0, _⟩ => ⟨S1024x277, .f32⟩
  | .local _ .vmem, ⟨1, _⟩ => ⟨S1024x277, .f32⟩
  | .local _ .vmem, ⟨2, _⟩ => ⟨S277x256, .f32⟩
  | .local _ .vmem, ⟨3, _⟩ => ⟨S1x256, .f32⟩
  | .local _ .vmem, ⟨4, _⟩ => ⟨S277x256, .f32⟩
  | .local _ .vmem, ⟨5, _⟩ => ⟨S1x256, .f32⟩
  | .local _ .vmem, ⟨6, _⟩ => ⟨S277x256, .f32⟩
  | .local _ .vmem, ⟨7, _⟩ => ⟨S1x256, .f32⟩
  | .local _ .vmem, ⟨8, _⟩ => ⟨S277x21, .f32⟩
  | .local _ .vmem, ⟨9, _⟩ => ⟨S1x21, .f32⟩
  | .local _ .vmem, ⟨10, _⟩ => ⟨S1024x21, .f32⟩
  | .local _ .vmem, ⟨11, _⟩ => ⟨S1024x21, .f32⟩
  | .local _ .vmem, ⟨12, _⟩ => ⟨S224x448, .f32⟩
  | .local _ .vmem, ⟨13, _⟩ => ⟨S1x448x448, .f32⟩
  | .local _ .vmem, ⟨14, _⟩ => ⟨S1x448x448, .f32⟩
  | .local _ .vmem, ⟨15, _⟩ => ⟨S1x224x448, .f32⟩
  | .local _ .vmem, ⟨16, _⟩ => ⟨S1x224x448, .f32⟩
  | .local _ .vmem, ⟨17, _⟩ => ⟨S1x21x224x448, .f32⟩
  | .local _ .vmem, ⟨18, _⟩ => ⟨S1x21x224x448, .f32⟩
  | .local _ .vmem, ⟨19, _⟩ => ⟨S448x224, .f32⟩
  | .local _ .vmem, ⟨20, _⟩ => ⟨S1x21x224x224, .f32⟩
  | .local _ .vmem, ⟨21, _⟩ => ⟨S1x21x224x224, .f32⟩
  | _, _ => ⟨S4x112x112x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c : Ref sig .tc := ⟨.hbm, 64, rfl⟩
abbrev main_call0_v0 : Ref sig .tc := ⟨.hbm, 65, rfl⟩
abbrev main_call0_v1 : Ref sig .tc := ⟨.hbm, 66, rfl⟩
abbrev main_v45 : Ref sig .tc := ⟨.hbm, 67, rfl⟩
abbrev main_c_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_call1_v0 : Ref sig .tc := ⟨.hbm, 74, rfl⟩
abbrev main_call1_v1 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_values : Ref sig .tc := ⟨.hbm, 81, rfl⟩
abbrev main_indices : Ref sig .tc := ⟨.hbm, 82, rfl⟩
abbrev main_c_11 : Ref sig .tc := ⟨.hbm, 83, rfl⟩
abbrev main_call2_v0 : Ref sig .tc := ⟨.hbm, 84, rfl⟩
abbrev main_call2_c : Ref sig .tc := ⟨.hbm, 85, rfl⟩
abbrev main_call2_v1 : Ref sig .tc := ⟨.hbm, 86, rfl⟩
abbrev main_call2_c_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_c_1 : Ref sig .tc := ⟨.hbm, 91, rfl⟩
abbrev main_call2_v5 : Ref sig .tc := ⟨.hbm, 92, rfl⟩
abbrev main_call2_v6 : Ref sig .tc := ⟨.hbm, 93, rfl⟩
abbrev main_call2_c_2 : Ref sig .tc := ⟨.hbm, 94, rfl⟩
abbrev main_call2_v7 : Ref sig .tc := ⟨.hbm, 95, rfl⟩
abbrev main_call2_v8 : Ref sig .tc := ⟨.hbm, 96, rfl⟩
abbrev main_call2_c_3 : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_v12 : Ref sig .tc := ⟨.hbm, 101, rfl⟩
abbrev main_call2_v13 : Ref sig .tc := ⟨.hbm, 102, rfl⟩
abbrev main_call2_v14 : Ref sig .tc := ⟨.hbm, 103, rfl⟩
abbrev main_v54 : Ref sig .tc := ⟨.hbm, 104, rfl⟩
abbrev main_v55 : Ref sig .tc := ⟨.hbm, 105, rfl⟩
abbrev main_c_12 : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_call3_v5 : Ref sig .tc := ⟨.hbm, 112, rfl⟩
abbrev main_call3_v6 : Ref sig .tc := ⟨.hbm, 113, rfl⟩
abbrev main_call3_v7 : Ref sig .tc := ⟨.hbm, 114, rfl⟩
abbrev main_call3_v8 : Ref sig .tc := ⟨.hbm, 115, rfl⟩
abbrev main_call3_c : Ref sig .tc := ⟨.hbm, 116, rfl⟩
abbrev main_call3_v9 : Ref sig .tc := ⟨.hbm, 117, rfl⟩
abbrev main_call3_v10 : Ref sig .tc := ⟨.hbm, 118, rfl⟩
abbrev main_call3_v11 : Ref sig .tc := ⟨.hbm, 119, rfl⟩
abbrev main_call3_c_0 : Ref sig .tc := ⟨.hbm, 120, rfl⟩
abbrev main_call3_v12 : Ref sig .tc := ⟨.hbm, 121, rfl⟩
abbrev main_call3_v13 : Ref sig .tc := ⟨.hbm, 122, rfl⟩
abbrev main_v56 : Ref sig .tc := ⟨.hbm, 123, rfl⟩
abbrev main_v57 : Ref sig .tc := ⟨.hbm, 124, rfl⟩
abbrev main_cst_13 : Ref sig .tc := ⟨.hbm, 125, rfl⟩
abbrev main_v58 : Ref sig .tc := ⟨.hbm, 126, rfl⟩
abbrev main_v59 : Ref sig .tc := ⟨.hbm, 127, rfl⟩
abbrev main_cst_14 : Ref sig .tc := ⟨.hbm, 128, rfl⟩
abbrev main_v60 : Ref sig .tc := ⟨.hbm, 129, rfl⟩
abbrev main_v61 : Ref sig .tc := ⟨.hbm, 130, rfl⟩
abbrev main_cst_15 : Ref sig .tc := ⟨.hbm, 131, rfl⟩
abbrev main_v62 : Ref sig .tc := ⟨.hbm, 132, rfl⟩
abbrev main_v63 : Ref sig .tc := ⟨.hbm, 133, rfl⟩
abbrev main_cst_16 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_cst_17 : Ref sig .tc := ⟨.hbm, 142, rfl⟩
abbrev main_v71 : Ref sig .tc := ⟨.hbm, 143, rfl⟩
abbrev main_v72 : Ref sig .tc := ⟨.hbm, 144, rfl⟩
abbrev main_cst_18 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_cst_19 : Ref sig .tc := ⟨.hbm, 150, rfl⟩
abbrev main_v77 : Ref sig .tc := ⟨.hbm, 151, rfl⟩
abbrev main_v78 : Ref sig .tc := ⟨.hbm, 152, rfl⟩
abbrev main_cst_20 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_c_21 : Ref sig .tc := ⟨.hbm, 162, rfl⟩
abbrev main_c_22 : Ref sig .tc := ⟨.hbm, 163, rfl⟩
abbrev main_call4_v0 : Ref sig .tc := ⟨.hbm, 164, rfl⟩
abbrev main_call4_v1 : Ref sig .tc := ⟨.hbm, 165, rfl⟩
abbrev main_call4_v2 : Ref sig .tc := ⟨.hbm, 166, rfl⟩
abbrev main_call4_v3 : Ref sig .tc := ⟨.hbm, 167, rfl⟩
abbrev main_call4_v4 : Ref sig .tc := ⟨.hbm, 168, rfl⟩
abbrev main_v87 : Ref sig .tc := ⟨.hbm, 169, rfl⟩
abbrev main_v88 : Ref sig .tc := ⟨.hbm, 170, rfl⟩
abbrev main_cst_23 : Ref sig .tc := ⟨.hbm, 171, rfl⟩
abbrev main_v89 : Ref sig .tc := ⟨.hbm, 172, rfl⟩
abbrev main_v90 : Ref sig .tc := ⟨.hbm, 173, rfl⟩
abbrev main_c_24 : Ref sig .tc := ⟨.hbm, 174, rfl⟩
abbrev main_c_25 : Ref sig .tc := ⟨.hbm, 175, rfl⟩
abbrev main_call5_v0 : Ref sig .tc := ⟨.hbm, 176, rfl⟩
abbrev main_call5_v1 : Ref sig .tc := ⟨.hbm, 177, rfl⟩
abbrev main_call5_v2 : Ref sig .tc := ⟨.hbm, 178, rfl⟩
abbrev main_call5_v3 : Ref sig .tc := ⟨.hbm, 179, rfl⟩
abbrev main_call5_v4 : Ref sig .tc := ⟨.hbm, 180, rfl⟩
abbrev main_v91 : Ref sig .tc := ⟨.hbm, 181, rfl⟩
abbrev main_v92 : Ref sig .tc := ⟨.hbm, 182, rfl⟩
abbrev main_c_26 : Ref sig .tc := ⟨.hbm, 183, rfl⟩
abbrev main_c_27 : Ref sig .tc := ⟨.hbm, 184, rfl⟩
abbrev main_call6_v0 : Ref sig .tc := ⟨.hbm, 185, rfl⟩
abbrev main_call6_v1 : Ref sig .tc := ⟨.hbm, 186, rfl⟩
abbrev main_call6_v2 : Ref sig .tc := ⟨.hbm, 187, rfl⟩
abbrev main_call6_v3 : Ref sig .tc := ⟨.hbm, 188, rfl⟩
abbrev main_call6_v4 : Ref sig .tc := ⟨.hbm, 189, rfl⟩
abbrev main_v93 : Ref sig .tc := ⟨.hbm, 190, rfl⟩
abbrev main_v94 : Ref sig .tc := ⟨.hbm, 191, rfl⟩
abbrev main_cst_28 : Ref sig .tc := ⟨.hbm, 192, rfl⟩
abbrev main_v95 : Ref sig .tc := ⟨.hbm, 193, rfl⟩
abbrev main_v96 : Ref sig .tc := ⟨.hbm, 194, rfl⟩
abbrev main_c_29 : Ref sig .tc := ⟨.hbm, 195, rfl⟩
abbrev main_c_30 : Ref sig .tc := ⟨.hbm, 196, rfl⟩
abbrev main_call7_v0 : Ref sig .tc := ⟨.hbm, 197, rfl⟩
abbrev main_call7_v1 : Ref sig .tc := ⟨.hbm, 198, rfl⟩
abbrev main_call7_v2 : Ref sig .tc := ⟨.hbm, 199, rfl⟩
abbrev main_call7_v3 : Ref sig .tc := ⟨.hbm, 200, rfl⟩
abbrev main_call7_v4 : Ref sig .tc := ⟨.hbm, 201, rfl⟩
abbrev main_v97 : Ref sig .tc := ⟨.hbm, 202, rfl⟩
abbrev main_v98 : Ref sig .tc := ⟨.hbm, 203, rfl⟩
abbrev main_c_31 : Ref sig .tc := ⟨.hbm, 204, rfl⟩
abbrev main_v99 : Ref sig .tc := ⟨.hbm, 205, rfl⟩
abbrev main_v100 : Ref sig .tc := ⟨.hbm, 206, rfl⟩
abbrev main_c_32 : Ref sig .tc := ⟨.hbm, 207, rfl⟩
abbrev main_v101 : Ref sig .tc := ⟨.hbm, 208, rfl⟩
abbrev main_v102 : Ref sig .tc := ⟨.hbm, 209, rfl⟩
abbrev main_v103 : Ref sig .tc := ⟨.hbm, 210, rfl⟩
abbrev main_c_33 : Ref sig .tc := ⟨.hbm, 211, rfl⟩
abbrev main_v104 : Ref sig .tc := ⟨.hbm, 212, rfl⟩
abbrev main_v105 : Ref sig .tc := ⟨.hbm, 213, rfl⟩
abbrev main_c_34 : Ref sig .tc := ⟨.hbm, 214, rfl⟩
abbrev main_v106 : Ref sig .tc := ⟨.hbm, 215, rfl⟩
abbrev main_v107 : Ref sig .tc := ⟨.hbm, 216, rfl⟩
abbrev main_v108 : Ref sig .tc := ⟨.hbm, 217, rfl⟩
abbrev main_v109 : Ref sig .tc := ⟨.hbm, 218, rfl⟩
abbrev main_v110 : Ref sig .tc := ⟨.hbm, 219, rfl⟩
abbrev main_v111 : Ref sig .tc := ⟨.hbm, 220, rfl⟩
abbrev main_v112 : Ref sig .tc := ⟨.hbm, 221, rfl⟩
abbrev main_c_35 : Ref sig .tc := ⟨.hbm, 222, rfl⟩
abbrev main_v113 : Ref sig .tc := ⟨.hbm, 223, rfl⟩
abbrev main_v114 : Ref sig .tc := ⟨.hbm, 224, rfl⟩
abbrev main_c_36 : Ref sig .tc := ⟨.hbm, 225, rfl⟩
abbrev main_v115 : Ref sig .tc := ⟨.hbm, 226, rfl⟩
abbrev main_v116 : Ref sig .tc := ⟨.hbm, 227, rfl⟩
abbrev main_v117 : Ref sig .tc := ⟨.hbm, 228, rfl⟩
abbrev main_c_37 : Ref sig .tc := ⟨.hbm, 229, rfl⟩
abbrev main_v118 : Ref sig .tc := ⟨.hbm, 230, rfl⟩
abbrev main_v119 : Ref sig .tc := ⟨.hbm, 231, rfl⟩
abbrev main_c_38 : Ref sig .tc := ⟨.hbm, 232, rfl⟩
abbrev main_v120 : Ref sig .tc := ⟨.hbm, 233, rfl⟩
abbrev main_v121 : Ref sig .tc := ⟨.hbm, 234, rfl⟩
abbrev main_v122 : Ref sig .tc := ⟨.hbm, 235, rfl⟩
abbrev main_v123 : Ref sig .tc := ⟨.hbm, 236, rfl⟩
abbrev main_v124 : Ref sig .tc := ⟨.hbm, 237, rfl⟩
abbrev main_v125 : Ref sig .tc := ⟨.hbm, 238, rfl⟩
abbrev main_v126 : Ref sig .tc := ⟨.hbm, 239, rfl⟩
abbrev main_c_39 : Ref sig .tc := ⟨.hbm, 240, rfl⟩
abbrev main_v127 : Ref sig .tc := ⟨.hbm, 241, rfl⟩
abbrev main_v128 : Ref sig .tc := ⟨.hbm, 242, rfl⟩
abbrev main_c_40 : Ref sig .tc := ⟨.hbm, 243, rfl⟩
abbrev main_v129 : Ref sig .tc := ⟨.hbm, 244, rfl⟩
abbrev main_v130 : Ref sig .tc := ⟨.hbm, 245, rfl⟩
abbrev main_v131 : Ref sig .tc := ⟨.hbm, 246, rfl⟩
abbrev main_c_41 : Ref sig .tc := ⟨.hbm, 247, rfl⟩
abbrev main_v132 : Ref sig .tc := ⟨.hbm, 248, rfl⟩
abbrev main_v133 : Ref sig .tc := ⟨.hbm, 249, rfl⟩
abbrev main_c_42 : Ref sig .tc := ⟨.hbm, 250, rfl⟩
abbrev main_v134 : Ref sig .tc := ⟨.hbm, 251, rfl⟩
abbrev main_v135 : Ref sig .tc := ⟨.hbm, 252, rfl⟩
abbrev main_v136 : Ref sig .tc := ⟨.hbm, 253, rfl⟩
abbrev main_v137 : Ref sig .tc := ⟨.hbm, 254, rfl⟩
abbrev main_v138 : Ref sig .tc := ⟨.hbm, 255, rfl⟩
abbrev main_v139 : Ref sig .tc := ⟨.hbm, 256, rfl⟩
abbrev main_v140 : Ref sig .tc := ⟨.hbm, 257, rfl⟩
abbrev main_c_43 : Ref sig .tc := ⟨.hbm, 258, rfl⟩
abbrev main_v141 : Ref sig .tc := ⟨.hbm, 259, rfl⟩
abbrev main_v142 : Ref sig .tc := ⟨.hbm, 260, rfl⟩
abbrev main_c_44 : Ref sig .tc := ⟨.hbm, 261, rfl⟩
abbrev main_v143 : Ref sig .tc := ⟨.hbm, 262, rfl⟩
abbrev main_v144 : Ref sig .tc := ⟨.hbm, 263, rfl⟩
abbrev main_v145 : Ref sig .tc := ⟨.hbm, 264, rfl⟩
abbrev main_c_45 : Ref sig .tc := ⟨.hbm, 265, rfl⟩
abbrev main_v146 : Ref sig .tc := ⟨.hbm, 266, rfl⟩
abbrev main_v147 : Ref sig .tc := ⟨.hbm, 267, rfl⟩
abbrev main_c_46 : Ref sig .tc := ⟨.hbm, 268, rfl⟩
abbrev main_v148 : Ref sig .tc := ⟨.hbm, 269, rfl⟩
abbrev main_v149 : Ref sig .tc := ⟨.hbm, 270, rfl⟩
abbrev main_v150 : Ref sig .tc := ⟨.hbm, 271, rfl⟩
abbrev main_v151 : Ref sig .tc := ⟨.hbm, 272, rfl⟩
abbrev main_v152 : Ref sig .tc := ⟨.hbm, 273, rfl⟩
abbrev main_v153 : Ref sig .tc := ⟨.hbm, 274, rfl⟩
abbrev main_v154 : Ref sig .tc := ⟨.hbm, 275, rfl⟩
abbrev main_cst_47 : Ref sig .tc := ⟨.hbm, 276, rfl⟩
abbrev main_v155 : Ref sig .tc := ⟨.hbm, 277, rfl⟩
abbrev main_v156 : Ref sig .tc := ⟨.hbm, 278, rfl⟩
abbrev main_v157 : Ref sig .tc := ⟨.hbm, 279, rfl⟩
abbrev main_v158 : Ref sig .tc := ⟨.hbm, 280, rfl⟩
abbrev main_cst_48 : Ref sig .tc := ⟨.hbm, 281, rfl⟩
abbrev main_v159 : Ref sig .tc := ⟨.hbm, 282, rfl⟩
abbrev main_v160 : Ref sig .tc := ⟨.hbm, 283, rfl⟩
abbrev main_v161 : Ref sig .tc := ⟨.hbm, 284, rfl⟩
abbrev main_v162 : Ref sig .tc := ⟨.hbm, 285, rfl⟩
abbrev main_v163 : Ref sig .tc := ⟨.hbm, 286, rfl⟩
abbrev main_v164 : Ref sig .tc := ⟨.hbm, 287, rfl⟩
abbrev main_cst_49 : Ref sig .tc := ⟨.hbm, 288, rfl⟩
abbrev main_v165 : Ref sig .tc := ⟨.hbm, 289, rfl⟩
abbrev main_v166 : Ref sig .tc := ⟨.hbm, 290, rfl⟩
abbrev main_v167 : Ref sig .tc := ⟨.hbm, 291, rfl⟩
abbrev main_v168 : Ref sig .tc := ⟨.hbm, 292, rfl⟩
abbrev main_v169 : Ref sig .tc := ⟨.hbm, 293, rfl⟩
abbrev main_cst_50 : Ref sig .tc := ⟨.hbm, 294, rfl⟩
abbrev main_v170 : Ref sig .tc := ⟨.hbm, 295, rfl⟩
abbrev main_v171 : Ref sig .tc := ⟨.hbm, 296, rfl⟩
abbrev main_v172 : Ref sig .tc := ⟨.hbm, 297, rfl⟩
abbrev main_v173 : Ref sig .tc := ⟨.hbm, 298, rfl⟩
abbrev main_v174 : Ref sig .tc := ⟨.hbm, 299, rfl⟩
abbrev main_v175 : Ref sig .tc := ⟨.hbm, 300, rfl⟩
abbrev main_v176 : Ref sig .tc := ⟨.hbm, 301, rfl⟩
abbrev main_v177 : Ref sig .tc := ⟨.hbm, 302, rfl⟩
abbrev main_v178 : Ref sig .tc := ⟨.hbm, 303, rfl⟩
abbrev main_v179 : Ref sig .tc := ⟨.hbm, 304, rfl⟩
abbrev main_v180 : Ref sig .tc := ⟨.hbm, 305, rfl⟩
abbrev main_v181 : Ref sig .tc := ⟨.hbm, 306, rfl⟩
abbrev main_v182 : Ref sig .tc := ⟨.hbm, 307, rfl⟩
abbrev main_v183 : Ref sig .tc := ⟨.hbm, 308, rfl⟩
abbrev main_cst_51 : Ref sig .tc := ⟨.hbm, 309, rfl⟩
abbrev main_v184 : Ref sig .tc := ⟨.hbm, 310, rfl⟩
abbrev main_v185 : Ref sig .tc := ⟨.hbm, 311, rfl⟩
abbrev main_cst_52 : Ref sig .tc := ⟨.hbm, 312, rfl⟩
abbrev main_v186 : Ref sig .tc := ⟨.hbm, 313, rfl⟩
abbrev main_v187 : Ref sig .tc := ⟨.hbm, 314, rfl⟩
abbrev main_v188 : Ref sig .tc := ⟨.hbm, 315, rfl⟩
abbrev main_v189 : Ref sig .tc := ⟨.hbm, 316, rfl⟩
abbrev main_cst_53 : Ref sig .tc := ⟨.hbm, 317, rfl⟩
abbrev main_v190 : Ref sig .tc := ⟨.hbm, 318, rfl⟩
abbrev main_v191 : Ref sig .tc := ⟨.hbm, 319, rfl⟩
abbrev main_cst_54 : Ref sig .tc := ⟨.hbm, 320, rfl⟩
abbrev main_v192 : Ref sig .tc := ⟨.hbm, 321, rfl⟩
abbrev main_v193 : Ref sig .tc := ⟨.hbm, 322, rfl⟩
abbrev main_v194 : Ref sig .tc := ⟨.hbm, 323, rfl⟩
abbrev main_v195 : Ref sig .tc := ⟨.hbm, 324, rfl⟩
abbrev main_v196 : Ref sig .tc := ⟨.hbm, 325, rfl⟩
abbrev main_v197 : Ref sig .tc := ⟨.hbm, 326, rfl⟩
abbrev main_v198 : Ref sig .tc := ⟨.hbm, 327, rfl⟩
abbrev main_v199 : Ref sig .tc := ⟨.hbm, 328, rfl⟩
abbrev main_c_55 : Ref sig .tc := ⟨.hbm, 329, rfl⟩
abbrev main_c_56 : Ref sig .tc := ⟨.hbm, 330, rfl⟩
abbrev main_call8_v0 : Ref sig .tc := ⟨.hbm, 331, rfl⟩
abbrev main_call8_v1 : Ref sig .tc := ⟨.hbm, 332, rfl⟩
abbrev main_call8_v2 : Ref sig .tc := ⟨.hbm, 333, rfl⟩
abbrev main_call8_v3 : Ref sig .tc := ⟨.hbm, 334, rfl⟩
abbrev main_call8_v4 : Ref sig .tc := ⟨.hbm, 335, rfl⟩
abbrev main_v200 : Ref sig .tc := ⟨.hbm, 336, rfl⟩
abbrev main_v201 : Ref sig .tc := ⟨.hbm, 337, rfl⟩
abbrev main_cst_57 : Ref sig .tc := ⟨.hbm, 338, rfl⟩
abbrev main_v202 : Ref sig .tc := ⟨.hbm, 339, rfl⟩
abbrev main_v203 : Ref sig .tc := ⟨.hbm, 340, rfl⟩
abbrev main_c_58 : Ref sig .tc := ⟨.hbm, 341, rfl⟩
abbrev main_c_59 : Ref sig .tc := ⟨.hbm, 342, rfl⟩
abbrev main_call9_v0 : Ref sig .tc := ⟨.hbm, 343, rfl⟩
abbrev main_call9_v1 : Ref sig .tc := ⟨.hbm, 344, rfl⟩
abbrev main_call9_v2 : Ref sig .tc := ⟨.hbm, 345, rfl⟩
abbrev main_call9_v3 : Ref sig .tc := ⟨.hbm, 346, rfl⟩
abbrev main_call9_v4 : Ref sig .tc := ⟨.hbm, 347, rfl⟩
abbrev main_v204 : Ref sig .tc := ⟨.hbm, 348, rfl⟩
abbrev main_v205 : Ref sig .tc := ⟨.hbm, 349, rfl⟩
abbrev main_c_60 : Ref sig .tc := ⟨.hbm, 350, rfl⟩
abbrev main_c_61 : Ref sig .tc := ⟨.hbm, 351, rfl⟩
abbrev main_call10_v0 : Ref sig .tc := ⟨.hbm, 352, rfl⟩
abbrev main_call10_v1 : Ref sig .tc := ⟨.hbm, 353, rfl⟩
abbrev main_call10_v2 : Ref sig .tc := ⟨.hbm, 354, rfl⟩
abbrev main_call10_v3 : Ref sig .tc := ⟨.hbm, 355, rfl⟩
abbrev main_call10_v4 : Ref sig .tc := ⟨.hbm, 356, rfl⟩
abbrev main_v206 : Ref sig .tc := ⟨.hbm, 357, rfl⟩
abbrev main_v207 : Ref sig .tc := ⟨.hbm, 358, rfl⟩
abbrev main_cst_62 : Ref sig .tc := ⟨.hbm, 359, rfl⟩
abbrev main_v208 : Ref sig .tc := ⟨.hbm, 360, rfl⟩
abbrev main_v209 : Ref sig .tc := ⟨.hbm, 361, rfl⟩
abbrev main_c_63 : Ref sig .tc := ⟨.hbm, 362, rfl⟩
abbrev main_c_64 : Ref sig .tc := ⟨.hbm, 363, rfl⟩
abbrev main_call11_v0 : Ref sig .tc := ⟨.hbm, 364, rfl⟩
abbrev main_call11_v1 : Ref sig .tc := ⟨.hbm, 365, rfl⟩
abbrev main_call11_v2 : Ref sig .tc := ⟨.hbm, 366, rfl⟩
abbrev main_call11_v3 : Ref sig .tc := ⟨.hbm, 367, rfl⟩
abbrev main_call11_v4 : Ref sig .tc := ⟨.hbm, 368, rfl⟩
abbrev main_v210 : Ref sig .tc := ⟨.hbm, 369, rfl⟩
abbrev main_v211 : Ref sig .tc := ⟨.hbm, 370, rfl⟩
abbrev main_c_65 : Ref sig .tc := ⟨.hbm, 371, rfl⟩
abbrev main_v212 : Ref sig .tc := ⟨.hbm, 372, rfl⟩
abbrev main_v213 : Ref sig .tc := ⟨.hbm, 373, rfl⟩
abbrev main_c_66 : Ref sig .tc := ⟨.hbm, 374, rfl⟩
abbrev main_v214 : Ref sig .tc := ⟨.hbm, 375, rfl⟩
abbrev main_v215 : Ref sig .tc := ⟨.hbm, 376, rfl⟩
abbrev main_v216 : Ref sig .tc := ⟨.hbm, 377, rfl⟩
abbrev main_c_67 : Ref sig .tc := ⟨.hbm, 378, rfl⟩
abbrev main_v217 : Ref sig .tc := ⟨.hbm, 379, rfl⟩
abbrev main_v218 : Ref sig .tc := ⟨.hbm, 380, rfl⟩
abbrev main_c_68 : Ref sig .tc := ⟨.hbm, 381, rfl⟩
abbrev main_v219 : Ref sig .tc := ⟨.hbm, 382, rfl⟩
abbrev main_v220 : Ref sig .tc := ⟨.hbm, 383, rfl⟩
abbrev main_v221 : Ref sig .tc := ⟨.hbm, 384, rfl⟩
abbrev main_v222 : Ref sig .tc := ⟨.hbm, 385, rfl⟩
abbrev main_v223 : Ref sig .tc := ⟨.hbm, 386, rfl⟩
abbrev main_v224 : Ref sig .tc := ⟨.hbm, 387, rfl⟩
abbrev main_v225 : Ref sig .tc := ⟨.hbm, 388, rfl⟩
abbrev main_c_69 : Ref sig .tc := ⟨.hbm, 389, rfl⟩
abbrev main_v226 : Ref sig .tc := ⟨.hbm, 390, rfl⟩
abbrev main_v227 : Ref sig .tc := ⟨.hbm, 391, rfl⟩
abbrev main_c_70 : Ref sig .tc := ⟨.hbm, 392, rfl⟩
abbrev main_v228 : Ref sig .tc := ⟨.hbm, 393, rfl⟩
abbrev main_v229 : Ref sig .tc := ⟨.hbm, 394, rfl⟩
abbrev main_v230 : Ref sig .tc := ⟨.hbm, 395, rfl⟩
abbrev main_c_71 : Ref sig .tc := ⟨.hbm, 396, rfl⟩
abbrev main_v231 : Ref sig .tc := ⟨.hbm, 397, rfl⟩
abbrev main_v232 : Ref sig .tc := ⟨.hbm, 398, rfl⟩
abbrev main_c_72 : Ref sig .tc := ⟨.hbm, 399, rfl⟩
abbrev main_v233 : Ref sig .tc := ⟨.hbm, 400, rfl⟩
abbrev main_v234 : Ref sig .tc := ⟨.hbm, 401, rfl⟩
abbrev main_v235 : Ref sig .tc := ⟨.hbm, 402, rfl⟩
abbrev main_v236 : Ref sig .tc := ⟨.hbm, 403, rfl⟩
abbrev main_v237 : Ref sig .tc := ⟨.hbm, 404, rfl⟩
abbrev main_v238 : Ref sig .tc := ⟨.hbm, 405, rfl⟩
abbrev main_v239 : Ref sig .tc := ⟨.hbm, 406, rfl⟩
abbrev main_c_73 : Ref sig .tc := ⟨.hbm, 407, rfl⟩
abbrev main_v240 : Ref sig .tc := ⟨.hbm, 408, rfl⟩
abbrev main_v241 : Ref sig .tc := ⟨.hbm, 409, rfl⟩
abbrev main_c_74 : Ref sig .tc := ⟨.hbm, 410, rfl⟩
abbrev main_v242 : Ref sig .tc := ⟨.hbm, 411, rfl⟩
abbrev main_v243 : Ref sig .tc := ⟨.hbm, 412, rfl⟩
abbrev main_v244 : Ref sig .tc := ⟨.hbm, 413, rfl⟩
abbrev main_c_75 : Ref sig .tc := ⟨.hbm, 414, rfl⟩
abbrev main_v245 : Ref sig .tc := ⟨.hbm, 415, rfl⟩
abbrev main_v246 : Ref sig .tc := ⟨.hbm, 416, rfl⟩
abbrev main_c_76 : Ref sig .tc := ⟨.hbm, 417, rfl⟩
abbrev main_v247 : Ref sig .tc := ⟨.hbm, 418, rfl⟩
abbrev main_v248 : Ref sig .tc := ⟨.hbm, 419, rfl⟩
abbrev main_v249 : Ref sig .tc := ⟨.hbm, 420, rfl⟩
abbrev main_v250 : Ref sig .tc := ⟨.hbm, 421, rfl⟩
abbrev main_v251 : Ref sig .tc := ⟨.hbm, 422, rfl⟩
abbrev main_v252 : Ref sig .tc := ⟨.hbm, 423, rfl⟩
abbrev main_v253 : Ref sig .tc := ⟨.hbm, 424, rfl⟩
abbrev main_c_77 : Ref sig .tc := ⟨.hbm, 425, rfl⟩
abbrev main_v254 : Ref sig .tc := ⟨.hbm, 426, rfl⟩
abbrev main_v255 : Ref sig .tc := ⟨.hbm, 427, rfl⟩
abbrev main_c_78 : Ref sig .tc := ⟨.hbm, 428, rfl⟩
abbrev main_v256 : Ref sig .tc := ⟨.hbm, 429, rfl⟩
abbrev main_v257 : Ref sig .tc := ⟨.hbm, 430, rfl⟩
abbrev main_v258 : Ref sig .tc := ⟨.hbm, 431, rfl⟩
abbrev main_c_79 : Ref sig .tc := ⟨.hbm, 432, rfl⟩
abbrev main_v259 : Ref sig .tc := ⟨.hbm, 433, rfl⟩
abbrev main_v260 : Ref sig .tc := ⟨.hbm, 434, rfl⟩
abbrev main_c_80 : Ref sig .tc := ⟨.hbm, 435, rfl⟩
abbrev main_v261 : Ref sig .tc := ⟨.hbm, 436, rfl⟩
abbrev main_v262 : Ref sig .tc := ⟨.hbm, 437, rfl⟩
abbrev main_v263 : Ref sig .tc := ⟨.hbm, 438, rfl⟩
abbrev main_v264 : Ref sig .tc := ⟨.hbm, 439, rfl⟩
abbrev main_v265 : Ref sig .tc := ⟨.hbm, 440, rfl⟩
abbrev main_v266 : Ref sig .tc := ⟨.hbm, 441, rfl⟩
abbrev main_v267 : Ref sig .tc := ⟨.hbm, 442, rfl⟩
abbrev main_cst_81 : Ref sig .tc := ⟨.hbm, 443, rfl⟩
abbrev main_v268 : Ref sig .tc := ⟨.hbm, 444, rfl⟩
abbrev main_v269 : Ref sig .tc := ⟨.hbm, 445, rfl⟩
abbrev main_v270 : Ref sig .tc := ⟨.hbm, 446, rfl⟩
abbrev main_v271 : Ref sig .tc := ⟨.hbm, 447, rfl⟩
abbrev main_cst_82 : Ref sig .tc := ⟨.hbm, 448, rfl⟩
abbrev main_v272 : Ref sig .tc := ⟨.hbm, 449, rfl⟩
abbrev main_v273 : Ref sig .tc := ⟨.hbm, 450, rfl⟩
abbrev main_v274 : Ref sig .tc := ⟨.hbm, 451, rfl⟩
abbrev main_v275 : Ref sig .tc := ⟨.hbm, 452, rfl⟩
abbrev main_v276 : Ref sig .tc := ⟨.hbm, 453, rfl⟩
abbrev main_v277 : Ref sig .tc := ⟨.hbm, 454, rfl⟩
abbrev main_cst_83 : Ref sig .tc := ⟨.hbm, 455, rfl⟩
abbrev main_v278 : Ref sig .tc := ⟨.hbm, 456, rfl⟩
abbrev main_v279 : Ref sig .tc := ⟨.hbm, 457, rfl⟩
abbrev main_v280 : Ref sig .tc := ⟨.hbm, 458, rfl⟩
abbrev main_v281 : Ref sig .tc := ⟨.hbm, 459, rfl⟩
abbrev main_v282 : Ref sig .tc := ⟨.hbm, 460, rfl⟩
abbrev main_cst_84 : Ref sig .tc := ⟨.hbm, 461, rfl⟩
abbrev main_v283 : Ref sig .tc := ⟨.hbm, 462, rfl⟩
abbrev main_v284 : Ref sig .tc := ⟨.hbm, 463, rfl⟩
abbrev main_v285 : Ref sig .tc := ⟨.hbm, 464, rfl⟩
abbrev main_v286 : Ref sig .tc := ⟨.hbm, 465, rfl⟩
abbrev main_v287 : Ref sig .tc := ⟨.hbm, 466, rfl⟩
abbrev main_v288 : Ref sig .tc := ⟨.hbm, 467, rfl⟩
abbrev main_v289 : Ref sig .tc := ⟨.hbm, 468, rfl⟩
abbrev main_v290 : Ref sig .tc := ⟨.hbm, 469, rfl⟩
abbrev main_v291 : Ref sig .tc := ⟨.hbm, 470, rfl⟩
abbrev main_v292 : Ref sig .tc := ⟨.hbm, 471, rfl⟩
abbrev main_v293 : Ref sig .tc := ⟨.hbm, 472, rfl⟩
abbrev main_v294 : Ref sig .tc := ⟨.hbm, 473, rfl⟩
abbrev main_v295 : Ref sig .tc := ⟨.hbm, 474, rfl⟩
abbrev main_v296 : Ref sig .tc := ⟨.hbm, 475, rfl⟩
abbrev main_v297 : Ref sig .tc := ⟨.hbm, 476, rfl⟩
abbrev main_v298 : Ref sig .tc := ⟨.hbm, 477, rfl⟩
abbrev main_v299 : Ref sig .tc := ⟨.hbm, 478, rfl⟩
abbrev main_call12_cst : Ref sig .tc := ⟨.hbm, 479, rfl⟩
abbrev main_call12_v0 : Ref sig .tc := ⟨.hbm, 480, rfl⟩
abbrev main_v300 : Ref sig .tc := ⟨.hbm, 481, rfl⟩
abbrev main_v301 : Ref sig .tc := ⟨.hbm, 482, rfl⟩
abbrev main_v302 : Ref sig .tc := ⟨.hbm, 483, rfl⟩
abbrev main_v303 : Ref sig .tc := ⟨.hbm, 484, rfl⟩
abbrev main_v304 : Ref sig .tc := ⟨.hbm, 485, rfl⟩
abbrev main_v305 : Ref sig .tc := ⟨.hbm, 486, rfl⟩
abbrev main_call13_cst : Ref sig .tc := ⟨.hbm, 487, rfl⟩
abbrev main_call13_v0 : Ref sig .tc := ⟨.hbm, 488, rfl⟩
abbrev main_v306 : Ref sig .tc := ⟨.hbm, 489, rfl⟩
abbrev main_v307 : Ref sig .tc := ⟨.hbm, 490, rfl⟩
abbrev main_v308 : Ref sig .tc := ⟨.hbm, 491, rfl⟩
abbrev main_v309 : Ref sig .tc := ⟨.hbm, 492, rfl⟩
abbrev main_v310 : Ref sig .tc := ⟨.hbm, 493, rfl⟩
abbrev main_v311 : Ref sig .tc := ⟨.hbm, 494, rfl⟩
abbrev main_call14_cst : Ref sig .tc := ⟨.hbm, 495, rfl⟩
abbrev main_call14_v0 : Ref sig .tc := ⟨.hbm, 496, rfl⟩
abbrev main_v312 : Ref sig .tc := ⟨.hbm, 497, rfl⟩
abbrev main_v313 : Ref sig .tc := ⟨.hbm, 498, rfl⟩
abbrev main_v314 : Ref sig .tc := ⟨.hbm, 499, rfl⟩
abbrev main_v315 : Ref sig .tc := ⟨.hbm, 500, rfl⟩
abbrev main_v316 : Ref sig .tc := ⟨.hbm, 501, rfl⟩
abbrev main_v317 : Ref sig .tc := ⟨.hbm, 502, rfl⟩
abbrev main_v318 : Ref sig .tc := ⟨.hbm, 503, rfl⟩
abbrev main_v319 : Ref sig .tc := ⟨.hbm, 504, rfl⟩
abbrev main_v320 : Ref sig .tc := ⟨.hbm, 505, rfl⟩
abbrev main_c_85 : Ref sig .tc := ⟨.hbm, 506, rfl⟩
abbrev main_v321 : Ref sig .tc := ⟨.hbm, 507, rfl⟩
abbrev main_v322 : Ref sig .tc := ⟨.hbm, 508, rfl⟩
abbrev main_c_86 : Ref sig .tc := ⟨.hbm, 509, rfl⟩
abbrev main_v323 : Ref sig .tc := ⟨.hbm, 510, rfl⟩
abbrev main_v324 : Ref sig .tc := ⟨.hbm, 511, rfl⟩
abbrev main_v325 : Ref sig .tc := ⟨.hbm, 512, rfl⟩
abbrev main_c_87 : Ref sig .tc := ⟨.hbm, 513, rfl⟩
abbrev main_v326 : Ref sig .tc := ⟨.hbm, 514, rfl⟩
abbrev main_v327 : Ref sig .tc := ⟨.hbm, 515, rfl⟩
abbrev main_c_88 : Ref sig .tc := ⟨.hbm, 516, rfl⟩
abbrev main_v328 : Ref sig .tc := ⟨.hbm, 517, rfl⟩
abbrev main_v329 : Ref sig .tc := ⟨.hbm, 518, rfl⟩
abbrev main_v330 : Ref sig .tc := ⟨.hbm, 519, rfl⟩
abbrev main_v331 : Ref sig .tc := ⟨.hbm, 520, rfl⟩
abbrev main_v332 : Ref sig .tc := ⟨.hbm, 521, rfl⟩
abbrev main_v333 : Ref sig .tc := ⟨.hbm, 522, rfl⟩
abbrev main_v334 : Ref sig .tc := ⟨.hbm, 523, rfl⟩
abbrev main_v335 : Ref sig .tc := ⟨.hbm, 524, rfl⟩
abbrev main_v336 : Ref sig .tc := ⟨.hbm, 525, rfl⟩
abbrev main_v337 : Ref sig .tc := ⟨.hbm, 526, rfl⟩
abbrev main_v338 : Ref sig .tc := ⟨.hbm, 527, rfl⟩
abbrev main_v339 : Ref sig .tc := ⟨.hbm, 528, rfl⟩
abbrev main_v340 : Ref sig .tc := ⟨.hbm, 529, rfl⟩
abbrev main_v341 : Ref sig .tc := ⟨.hbm, 530, rfl⟩
abbrev main_v342 : Ref sig .tc := ⟨.hbm, 531, rfl⟩
abbrev main_cst_89 : Ref sig .tc := ⟨.hbm, 532, rfl⟩
abbrev main_v343 : Ref sig .tc := ⟨.hbm, 533, rfl⟩
abbrev main_v344 : Ref sig .tc := ⟨.hbm, 534, rfl⟩
abbrev main_cst_90 : Ref sig .tc := ⟨.hbm, 535, rfl⟩
abbrev main_v345 : Ref sig .tc := ⟨.hbm, 536, rfl⟩
abbrev main_v346 : Ref sig .tc := ⟨.hbm, 537, rfl⟩
abbrev main_v347 : Ref sig .tc := ⟨.hbm, 538, rfl⟩
abbrev main_cst_91 : Ref sig .tc := ⟨.hbm, 539, rfl⟩
abbrev main_v348 : Ref sig .tc := ⟨.hbm, 540, rfl⟩
abbrev main_v349 : Ref sig .tc := ⟨.hbm, 541, rfl⟩
abbrev main_cst_92 : Ref sig .tc := ⟨.hbm, 542, rfl⟩
abbrev main_v350 : Ref sig .tc := ⟨.hbm, 543, rfl⟩
abbrev main_v351 : Ref sig .tc := ⟨.hbm, 544, rfl⟩
abbrev main_v352 : Ref sig .tc := ⟨.hbm, 545, rfl⟩
abbrev main_v353 : Ref sig .tc := ⟨.hbm, 546, rfl⟩
abbrev main_v354 : Ref sig .tc := ⟨.hbm, 547, rfl⟩
abbrev main_v355 : Ref sig .tc := ⟨.hbm, 548, rfl⟩
abbrev main_v356 : Ref sig .tc := ⟨.hbm, 549, rfl⟩
abbrev main_v357 : Ref sig .tc := ⟨.hbm, 550, rfl⟩
abbrev main_v358 : Ref sig .tc := ⟨.hbm, 551, rfl⟩
abbrev main_v359 : Ref sig .tc := ⟨.hbm, 552, rfl⟩
abbrev main_v360 : Ref sig .tc := ⟨.hbm, 553, rfl⟩
abbrev main_v361 : Ref sig .tc := ⟨.hbm, 554, rfl⟩
abbrev main_v362 : Ref sig .tc := ⟨.hbm, 555, rfl⟩
abbrev main_cst_93 : Ref sig .tc := ⟨.hbm, 556, rfl⟩
abbrev main_v363 : Ref sig .tc := ⟨.hbm, 557, rfl⟩
abbrev main_v364 : Ref sig .tc := ⟨.hbm, 558, rfl⟩
abbrev main_cst_94 : Ref sig .tc := ⟨.hbm, 559, rfl⟩
abbrev main_v365 : Ref sig .tc := ⟨.hbm, 560, rfl⟩
abbrev main_v366 : Ref sig .tc := ⟨.hbm, 561, rfl⟩
abbrev main_v367 : Ref sig .tc := ⟨.hbm, 562, rfl⟩
abbrev main_cst_95 : Ref sig .tc := ⟨.hbm, 563, rfl⟩
abbrev main_v368 : Ref sig .tc := ⟨.hbm, 564, rfl⟩
abbrev main_v369 : Ref sig .tc := ⟨.hbm, 565, rfl⟩
abbrev main_cst_96 : Ref sig .tc := ⟨.hbm, 566, rfl⟩
abbrev main_v370 : Ref sig .tc := ⟨.hbm, 567, rfl⟩
abbrev main_v371 : Ref sig .tc := ⟨.hbm, 568, rfl⟩
abbrev main_v372 : Ref sig .tc := ⟨.hbm, 569, rfl⟩
abbrev main_v373 : Ref sig .tc := ⟨.hbm, 570, rfl⟩
abbrev main_v374 : Ref sig .tc := ⟨.hbm, 571, rfl⟩
abbrev main_v375 : Ref sig .tc := ⟨.hbm, 572, rfl⟩
abbrev main_v376 : Ref sig .tc := ⟨.hbm, 573, rfl⟩
abbrev main_cst_97 : Ref sig .tc := ⟨.hbm, 574, rfl⟩
abbrev main_v377 : Ref sig .tc := ⟨.hbm, 575, rfl⟩
abbrev main_v378 : Ref sig .tc := ⟨.hbm, 576, rfl⟩
abbrev main_v379 : Ref sig .tc := ⟨.hbm, 577, rfl⟩
abbrev main_v380 : Ref sig .tc := ⟨.hbm, 578, rfl⟩
abbrev main_v381 : Ref sig .tc := ⟨.hbm, 579, rfl⟩
abbrev main_c_98 : Ref sig .tc := ⟨.hbm, 580, rfl⟩
abbrev main_call15_v0 : Ref sig .tc := ⟨.hbm, 581, rfl⟩
abbrev main_call15_v1 : Ref sig .tc := ⟨.hbm, 582, rfl⟩
abbrev main_v382 : Ref sig .tc := ⟨.hbm, 583, rfl⟩
abbrev main_c_99 : Ref sig .tc := ⟨.hbm, 584, rfl⟩
abbrev main_v383 : Ref sig .tc := ⟨.hbm, 585, rfl⟩
abbrev main_v384 : Ref sig .tc := ⟨.hbm, 586, rfl⟩
abbrev main_v385 : Ref sig .tc := ⟨.hbm, 587, rfl⟩
abbrev main_v386 : Ref sig .tc := ⟨.hbm, 588, rfl⟩
abbrev main_cst_100 : Ref sig .tc := ⟨.hbm, 589, rfl⟩
abbrev main_call16_v0 : Ref sig .tc := ⟨.hbm, 590, rfl⟩
abbrev main_call16_v1 : Ref sig .tc := ⟨.hbm, 591, rfl⟩
abbrev main_v387 : Ref sig .tc := ⟨.hbm, 592, rfl⟩
abbrev main_cst_101 : Ref sig .tc := ⟨.hbm, 593, rfl⟩
abbrev main_v388 : Ref sig .tc := ⟨.hbm, 594, rfl⟩
abbrev main_v389 : Ref sig .tc := ⟨.hbm, 595, rfl⟩
abbrev main_v390 : Ref sig .tc := ⟨.hbm, 596, rfl⟩
abbrev main_values_102 : Ref sig .tc := ⟨.hbm, 597, rfl⟩
abbrev main_indices_103 : Ref sig .tc := ⟨.hbm, 598, rfl⟩
abbrev main_c_104 : Ref sig .tc := ⟨.hbm, 599, rfl⟩
abbrev main_call17_v0 : Ref sig .tc := ⟨.hbm, 600, rfl⟩
abbrev main_call17_c : Ref sig .tc := ⟨.hbm, 601, rfl⟩
abbrev main_call17_v1 : Ref sig .tc := ⟨.hbm, 602, rfl⟩
abbrev main_call17_c_0 : Ref sig .tc := ⟨.hbm, 603, rfl⟩
abbrev main_call17_v2 : Ref sig .tc := ⟨.hbm, 604, rfl⟩
abbrev main_call17_v3 : Ref sig .tc := ⟨.hbm, 605, rfl⟩
abbrev main_call17_v4 : Ref sig .tc := ⟨.hbm, 606, rfl⟩
abbrev main_call17_c_1 : Ref sig .tc := ⟨.hbm, 607, rfl⟩
abbrev main_call17_v5 : Ref sig .tc := ⟨.hbm, 608, rfl⟩
abbrev main_call17_v6 : Ref sig .tc := ⟨.hbm, 609, rfl⟩
abbrev main_call17_c_2 : Ref sig .tc := ⟨.hbm, 610, rfl⟩
abbrev main_call17_v7 : Ref sig .tc := ⟨.hbm, 611, rfl⟩
abbrev main_call17_v8 : Ref sig .tc := ⟨.hbm, 612, rfl⟩
abbrev main_call17_c_3 : Ref sig .tc := ⟨.hbm, 613, rfl⟩
abbrev main_call17_v9 : Ref sig .tc := ⟨.hbm, 614, rfl⟩
abbrev main_call17_v10 : Ref sig .tc := ⟨.hbm, 615, rfl⟩
abbrev main_call17_v11 : Ref sig .tc := ⟨.hbm, 616, rfl⟩
abbrev main_call17_v12 : Ref sig .tc := ⟨.hbm, 617, rfl⟩
abbrev main_call17_v13 : Ref sig .tc := ⟨.hbm, 618, rfl⟩
abbrev main_call17_v14 : Ref sig .tc := ⟨.hbm, 619, rfl⟩
abbrev main_v391 : Ref sig .tc := ⟨.hbm, 620, rfl⟩
abbrev main_v392 : Ref sig .tc := ⟨.hbm, 621, rfl⟩
abbrev main_c_105 : Ref sig .tc := ⟨.hbm, 622, rfl⟩
abbrev main_call18_v0 : Ref sig .tc := ⟨.hbm, 623, rfl⟩
abbrev main_call18_v1 : Ref sig .tc := ⟨.hbm, 624, rfl⟩
abbrev main_call18_v2 : Ref sig .tc := ⟨.hbm, 625, rfl⟩
abbrev main_call18_v3 : Ref sig .tc := ⟨.hbm, 626, rfl⟩
abbrev main_call18_v4 : Ref sig .tc := ⟨.hbm, 627, rfl⟩
abbrev main_call18_v5 : Ref sig .tc := ⟨.hbm, 628, rfl⟩
abbrev main_call18_v6 : Ref sig .tc := ⟨.hbm, 629, rfl⟩
abbrev main_call18_v7 : Ref sig .tc := ⟨.hbm, 630, rfl⟩
abbrev main_call18_v8 : Ref sig .tc := ⟨.hbm, 631, rfl⟩
abbrev main_call18_c : Ref sig .tc := ⟨.hbm, 632, rfl⟩
abbrev main_call18_v9 : Ref sig .tc := ⟨.hbm, 633, rfl⟩
abbrev main_call18_v10 : Ref sig .tc := ⟨.hbm, 634, rfl⟩
abbrev main_call18_v11 : Ref sig .tc := ⟨.hbm, 635, rfl⟩
abbrev main_call18_c_0 : Ref sig .tc := ⟨.hbm, 636, rfl⟩
abbrev main_call18_v12 : Ref sig .tc := ⟨.hbm, 637, rfl⟩
abbrev main_call18_v13 : Ref sig .tc := ⟨.hbm, 638, rfl⟩
abbrev main_v393 : Ref sig .tc := ⟨.hbm, 639, rfl⟩
abbrev main_v394 : Ref sig .tc := ⟨.hbm, 640, rfl⟩
abbrev main_cst_106 : Ref sig .tc := ⟨.hbm, 641, rfl⟩
abbrev main_v395 : Ref sig .tc := ⟨.hbm, 642, rfl⟩
abbrev main_v396 : Ref sig .tc := ⟨.hbm, 643, rfl⟩
abbrev main_cst_107 : Ref sig .tc := ⟨.hbm, 644, rfl⟩
abbrev main_v397 : Ref sig .tc := ⟨.hbm, 645, rfl⟩
abbrev main_v398 : Ref sig .tc := ⟨.hbm, 646, rfl⟩
abbrev main_cst_108 : Ref sig .tc := ⟨.hbm, 647, rfl⟩
abbrev main_v399 : Ref sig .tc := ⟨.hbm, 648, rfl⟩
abbrev main_v400 : Ref sig .tc := ⟨.hbm, 649, rfl⟩
abbrev main_cst_109 : Ref sig .tc := ⟨.hbm, 650, rfl⟩
abbrev main_v401 : Ref sig .tc := ⟨.hbm, 651, rfl⟩
abbrev main_v402 : Ref sig .tc := ⟨.hbm, 652, rfl⟩
abbrev main_v403 : Ref sig .tc := ⟨.hbm, 653, rfl⟩
abbrev main_v404 : Ref sig .tc := ⟨.hbm, 654, rfl⟩
abbrev main_v405 : Ref sig .tc := ⟨.hbm, 655, rfl⟩
abbrev main_v406 : Ref sig .tc := ⟨.hbm, 656, rfl⟩
abbrev main_v407 : Ref sig .tc := ⟨.hbm, 657, rfl⟩
abbrev main_call19_c : Ref sig .tc := ⟨.hbm, 658, rfl⟩
abbrev main_call19_v0 : Ref sig .tc := ⟨.hbm, 659, rfl⟩
abbrev main_call19_v1 : Ref sig .tc := ⟨.hbm, 660, rfl⟩
abbrev main_call19_c_0 : Ref sig .tc := ⟨.hbm, 661, rfl⟩
abbrev main_call19_v2 : Ref sig .tc := ⟨.hbm, 662, rfl⟩
abbrev main_call19_v3 : Ref sig .tc := ⟨.hbm, 663, rfl⟩
abbrev main_call19_v4 : Ref sig .tc := ⟨.hbm, 664, rfl⟩
abbrev main_call19_c_1 : Ref sig .tc := ⟨.hbm, 665, rfl⟩
abbrev main_call19_c_2 : Ref sig .tc := ⟨.hbm, 666, rfl⟩
abbrev main_call19_v5 : Ref sig .tc := ⟨.hbm, 667, rfl⟩
abbrev main_call19_v6 : Ref sig .tc := ⟨.hbm, 668, rfl⟩
abbrev main_call19_v7 : Ref sig .tc := ⟨.hbm, 669, rfl⟩
abbrev main_call19_v8 : Ref sig .tc := ⟨.hbm, 670, rfl⟩
abbrev main_call19_v9 : Ref sig .tc := ⟨.hbm, 671, rfl⟩
abbrev main_call19_v10 : Ref sig .tc := ⟨.hbm, 672, rfl⟩
abbrev main_call19_c_3 : Ref sig .tc := ⟨.hbm, 673, rfl⟩
abbrev main_call19_v11 : Ref sig .tc := ⟨.hbm, 674, rfl⟩
abbrev main_call19_v12 : Ref sig .tc := ⟨.hbm, 675, rfl⟩
abbrev main_call19_v13 : Ref sig .tc := ⟨.hbm, 676, rfl⟩
abbrev main_call19_cst : Ref sig .tc := ⟨.hbm, 677, rfl⟩
abbrev main_call19_v14 : Ref sig .tc := ⟨.hbm, 678, rfl⟩
abbrev main_v408 : Ref sig .tc := ⟨.hbm, 679, rfl⟩
abbrev main_v409 : Ref sig .tc := ⟨.hbm, 680, rfl⟩
abbrev main_v410 : Ref sig .tc := ⟨.hbm, 681, rfl⟩
abbrev main_cst_110 : Ref sig .tc := ⟨.hbm, 682, rfl⟩
abbrev main_v411 : Ref sig .tc := ⟨.hbm, 683, rfl⟩
abbrev main_v412 : Ref sig .tc := ⟨.hbm, 684, rfl⟩
abbrev main_cst_111 : Ref sig .tc := ⟨.hbm, 685, rfl⟩
abbrev main_v413 : Ref sig .tc := ⟨.hbm, 686, rfl⟩
abbrev main_v414 : Ref sig .tc := ⟨.hbm, 687, rfl⟩
abbrev main_v415 : Ref sig .tc := ⟨.hbm, 688, rfl⟩
abbrev main_v416 : Ref sig .tc := ⟨.hbm, 689, rfl⟩
abbrev main_cst_112 : Ref sig .tc := ⟨.hbm, 690, rfl⟩
abbrev main_v417 : Ref sig .tc := ⟨.hbm, 691, rfl⟩
abbrev main_v418 : Ref sig .tc := ⟨.hbm, 692, rfl⟩
abbrev main_cst_113 : Ref sig .tc := ⟨.hbm, 693, rfl⟩
abbrev main_v419 : Ref sig .tc := ⟨.hbm, 694, rfl⟩
abbrev main_v420 : Ref sig .tc := ⟨.hbm, 695, rfl⟩
abbrev main_v421 : Ref sig .tc := ⟨.hbm, 696, rfl⟩
abbrev main_v422 : Ref sig .tc := ⟨.hbm, 697, rfl⟩
abbrev main_v423 : Ref sig .tc := ⟨.hbm, 698, rfl⟩
abbrev main_v424 : Ref sig .tc := ⟨.hbm, 699, rfl⟩
abbrev main_v425 : Ref sig .tc := ⟨.hbm, 700, rfl⟩
abbrev main_v426 : Ref sig .tc := ⟨.hbm, 701, rfl⟩
abbrev main_c_114 : Ref sig .tc := ⟨.hbm, 702, rfl⟩
abbrev main_c_115 : Ref sig .tc := ⟨.hbm, 703, rfl⟩
abbrev main_call20_v0 : Ref sig .tc := ⟨.hbm, 704, rfl⟩
abbrev main_call20_v1 : Ref sig .tc := ⟨.hbm, 705, rfl⟩
abbrev main_call20_v2 : Ref sig .tc := ⟨.hbm, 706, rfl⟩
abbrev main_call20_v3 : Ref sig .tc := ⟨.hbm, 707, rfl⟩
abbrev main_call20_v4 : Ref sig .tc := ⟨.hbm, 708, rfl⟩
abbrev main_v427 : Ref sig .tc := ⟨.hbm, 709, rfl⟩
abbrev main_v428 : Ref sig .tc := ⟨.hbm, 710, rfl⟩
abbrev main_cst_116 : Ref sig .tc := ⟨.hbm, 711, rfl⟩
abbrev main_v429 : Ref sig .tc := ⟨.hbm, 712, rfl⟩
abbrev main_v430 : Ref sig .tc := ⟨.hbm, 713, rfl⟩
abbrev main_c_117 : Ref sig .tc := ⟨.hbm, 714, rfl⟩
abbrev main_c_118 : Ref sig .tc := ⟨.hbm, 715, rfl⟩
abbrev main_call21_v0 : Ref sig .tc := ⟨.hbm, 716, rfl⟩
abbrev main_call21_v1 : Ref sig .tc := ⟨.hbm, 717, rfl⟩
abbrev main_call21_v2 : Ref sig .tc := ⟨.hbm, 718, rfl⟩
abbrev main_call21_v3 : Ref sig .tc := ⟨.hbm, 719, rfl⟩
abbrev main_call21_v4 : Ref sig .tc := ⟨.hbm, 720, rfl⟩
abbrev main_v431 : Ref sig .tc := ⟨.hbm, 721, rfl⟩
abbrev main_v432 : Ref sig .tc := ⟨.hbm, 722, rfl⟩
abbrev main_c_119 : Ref sig .tc := ⟨.hbm, 723, rfl⟩
abbrev main_c_120 : Ref sig .tc := ⟨.hbm, 724, rfl⟩
abbrev main_call22_v0 : Ref sig .tc := ⟨.hbm, 725, rfl⟩
abbrev main_call22_v1 : Ref sig .tc := ⟨.hbm, 726, rfl⟩
abbrev main_call22_v2 : Ref sig .tc := ⟨.hbm, 727, rfl⟩
abbrev main_call22_v3 : Ref sig .tc := ⟨.hbm, 728, rfl⟩
abbrev main_call22_v4 : Ref sig .tc := ⟨.hbm, 729, rfl⟩
abbrev main_v433 : Ref sig .tc := ⟨.hbm, 730, rfl⟩
abbrev main_v434 : Ref sig .tc := ⟨.hbm, 731, rfl⟩
abbrev main_cst_121 : Ref sig .tc := ⟨.hbm, 732, rfl⟩
abbrev main_v435 : Ref sig .tc := ⟨.hbm, 733, rfl⟩
abbrev main_v436 : Ref sig .tc := ⟨.hbm, 734, rfl⟩
abbrev main_c_122 : Ref sig .tc := ⟨.hbm, 735, rfl⟩
abbrev main_c_123 : Ref sig .tc := ⟨.hbm, 736, rfl⟩
abbrev main_call23_v0 : Ref sig .tc := ⟨.hbm, 737, rfl⟩
abbrev main_call23_v1 : Ref sig .tc := ⟨.hbm, 738, rfl⟩
abbrev main_call23_v2 : Ref sig .tc := ⟨.hbm, 739, rfl⟩
abbrev main_call23_v3 : Ref sig .tc := ⟨.hbm, 740, rfl⟩
abbrev main_call23_v4 : Ref sig .tc := ⟨.hbm, 741, rfl⟩
abbrev main_v437 : Ref sig .tc := ⟨.hbm, 742, rfl⟩
abbrev main_v438 : Ref sig .tc := ⟨.hbm, 743, rfl⟩
abbrev main_c_124 : Ref sig .tc := ⟨.hbm, 744, rfl⟩
abbrev main_v439 : Ref sig .tc := ⟨.hbm, 745, rfl⟩
abbrev main_v440 : Ref sig .tc := ⟨.hbm, 746, rfl⟩
abbrev main_c_125 : Ref sig .tc := ⟨.hbm, 747, rfl⟩
abbrev main_v441 : Ref sig .tc := ⟨.hbm, 748, rfl⟩
abbrev main_v442 : Ref sig .tc := ⟨.hbm, 749, rfl⟩
abbrev main_v443 : Ref sig .tc := ⟨.hbm, 750, rfl⟩
abbrev main_c_126 : Ref sig .tc := ⟨.hbm, 751, rfl⟩
abbrev main_v444 : Ref sig .tc := ⟨.hbm, 752, rfl⟩
abbrev main_v445 : Ref sig .tc := ⟨.hbm, 753, rfl⟩
abbrev main_c_127 : Ref sig .tc := ⟨.hbm, 754, rfl⟩
abbrev main_v446 : Ref sig .tc := ⟨.hbm, 755, rfl⟩
abbrev main_v447 : Ref sig .tc := ⟨.hbm, 756, rfl⟩
abbrev main_v448 : Ref sig .tc := ⟨.hbm, 757, rfl⟩
abbrev main_v449 : Ref sig .tc := ⟨.hbm, 758, rfl⟩
abbrev main_v450 : Ref sig .tc := ⟨.hbm, 759, rfl⟩
abbrev main_v451 : Ref sig .tc := ⟨.hbm, 760, rfl⟩
abbrev main_v452 : Ref sig .tc := ⟨.hbm, 761, rfl⟩
abbrev main_c_128 : Ref sig .tc := ⟨.hbm, 762, rfl⟩
abbrev main_v453 : Ref sig .tc := ⟨.hbm, 763, rfl⟩
abbrev main_v454 : Ref sig .tc := ⟨.hbm, 764, rfl⟩
abbrev main_c_129 : Ref sig .tc := ⟨.hbm, 765, rfl⟩
abbrev main_v455 : Ref sig .tc := ⟨.hbm, 766, rfl⟩
abbrev main_v456 : Ref sig .tc := ⟨.hbm, 767, rfl⟩
abbrev main_v457 : Ref sig .tc := ⟨.hbm, 768, rfl⟩
abbrev main_c_130 : Ref sig .tc := ⟨.hbm, 769, rfl⟩
abbrev main_v458 : Ref sig .tc := ⟨.hbm, 770, rfl⟩
abbrev main_v459 : Ref sig .tc := ⟨.hbm, 771, rfl⟩
abbrev main_c_131 : Ref sig .tc := ⟨.hbm, 772, rfl⟩
abbrev main_v460 : Ref sig .tc := ⟨.hbm, 773, rfl⟩
abbrev main_v461 : Ref sig .tc := ⟨.hbm, 774, rfl⟩
abbrev main_v462 : Ref sig .tc := ⟨.hbm, 775, rfl⟩
abbrev main_v463 : Ref sig .tc := ⟨.hbm, 776, rfl⟩
abbrev main_v464 : Ref sig .tc := ⟨.hbm, 777, rfl⟩
abbrev main_v465 : Ref sig .tc := ⟨.hbm, 778, rfl⟩
abbrev main_v466 : Ref sig .tc := ⟨.hbm, 779, rfl⟩
abbrev main_c_132 : Ref sig .tc := ⟨.hbm, 780, rfl⟩
abbrev main_v467 : Ref sig .tc := ⟨.hbm, 781, rfl⟩
abbrev main_v468 : Ref sig .tc := ⟨.hbm, 782, rfl⟩
abbrev main_c_133 : Ref sig .tc := ⟨.hbm, 783, rfl⟩
abbrev main_v469 : Ref sig .tc := ⟨.hbm, 784, rfl⟩
abbrev main_v470 : Ref sig .tc := ⟨.hbm, 785, rfl⟩
abbrev main_v471 : Ref sig .tc := ⟨.hbm, 786, rfl⟩
abbrev main_c_134 : Ref sig .tc := ⟨.hbm, 787, rfl⟩
abbrev main_v472 : Ref sig .tc := ⟨.hbm, 788, rfl⟩
abbrev main_v473 : Ref sig .tc := ⟨.hbm, 789, rfl⟩
abbrev main_c_135 : Ref sig .tc := ⟨.hbm, 790, rfl⟩
abbrev main_v474 : Ref sig .tc := ⟨.hbm, 791, rfl⟩
abbrev main_v475 : Ref sig .tc := ⟨.hbm, 792, rfl⟩
abbrev main_v476 : Ref sig .tc := ⟨.hbm, 793, rfl⟩
abbrev main_v477 : Ref sig .tc := ⟨.hbm, 794, rfl⟩
abbrev main_v478 : Ref sig .tc := ⟨.hbm, 795, rfl⟩
abbrev main_v479 : Ref sig .tc := ⟨.hbm, 796, rfl⟩
abbrev main_v480 : Ref sig .tc := ⟨.hbm, 797, rfl⟩
abbrev main_c_136 : Ref sig .tc := ⟨.hbm, 798, rfl⟩
abbrev main_v481 : Ref sig .tc := ⟨.hbm, 799, rfl⟩
abbrev main_v482 : Ref sig .tc := ⟨.hbm, 800, rfl⟩
abbrev main_c_137 : Ref sig .tc := ⟨.hbm, 801, rfl⟩
abbrev main_v483 : Ref sig .tc := ⟨.hbm, 802, rfl⟩
abbrev main_v484 : Ref sig .tc := ⟨.hbm, 803, rfl⟩
abbrev main_v485 : Ref sig .tc := ⟨.hbm, 804, rfl⟩
abbrev main_c_138 : Ref sig .tc := ⟨.hbm, 805, rfl⟩
abbrev main_v486 : Ref sig .tc := ⟨.hbm, 806, rfl⟩
abbrev main_v487 : Ref sig .tc := ⟨.hbm, 807, rfl⟩
abbrev main_c_139 : Ref sig .tc := ⟨.hbm, 808, rfl⟩
abbrev main_v488 : Ref sig .tc := ⟨.hbm, 809, rfl⟩
abbrev main_v489 : Ref sig .tc := ⟨.hbm, 810, rfl⟩
abbrev main_v490 : Ref sig .tc := ⟨.hbm, 811, rfl⟩
abbrev main_v491 : Ref sig .tc := ⟨.hbm, 812, rfl⟩
abbrev main_v492 : Ref sig .tc := ⟨.hbm, 813, rfl⟩
abbrev main_v493 : Ref sig .tc := ⟨.hbm, 814, rfl⟩
abbrev main_v494 : Ref sig .tc := ⟨.hbm, 815, rfl⟩
abbrev main_cst_140 : Ref sig .tc := ⟨.hbm, 816, rfl⟩
abbrev main_v495 : Ref sig .tc := ⟨.hbm, 817, rfl⟩
abbrev main_v496 : Ref sig .tc := ⟨.hbm, 818, rfl⟩
abbrev main_v497 : Ref sig .tc := ⟨.hbm, 819, rfl⟩
abbrev main_v498 : Ref sig .tc := ⟨.hbm, 820, rfl⟩
abbrev main_cst_141 : Ref sig .tc := ⟨.hbm, 821, rfl⟩
abbrev main_v499 : Ref sig .tc := ⟨.hbm, 822, rfl⟩
abbrev main_v500 : Ref sig .tc := ⟨.hbm, 823, rfl⟩
abbrev main_v501 : Ref sig .tc := ⟨.hbm, 824, rfl⟩
abbrev main_v502 : Ref sig .tc := ⟨.hbm, 825, rfl⟩
abbrev main_v503 : Ref sig .tc := ⟨.hbm, 826, rfl⟩
abbrev main_v504 : Ref sig .tc := ⟨.hbm, 827, rfl⟩
abbrev main_cst_142 : Ref sig .tc := ⟨.hbm, 828, rfl⟩
abbrev main_v505 : Ref sig .tc := ⟨.hbm, 829, rfl⟩
abbrev main_v506 : Ref sig .tc := ⟨.hbm, 830, rfl⟩
abbrev main_v507 : Ref sig .tc := ⟨.hbm, 831, rfl⟩
abbrev main_v508 : Ref sig .tc := ⟨.hbm, 832, rfl⟩
abbrev main_v509 : Ref sig .tc := ⟨.hbm, 833, rfl⟩
abbrev main_cst_143 : Ref sig .tc := ⟨.hbm, 834, rfl⟩
abbrev main_v510 : Ref sig .tc := ⟨.hbm, 835, rfl⟩
abbrev main_v511 : Ref sig .tc := ⟨.hbm, 836, rfl⟩
abbrev main_v512 : Ref sig .tc := ⟨.hbm, 837, rfl⟩
abbrev main_v513 : Ref sig .tc := ⟨.hbm, 838, rfl⟩
abbrev main_v514 : Ref sig .tc := ⟨.hbm, 839, rfl⟩
abbrev main_v515 : Ref sig .tc := ⟨.hbm, 840, rfl⟩
abbrev main_v516 : Ref sig .tc := ⟨.hbm, 841, rfl⟩
abbrev main_v517 : Ref sig .tc := ⟨.hbm, 842, rfl⟩
abbrev main_v518 : Ref sig .tc := ⟨.hbm, 843, rfl⟩
abbrev main_v519 : Ref sig .tc := ⟨.hbm, 844, rfl⟩
abbrev main_v520 : Ref sig .tc := ⟨.hbm, 845, rfl⟩
abbrev main_v521 : Ref sig .tc := ⟨.hbm, 846, rfl⟩
abbrev main_v522 : Ref sig .tc := ⟨.hbm, 847, rfl⟩
abbrev main_v523 : Ref sig .tc := ⟨.hbm, 848, rfl⟩
abbrev main_v524 : Ref sig .tc := ⟨.hbm, 849, rfl⟩
abbrev main_v525 : Ref sig .tc := ⟨.hbm, 850, rfl⟩
abbrev main_v526 : Ref sig .tc := ⟨.hbm, 851, rfl⟩
abbrev main_v527 : Ref sig .tc := ⟨.hbm, 852, rfl⟩
abbrev main_v528 : Ref sig .tc := ⟨.hbm, 853, rfl⟩
abbrev main_v529 : Ref sig .tc := ⟨.hbm, 854, rfl⟩
abbrev main_v530 : Ref sig .tc := ⟨.hbm, 855, rfl⟩
abbrev main_v531 : Ref sig .tc := ⟨.hbm, 856, rfl⟩
abbrev main_c_144 : Ref sig .tc := ⟨.hbm, 857, rfl⟩
abbrev main_v532 : Ref sig .tc := ⟨.hbm, 858, rfl⟩
abbrev main_v533 : Ref sig .tc := ⟨.hbm, 859, rfl⟩
abbrev main_c_145 : Ref sig .tc := ⟨.hbm, 860, rfl⟩
abbrev main_v534 : Ref sig .tc := ⟨.hbm, 861, rfl⟩
abbrev main_v535 : Ref sig .tc := ⟨.hbm, 862, rfl⟩
abbrev main_v536 : Ref sig .tc := ⟨.hbm, 863, rfl⟩
abbrev main_c_146 : Ref sig .tc := ⟨.hbm, 864, rfl⟩
abbrev main_v537 : Ref sig .tc := ⟨.hbm, 865, rfl⟩
abbrev main_v538 : Ref sig .tc := ⟨.hbm, 866, rfl⟩
abbrev main_c_147 : Ref sig .tc := ⟨.hbm, 867, rfl⟩
abbrev main_v539 : Ref sig .tc := ⟨.hbm, 868, rfl⟩
abbrev main_v540 : Ref sig .tc := ⟨.hbm, 869, rfl⟩
abbrev main_v541 : Ref sig .tc := ⟨.hbm, 870, rfl⟩
abbrev main_v542 : Ref sig .tc := ⟨.hbm, 871, rfl⟩
abbrev main_v543 : Ref sig .tc := ⟨.hbm, 872, rfl⟩
abbrev main_v544 : Ref sig .tc := ⟨.hbm, 873, rfl⟩
abbrev main_v545 : Ref sig .tc := ⟨.hbm, 874, rfl⟩
abbrev main_v546 : Ref sig .tc := ⟨.hbm, 875, rfl⟩
abbrev main_v547 : Ref sig .tc := ⟨.hbm, 876, rfl⟩
abbrev main_v548 : Ref sig .tc := ⟨.hbm, 877, rfl⟩
abbrev main_v549 : Ref sig .tc := ⟨.hbm, 878, rfl⟩
abbrev main_v550 : Ref sig .tc := ⟨.hbm, 879, rfl⟩
abbrev main_c_148 : Ref sig .tc := ⟨.hbm, 880, rfl⟩
abbrev main_v551 : Ref sig .tc := ⟨.hbm, 881, rfl⟩
abbrev main_v552 : Ref sig .tc := ⟨.hbm, 882, rfl⟩
abbrev main_v553 : Ref sig .tc := ⟨.hbm, 883, rfl⟩
abbrev main_c_149 : Ref sig .tc := ⟨.hbm, 884, rfl⟩
abbrev main_v554 : Ref sig .tc := ⟨.hbm, 885, rfl⟩
abbrev main_v555 : Ref sig .tc := ⟨.hbm, 886, rfl⟩
abbrev main_c_150 : Ref sig .tc := ⟨.hbm, 887, rfl⟩
abbrev main_v556 : Ref sig .tc := ⟨.hbm, 888, rfl⟩
abbrev main_v557 : Ref sig .tc := ⟨.hbm, 889, rfl⟩
abbrev main_v558 : Ref sig .tc := ⟨.hbm, 890, rfl⟩
abbrev main_v559 : Ref sig .tc := ⟨.hbm, 891, rfl⟩
abbrev main_c_151 : Ref sig .tc := ⟨.hbm, 892, rfl⟩
abbrev main_v560 : Ref sig .tc := ⟨.hbm, 893, rfl⟩
abbrev main_v561 : Ref sig .tc := ⟨.hbm, 894, rfl⟩
abbrev main_c_152 : Ref sig .tc := ⟨.hbm, 895, rfl⟩
abbrev main_v562 : Ref sig .tc := ⟨.hbm, 896, rfl⟩
abbrev main_v563 : Ref sig .tc := ⟨.hbm, 897, rfl⟩
abbrev main_v564 : Ref sig .tc := ⟨.hbm, 898, rfl⟩
abbrev main_c_153 : Ref sig .tc := ⟨.hbm, 899, rfl⟩
abbrev main_v565 : Ref sig .tc := ⟨.hbm, 900, rfl⟩
abbrev main_v566 : Ref sig .tc := ⟨.hbm, 901, rfl⟩
abbrev main_c_154 : Ref sig .tc := ⟨.hbm, 902, rfl⟩
abbrev main_v567 : Ref sig .tc := ⟨.hbm, 903, rfl⟩
abbrev main_v568 : Ref sig .tc := ⟨.hbm, 904, rfl⟩
abbrev main_v569 : Ref sig .tc := ⟨.hbm, 905, rfl⟩
abbrev main_v570 : Ref sig .tc := ⟨.hbm, 906, rfl⟩
abbrev main_cst_155 : Ref sig .tc := ⟨.hbm, 907, rfl⟩
abbrev main_cst_156 : Ref sig .tc := ⟨.hbm, 908, rfl⟩
abbrev main_call24_v0 : Ref sig .tc := ⟨.hbm, 909, rfl⟩
abbrev main_call24_v1 : Ref sig .tc := ⟨.hbm, 910, rfl⟩
abbrev main_v571 : Ref sig .tc := ⟨.hbm, 911, rfl⟩
abbrev main_cst_157 : Ref sig .tc := ⟨.hbm, 912, rfl⟩
abbrev main_call25_v0 : Ref sig .tc := ⟨.hbm, 913, rfl⟩
abbrev main_v572 : Ref sig .tc := ⟨.hbm, 914, rfl⟩
abbrev main_c_158 : Ref sig .tc := ⟨.hbm, 915, rfl⟩
abbrev main_v573 : Ref sig .tc := ⟨.hbm, 916, rfl⟩
abbrev main_v574 : Ref sig .tc := ⟨.hbm, 917, rfl⟩
abbrev main_c_159 : Ref sig .tc := ⟨.hbm, 918, rfl⟩
abbrev main_v575 : Ref sig .tc := ⟨.hbm, 919, rfl⟩
abbrev main_v576 : Ref sig .tc := ⟨.hbm, 920, rfl⟩
abbrev main_v577 : Ref sig .tc := ⟨.hbm, 921, rfl⟩
abbrev main_cst_160 : Ref sig .tc := ⟨.hbm, 922, rfl⟩
abbrev main_cst_161 : Ref sig .tc := ⟨.hbm, 923, rfl⟩
abbrev main_call26_v0 : Ref sig .tc := ⟨.hbm, 924, rfl⟩
abbrev main_call26_v1 : Ref sig .tc := ⟨.hbm, 925, rfl⟩
abbrev main_v578 : Ref sig .tc := ⟨.hbm, 926, rfl⟩
abbrev main_v579 : Ref sig .tc := ⟨.hbm, 927, rfl⟩
abbrev main_v580 : Ref sig .tc := ⟨.hbm, 928, rfl⟩
abbrev main_v581 : Ref sig .tc := ⟨.hbm, 929, rfl⟩
abbrev main_v582 : Ref sig .tc := ⟨.hbm, 930, rfl⟩
abbrev main_v583 : Ref sig .tc := ⟨.hbm, 931, rfl⟩
abbrev main_v584 : Ref sig .tc := ⟨.hbm, 932, rfl⟩
abbrev main_v585 : Ref sig .tc := ⟨.hbm, 933, rfl⟩
abbrev main_v586 : Ref sig .tc := ⟨.hbm, 934, rfl⟩
abbrev main_v587 : Ref sig .tc := ⟨.hbm, 935, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem2_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x277 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S277x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S277x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S277x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S277x21 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x21 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x21 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![84], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S224x448 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x448x448 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x224x448 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S1x21x224x448 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S448x224 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x21x224x224 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== ReferenceIdeal.lean ====
abbrev S4x112x112x21 : Shape := ⟨4, ![4, 112, 112, 21]⟩
abbrev S4x112x112x256 : Shape := ⟨4, ![4, 112, 112, 256]⟩
abbrev S277x256 : Shape := ⟨2, ![277, 256]⟩
abbrev S256 : Shape := ⟨1, ![256]⟩
abbrev S277x21 : Shape := ⟨2, ![277, 21]⟩
abbrev S21 : Shape := ⟨1, ![21]⟩
abbrev S224 : Shape := ⟨1, ![224]⟩
abbrev S_ : Shape := ⟨0, ![]⟩
abbrev S1x224 : Shape := ⟨2, ![1, 224]⟩
abbrev S112 : Shape := ⟨1, ![112]⟩
abbrev S112x1 : Shape := ⟨2, ![112, 1]⟩
abbrev S112x224 : Shape := ⟨2, ![112, 224]⟩
abbrev S224x4x112x21 : Shape := ⟨4, ![224, 4, 112, 21]⟩
abbrev S224x4x21x224 : Shape := ⟨4, ![224, 4, 21, 224]⟩
abbrev S4x224x224x21 : Shape := ⟨4, ![4, 224, 224, 21]⟩
abbrev S4x224x224x2 : Shape := ⟨4, ![4, 224, 224, 2]⟩
abbrev S4x224x224x1 : Shape := ⟨4, ![4, 224, 224, 1]⟩
abbrev S4x224x224 : Shape := ⟨3, ![4, 224, 224]⟩
abbrev S4x50176 : Shape := ⟨2, ![4, 50176]⟩
abbrev S4x8192 : Shape := ⟨2, ![4, 8192]⟩
abbrev S4x8192x1 : Shape := ⟨3, ![4, 8192, 1]⟩
abbrev S4x8192x2 : Shape := ⟨3, ![4, 8192, 2]⟩
abbrev S4x8192x21 : Shape := ⟨3, ![4, 8192, 21]⟩
abbrev S4x8192x256 : Shape := ⟨3, ![4, 8192, 256]⟩
abbrev S4x8192x277 : Shape := ⟨3, ![4, 8192, 277]⟩
abbrev S1x1x256 : Shape := ⟨3, ![1, 1, 256]⟩
abbrev S1x1x21 : Shape := ⟨3, ![1, 1, 21]⟩
abbrev S4x50176x21 : Shape := ⟨3, ![4, 50176, 21]⟩
abbrev S4 : Shape := ⟨1, ![4]⟩
abbrev S4x1 : Shape := ⟨2, ![4, 1]⟩
abbrev S448 : Shape := ⟨1, ![448]⟩
abbrev S1x448 : Shape := ⟨2, ![1, 448]⟩
abbrev S224x1 : Shape := ⟨2, ![224, 1]⟩
abbrev S224x448 : Shape := ⟨2, ![224, 448]⟩
abbrev S448x4x224x21 : Shape := ⟨4, ![448, 4, 224, 21]⟩
abbrev S448x4x21x448 : Shape := ⟨4, ![448, 4, 21, 448]⟩
abbrev S4x448x448x21 : Shape := ⟨4, ![4, 448, 448, 21]⟩
abbrev S4x448x448x2 : Shape := ⟨4, ![4, 448, 448, 2]⟩
abbrev S4x448x448x1 : Shape := ⟨4, ![4, 448, 448, 1]⟩
abbrev S4x448x448 : Shape := ⟨3, ![4, 448, 448]⟩
abbrev S4x200704 : Shape := ⟨2, ![4, 200704]⟩
abbrev S4x200704x21 : Shape := ⟨3, ![4, 200704, 21]⟩
abbrev S4x16384x21 : Shape := ⟨3, ![4, 16384, 21]⟩
abbrev S4x16384x2 : Shape := ⟨3, ![4, 16384, 2]⟩
abbrev S448x1 : Shape := ⟨2, ![448, 1]⟩
abbrev S448x224 : Shape := ⟨2, ![448, 224]⟩
abbrev S224x4x448x21 : Shape := ⟨4, ![224, 4, 448, 21]⟩

abbrev nBuf : Space → Nat
  | .hbm => 1295
  | .vmem => 0
  | .smem => 0
  | _ => 0

abbrev hbmTy0_0 (i : Nat) : BufTy := match i % 128 with
  | 0 => ⟨S4x112x112x21, .f32⟩
  | 1 => ⟨S4x112x112x256, .f32⟩
  | 2 => ⟨S277x256, .f32⟩
  | 3 => ⟨S256, .f32⟩
  | 4 => ⟨S277x256, .f32⟩
  | 5 => ⟨S256, .f32⟩
  | 6 => ⟨S277x256, .f32⟩
  | 7 => ⟨S256, .f32⟩
  | 8 => ⟨S277x21, .f32⟩
  | 9 => ⟨S21, .f32⟩
  | 10 => ⟨S224, .f32⟩
  | 11 => ⟨S_, .f32⟩
  | 12 => ⟨S224, .f32⟩
  | 13 => ⟨S224, .f32⟩
  | 14 => ⟨S_, .f32⟩
  | 15 => ⟨S224, .f32⟩
  | 16 => ⟨S224, .f32⟩
  | 17 => ⟨S_, .f32⟩
  | 18 => ⟨S224, .f32⟩
  | 19 => ⟨S224, .f32⟩
  | 20 => ⟨S1x224, .f32⟩
  | 21 => ⟨S112, .f32⟩
  | 22 => ⟨S112x1, .f32⟩
  | 23 => ⟨S112x224, .f32⟩
  | 24 => ⟨S112x224, .f32⟩
  | 25 => ⟨S112x224, .f32⟩
  | 26 => ⟨S112x224, .f32⟩
  | 27 => ⟨S_, .f32⟩
  | 28 => ⟨S112x224, .f32⟩
  | 29 => ⟨S112x224, .f32⟩
  | 30 => ⟨S_, .f32⟩
  | 31 => ⟨S112x224, .f32⟩
  | 32 => ⟨S112x224, .f32⟩
  | 33 => ⟨S_, .f32⟩
  | 34 => ⟨S112x224, .f32⟩
  | 35 => ⟨S112x224, .f32⟩
  | 36 => ⟨S_, .f32⟩
  | 37 => ⟨S224, .f32⟩
  | 38 => ⟨S1x224, .f32⟩
  | 39 => ⟨S1x224, .f32⟩
  | 40 => ⟨S_, .f32⟩
  | 41 => ⟨S1x224, .f32⟩
  | 42 => ⟨S1x224, .i1⟩
  | 43 => ⟨S_, .f32⟩
  | 44 => ⟨S1x224, .f32⟩
  | 45 => ⟨S1x224, .i1⟩
  | 46 => ⟨S_, .i32⟩
  | 47 => ⟨S_, .f32⟩
  | 48 => ⟨S1x224, .f32⟩
  | 49 => ⟨S1x224, .f32⟩
  | 50 => ⟨S112x224, .f32⟩
  | 51 => ⟨S112x224, .f32⟩
  | 52 => ⟨S_, .i32⟩
  | 53 => ⟨S_, .f32⟩
  | 54 => ⟨S112x224, .i1⟩
  | 55 => ⟨S112x224, .f32⟩
  | 56 => ⟨S112x224, .f32⟩
  | 57 => ⟨S_, .f32⟩
  | 58 => ⟨S224, .f32⟩
  | 59 => ⟨S224, .i1⟩
  | 60 => ⟨S_, .f32⟩
  | 61 => ⟨S224, .f32⟩
  | 62 => ⟨S224, .i1⟩
  | 63 => ⟨S224, .i1⟩
  | 64 => ⟨S_, .i32⟩
  | 65 => ⟨S_, .f32⟩
  | 66 => ⟨S112x224, .i1⟩
  | 67 => ⟨S112x224, .f32⟩
  | 68 => ⟨S112x224, .f32⟩
  | 69 => ⟨S224, .f32⟩
  | 70 => ⟨S_, .f32⟩
  | 71 => ⟨S224, .f32⟩
  | 72 => ⟨S224, .f32⟩
  | 73 => ⟨S_, .f32⟩
  | 74 => ⟨S224, .f32⟩
  | 75 => ⟨S224, .f32⟩
  | 76 => ⟨S_, .f32⟩
  | 77 => ⟨S224, .f32⟩
  | 78 => ⟨S224, .f32⟩
  | 79 => ⟨S1x224, .f32⟩
  | 80 => ⟨S112, .f32⟩
  | 81 => ⟨S112x1, .f32⟩
  | 82 => ⟨S112x224, .f32⟩
  | 83 => ⟨S112x224, .f32⟩
  | 84 => ⟨S112x224, .f32⟩
  | 85 => ⟨S112x224, .f32⟩
  | 86 => ⟨S_, .f32⟩
  | 87 => ⟨S112x224, .f32⟩
  | 88 => ⟨S112x224, .f32⟩
  | 89 => ⟨S_, .f32⟩
  | 90 => ⟨S112x224, .f32⟩
  | 91 => ⟨S112x224, .f32⟩
  | 92 => ⟨S_, .f32⟩
  | 93 => ⟨S112x224, .f32⟩
  | 94 => ⟨S112x224, .f32⟩
  | 95 => ⟨S_, .f32⟩
  | 96 => ⟨S224, .f32⟩
  | 97 => ⟨S1x224, .f32⟩
  | 98 => ⟨S1x224, .f32⟩
  | 99 => ⟨S_, .f32⟩
  | 100 => ⟨S1x224, .f32⟩
  | 101 => ⟨S1x224, .i1⟩
  | 102 => ⟨S_, .f32⟩
  | 103 => ⟨S1x224, .f32⟩
  | 104 => ⟨S1x224, .i1⟩
  | 105 => ⟨S_, .i32⟩
  | 106 => ⟨S_, .f32⟩
  | 107 => ⟨S1x224, .f32⟩
  | 108 => ⟨S1x224, .f32⟩
  | 109 => ⟨S112x224, .f32⟩
  | 110 => ⟨S112x224, .f32⟩
  | 111 => ⟨S_, .i32⟩
  | 112 => ⟨S_, .f32⟩
  | 113 => ⟨S112x224, .i1⟩
  | 114 => ⟨S112x224, .f32⟩
  | 115 => ⟨S112x224, .f32⟩
  | 116 => ⟨S_, .f32⟩
  | 117 => ⟨S224, .f32⟩
  | 118 => ⟨S224, .i1⟩
  | 119 => ⟨S_, .f32⟩
  | 120 => ⟨S224, .f32⟩
  | 121 => ⟨S224, .i1⟩
  | 122 => ⟨S224, .i1⟩
  | 123 => ⟨S_, .i32⟩
  | 124 => ⟨S_, .f32⟩
  | 125 => ⟨S112x224, .i1⟩
  | 126 => ⟨S112x224, .f32⟩
  | 127 => ⟨S112x224, .f32⟩
  | _ => ⟨S4x112x112x21, .f32⟩

abbrev hbmTy0_1 (i : Nat) : BufTy := match i % 128 with
  | 0 => ⟨S224x4x112x21, .f32⟩
  | 1 => ⟨S224x4x21x224, .f32⟩
  | 2 => ⟨S4x224x224x21, .f32⟩
  | 3 => ⟨S4x224x224x2, .f32⟩
  | 4 => ⟨S4x224x224x2, .i32⟩
  | 5 => ⟨S4x224x224x1, .f32⟩
  | 6 => ⟨S4x224x224, .f32⟩
  | 7 => ⟨S4x224x224x1, .f32⟩
  | 8 => ⟨S4x224x224, .f32⟩
  | 9 => ⟨S4x224x224, .f32⟩
  | 10 => ⟨S4x50176, .f32⟩
  | 11 => ⟨S4x8192, .f32⟩
  | 12 => ⟨S4x8192, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S4x8192, .i32⟩
  | 20 => ⟨S4x8192, .i32⟩
  | 21 => ⟨S_, .i32⟩
  | 22 => ⟨S4x8192, .i32⟩
  | 23 => ⟨S4x8192, .i1⟩
  | 24 => ⟨S_, .i32⟩
  | 25 => ⟨S4x8192, .i32⟩
  | 26 => ⟨S4x8192, .i1⟩
  | 27 => ⟨S_, .i32⟩
  | 28 => ⟨S_, .i1⟩
  | 29 => ⟨S4x8192, .i1⟩
  | 30 => ⟨S4x8192, .i1⟩
  | 31 => ⟨S4x8192, .i1⟩
  | 32 => ⟨S4x8192, .i32⟩
  | 33 => ⟨S4x8192, .i32⟩
  | 34 => ⟨S4x8192, .i32⟩
  | 35 => ⟨S4x8192, .f32⟩
  | 36 => ⟨S_, .i32⟩
  | 37 => ⟨S_, .i32⟩
  | 38 => ⟨S4x8192, .i32⟩
  | 39 => ⟨S4x8192, .i32⟩
  | 40 => ⟨S4x8192, .i32⟩
  | 41 => ⟨S_, .i32⟩
  | 42 => ⟨S4x8192, .i32⟩
  | 43 => ⟨S4x8192, .i1⟩
  | 44 => ⟨S4x8192, .i32⟩
  | 45 => ⟨S4x8192, .i32⟩
  | 46 => ⟨S_, .i32⟩
  | 47 => ⟨S4x8192, .i32⟩
  | 48 => ⟨S4x8192, .i1⟩
  | 49 => ⟨S4x8192, .i1⟩
  | 50 => ⟨S_, .i32⟩
  | 51 => ⟨S4x8192, .i32⟩
  | 52 => ⟨S4x8192, .i32⟩
  | 53 => ⟨S4x8192, .i32⟩
  | 54 => ⟨S4x8192, .f32⟩
  | 55 => ⟨S_, .f32⟩
  | 56 => ⟨S4x8192, .f32⟩
  | 57 => ⟨S4x8192, .f32⟩
  | 58 => ⟨S_, .f32⟩
  | 59 => ⟨S4x8192, .f32⟩
  | 60 => ⟨S4x8192, .f32⟩
  | 61 => ⟨S_, .f32⟩
  | 62 => ⟨S4x8192, .f32⟩
  | 63 => ⟨S4x8192, .f32⟩
  | 64 => ⟨S_, .f32⟩
  | 65 => ⟨S4x8192, .f32⟩
  | 66 => ⟨S4x8192, .f32⟩
  | 67 => ⟨S4x8192x1, .f32⟩
  | 68 => ⟨S4x8192x1, .f32⟩
  | 69 => ⟨S4x8192x2, .f32⟩
  | 70 => ⟨S4x8192x1, .f32⟩
  | 71 => ⟨S4x8192, .f32⟩
  | 72 => ⟨S_, .f32⟩
  | 73 => ⟨S4x8192, .f32⟩
  | 74 => ⟨S4x8192, .f32⟩
  | 75 => ⟨S_, .f32⟩
  | 76 => ⟨S4x8192, .f32⟩
  | 77 => ⟨S4x8192, .f32⟩
  | 78 => ⟨S4x8192x1, .f32⟩
  | 79 => ⟨S4x8192, .f32⟩
  | 80 => ⟨S_, .f32⟩
  | 81 => ⟨S4x8192, .f32⟩
  | 82 => ⟨S4x8192, .f32⟩
  | 83 => ⟨S_, .f32⟩
  | 84 => ⟨S4x8192, .f32⟩
  | 85 => ⟨S4x8192, .f32⟩
  | 86 => ⟨S4x8192, .f32⟩
  | 87 => ⟨S4x8192, .f32⟩
  | 88 => ⟨S4x8192, .f32⟩
  | 89 => ⟨S4x8192x1, .f32⟩
  | 90 => ⟨S4x8192, .f32⟩
  | 91 => ⟨S4x8192x1, .f32⟩
  | 92 => ⟨S_, .i32⟩
  | 93 => ⟨S_, .i32⟩
  | 94 => ⟨S_, .f32⟩
  | 95 => ⟨S4x8192, .f32⟩
  | 96 => ⟨S4x8192, .f32⟩
  | 97 => ⟨S_, .f32⟩
  | 98 => ⟨S4x8192, .f32⟩
  | 99 => ⟨S4x8192, .f32⟩
  | 100 => ⟨S4x8192, .i32⟩
  | 101 => ⟨S_, .f32⟩
  | 102 => ⟨S4x8192, .f32⟩
  | 103 => ⟨S4x8192, .f32⟩
  | 104 => ⟨S_, .i32⟩
  | 105 => ⟨S_, .i32⟩
  | 106 => ⟨S_, .f32⟩
  | 107 => ⟨S4x8192, .f32⟩
  | 108 => ⟨S4x8192, .f32⟩
  | 109 => ⟨S_, .f32⟩
  | 110 => ⟨S4x8192, .f32⟩
  | 111 => ⟨S4x8192, .f32⟩
  | 112 => ⟨S4x8192, .i32⟩
  | 113 => ⟨S_, .i32⟩
  | 114 => ⟨S_, .i32⟩
  | 115 => ⟨S_, .f32⟩
  | 116 => ⟨S4x8192, .f32⟩
  | 117 => ⟨S4x8192, .f32⟩
  | 118 => ⟨S_, .f32⟩
  | 119 => ⟨S4x8192, .f32⟩
  | 120 => ⟨S4x8192, .f32⟩
  | 121 => ⟨S4x8192, .i32⟩
  | 122 => ⟨S_, .f32⟩
  | 123 => ⟨S4x8192, .f32⟩
  | 124 => ⟨S4x8192, .f32⟩
  | 125 => ⟨S_, .i32⟩
  | 126 => ⟨S_, .i32⟩
  | 127 => ⟨S_, .f32⟩
  | _ => ⟨S4x112x112x21, .f32⟩

abbrev hbmTy0_2 (i : Nat) : BufTy := match i % 128 with
  | 0 => ⟨S4x8192, .f32⟩
  | 1 => ⟨S4x8192, .f32⟩
  | 2 => ⟨S_, .f32⟩
  | 3 => ⟨S4x8192, .f32⟩
  | 4 => ⟨S4x8192, .f32⟩
  | 5 => ⟨S4x8192, .i32⟩
  | 6 => ⟨S_, .i32⟩
  | 7 => ⟨S4x8192, .i32⟩
  | 8 => ⟨S4x8192, .i1⟩
  | 9 => ⟨S_, .i32⟩
  | 10 => ⟨S4x8192, .i32⟩
  | 11 => ⟨S4x8192, .i32⟩
  | 12 => ⟨S4x8192, .i32⟩
  | 13 => ⟨S_, .i32⟩
  | 14 => ⟨S4x8192, .i32⟩
  | 15 => ⟨S4x8192, .i1⟩
  | 16 => ⟨S_, .i32⟩
  | 17 => ⟨S4x8192, .i32⟩
  | 18 => ⟨S4x8192, .i32⟩
  | 19 => ⟨S4x8192, .i32⟩
  | 20 => ⟨S4x8192x1, .i32⟩
  | 21 => ⟨S4x8192x1, .i32⟩
  | 22 => ⟨S4x8192x2, .i32⟩
  | 23 => ⟨S4x8192x21, .f32⟩
  | 24 => ⟨S_, .i32⟩
  | 25 => ⟨S4x8192, .i32⟩
  | 26 => ⟨S4x8192, .i1⟩
  | 27 => ⟨S_, .i32⟩
  | 28 => ⟨S4x8192, .i32⟩
  | 29 => ⟨S4x8192, .i32⟩
  | 30 => ⟨S4x8192, .i32⟩
  | 31 => ⟨S_, .i32⟩
  | 32 => ⟨S4x8192, .i32⟩
  | 33 => ⟨S4x8192, .i1⟩
  | 34 => ⟨S_, .i32⟩
  | 35 => ⟨S4x8192, .i32⟩
  | 36 => ⟨S4x8192, .i32⟩
  | 37 => ⟨S4x8192, .i32⟩
  | 38 => ⟨S4x8192x1, .i32⟩
  | 39 => ⟨S4x8192x1, .i32⟩
  | 40 => ⟨S4x8192x2, .i32⟩
  | 41 => ⟨S4x8192x21, .f32⟩
  | 42 => ⟨S_, .i32⟩
  | 43 => ⟨S4x8192, .i32⟩
  | 44 => ⟨S4x8192, .i1⟩
  | 45 => ⟨S_, .i32⟩
  | 46 => ⟨S4x8192, .i32⟩
  | 47 => ⟨S4x8192, .i32⟩
  | 48 => ⟨S4x8192, .i32⟩
  | 49 => ⟨S_, .i32⟩
  | 50 => ⟨S4x8192, .i32⟩
  | 51 => ⟨S4x8192, .i1⟩
  | 52 => ⟨S_, .i32⟩
  | 53 => ⟨S4x8192, .i32⟩
  | 54 => ⟨S4x8192, .i32⟩
  | 55 => ⟨S4x8192, .i32⟩
  | 56 => ⟨S4x8192x1, .i32⟩
  | 57 => ⟨S4x8192x1, .i32⟩
  | 58 => ⟨S4x8192x2, .i32⟩
  | 59 => ⟨S4x8192x21, .f32⟩
  | 60 => ⟨S_, .i32⟩
  | 61 => ⟨S4x8192, .i32⟩
  | 62 => ⟨S4x8192, .i1⟩
  | 63 => ⟨S_, .i32⟩
  | 64 => ⟨S4x8192, .i32⟩
  | 65 => ⟨S4x8192, .i32⟩
  | 66 => ⟨S4x8192, .i32⟩
  | 67 => ⟨S_, .i32⟩
  | 68 => ⟨S4x8192, .i32⟩
  | 69 => ⟨S4x8192, .i1⟩
  | 70 => ⟨S_, .i32⟩
  | 71 => ⟨S4x8192, .i32⟩
  | 72 => ⟨S4x8192, .i32⟩
  | 73 => ⟨S4x8192, .i32⟩
  | 74 => ⟨S4x8192x1, .i32⟩
  | 75 => ⟨S4x8192x1, .i32⟩
  | 76 => ⟨S4x8192x2, .i32⟩
  | 77 => ⟨S4x8192x21, .f32⟩
  | 78 => ⟨S_, .f32⟩
  | 79 => ⟨S4x8192x1, .f32⟩
  | 80 => ⟨S4x8192x1, .f32⟩
  | 81 => ⟨S4x8192x21, .f32⟩
  | 82 => ⟨S4x8192x21, .f32⟩
  | 83 => ⟨S_, .f32⟩
  | 84 => ⟨S4x8192x1, .f32⟩
  | 85 => ⟨S4x8192x1, .f32⟩
  | 86 => ⟨S4x8192x21, .f32⟩
  | 87 => ⟨S4x8192x21, .f32⟩
  | 88 => ⟨S4x8192x21, .f32⟩
  | 89 => ⟨S4x8192x21, .f32⟩
  | 90 => ⟨S_, .f32⟩
  | 91 => ⟨S4x8192x1, .f32⟩
  | 92 => ⟨S4x8192x1, .f32⟩
  | 93 => ⟨S4x8192x21, .f32⟩
  | 94 => ⟨S4x8192x21, .f32⟩
  | 95 => ⟨S4x8192x21, .f32⟩
  | 96 => ⟨S_, .f32⟩
  | 97 => ⟨S4x8192x1, .f32⟩
  | 98 => ⟨S4x8192x1, .f32⟩
  | 99 => ⟨S4x8192x21, .f32⟩
  | 100 => ⟨S4x8192x21, .f32⟩
  | 101 => ⟨S4x8192x21, .f32⟩
  | 102 => ⟨S4x8192x21, .f32⟩
  | 103 => ⟨S4x8192x21, .f32⟩
  | 104 => ⟨S4x8192x21, .f32⟩
  | 105 => ⟨S4x8192x21, .f32⟩
  | 106 => ⟨S4x8192x21, .f32⟩
  | 107 => ⟨S4x8192x21, .f32⟩
  | 108 => ⟨S4x8192x21, .f32⟩
  | 109 => ⟨S4x8192x1, .f32⟩
  | 110 => ⟨S4x8192, .f32⟩
  | 111 => ⟨S_, .f32⟩
  | 112 => ⟨S4x8192, .f32⟩
  | 113 => ⟨S4x8192, .f32⟩
  | 114 => ⟨S_, .f32⟩
  | 115 => ⟨S4x8192, .f32⟩
  | 116 => ⟨S4x8192, .f32⟩
  | 117 => ⟨S4x8192x1, .f32⟩
  | 118 => ⟨S4x8192, .f32⟩
  | 119 => ⟨S_, .f32⟩
  | 120 => ⟨S4x8192, .f32⟩
  | 121 => ⟨S4x8192, .f32⟩
  | 122 => ⟨S_, .f32⟩
  | 123 => ⟨S4x8192, .f32⟩
  | 124 => ⟨S4x8192, .f32⟩
  | 125 => ⟨S4x8192, .f32⟩
  | 126 => ⟨S4x8192, .f32⟩
  | 127 => ⟨S4x8192, .f32⟩
  | _ => ⟨S4x112x112x21, .f32⟩

abbrev hbmTy0_3 (i : Nat) : BufTy := match i % 128 with
  | 0 => ⟨S4x8192x1, .f32⟩
  | 1 => ⟨S4x8192, .f32⟩
  | 2 => ⟨S4x8192x1, .f32⟩
  | 3 => ⟨S_, .i32⟩
  | 4 => ⟨S_, .i32⟩
  | 5 => ⟨S_, .f32⟩
  | 6 => ⟨S4x8192, .f32⟩
  | 7 => ⟨S4x8192, .f32⟩
  | 8 => ⟨S_, .f32⟩
  | 9 => ⟨S4x8192, .f32⟩
  | 10 => ⟨S4x8192, .f32⟩
  | 11 => ⟨S4x8192, .i32⟩
  | 12 => ⟨S_, .f32⟩
  | 13 => ⟨S4x8192, .f32⟩
  | 14 => ⟨S4x8192, .f32⟩
  | 15 => ⟨S_, .i32⟩
  | 16 => ⟨S_, .i32⟩
  | 17 => ⟨S_, .f32⟩
  | 18 => ⟨S4x8192, .f32⟩
  | 19 => ⟨S4x8192, .f32⟩
  | 20 => ⟨S_, .f32⟩
  | 21 => ⟨S4x8192, .f32⟩
  | 22 => ⟨S4x8192, .f32⟩
  | 23 => ⟨S4x8192, .i32⟩
  | 24 => ⟨S_, .i32⟩
  | 25 => ⟨S_, .i32⟩
  | 26 => ⟨S_, .f32⟩
  | 27 => ⟨S4x8192, .f32⟩
  | 28 => ⟨S4x8192, .f32⟩
  | 29 => ⟨S_, .f32⟩
  | 30 => ⟨S4x8192, .f32⟩
  | 31 => ⟨S4x8192, .f32⟩
  | 32 => ⟨S4x8192, .i32⟩
  | 33 => ⟨S_, .f32⟩
  | 34 => ⟨S4x8192, .f32⟩
  | 35 => ⟨S4x8192, .f32⟩
  | 36 => ⟨S_, .i32⟩
  | 37 => ⟨S_, .i32⟩
  | 38 => ⟨S_, .f32⟩
  | 39 => ⟨S4x8192, .f32⟩
  | 40 => ⟨S4x8192, .f32⟩
  | 41 => ⟨S_, .f32⟩
  | 42 => ⟨S4x8192, .f32⟩
  | 43 => ⟨S4x8192, .f32⟩
  | 44 => ⟨S4x8192, .i32⟩
  | 45 => ⟨S_, .i32⟩
  | 46 => ⟨S4x8192, .i32⟩
  | 47 => ⟨S4x8192, .i1⟩
  | 48 => ⟨S_, .i32⟩
  | 49 => ⟨S4x8192, .i32⟩
  | 50 => ⟨S4x8192, .i32⟩
  | 51 => ⟨S4x8192, .i32⟩
  | 52 => ⟨S_, .i32⟩
  | 53 => ⟨S4x8192, .i32⟩
  | 54 => ⟨S4x8192, .i1⟩
  | 55 => ⟨S_, .i32⟩
  | 56 => ⟨S4x8192, .i32⟩
  | 57 => ⟨S4x8192, .i32⟩
  | 58 => ⟨S4x8192, .i32⟩
  | 59 => ⟨S4x8192x1, .i32⟩
  | 60 => ⟨S4x8192x1, .i32⟩
  | 61 => ⟨S4x8192x2, .i32⟩
  | 62 => ⟨S4x8192x256, .f32⟩
  | 63 => ⟨S_, .i32⟩
  | 64 => ⟨S4x8192, .i32⟩
  | 65 => ⟨S4x8192, .i1⟩
  | 66 => ⟨S_, .i32⟩
  | 67 => ⟨S4x8192, .i32⟩
  | 68 => ⟨S4x8192, .i32⟩
  | 69 => ⟨S4x8192, .i32⟩
  | 70 => ⟨S_, .i32⟩
  | 71 => ⟨S4x8192, .i32⟩
  | 72 => ⟨S4x8192, .i1⟩
  | 73 => ⟨S_, .i32⟩
  | 74 => ⟨S4x8192, .i32⟩
  | 75 => ⟨S4x8192, .i32⟩
  | 76 => ⟨S4x8192, .i32⟩
  | 77 => ⟨S4x8192x1, .i32⟩
  | 78 => ⟨S4x8192x1, .i32⟩
  | 79 => ⟨S4x8192x2, .i32⟩
  | 80 => ⟨S4x8192x256, .f32⟩
  | 81 => ⟨S_, .i32⟩
  | 82 => ⟨S4x8192, .i32⟩
  | 83 => ⟨S4x8192, .i1⟩
  | 84 => ⟨S_, .i32⟩
  | 85 => ⟨S4x8192, .i32⟩
  | 86 => ⟨S4x8192, .i32⟩
  | 87 => ⟨S4x8192, .i32⟩
  | 88 => ⟨S_, .i32⟩
  | 89 => ⟨S4x8192, .i32⟩
  | 90 => ⟨S4x8192, .i1⟩
  | 91 => ⟨S_, .i32⟩
  | 92 => ⟨S4x8192, .i32⟩
  | 93 => ⟨S4x8192, .i32⟩
  | 94 => ⟨S4x8192, .i32⟩
  | 95 => ⟨S4x8192x1, .i32⟩
  | 96 => ⟨S4x8192x1, .i32⟩
  | 97 => ⟨S4x8192x2, .i32⟩
  | 98 => ⟨S4x8192x256, .f32⟩
  | 99 => ⟨S_, .i32⟩
  | 100 => ⟨S4x8192, .i32⟩
  | 101 => ⟨S4x8192, .i1⟩
  | 102 => ⟨S_, .i32⟩
  | 103 => ⟨S4x8192, .i32⟩
  | 104 => ⟨S4x8192, .i32⟩
  | 105 => ⟨S4x8192, .i32⟩
  | 106 => ⟨S_, .i32⟩
  | 107 => ⟨S4x8192, .i32⟩
  | 108 => ⟨S4x8192, .i1⟩
  | 109 => ⟨S_, .i32⟩
  | 110 => ⟨S4x8192, .i32⟩
  | 111 => ⟨S4x8192, .i32⟩
  | 112 => ⟨S4x8192, .i32⟩
  | 113 => ⟨S4x8192x1, .i32⟩
  | 114 => ⟨S4x8192x1, .i32⟩
  | 115 => ⟨S4x8192x2, .i32⟩
  | 116 => ⟨S4x8192x256, .f32⟩
  | 117 => ⟨S_, .f32⟩
  | 118 => ⟨S4x8192x1, .f32⟩
  | 119 => ⟨S4x8192x1, .f32⟩
  | 120 => ⟨S4x8192x256, .f32⟩
  | 121 => ⟨S4x8192x256, .f32⟩
  | 122 => ⟨S_, .f32⟩
  | 123 => ⟨S4x8192x1, .f32⟩
  | 124 => ⟨S4x8192x1, .f32⟩
  | 125 => ⟨S4x8192x256, .f32⟩
  | 126 => ⟨S4x8192x256, .f32⟩
  | 127 => ⟨S4x8192x256, .f32⟩
  | _ => ⟨S4x112x112x21, .f32⟩

abbrev hbmTy0_4 (i : Nat) : BufTy := match i % 128 with
  | 0 => ⟨S4x8192x256, .f32⟩
  | 1 => ⟨S_, .f32⟩
  | 2 => ⟨S4x8192x1, .f32⟩
  | 3 => ⟨S4x8192x1, .f32⟩
  | 4 => ⟨S4x8192x256, .f32⟩
  | 5 => ⟨S4x8192x256, .f32⟩
  | 6 => ⟨S4x8192x256, .f32⟩
  | 7 => ⟨S_, .f32⟩
  | 8 => ⟨S4x8192x1, .f32⟩
  | 9 => ⟨S4x8192x1, .f32⟩
  | 10 => ⟨S4x8192x256, .f32⟩
  | 11 => ⟨S4x8192x256, .f32⟩
  | 12 => ⟨S4x8192x256, .f32⟩
  | 13 => ⟨S4x8192x256, .f32⟩
  | 14 => ⟨S4x8192x256, .f32⟩
  | 15 => ⟨S4x8192x256, .f32⟩
  | 16 => ⟨S4x8192x256, .f32⟩
  | 17 => ⟨S4x8192x256, .f32⟩
  | 18 => ⟨S4x8192x256, .f32⟩
  | 19 => ⟨S4x8192x256, .f32⟩
  | 20 => ⟨S4x8192x277, .f32⟩
  | 21 => ⟨S4x8192x256, .f32⟩
  | 22 => ⟨S1x1x256, .f32⟩
  | 23 => ⟨S4x8192x256, .f32⟩
  | 24 => ⟨S4x8192x256, .f32⟩
  | 25 => ⟨S_, .f32⟩
  | 26 => ⟨S4x8192x256, .f32⟩
  | 27 => ⟨S4x8192x256, .f32⟩
  | 28 => ⟨S4x8192x277, .f32⟩
  | 29 => ⟨S4x8192x256, .f32⟩
  | 30 => ⟨S1x1x256, .f32⟩
  | 31 => ⟨S4x8192x256, .f32⟩
  | 32 => ⟨S4x8192x256, .f32⟩
  | 33 => ⟨S_, .f32⟩
  | 34 => ⟨S4x8192x256, .f32⟩
  | 35 => ⟨S4x8192x256, .f32⟩
  | 36 => ⟨S4x8192x277, .f32⟩
  | 37 => ⟨S4x8192x256, .f32⟩
  | 38 => ⟨S1x1x256, .f32⟩
  | 39 => ⟨S4x8192x256, .f32⟩
  | 40 => ⟨S4x8192x256, .f32⟩
  | 41 => ⟨S_, .f32⟩
  | 42 => ⟨S4x8192x256, .f32⟩
  | 43 => ⟨S4x8192x256, .f32⟩
  | 44 => ⟨S4x8192x277, .f32⟩
  | 45 => ⟨S4x8192x21, .f32⟩
  | 46 => ⟨S1x1x21, .f32⟩
  | 47 => ⟨S4x8192x21, .f32⟩
  | 48 => ⟨S4x8192x21, .f32⟩
  | 49 => ⟨S4x50176x21, .f32⟩
  | 50 => ⟨S4, .i32⟩
  | 51 => ⟨S4x1, .i32⟩
  | 52 => ⟨S_, .i32⟩
  | 53 => ⟨S4x1, .i32⟩
  | 54 => ⟨S4x1, .i1⟩
  | 55 => ⟨S_, .i32⟩
  | 56 => ⟨S4x1, .i32⟩
  | 57 => ⟨S4x1, .i32⟩
  | 58 => ⟨S4x1, .i32⟩
  | 59 => ⟨S_, .i32⟩
  | 60 => ⟨S4x8192, .i32⟩
  | 61 => ⟨S4x8192, .i1⟩
  | 62 => ⟨S_, .i32⟩
  | 63 => ⟨S4x8192, .i32⟩
  | 64 => ⟨S4x8192, .i32⟩
  | 65 => ⟨S4x8192, .i32⟩
  | 66 => ⟨S4x8192, .i32⟩
  | 67 => ⟨S4x8192x1, .i32⟩
  | 68 => ⟨S4x8192x1, .i32⟩
  | 69 => ⟨S4x8192x2, .i32⟩
  | 70 => ⟨S4x50176x21, .f32⟩
  | 71 => ⟨S4x224x224x21, .f32⟩
  | 72 => ⟨S448, .f32⟩
  | 73 => ⟨S_, .f32⟩
  | 74 => ⟨S448, .f32⟩
  | 75 => ⟨S448, .f32⟩
  | 76 => ⟨S_, .f32⟩
  | 77 => ⟨S448, .f32⟩
  | 78 => ⟨S448, .f32⟩
  | 79 => ⟨S_, .f32⟩
  | 80 => ⟨S448, .f32⟩
  | 81 => ⟨S448, .f32⟩
  | 82 => ⟨S1x448, .f32⟩
  | 83 => ⟨S224, .f32⟩
  | 84 => ⟨S224x1, .f32⟩
  | 85 => ⟨S224x448, .f32⟩
  | 86 => ⟨S224x448, .f32⟩
  | 87 => ⟨S224x448, .f32⟩
  | 88 => ⟨S224x448, .f32⟩
  | 89 => ⟨S_, .f32⟩
  | 90 => ⟨S224x448, .f32⟩
  | 91 => ⟨S224x448, .f32⟩
  | 92 => ⟨S_, .f32⟩
  | 93 => ⟨S224x448, .f32⟩
  | 94 => ⟨S224x448, .f32⟩
  | 95 => ⟨S_, .f32⟩
  | 96 => ⟨S224x448, .f32⟩
  | 97 => ⟨S224x448, .f32⟩
  | 98 => ⟨S_, .f32⟩
  | 99 => ⟨S448, .f32⟩
  | 100 => ⟨S1x448, .f32⟩
  | 101 => ⟨S1x448, .f32⟩
  | 102 => ⟨S_, .f32⟩
  | 103 => ⟨S1x448, .f32⟩
  | 104 => ⟨S1x448, .i1⟩
  | 105 => ⟨S_, .f32⟩
  | 106 => ⟨S1x448, .f32⟩
  | 107 => ⟨S1x448, .i1⟩
  | 108 => ⟨S_, .i32⟩
  | 109 => ⟨S_, .f32⟩
  | 110 => ⟨S1x448, .f32⟩
  | 111 => ⟨S1x448, .f32⟩
  | 112 => ⟨S224x448, .f32⟩
  | 113 => ⟨S224x448, .f32⟩
  | 114 => ⟨S_, .i32⟩
  | 115 => ⟨S_, .f32⟩
  | 116 => ⟨S224x448, .i1⟩
  | 117 => ⟨S224x448, .f32⟩
  | 118 => ⟨S224x448, .f32⟩
  | 119 => ⟨S_, .f32⟩
  | 120 => ⟨S448, .f32⟩
  | 121 => ⟨S448, .i1⟩
  | 122 => ⟨S_, .f32⟩
  | 123 => ⟨S448, .f32⟩
  | 124 => ⟨S448, .i1⟩
  | 125 => ⟨S448, .i1⟩
  | 126 => ⟨S_, .i32⟩
  | 127 => ⟨S_, .f32⟩
  | _ => ⟨S4x112x112x21, .f32⟩

abbrev hbmTy0_5 (i : Nat) : BufTy := match i % 128 with
  | 0 => ⟨S224x448, .i1⟩
  | 1 => ⟨S224x448, .f32⟩
  | 2 => ⟨S224x448, .f32⟩
  | 3 => ⟨S448, .f32⟩
  | 4 => ⟨S_, .f32⟩
  | 5 => ⟨S448, .f32⟩
  | 6 => ⟨S448, .f32⟩
  | 7 => ⟨S_, .f32⟩
  | 8 => ⟨S448, .f32⟩
  | 9 => ⟨S448, .f32⟩
  | 10 => ⟨S_, .f32⟩
  | 11 => ⟨S448, .f32⟩
  | 12 => ⟨S448, .f32⟩
  | 13 => ⟨S1x448, .f32⟩
  | 14 => ⟨S224, .f32⟩
  | 15 => ⟨S224x1, .f32⟩
  | 16 => ⟨S224x448, .f32⟩
  | 17 => ⟨S224x448, .f32⟩
  | 18 => ⟨S224x448, .f32⟩
  | 19 => ⟨S224x448, .f32⟩
  | 20 => ⟨S_, .f32⟩
  | 21 => ⟨S224x448, .f32⟩
  | 22 => ⟨S224x448, .f32⟩
  | 23 => ⟨S_, .f32⟩
  | 24 => ⟨S224x448, .f32⟩
  | 25 => ⟨S224x448, .f32⟩
  | 26 => ⟨S_, .f32⟩
  | 27 => ⟨S224x448, .f32⟩
  | 28 => ⟨S224x448, .f32⟩
  | 29 => ⟨S_, .f32⟩
  | 30 => ⟨S448, .f32⟩
  | 31 => ⟨S1x448, .f32⟩
  | 32 => ⟨S1x448, .f32⟩
  | 33 => ⟨S_, .f32⟩
  | 34 => ⟨S1x448, .f32⟩
  | 35 => ⟨S1x448, .i1⟩
  | 36 => ⟨S_, .f32⟩
  | 37 => ⟨S1x448, .f32⟩
  | 38 => ⟨S1x448, .i1⟩
  | 39 => ⟨S_, .i32⟩
  | 40 => ⟨S_, .f32⟩
  | 41 => ⟨S1x448, .f32⟩
  | 42 => ⟨S1x448, .f32⟩
  | 43 => ⟨S224x448, .f32⟩
  | 44 => ⟨S224x448, .f32⟩
  | 45 => ⟨S_, .i32⟩
  | 46 => ⟨S_, .f32⟩
  | 47 => ⟨S224x448, .i1⟩
  | 48 => ⟨S224x448, .f32⟩
  | 49 => ⟨S224x448, .f32⟩
  | 50 => ⟨S_, .f32⟩
  | 51 => ⟨S448, .f32⟩
  | 52 => ⟨S448, .i1⟩
  | 53 => ⟨S_, .f32⟩
  | 54 => ⟨S448, .f32⟩
  | 55 => ⟨S448, .i1⟩
  | 56 => ⟨S448, .i1⟩
  | 57 => ⟨S_, .i32⟩
  | 58 => ⟨S_, .f32⟩
  | 59 => ⟨S224x448, .i1⟩
  | 60 => ⟨S224x448, .f32⟩
  | 61 => ⟨S224x448, .f32⟩
  | 62 => ⟨S448x4x224x21, .f32⟩
  | 63 => ⟨S448x4x21x448, .f32⟩
  | 64 => ⟨S4x448x448x21, .f32⟩
  | 65 => ⟨S4x448x448x2, .f32⟩
  | 66 => ⟨S4x448x448x2, .i32⟩
  | 67 => ⟨S4x448x448x1, .f32⟩
  | 68 => ⟨S4x448x448, .f32⟩
  | 69 => ⟨S4x448x448x1, .f32⟩
  | 70 => ⟨S4x448x448, .f32⟩
  | 71 => ⟨S4x448x448, .f32⟩
  | 72 => ⟨S4x200704, .f32⟩
  | 73 => ⟨S4x8192, .f32⟩
  | 74 => ⟨S4x8192, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S4x8192, .i32⟩
  | 82 => ⟨S4x8192, .i32⟩
  | 83 => ⟨S_, .i32⟩
  | 84 => ⟨S4x8192, .i32⟩
  | 85 => ⟨S4x8192, .i1⟩
  | 86 => ⟨S_, .i32⟩
  | 87 => ⟨S4x8192, .i32⟩
  | 88 => ⟨S4x8192, .i1⟩
  | 89 => ⟨S_, .i32⟩
  | 90 => ⟨S_, .i1⟩
  | 91 => ⟨S4x8192, .i1⟩
  | 92 => ⟨S4x8192, .i1⟩
  | 93 => ⟨S4x8192, .i1⟩
  | 94 => ⟨S4x8192, .i32⟩
  | 95 => ⟨S4x8192, .i32⟩
  | 96 => ⟨S4x8192, .i32⟩
  | 97 => ⟨S4x8192, .f32⟩
  | 98 => ⟨S_, .i32⟩
  | 99 => ⟨S_, .i32⟩
  | 100 => ⟨S4x8192, .i32⟩
  | 101 => ⟨S4x8192, .i32⟩
  | 102 => ⟨S4x8192, .i32⟩
  | 103 => ⟨S_, .i32⟩
  | 104 => ⟨S4x8192, .i32⟩
  | 105 => ⟨S4x8192, .i1⟩
  | 106 => ⟨S4x8192, .i32⟩
  | 107 => ⟨S4x8192, .i32⟩
  | 108 => ⟨S_, .i32⟩
  | 109 => ⟨S4x8192, .i32⟩
  | 110 => ⟨S4x8192, .i1⟩
  | 111 => ⟨S4x8192, .i1⟩
  | 112 => ⟨S_, .i32⟩
  | 113 => ⟨S4x8192, .i32⟩
  | 114 => ⟨S4x8192, .i32⟩
  | 115 => ⟨S4x8192, .i32⟩
  | 116 => ⟨S4x8192, .f32⟩
  | 117 => ⟨S_, .f32⟩
  | 118 => ⟨S4x8192, .f32⟩
  | 119 => ⟨S4x8192, .f32⟩
  | 120 => ⟨S_, .f32⟩
  | 121 => ⟨S4x8192, .f32⟩
  | 122 => ⟨S4x8192, .f32⟩
  | 123 => ⟨S_, .f32⟩
  | 124 => ⟨S4x8192, .f32⟩
  | 125 => ⟨S4x8192, .f32⟩
  | 126 => ⟨S_, .f32⟩
  | 127 => ⟨S4x8192, .f32⟩
  | _ => ⟨S4x112x112x21, .f32⟩

abbrev hbmTy0_6 (i : Nat) : BufTy := match i % 128 with
  | 0 => ⟨S4x8192, .f32⟩
  | 1 => ⟨S4x8192x1, .f32⟩
  | 2 => ⟨S4x8192x1, .f32⟩
  | 3 => ⟨S4x8192x2, .f32⟩
  | 4 => ⟨S4x8192x1, .f32⟩
  | 5 => ⟨S4x8192, .f32⟩
  | 6 => ⟨S_, .f32⟩
  | 7 => ⟨S4x8192, .f32⟩
  | 8 => ⟨S4x8192, .f32⟩
  | 9 => ⟨S_, .f32⟩
  | 10 => ⟨S4x8192, .f32⟩
  | 11 => ⟨S4x8192, .f32⟩
  | 12 => ⟨S4x8192x1, .f32⟩
  | 13 => ⟨S4x8192, .f32⟩
  | 14 => ⟨S_, .f32⟩
  | 15 => ⟨S4x8192, .f32⟩
  | 16 => ⟨S4x8192, .f32⟩
  | 17 => ⟨S_, .f32⟩
  | 18 => ⟨S4x8192, .f32⟩
  | 19 => ⟨S4x8192, .f32⟩
  | 20 => ⟨S4x8192, .f32⟩
  | 21 => ⟨S4x8192, .f32⟩
  | 22 => ⟨S4x8192, .f32⟩
  | 23 => ⟨S4x8192x1, .f32⟩
  | 24 => ⟨S4x8192, .f32⟩
  | 25 => ⟨S4x8192x1, .f32⟩
  | 26 => ⟨S_, .i32⟩
  | 27 => ⟨S_, .i32⟩
  | 28 => ⟨S_, .f32⟩
  | 29 => ⟨S4x8192, .f32⟩
  | 30 => ⟨S4x8192, .f32⟩
  | 31 => ⟨S_, .f32⟩
  | 32 => ⟨S4x8192, .f32⟩
  | 33 => ⟨S4x8192, .f32⟩
  | 34 => ⟨S4x8192, .i32⟩
  | 35 => ⟨S_, .f32⟩
  | 36 => ⟨S4x8192, .f32⟩
  | 37 => ⟨S4x8192, .f32⟩
  | 38 => ⟨S_, .i32⟩
  | 39 => ⟨S_, .i32⟩
  | 40 => ⟨S_, .f32⟩
  | 41 => ⟨S4x8192, .f32⟩
  | 42 => ⟨S4x8192, .f32⟩
  | 43 => ⟨S_, .f32⟩
  | 44 => ⟨S4x8192, .f32⟩
  | 45 => ⟨S4x8192, .f32⟩
  | 46 => ⟨S4x8192, .i32⟩
  | 47 => ⟨S_, .i32⟩
  | 48 => ⟨S_, .i32⟩
  | 49 => ⟨S_, .f32⟩
  | 50 => ⟨S4x8192, .f32⟩
  | 51 => ⟨S4x8192, .f32⟩
  | 52 => ⟨S_, .f32⟩
  | 53 => ⟨S4x8192, .f32⟩
  | 54 => ⟨S4x8192, .f32⟩
  | 55 => ⟨S4x8192, .i32⟩
  | 56 => ⟨S_, .f32⟩
  | 57 => ⟨S4x8192, .f32⟩
  | 58 => ⟨S4x8192, .f32⟩
  | 59 => ⟨S_, .i32⟩
  | 60 => ⟨S_, .i32⟩
  | 61 => ⟨S_, .f32⟩
  | 62 => ⟨S4x8192, .f32⟩
  | 63 => ⟨S4x8192, .f32⟩
  | 64 => ⟨S_, .f32⟩
  | 65 => ⟨S4x8192, .f32⟩
  | 66 => ⟨S4x8192, .f32⟩
  | 67 => ⟨S4x8192, .i32⟩
  | 68 => ⟨S_, .i32⟩
  | 69 => ⟨S4x8192, .i32⟩
  | 70 => ⟨S4x8192, .i1⟩
  | 71 => ⟨S_, .i32⟩
  | 72 => ⟨S4x8192, .i32⟩
  | 73 => ⟨S4x8192, .i32⟩
  | 74 => ⟨S4x8192, .i32⟩
  | 75 => ⟨S_, .i32⟩
  | 76 => ⟨S4x8192, .i32⟩
  | 77 => ⟨S4x8192, .i1⟩
  | 78 => ⟨S_, .i32⟩
  | 79 => ⟨S4x8192, .i32⟩
  | 80 => ⟨S4x8192, .i32⟩
  | 81 => ⟨S4x8192, .i32⟩
  | 82 => ⟨S4x8192x1, .i32⟩
  | 83 => ⟨S4x8192x1, .i32⟩
  | 84 => ⟨S4x8192x2, .i32⟩
  | 85 => ⟨S4x8192x21, .f32⟩
  | 86 => ⟨S_, .i32⟩
  | 87 => ⟨S4x8192, .i32⟩
  | 88 => ⟨S4x8192, .i1⟩
  | 89 => ⟨S_, .i32⟩
  | 90 => ⟨S4x8192, .i32⟩
  | 91 => ⟨S4x8192, .i32⟩
  | 92 => ⟨S4x8192, .i32⟩
  | 93 => ⟨S_, .i32⟩
  | 94 => ⟨S4x8192, .i32⟩
  | 95 => ⟨S4x8192, .i1⟩
  | 96 => ⟨S_, .i32⟩
  | 97 => ⟨S4x8192, .i32⟩
  | 98 => ⟨S4x8192, .i32⟩
  | 99 => ⟨S4x8192, .i32⟩
  | 100 => ⟨S4x8192x1, .i32⟩
  | 101 => ⟨S4x8192x1, .i32⟩
  | 102 => ⟨S4x8192x2, .i32⟩
  | 103 => ⟨S4x8192x21, .f32⟩
  | 104 => ⟨S_, .i32⟩
  | 105 => ⟨S4x8192, .i32⟩
  | 106 => ⟨S4x8192, .i1⟩
  | 107 => ⟨S_, .i32⟩
  | 108 => ⟨S4x8192, .i32⟩
  | 109 => ⟨S4x8192, .i32⟩
  | 110 => ⟨S4x8192, .i32⟩
  | 111 => ⟨S_, .i32⟩
  | 112 => ⟨S4x8192, .i32⟩
  | 113 => ⟨S4x8192, .i1⟩
  | 114 => ⟨S_, .i32⟩
  | 115 => ⟨S4x8192, .i32⟩
  | 116 => ⟨S4x8192, .i32⟩
  | 117 => ⟨S4x8192, .i32⟩
  | 118 => ⟨S4x8192x1, .i32⟩
  | 119 => ⟨S4x8192x1, .i32⟩
  | 120 => ⟨S4x8192x2, .i32⟩
  | 121 => ⟨S4x8192x21, .f32⟩
  | 122 => ⟨S_, .i32⟩
  | 123 => ⟨S4x8192, .i32⟩
  | 124 => ⟨S4x8192, .i1⟩
  | 125 => ⟨S_, .i32⟩
  | 126 => ⟨S4x8192, .i32⟩
  | 127 => ⟨S4x8192, .i32⟩
  | _ => ⟨S4x112x112x21, .f32⟩

abbrev hbmTy0_7 (i : Nat) : BufTy := match i % 128 with
  | 0 => ⟨S4x8192, .i32⟩
  | 1 => ⟨S_, .i32⟩
  | 2 => ⟨S4x8192, .i32⟩
  | 3 => ⟨S4x8192, .i1⟩
  | 4 => ⟨S_, .i32⟩
  | 5 => ⟨S4x8192, .i32⟩
  | 6 => ⟨S4x8192, .i32⟩
  | 7 => ⟨S4x8192, .i32⟩
  | 8 => ⟨S4x8192x1, .i32⟩
  | 9 => ⟨S4x8192x1, .i32⟩
  | 10 => ⟨S4x8192x2, .i32⟩
  | 11 => ⟨S4x8192x21, .f32⟩
  | 12 => ⟨S_, .f32⟩
  | 13 => ⟨S4x8192x1, .f32⟩
  | 14 => ⟨S4x8192x1, .f32⟩
  | 15 => ⟨S4x8192x21, .f32⟩
  | 16 => ⟨S4x8192x21, .f32⟩
  | 17 => ⟨S_, .f32⟩
  | 18 => ⟨S4x8192x1, .f32⟩
  | 19 => ⟨S4x8192x1, .f32⟩
  | 20 => ⟨S4x8192x21, .f32⟩
  | 21 => ⟨S4x8192x21, .f32⟩
  | 22 => ⟨S4x8192x21, .f32⟩
  | 23 => ⟨S4x8192x21, .f32⟩
  | 24 => ⟨S_, .f32⟩
  | 25 => ⟨S4x8192x1, .f32⟩
  | 26 => ⟨S4x8192x1, .f32⟩
  | 27 => ⟨S4x8192x21, .f32⟩
  | 28 => ⟨S4x8192x21, .f32⟩
  | 29 => ⟨S4x8192x21, .f32⟩
  | 30 => ⟨S_, .f32⟩
  | 31 => ⟨S4x8192x1, .f32⟩
  | 32 => ⟨S4x8192x1, .f32⟩
  | 33 => ⟨S4x8192x21, .f32⟩
  | 34 => ⟨S4x8192x21, .f32⟩
  | 35 => ⟨S4x8192x21, .f32⟩
  | 36 => ⟨S4x8192x21, .f32⟩
  | 37 => ⟨S4x8192x21, .f32⟩
  | 38 => ⟨S4x8192x21, .f32⟩
  | 39 => ⟨S4x8192x21, .f32⟩
  | 40 => ⟨S4x8192x21, .f32⟩
  | 41 => ⟨S4x8192x21, .f32⟩
  | 42 => ⟨S4x8192x21, .f32⟩
  | 43 => ⟨S4x8192x1, .f32⟩
  | 44 => ⟨S4x8192, .f32⟩
  | 45 => ⟨S_, .f32⟩
  | 46 => ⟨S4x8192, .f32⟩
  | 47 => ⟨S4x8192, .f32⟩
  | 48 => ⟨S_, .f32⟩
  | 49 => ⟨S4x8192, .f32⟩
  | 50 => ⟨S4x8192, .f32⟩
  | 51 => ⟨S4x8192x1, .f32⟩
  | 52 => ⟨S4x8192, .f32⟩
  | 53 => ⟨S_, .f32⟩
  | 54 => ⟨S4x8192, .f32⟩
  | 55 => ⟨S4x8192, .f32⟩
  | 56 => ⟨S_, .f32⟩
  | 57 => ⟨S4x8192, .f32⟩
  | 58 => ⟨S4x8192, .f32⟩
  | 59 => ⟨S4x8192, .f32⟩
  | 60 => ⟨S4x8192, .f32⟩
  | 61 => ⟨S4x8192, .f32⟩
  | 62 => ⟨S4x8192x1, .f32⟩
  | 63 => ⟨S4x8192, .f32⟩
  | 64 => ⟨S4x8192x1, .f32⟩
  | 65 => ⟨S_, .i32⟩
  | 66 => ⟨S_, .i32⟩
  | 67 => ⟨S_, .f32⟩
  | 68 => ⟨S4x8192, .f32⟩
  | 69 => ⟨S4x8192, .f32⟩
  | 70 => ⟨S_, .f32⟩
  | 71 => ⟨S4x8192, .f32⟩
  | 72 => ⟨S4x8192, .f32⟩
  | 73 => ⟨S4x8192, .i32⟩
  | 74 => ⟨S_, .f32⟩
  | 75 => ⟨S4x8192, .f32⟩
  | 76 => ⟨S4x8192, .f32⟩
  | 77 => ⟨S_, .i32⟩
  | 78 => ⟨S_, .i32⟩
  | 79 => ⟨S_, .f32⟩
  | 80 => ⟨S4x8192, .f32⟩
  | 81 => ⟨S4x8192, .f32⟩
  | 82 => ⟨S_, .f32⟩
  | 83 => ⟨S4x8192, .f32⟩
  | 84 => ⟨S4x8192, .f32⟩
  | 85 => ⟨S4x8192, .i32⟩
  | 86 => ⟨S_, .i32⟩
  | 87 => ⟨S_, .i32⟩
  | 88 => ⟨S_, .f32⟩
  | 89 => ⟨S4x8192, .f32⟩
  | 90 => ⟨S4x8192, .f32⟩
  | 91 => ⟨S_, .f32⟩
  | 92 => ⟨S4x8192, .f32⟩
  | 93 => ⟨S4x8192, .f32⟩
  | 94 => ⟨S4x8192, .i32⟩
  | 95 => ⟨S_, .f32⟩
  | 96 => ⟨S4x8192, .f32⟩
  | 97 => ⟨S4x8192, .f32⟩
  | 98 => ⟨S_, .i32⟩
  | 99 => ⟨S_, .i32⟩
  | 100 => ⟨S_, .f32⟩
  | 101 => ⟨S4x8192, .f32⟩
  | 102 => ⟨S4x8192, .f32⟩
  | 103 => ⟨S_, .f32⟩
  | 104 => ⟨S4x8192, .f32⟩
  | 105 => ⟨S4x8192, .f32⟩
  | 106 => ⟨S4x8192, .i32⟩
  | 107 => ⟨S_, .i32⟩
  | 108 => ⟨S4x8192, .i32⟩
  | 109 => ⟨S4x8192, .i1⟩
  | 110 => ⟨S_, .i32⟩
  | 111 => ⟨S4x8192, .i32⟩
  | 112 => ⟨S4x8192, .i32⟩
  | 113 => ⟨S4x8192, .i32⟩
  | 114 => ⟨S_, .i32⟩
  | 115 => ⟨S4x8192, .i32⟩
  | 116 => ⟨S4x8192, .i1⟩
  | 117 => ⟨S_, .i32⟩
  | 118 => ⟨S4x8192, .i32⟩
  | 119 => ⟨S4x8192, .i32⟩
  | 120 => ⟨S4x8192, .i32⟩
  | 121 => ⟨S4x8192x1, .i32⟩
  | 122 => ⟨S4x8192x1, .i32⟩
  | 123 => ⟨S4x8192x2, .i32⟩
  | 124 => ⟨S4x8192x256, .f32⟩
  | 125 => ⟨S_, .i32⟩
  | 126 => ⟨S4x8192, .i32⟩
  | 127 => ⟨S4x8192, .i1⟩
  | _ => ⟨S4x112x112x21, .f32⟩

abbrev hbmTy0_8 (i : Nat) : BufTy := match i % 128 with
  | 0 => ⟨S_, .i32⟩
  | 1 => ⟨S4x8192, .i32⟩
  | 2 => ⟨S4x8192, .i32⟩
  | 3 => ⟨S4x8192, .i32⟩
  | 4 => ⟨S_, .i32⟩
  | 5 => ⟨S4x8192, .i32⟩
  | 6 => ⟨S4x8192, .i1⟩
  | 7 => ⟨S_, .i32⟩
  | 8 => ⟨S4x8192, .i32⟩
  | 9 => ⟨S4x8192, .i32⟩
  | 10 => ⟨S4x8192, .i32⟩
  | 11 => ⟨S4x8192x1, .i32⟩
  | 12 => ⟨S4x8192x1, .i32⟩
  | 13 => ⟨S4x8192x2, .i32⟩
  | 14 => ⟨S4x8192x256, .f32⟩
  | 15 => ⟨S_, .i32⟩
  | 16 => ⟨S4x8192, .i32⟩
  | 17 => ⟨S4x8192, .i1⟩
  | 18 => ⟨S_, .i32⟩
  | 19 => ⟨S4x8192, .i32⟩
  | 20 => ⟨S4x8192, .i32⟩
  | 21 => ⟨S4x8192, .i32⟩
  | 22 => ⟨S_, .i32⟩
  | 23 => ⟨S4x8192, .i32⟩
  | 24 => ⟨S4x8192, .i1⟩
  | 25 => ⟨S_, .i32⟩
  | 26 => ⟨S4x8192, .i32⟩
  | 27 => ⟨S4x8192, .i32⟩
  | 28 => ⟨S4x8192, .i32⟩
  | 29 => ⟨S4x8192x1, .i32⟩
  | 30 => ⟨S4x8192x1, .i32⟩
  | 31 => ⟨S4x8192x2, .i32⟩
  | 32 => ⟨S4x8192x256, .f32⟩
  | 33 => ⟨S_, .i32⟩
  | 34 => ⟨S4x8192, .i32⟩
  | 35 => ⟨S4x8192, .i1⟩
  | 36 => ⟨S_, .i32⟩
  | 37 => ⟨S4x8192, .i32⟩
  | 38 => ⟨S4x8192, .i32⟩
  | 39 => ⟨S4x8192, .i32⟩
  | 40 => ⟨S_, .i32⟩
  | 41 => ⟨S4x8192, .i32⟩
  | 42 => ⟨S4x8192, .i1⟩
  | 43 => ⟨S_, .i32⟩
  | 44 => ⟨S4x8192, .i32⟩
  | 45 => ⟨S4x8192, .i32⟩
  | 46 => ⟨S4x8192, .i32⟩
  | 47 => ⟨S4x8192x1, .i32⟩
  | 48 => ⟨S4x8192x1, .i32⟩
  | 49 => ⟨S4x8192x2, .i32⟩
  | 50 => ⟨S4x8192x256, .f32⟩
  | 51 => ⟨S_, .f32⟩
  | 52 => ⟨S4x8192x1, .f32⟩
  | 53 => ⟨S4x8192x1, .f32⟩
  | 54 => ⟨S4x8192x256, .f32⟩
  | 55 => ⟨S4x8192x256, .f32⟩
  | 56 => ⟨S_, .f32⟩
  | 57 => ⟨S4x8192x1, .f32⟩
  | 58 => ⟨S4x8192x1, .f32⟩
  | 59 => ⟨S4x8192x256, .f32⟩
  | 60 => ⟨S4x8192x256, .f32⟩
  | 61 => ⟨S4x8192x256, .f32⟩
  | 62 => ⟨S4x8192x256, .f32⟩
  | 63 => ⟨S_, .f32⟩
  | 64 => ⟨S4x8192x1, .f32⟩
  | 65 => ⟨S4x8192x1, .f32⟩
  | 66 => ⟨S4x8192x256, .f32⟩
  | 67 => ⟨S4x8192x256, .f32⟩
  | 68 => ⟨S4x8192x256, .f32⟩
  | 69 => ⟨S_, .f32⟩
  | 70 => ⟨S4x8192x1, .f32⟩
  | 71 => ⟨S4x8192x1, .f32⟩
  | 72 => ⟨S4x8192x256, .f32⟩
  | 73 => ⟨S4x8192x256, .f32⟩
  | 74 => ⟨S4x8192x256, .f32⟩
  | 75 => ⟨S4x8192x256, .f32⟩
  | 76 => ⟨S4x8192x256, .f32⟩
  | 77 => ⟨S4x8192x256, .f32⟩
  | 78 => ⟨S4x8192x256, .f32⟩
  | 79 => ⟨S4x8192x256, .f32⟩
  | 80 => ⟨S4x8192x256, .f32⟩
  | 81 => ⟨S4x8192x256, .f32⟩
  | 82 => ⟨S4x8192x277, .f32⟩
  | 83 => ⟨S4x8192x256, .f32⟩
  | 84 => ⟨S1x1x256, .f32⟩
  | 85 => ⟨S4x8192x256, .f32⟩
  | 86 => ⟨S4x8192x256, .f32⟩
  | 87 => ⟨S_, .f32⟩
  | 88 => ⟨S4x8192x256, .f32⟩
  | 89 => ⟨S4x8192x256, .f32⟩
  | 90 => ⟨S4x8192x277, .f32⟩
  | 91 => ⟨S4x8192x256, .f32⟩
  | 92 => ⟨S1x1x256, .f32⟩
  | 93 => ⟨S4x8192x256, .f32⟩
  | 94 => ⟨S4x8192x256, .f32⟩
  | 95 => ⟨S_, .f32⟩
  | 96 => ⟨S4x8192x256, .f32⟩
  | 97 => ⟨S4x8192x256, .f32⟩
  | 98 => ⟨S4x8192x277, .f32⟩
  | 99 => ⟨S4x8192x256, .f32⟩
  | 100 => ⟨S1x1x256, .f32⟩
  | 101 => ⟨S4x8192x256, .f32⟩
  | 102 => ⟨S4x8192x256, .f32⟩
  | 103 => ⟨S_, .f32⟩
  | 104 => ⟨S4x8192x256, .f32⟩
  | 105 => ⟨S4x8192x256, .f32⟩
  | 106 => ⟨S4x8192x277, .f32⟩
  | 107 => ⟨S4x8192x21, .f32⟩
  | 108 => ⟨S1x1x21, .f32⟩
  | 109 => ⟨S4x8192x21, .f32⟩
  | 110 => ⟨S4x8192x21, .f32⟩
  | 111 => ⟨S4x200704x21, .f32⟩
  | 112 => ⟨S4, .i32⟩
  | 113 => ⟨S4x1, .i32⟩
  | 114 => ⟨S_, .i32⟩
  | 115 => ⟨S4x1, .i32⟩
  | 116 => ⟨S4x1, .i1⟩
  | 117 => ⟨S_, .i32⟩
  | 118 => ⟨S4x1, .i32⟩
  | 119 => ⟨S4x1, .i32⟩
  | 120 => ⟨S4x1, .i32⟩
  | 121 => ⟨S_, .i32⟩
  | 122 => ⟨S4x8192, .i32⟩
  | 123 => ⟨S4x8192, .i1⟩
  | 124 => ⟨S_, .i32⟩
  | 125 => ⟨S4x8192, .i32⟩
  | 126 => ⟨S4x8192, .i32⟩
  | 127 => ⟨S4x8192, .i32⟩
  | _ => ⟨S4x112x112x21, .f32⟩

abbrev hbmTy0_9 (i : Nat) : BufTy := match i % 128 with
  | 0 => ⟨S4x8192, .i32⟩
  | 1 => ⟨S4x8192x1, .i32⟩
  | 2 => ⟨S4x8192x1, .i32⟩
  | 3 => ⟨S4x8192x2, .i32⟩
  | 4 => ⟨S4x200704x21, .f32⟩
  | 5 => ⟨S4x448x448x21, .f32⟩
  | 6 => ⟨S4x16384x21, .f32⟩
  | 7 => ⟨S4x16384x2, .f32⟩
  | 8 => ⟨S224, .f32⟩
  | 9 => ⟨S_, .f32⟩
  | 10 => ⟨S224, .f32⟩
  | 11 => ⟨S224, .f32⟩
  | 12 => ⟨S_, .f32⟩
  | 13 => ⟨S224, .f32⟩
  | 14 => ⟨S224, .f32⟩
  | 15 => ⟨S_, .f32⟩
  | 16 => ⟨S224, .f32⟩
  | 17 => ⟨S224, .f32⟩
  | 18 => ⟨S1x224, .f32⟩
  | 19 => ⟨S448, .f32⟩
  | 20 => ⟨S448x1, .f32⟩
  | 21 => ⟨S448x224, .f32⟩
  | 22 => ⟨S448x224, .f32⟩
  | 23 => ⟨S448x224, .f32⟩
  | 24 => ⟨S448x224, .f32⟩
  | 25 => ⟨S_, .f32⟩
  | 26 => ⟨S448x224, .f32⟩
  | 27 => ⟨S448x224, .f32⟩
  | 28 => ⟨S_, .f32⟩
  | 29 => ⟨S448x224, .f32⟩
  | 30 => ⟨S448x224, .f32⟩
  | 31 => ⟨S_, .f32⟩
  | 32 => ⟨S448x224, .f32⟩
  | 33 => ⟨S448x224, .f32⟩
  | 34 => ⟨S_, .f32⟩
  | 35 => ⟨S224, .f32⟩
  | 36 => ⟨S1x224, .f32⟩
  | 37 => ⟨S1x224, .f32⟩
  | 38 => ⟨S_, .f32⟩
  | 39 => ⟨S1x224, .f32⟩
  | 40 => ⟨S1x224, .i1⟩
  | 41 => ⟨S_, .f32⟩
  | 42 => ⟨S1x224, .f32⟩
  | 43 => ⟨S1x224, .i1⟩
  | 44 => ⟨S_, .i32⟩
  | 45 => ⟨S_, .f32⟩
  | 46 => ⟨S1x224, .f32⟩
  | 47 => ⟨S1x224, .f32⟩
  | 48 => ⟨S448x224, .f32⟩
  | 49 => ⟨S448x224, .f32⟩
  | 50 => ⟨S_, .i32⟩
  | 51 => ⟨S_, .f32⟩
  | 52 => ⟨S448x224, .i1⟩
  | 53 => ⟨S448x224, .f32⟩
  | 54 => ⟨S448x224, .f32⟩
  | 55 => ⟨S_, .f32⟩
  | 56 => ⟨S224, .f32⟩
  | 57 => ⟨S224, .i1⟩
  | 58 => ⟨S_, .f32⟩
  | 59 => ⟨S224, .f32⟩
  | 60 => ⟨S224, .i1⟩
  | 61 => ⟨S224, .i1⟩
  | 62 => ⟨S_, .i32⟩
  | 63 => ⟨S_, .f32⟩
  | 64 => ⟨S448x224, .i1⟩
  | 65 => ⟨S448x224, .f32⟩
  | 66 => ⟨S448x224, .f32⟩
  | 67 => ⟨S224, .f32⟩
  | 68 => ⟨S_, .f32⟩
  | 69 => ⟨S224, .f32⟩
  | 70 => ⟨S224, .f32⟩
  | 71 => ⟨S_, .f32⟩
  | 72 => ⟨S224, .f32⟩
  | 73 => ⟨S224, .f32⟩
  | 74 => ⟨S_, .f32⟩
  | 75 => ⟨S224, .f32⟩
  | 76 => ⟨S224, .f32⟩
  | 77 => ⟨S1x224, .f32⟩
  | 78 => ⟨S448, .f32⟩
  | 79 => ⟨S448x1, .f32⟩
  | 80 => ⟨S448x224, .f32⟩
  | 81 => ⟨S448x224, .f32⟩
  | 82 => ⟨S448x224, .f32⟩
  | 83 => ⟨S448x224, .f32⟩
  | 84 => ⟨S_, .f32⟩
  | 85 => ⟨S448x224, .f32⟩
  | 86 => ⟨S448x224, .f32⟩
  | 87 => ⟨S_, .f32⟩
  | 88 => ⟨S448x224, .f32⟩
  | 89 => ⟨S448x224, .f32⟩
  | 90 => ⟨S_, .f32⟩
  | 91 => ⟨S448x224, .f32⟩
  | 92 => ⟨S448x224, .f32⟩
  | 93 => ⟨S_, .f32⟩
  | 94 => ⟨S224, .f32⟩
  | 95 => ⟨S1x224, .f32⟩
  | 96 => ⟨S1x224, .f32⟩
  | 97 => ⟨S_, .f32⟩
  | 98 => ⟨S1x224, .f32⟩
  | 99 => ⟨S1x224, .i1⟩
  | 100 => ⟨S_, .f32⟩
  | 101 => ⟨S1x224, .f32⟩
  | 102 => ⟨S1x224, .i1⟩
  | 103 => ⟨S_, .i32⟩
  | 104 => ⟨S_, .f32⟩
  | 105 => ⟨S1x224, .f32⟩
  | 106 => ⟨S1x224, .f32⟩
  | 107 => ⟨S448x224, .f32⟩
  | 108 => ⟨S448x224, .f32⟩
  | 109 => ⟨S_, .i32⟩
  | 110 => ⟨S_, .f32⟩
  | 111 => ⟨S448x224, .i1⟩
  | 112 => ⟨S448x224, .f32⟩
  | 113 => ⟨S448x224, .f32⟩
  | 114 => ⟨S_, .f32⟩
  | 115 => ⟨S224, .f32⟩
  | 116 => ⟨S224, .i1⟩
  | 117 => ⟨S_, .f32⟩
  | 118 => ⟨S224, .f32⟩
  | 119 => ⟨S224, .i1⟩
  | 120 => ⟨S224, .i1⟩
  | 121 => ⟨S_, .i32⟩
  | 122 => ⟨S_, .f32⟩
  | 123 => ⟨S448x224, .i1⟩
  | 124 => ⟨S448x224, .f32⟩
  | 125 => ⟨S448x224, .f32⟩
  | 126 => ⟨S224x4x448x21, .f32⟩
  | 127 => ⟨S224x4x21x224, .f32⟩
  | _ => ⟨S4x112x112x21, .f32⟩

abbrev hbmTy0_10 (i : Nat) : BufTy := match i % 128 with
  | 0 => ⟨S4x224x224x21, .f32⟩
  | 1 => ⟨S_, .f32⟩
  | 2 => ⟨S4x224x224, .f32⟩
  | 3 => ⟨S_, .f32⟩
  | 4 => ⟨S4x224x224, .f32⟩
  | 5 => ⟨S4x224x224, .f32⟩
  | 6 => ⟨S4x224x224x1, .f32⟩
  | 7 => ⟨S4x224x224x21, .f32⟩
  | 8 => ⟨S4x224x224x21, .f32⟩
  | 9 => ⟨S4x224x224x21, .f32⟩
  | 10 => ⟨S_, .f32⟩
  | 11 => ⟨S4x224x224, .f32⟩
  | 12 => ⟨S4x224x224x1, .f32⟩
  | 13 => ⟨S4x224x224x21, .f32⟩
  | 14 => ⟨S4x224x224x21, .f32⟩
  | _ => ⟨S4x112x112x21, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S4x112x112x21, .f32⟩

abbrev bufTy : (tb : Table) → Fin (tcTables nBuf tb) → BufTy
  | .hbm, ⟨i, _⟩ => hbmTy i
  | _, _ => ⟨S4x112x112x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_c : Ref sig .tc := ⟨.hbm, 46, rfl⟩
abbrev main_call0_v0 : Ref sig .tc := ⟨.hbm, 47, rfl⟩
abbrev main_call0_v1 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_8 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v30 : Ref sig .tc := ⟨.hbm, 56, rfl⟩
abbrev main_cst_9 : Ref sig .tc := ⟨.hbm, 57, rfl⟩
abbrev main_v31 : Ref sig .tc := ⟨.hbm, 58, rfl⟩
abbrev main_v32 : Ref sig .tc := ⟨.hbm, 59, rfl⟩
abbrev main_cst_10 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_11 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v36 : Ref sig .tc := ⟨.hbm, 68, rfl⟩
abbrev main_v37 : Ref sig .tc := ⟨.hbm, 69, rfl⟩
abbrev main_cst_12 : Ref sig .tc := ⟨.hbm, 70, rfl⟩
abbrev main_v38 : Ref sig .tc := ⟨.hbm, 71, rfl⟩
abbrev main_v39 : Ref sig .tc := ⟨.hbm, 72, rfl⟩
abbrev main_cst_13 : Ref sig .tc := ⟨.hbm, 73, rfl⟩
abbrev main_v40 : Ref sig .tc := ⟨.hbm, 74, rfl⟩
abbrev main_v41 : Ref sig .tc := ⟨.hbm, 75, rfl⟩
abbrev main_cst_14 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_15 : Ref sig .tc := ⟨.hbm, 86, rfl⟩
abbrev main_v51 : Ref sig .tc := ⟨.hbm, 87, rfl⟩
abbrev main_v52 : Ref sig .tc := ⟨.hbm, 88, rfl⟩
abbrev main_cst_16 : Ref sig .tc := ⟨.hbm, 89, rfl⟩
abbrev main_v53 : Ref sig .tc := ⟨.hbm, 90, rfl⟩
abbrev main_v54 : Ref sig .tc := ⟨.hbm, 91, rfl⟩
abbrev main_cst_17 : Ref sig .tc := ⟨.hbm, 92, rfl⟩
abbrev main_v55 : Ref sig .tc := ⟨.hbm, 93, rfl⟩
abbrev main_v56 : Ref sig .tc := ⟨.hbm, 94, rfl⟩
abbrev main_cst_18 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_19 : Ref sig .tc := ⟨.hbm, 99, rfl⟩
abbrev main_v60 : Ref sig .tc := ⟨.hbm, 100, rfl⟩
abbrev main_v61 : Ref sig .tc := ⟨.hbm, 101, rfl⟩
abbrev main_cst_20 : Ref sig .tc := ⟨.hbm, 102, rfl⟩
abbrev main_v62 : Ref sig .tc := ⟨.hbm, 103, rfl⟩
abbrev main_v63 : Ref sig .tc := ⟨.hbm, 104, rfl⟩
abbrev main_c_21 : Ref sig .tc := ⟨.hbm, 105, rfl⟩
abbrev main_call3_v0 : Ref sig .tc := ⟨.hbm, 106, rfl⟩
abbrev main_call3_v1 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_c_22 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v67 : Ref sig .tc := ⟨.hbm, 115, rfl⟩
abbrev main_cst_23 : Ref sig .tc := ⟨.hbm, 116, rfl⟩
abbrev main_v68 : Ref sig .tc := ⟨.hbm, 117, rfl⟩
abbrev main_v69 : Ref sig .tc := ⟨.hbm, 118, rfl⟩
abbrev main_cst_24 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_c_25 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_values : Ref sig .tc := ⟨.hbm, 131, rfl⟩
abbrev main_indices : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_values_26 : Ref sig .tc := ⟨.hbm, 139, rfl⟩
abbrev main_indices_27 : Ref sig .tc := ⟨.hbm, 140, rfl⟩
abbrev main_c_28 : Ref sig .tc := ⟨.hbm, 141, rfl⟩
abbrev main_call6_v0 : Ref sig .tc := ⟨.hbm, 142, rfl⟩
abbrev main_call6_c : Ref sig .tc := ⟨.hbm, 143, rfl⟩
abbrev main_call6_v1 : Ref sig .tc := ⟨.hbm, 144, rfl⟩
abbrev main_call6_c_0 : Ref sig .tc := ⟨.hbm, 145, rfl⟩
abbrev main_call6_v2 : Ref sig .tc := ⟨.hbm, 146, rfl⟩
abbrev main_call6_v3 : Ref sig .tc := ⟨.hbm, 147, rfl⟩
abbrev main_call6_v4 : Ref sig .tc := ⟨.hbm, 148, rfl⟩
abbrev main_call6_c_1 : Ref sig .tc := ⟨.hbm, 149, rfl⟩
abbrev main_call6_v5 : Ref sig .tc := ⟨.hbm, 150, rfl⟩
abbrev main_call6_v6 : Ref sig .tc := ⟨.hbm, 151, rfl⟩
abbrev main_call6_c_2 : Ref sig .tc := ⟨.hbm, 152, rfl⟩
abbrev main_call6_v7 : Ref sig .tc := ⟨.hbm, 153, rfl⟩
abbrev main_call6_v8 : Ref sig .tc := ⟨.hbm, 154, rfl⟩
abbrev main_call6_c_3 : Ref sig .tc := ⟨.hbm, 155, rfl⟩
abbrev main_call6_v9 : Ref sig .tc := ⟨.hbm, 156, rfl⟩
abbrev main_call6_v10 : Ref sig .tc := ⟨.hbm, 157, rfl⟩
abbrev main_call6_v11 : Ref sig .tc := ⟨.hbm, 158, rfl⟩
abbrev main_call6_v12 : Ref sig .tc := ⟨.hbm, 159, rfl⟩
abbrev main_call6_v13 : Ref sig .tc := ⟨.hbm, 160, rfl⟩
abbrev main_call6_v14 : Ref sig .tc := ⟨.hbm, 161, rfl⟩
abbrev main_v83 : Ref sig .tc := ⟨.hbm, 162, rfl⟩
abbrev main_v84 : Ref sig .tc := ⟨.hbm, 163, rfl⟩
abbrev main_c_29 : Ref sig .tc := ⟨.hbm, 164, rfl⟩
abbrev main_call7_v0 : Ref sig .tc := ⟨.hbm, 165, rfl⟩
abbrev main_call7_v1 : Ref sig .tc := ⟨.hbm, 166, rfl⟩
abbrev main_call7_v2 : Ref sig .tc := ⟨.hbm, 167, rfl⟩
abbrev main_call7_v3 : Ref sig .tc := ⟨.hbm, 168, rfl⟩
abbrev main_call7_v4 : Ref sig .tc := ⟨.hbm, 169, rfl⟩
abbrev main_call7_v5 : Ref sig .tc := ⟨.hbm, 170, rfl⟩
abbrev main_call7_v6 : Ref sig .tc := ⟨.hbm, 171, rfl⟩
abbrev main_call7_v7 : Ref sig .tc := ⟨.hbm, 172, rfl⟩
abbrev main_call7_v8 : Ref sig .tc := ⟨.hbm, 173, rfl⟩
abbrev main_call7_c : Ref sig .tc := ⟨.hbm, 174, rfl⟩
abbrev main_call7_v9 : Ref sig .tc := ⟨.hbm, 175, rfl⟩
abbrev main_call7_v10 : Ref sig .tc := ⟨.hbm, 176, rfl⟩
abbrev main_call7_v11 : Ref sig .tc := ⟨.hbm, 177, rfl⟩
abbrev main_call7_c_0 : Ref sig .tc := ⟨.hbm, 178, rfl⟩
abbrev main_call7_v12 : Ref sig .tc := ⟨.hbm, 179, rfl⟩
abbrev main_call7_v13 : Ref sig .tc := ⟨.hbm, 180, rfl⟩
abbrev main_v85 : Ref sig .tc := ⟨.hbm, 181, rfl⟩
abbrev main_v86 : Ref sig .tc := ⟨.hbm, 182, rfl⟩
abbrev main_cst_30 : Ref sig .tc := ⟨.hbm, 183, rfl⟩
abbrev main_v87 : Ref sig .tc := ⟨.hbm, 184, rfl⟩
abbrev main_v88 : Ref sig .tc := ⟨.hbm, 185, rfl⟩
abbrev main_cst_31 : Ref sig .tc := ⟨.hbm, 186, rfl⟩
abbrev main_v89 : Ref sig .tc := ⟨.hbm, 187, rfl⟩
abbrev main_v90 : Ref sig .tc := ⟨.hbm, 188, rfl⟩
abbrev main_cst_32 : Ref sig .tc := ⟨.hbm, 189, rfl⟩
abbrev main_v91 : Ref sig .tc := ⟨.hbm, 190, rfl⟩
abbrev main_v92 : Ref sig .tc := ⟨.hbm, 191, rfl⟩
abbrev main_cst_33 : Ref sig .tc := ⟨.hbm, 192, rfl⟩
abbrev main_v93 : Ref sig .tc := ⟨.hbm, 193, rfl⟩
abbrev main_v94 : Ref sig .tc := ⟨.hbm, 194, rfl⟩
abbrev main_v95 : Ref sig .tc := ⟨.hbm, 195, rfl⟩
abbrev main_v96 : Ref sig .tc := ⟨.hbm, 196, rfl⟩
abbrev main_v97 : Ref sig .tc := ⟨.hbm, 197, rfl⟩
abbrev main_v98 : Ref sig .tc := ⟨.hbm, 198, rfl⟩
abbrev main_v99 : Ref sig .tc := ⟨.hbm, 199, rfl⟩
abbrev main_cst_34 : Ref sig .tc := ⟨.hbm, 200, rfl⟩
abbrev main_v100 : Ref sig .tc := ⟨.hbm, 201, rfl⟩
abbrev main_v101 : Ref sig .tc := ⟨.hbm, 202, rfl⟩
abbrev main_cst_35 : Ref sig .tc := ⟨.hbm, 203, rfl⟩
abbrev main_v102 : Ref sig .tc := ⟨.hbm, 204, rfl⟩
abbrev main_v103 : Ref sig .tc := ⟨.hbm, 205, rfl⟩
abbrev main_v104 : Ref sig .tc := ⟨.hbm, 206, rfl⟩
abbrev main_v105 : Ref sig .tc := ⟨.hbm, 207, rfl⟩
abbrev main_cst_36 : Ref sig .tc := ⟨.hbm, 208, rfl⟩
abbrev main_v106 : Ref sig .tc := ⟨.hbm, 209, rfl⟩
abbrev main_v107 : Ref sig .tc := ⟨.hbm, 210, rfl⟩
abbrev main_cst_37 : Ref sig .tc := ⟨.hbm, 211, rfl⟩
abbrev main_v108 : Ref sig .tc := ⟨.hbm, 212, rfl⟩
abbrev main_v109 : Ref sig .tc := ⟨.hbm, 213, rfl⟩
abbrev main_v110 : Ref sig .tc := ⟨.hbm, 214, rfl⟩
abbrev main_v111 : Ref sig .tc := ⟨.hbm, 215, rfl⟩
abbrev main_v112 : Ref sig .tc := ⟨.hbm, 216, rfl⟩
abbrev main_v113 : Ref sig .tc := ⟨.hbm, 217, rfl⟩
abbrev main_v114 : Ref sig .tc := ⟨.hbm, 218, rfl⟩
abbrev main_v115 : Ref sig .tc := ⟨.hbm, 219, rfl⟩
abbrev main_c_38 : Ref sig .tc := ⟨.hbm, 220, rfl⟩
abbrev main_c_39 : Ref sig .tc := ⟨.hbm, 221, rfl⟩
abbrev main_call8_v0 : Ref sig .tc := ⟨.hbm, 222, rfl⟩
abbrev main_call8_v1 : Ref sig .tc := ⟨.hbm, 223, rfl⟩
abbrev main_call8_v2 : Ref sig .tc := ⟨.hbm, 224, rfl⟩
abbrev main_call8_v3 : Ref sig .tc := ⟨.hbm, 225, rfl⟩
abbrev main_call8_v4 : Ref sig .tc := ⟨.hbm, 226, rfl⟩
abbrev main_v116 : Ref sig .tc := ⟨.hbm, 227, rfl⟩
abbrev main_v117 : Ref sig .tc := ⟨.hbm, 228, rfl⟩
abbrev main_cst_40 : Ref sig .tc := ⟨.hbm, 229, rfl⟩
abbrev main_v118 : Ref sig .tc := ⟨.hbm, 230, rfl⟩
abbrev main_v119 : Ref sig .tc := ⟨.hbm, 231, rfl⟩
abbrev main_c_41 : Ref sig .tc := ⟨.hbm, 232, rfl⟩
abbrev main_c_42 : Ref sig .tc := ⟨.hbm, 233, rfl⟩
abbrev main_call9_v0 : Ref sig .tc := ⟨.hbm, 234, rfl⟩
abbrev main_call9_v1 : Ref sig .tc := ⟨.hbm, 235, rfl⟩
abbrev main_call9_v2 : Ref sig .tc := ⟨.hbm, 236, rfl⟩
abbrev main_call9_v3 : Ref sig .tc := ⟨.hbm, 237, rfl⟩
abbrev main_call9_v4 : Ref sig .tc := ⟨.hbm, 238, rfl⟩
abbrev main_v120 : Ref sig .tc := ⟨.hbm, 239, rfl⟩
abbrev main_v121 : Ref sig .tc := ⟨.hbm, 240, rfl⟩
abbrev main_c_43 : Ref sig .tc := ⟨.hbm, 241, rfl⟩
abbrev main_c_44 : Ref sig .tc := ⟨.hbm, 242, rfl⟩
abbrev main_call10_v0 : Ref sig .tc := ⟨.hbm, 243, rfl⟩
abbrev main_call10_v1 : Ref sig .tc := ⟨.hbm, 244, rfl⟩
abbrev main_call10_v2 : Ref sig .tc := ⟨.hbm, 245, rfl⟩
abbrev main_call10_v3 : Ref sig .tc := ⟨.hbm, 246, rfl⟩
abbrev main_call10_v4 : Ref sig .tc := ⟨.hbm, 247, rfl⟩
abbrev main_v122 : Ref sig .tc := ⟨.hbm, 248, rfl⟩
abbrev main_v123 : Ref sig .tc := ⟨.hbm, 249, rfl⟩
abbrev main_cst_45 : Ref sig .tc := ⟨.hbm, 250, rfl⟩
abbrev main_v124 : Ref sig .tc := ⟨.hbm, 251, rfl⟩
abbrev main_v125 : Ref sig .tc := ⟨.hbm, 252, rfl⟩
abbrev main_c_46 : Ref sig .tc := ⟨.hbm, 253, rfl⟩
abbrev main_c_47 : Ref sig .tc := ⟨.hbm, 254, rfl⟩
abbrev main_call11_v0 : Ref sig .tc := ⟨.hbm, 255, rfl⟩
abbrev main_call11_v1 : Ref sig .tc := ⟨.hbm, 256, rfl⟩
abbrev main_call11_v2 : Ref sig .tc := ⟨.hbm, 257, rfl⟩
abbrev main_call11_v3 : Ref sig .tc := ⟨.hbm, 258, rfl⟩
abbrev main_call11_v4 : Ref sig .tc := ⟨.hbm, 259, rfl⟩
abbrev main_v126 : Ref sig .tc := ⟨.hbm, 260, rfl⟩
abbrev main_v127 : Ref sig .tc := ⟨.hbm, 261, rfl⟩
abbrev main_c_48 : Ref sig .tc := ⟨.hbm, 262, rfl⟩
abbrev main_v128 : Ref sig .tc := ⟨.hbm, 263, rfl⟩
abbrev main_v129 : Ref sig .tc := ⟨.hbm, 264, rfl⟩
abbrev main_c_49 : Ref sig .tc := ⟨.hbm, 265, rfl⟩
abbrev main_v130 : Ref sig .tc := ⟨.hbm, 266, rfl⟩
abbrev main_v131 : Ref sig .tc := ⟨.hbm, 267, rfl⟩
abbrev main_v132 : Ref sig .tc := ⟨.hbm, 268, rfl⟩
abbrev main_c_50 : Ref sig .tc := ⟨.hbm, 269, rfl⟩
abbrev main_v133 : Ref sig .tc := ⟨.hbm, 270, rfl⟩
abbrev main_v134 : Ref sig .tc := ⟨.hbm, 271, rfl⟩
abbrev main_c_51 : Ref sig .tc := ⟨.hbm, 272, rfl⟩
abbrev main_v135 : Ref sig .tc := ⟨.hbm, 273, rfl⟩
abbrev main_v136 : Ref sig .tc := ⟨.hbm, 274, rfl⟩
abbrev main_v137 : Ref sig .tc := ⟨.hbm, 275, rfl⟩
abbrev main_v138 : Ref sig .tc := ⟨.hbm, 276, rfl⟩
abbrev main_v139 : Ref sig .tc := ⟨.hbm, 277, rfl⟩
abbrev main_v140 : Ref sig .tc := ⟨.hbm, 278, rfl⟩
abbrev main_v141 : Ref sig .tc := ⟨.hbm, 279, rfl⟩
abbrev main_c_52 : Ref sig .tc := ⟨.hbm, 280, rfl⟩
abbrev main_v142 : Ref sig .tc := ⟨.hbm, 281, rfl⟩
abbrev main_v143 : Ref sig .tc := ⟨.hbm, 282, rfl⟩
abbrev main_c_53 : Ref sig .tc := ⟨.hbm, 283, rfl⟩
abbrev main_v144 : Ref sig .tc := ⟨.hbm, 284, rfl⟩
abbrev main_v145 : Ref sig .tc := ⟨.hbm, 285, rfl⟩
abbrev main_v146 : Ref sig .tc := ⟨.hbm, 286, rfl⟩
abbrev main_c_54 : Ref sig .tc := ⟨.hbm, 287, rfl⟩
abbrev main_v147 : Ref sig .tc := ⟨.hbm, 288, rfl⟩
abbrev main_v148 : Ref sig .tc := ⟨.hbm, 289, rfl⟩
abbrev main_c_55 : Ref sig .tc := ⟨.hbm, 290, rfl⟩
abbrev main_v149 : Ref sig .tc := ⟨.hbm, 291, rfl⟩
abbrev main_v150 : Ref sig .tc := ⟨.hbm, 292, rfl⟩
abbrev main_v151 : Ref sig .tc := ⟨.hbm, 293, rfl⟩
abbrev main_v152 : Ref sig .tc := ⟨.hbm, 294, rfl⟩
abbrev main_v153 : Ref sig .tc := ⟨.hbm, 295, rfl⟩
abbrev main_v154 : Ref sig .tc := ⟨.hbm, 296, rfl⟩
abbrev main_v155 : Ref sig .tc := ⟨.hbm, 297, rfl⟩
abbrev main_c_56 : Ref sig .tc := ⟨.hbm, 298, rfl⟩
abbrev main_v156 : Ref sig .tc := ⟨.hbm, 299, rfl⟩
abbrev main_v157 : Ref sig .tc := ⟨.hbm, 300, rfl⟩
abbrev main_c_57 : Ref sig .tc := ⟨.hbm, 301, rfl⟩
abbrev main_v158 : Ref sig .tc := ⟨.hbm, 302, rfl⟩
abbrev main_v159 : Ref sig .tc := ⟨.hbm, 303, rfl⟩
abbrev main_v160 : Ref sig .tc := ⟨.hbm, 304, rfl⟩
abbrev main_c_58 : Ref sig .tc := ⟨.hbm, 305, rfl⟩
abbrev main_v161 : Ref sig .tc := ⟨.hbm, 306, rfl⟩
abbrev main_v162 : Ref sig .tc := ⟨.hbm, 307, rfl⟩
abbrev main_c_59 : Ref sig .tc := ⟨.hbm, 308, rfl⟩
abbrev main_v163 : Ref sig .tc := ⟨.hbm, 309, rfl⟩
abbrev main_v164 : Ref sig .tc := ⟨.hbm, 310, rfl⟩
abbrev main_v165 : Ref sig .tc := ⟨.hbm, 311, rfl⟩
abbrev main_v166 : Ref sig .tc := ⟨.hbm, 312, rfl⟩
abbrev main_v167 : Ref sig .tc := ⟨.hbm, 313, rfl⟩
abbrev main_v168 : Ref sig .tc := ⟨.hbm, 314, rfl⟩
abbrev main_v169 : Ref sig .tc := ⟨.hbm, 315, rfl⟩
abbrev main_c_60 : Ref sig .tc := ⟨.hbm, 316, rfl⟩
abbrev main_v170 : Ref sig .tc := ⟨.hbm, 317, rfl⟩
abbrev main_v171 : Ref sig .tc := ⟨.hbm, 318, rfl⟩
abbrev main_c_61 : Ref sig .tc := ⟨.hbm, 319, rfl⟩
abbrev main_v172 : Ref sig .tc := ⟨.hbm, 320, rfl⟩
abbrev main_v173 : Ref sig .tc := ⟨.hbm, 321, rfl⟩
abbrev main_v174 : Ref sig .tc := ⟨.hbm, 322, rfl⟩
abbrev main_c_62 : Ref sig .tc := ⟨.hbm, 323, rfl⟩
abbrev main_v175 : Ref sig .tc := ⟨.hbm, 324, rfl⟩
abbrev main_v176 : Ref sig .tc := ⟨.hbm, 325, rfl⟩
abbrev main_c_63 : Ref sig .tc := ⟨.hbm, 326, rfl⟩
abbrev main_v177 : Ref sig .tc := ⟨.hbm, 327, rfl⟩
abbrev main_v178 : Ref sig .tc := ⟨.hbm, 328, rfl⟩
abbrev main_v179 : Ref sig .tc := ⟨.hbm, 329, rfl⟩
abbrev main_v180 : Ref sig .tc := ⟨.hbm, 330, rfl⟩
abbrev main_v181 : Ref sig .tc := ⟨.hbm, 331, rfl⟩
abbrev main_v182 : Ref sig .tc := ⟨.hbm, 332, rfl⟩
abbrev main_v183 : Ref sig .tc := ⟨.hbm, 333, rfl⟩
abbrev main_cst_64 : Ref sig .tc := ⟨.hbm, 334, rfl⟩
abbrev main_v184 : Ref sig .tc := ⟨.hbm, 335, rfl⟩
abbrev main_v185 : Ref sig .tc := ⟨.hbm, 336, rfl⟩
abbrev main_v186 : Ref sig .tc := ⟨.hbm, 337, rfl⟩
abbrev main_v187 : Ref sig .tc := ⟨.hbm, 338, rfl⟩
abbrev main_cst_65 : Ref sig .tc := ⟨.hbm, 339, rfl⟩
abbrev main_v188 : Ref sig .tc := ⟨.hbm, 340, rfl⟩
abbrev main_v189 : Ref sig .tc := ⟨.hbm, 341, rfl⟩
abbrev main_v190 : Ref sig .tc := ⟨.hbm, 342, rfl⟩
abbrev main_v191 : Ref sig .tc := ⟨.hbm, 343, rfl⟩
abbrev main_v192 : Ref sig .tc := ⟨.hbm, 344, rfl⟩
abbrev main_v193 : Ref sig .tc := ⟨.hbm, 345, rfl⟩
abbrev main_cst_66 : Ref sig .tc := ⟨.hbm, 346, rfl⟩
abbrev main_v194 : Ref sig .tc := ⟨.hbm, 347, rfl⟩
abbrev main_v195 : Ref sig .tc := ⟨.hbm, 348, rfl⟩
abbrev main_v196 : Ref sig .tc := ⟨.hbm, 349, rfl⟩
abbrev main_v197 : Ref sig .tc := ⟨.hbm, 350, rfl⟩
abbrev main_v198 : Ref sig .tc := ⟨.hbm, 351, rfl⟩
abbrev main_cst_67 : Ref sig .tc := ⟨.hbm, 352, rfl⟩
abbrev main_v199 : Ref sig .tc := ⟨.hbm, 353, rfl⟩
abbrev main_v200 : Ref sig .tc := ⟨.hbm, 354, rfl⟩
abbrev main_v201 : Ref sig .tc := ⟨.hbm, 355, rfl⟩
abbrev main_v202 : Ref sig .tc := ⟨.hbm, 356, rfl⟩
abbrev main_v203 : Ref sig .tc := ⟨.hbm, 357, rfl⟩
abbrev main_v204 : Ref sig .tc := ⟨.hbm, 358, rfl⟩
abbrev main_v205 : Ref sig .tc := ⟨.hbm, 359, rfl⟩
abbrev main_v206 : Ref sig .tc := ⟨.hbm, 360, rfl⟩
abbrev main_v207 : Ref sig .tc := ⟨.hbm, 361, rfl⟩
abbrev main_v208 : Ref sig .tc := ⟨.hbm, 362, rfl⟩
abbrev main_v209 : Ref sig .tc := ⟨.hbm, 363, rfl⟩
abbrev main_v210 : Ref sig .tc := ⟨.hbm, 364, rfl⟩
abbrev main_v211 : Ref sig .tc := ⟨.hbm, 365, rfl⟩
abbrev main_v212 : Ref sig .tc := ⟨.hbm, 366, rfl⟩
abbrev main_cst_68 : Ref sig .tc := ⟨.hbm, 367, rfl⟩
abbrev main_v213 : Ref sig .tc := ⟨.hbm, 368, rfl⟩
abbrev main_v214 : Ref sig .tc := ⟨.hbm, 369, rfl⟩
abbrev main_cst_69 : Ref sig .tc := ⟨.hbm, 370, rfl⟩
abbrev main_v215 : Ref sig .tc := ⟨.hbm, 371, rfl⟩
abbrev main_v216 : Ref sig .tc := ⟨.hbm, 372, rfl⟩
abbrev main_v217 : Ref sig .tc := ⟨.hbm, 373, rfl⟩
abbrev main_v218 : Ref sig .tc := ⟨.hbm, 374, rfl⟩
abbrev main_cst_70 : Ref sig .tc := ⟨.hbm, 375, rfl⟩
abbrev main_v219 : Ref sig .tc := ⟨.hbm, 376, rfl⟩
abbrev main_v220 : Ref sig .tc := ⟨.hbm, 377, rfl⟩
abbrev main_cst_71 : Ref sig .tc := ⟨.hbm, 378, rfl⟩
abbrev main_v221 : Ref sig .tc := ⟨.hbm, 379, rfl⟩
abbrev main_v222 : Ref sig .tc := ⟨.hbm, 380, rfl⟩
abbrev main_v223 : Ref sig .tc := ⟨.hbm, 381, rfl⟩
abbrev main_v224 : Ref sig .tc := ⟨.hbm, 382, rfl⟩
abbrev main_v225 : Ref sig .tc := ⟨.hbm, 383, rfl⟩
abbrev main_v226 : Ref sig .tc := ⟨.hbm, 384, rfl⟩
abbrev main_v227 : Ref sig .tc := ⟨.hbm, 385, rfl⟩
abbrev main_v228 : Ref sig .tc := ⟨.hbm, 386, rfl⟩
abbrev main_c_72 : Ref sig .tc := ⟨.hbm, 387, rfl⟩
abbrev main_c_73 : Ref sig .tc := ⟨.hbm, 388, rfl⟩
abbrev main_call12_v0 : Ref sig .tc := ⟨.hbm, 389, rfl⟩
abbrev main_call12_v1 : Ref sig .tc := ⟨.hbm, 390, rfl⟩
abbrev main_call12_v2 : Ref sig .tc := ⟨.hbm, 391, rfl⟩
abbrev main_call12_v3 : Ref sig .tc := ⟨.hbm, 392, rfl⟩
abbrev main_call12_v4 : Ref sig .tc := ⟨.hbm, 393, rfl⟩
abbrev main_v229 : Ref sig .tc := ⟨.hbm, 394, rfl⟩
abbrev main_v230 : Ref sig .tc := ⟨.hbm, 395, rfl⟩
abbrev main_cst_74 : Ref sig .tc := ⟨.hbm, 396, rfl⟩
abbrev main_v231 : Ref sig .tc := ⟨.hbm, 397, rfl⟩
abbrev main_v232 : Ref sig .tc := ⟨.hbm, 398, rfl⟩
abbrev main_c_75 : Ref sig .tc := ⟨.hbm, 399, rfl⟩
abbrev main_c_76 : Ref sig .tc := ⟨.hbm, 400, rfl⟩
abbrev main_call13_v0 : Ref sig .tc := ⟨.hbm, 401, rfl⟩
abbrev main_call13_v1 : Ref sig .tc := ⟨.hbm, 402, rfl⟩
abbrev main_call13_v2 : Ref sig .tc := ⟨.hbm, 403, rfl⟩
abbrev main_call13_v3 : Ref sig .tc := ⟨.hbm, 404, rfl⟩
abbrev main_call13_v4 : Ref sig .tc := ⟨.hbm, 405, rfl⟩
abbrev main_v233 : Ref sig .tc := ⟨.hbm, 406, rfl⟩
abbrev main_v234 : Ref sig .tc := ⟨.hbm, 407, rfl⟩
abbrev main_c_77 : Ref sig .tc := ⟨.hbm, 408, rfl⟩
abbrev main_c_78 : Ref sig .tc := ⟨.hbm, 409, rfl⟩
abbrev main_call14_v0 : Ref sig .tc := ⟨.hbm, 410, rfl⟩
abbrev main_call14_v1 : Ref sig .tc := ⟨.hbm, 411, rfl⟩
abbrev main_call14_v2 : Ref sig .tc := ⟨.hbm, 412, rfl⟩
abbrev main_call14_v3 : Ref sig .tc := ⟨.hbm, 413, rfl⟩
abbrev main_call14_v4 : Ref sig .tc := ⟨.hbm, 414, rfl⟩
abbrev main_v235 : Ref sig .tc := ⟨.hbm, 415, rfl⟩
abbrev main_v236 : Ref sig .tc := ⟨.hbm, 416, rfl⟩
abbrev main_cst_79 : Ref sig .tc := ⟨.hbm, 417, rfl⟩
abbrev main_v237 : Ref sig .tc := ⟨.hbm, 418, rfl⟩
abbrev main_v238 : Ref sig .tc := ⟨.hbm, 419, rfl⟩
abbrev main_c_80 : Ref sig .tc := ⟨.hbm, 420, rfl⟩
abbrev main_c_81 : Ref sig .tc := ⟨.hbm, 421, rfl⟩
abbrev main_call15_v0 : Ref sig .tc := ⟨.hbm, 422, rfl⟩
abbrev main_call15_v1 : Ref sig .tc := ⟨.hbm, 423, rfl⟩
abbrev main_call15_v2 : Ref sig .tc := ⟨.hbm, 424, rfl⟩
abbrev main_call15_v3 : Ref sig .tc := ⟨.hbm, 425, rfl⟩
abbrev main_call15_v4 : Ref sig .tc := ⟨.hbm, 426, rfl⟩
abbrev main_v239 : Ref sig .tc := ⟨.hbm, 427, rfl⟩
abbrev main_v240 : Ref sig .tc := ⟨.hbm, 428, rfl⟩
abbrev main_c_82 : Ref sig .tc := ⟨.hbm, 429, rfl⟩
abbrev main_v241 : Ref sig .tc := ⟨.hbm, 430, rfl⟩
abbrev main_v242 : Ref sig .tc := ⟨.hbm, 431, rfl⟩
abbrev main_c_83 : Ref sig .tc := ⟨.hbm, 432, rfl⟩
abbrev main_v243 : Ref sig .tc := ⟨.hbm, 433, rfl⟩
abbrev main_v244 : Ref sig .tc := ⟨.hbm, 434, rfl⟩
abbrev main_v245 : Ref sig .tc := ⟨.hbm, 435, rfl⟩
abbrev main_c_84 : Ref sig .tc := ⟨.hbm, 436, rfl⟩
abbrev main_v246 : Ref sig .tc := ⟨.hbm, 437, rfl⟩
abbrev main_v247 : Ref sig .tc := ⟨.hbm, 438, rfl⟩
abbrev main_c_85 : Ref sig .tc := ⟨.hbm, 439, rfl⟩
abbrev main_v248 : Ref sig .tc := ⟨.hbm, 440, rfl⟩
abbrev main_v249 : Ref sig .tc := ⟨.hbm, 441, rfl⟩
abbrev main_v250 : Ref sig .tc := ⟨.hbm, 442, rfl⟩
abbrev main_v251 : Ref sig .tc := ⟨.hbm, 443, rfl⟩
abbrev main_v252 : Ref sig .tc := ⟨.hbm, 444, rfl⟩
abbrev main_v253 : Ref sig .tc := ⟨.hbm, 445, rfl⟩
abbrev main_v254 : Ref sig .tc := ⟨.hbm, 446, rfl⟩
abbrev main_c_86 : Ref sig .tc := ⟨.hbm, 447, rfl⟩
abbrev main_v255 : Ref sig .tc := ⟨.hbm, 448, rfl⟩
abbrev main_v256 : Ref sig .tc := ⟨.hbm, 449, rfl⟩
abbrev main_c_87 : Ref sig .tc := ⟨.hbm, 450, rfl⟩
abbrev main_v257 : Ref sig .tc := ⟨.hbm, 451, rfl⟩
abbrev main_v258 : Ref sig .tc := ⟨.hbm, 452, rfl⟩
abbrev main_v259 : Ref sig .tc := ⟨.hbm, 453, rfl⟩
abbrev main_c_88 : Ref sig .tc := ⟨.hbm, 454, rfl⟩
abbrev main_v260 : Ref sig .tc := ⟨.hbm, 455, rfl⟩
abbrev main_v261 : Ref sig .tc := ⟨.hbm, 456, rfl⟩
abbrev main_c_89 : Ref sig .tc := ⟨.hbm, 457, rfl⟩
abbrev main_v262 : Ref sig .tc := ⟨.hbm, 458, rfl⟩
abbrev main_v263 : Ref sig .tc := ⟨.hbm, 459, rfl⟩
abbrev main_v264 : Ref sig .tc := ⟨.hbm, 460, rfl⟩
abbrev main_v265 : Ref sig .tc := ⟨.hbm, 461, rfl⟩
abbrev main_v266 : Ref sig .tc := ⟨.hbm, 462, rfl⟩
abbrev main_v267 : Ref sig .tc := ⟨.hbm, 463, rfl⟩
abbrev main_v268 : Ref sig .tc := ⟨.hbm, 464, rfl⟩
abbrev main_c_90 : Ref sig .tc := ⟨.hbm, 465, rfl⟩
abbrev main_v269 : Ref sig .tc := ⟨.hbm, 466, rfl⟩
abbrev main_v270 : Ref sig .tc := ⟨.hbm, 467, rfl⟩
abbrev main_c_91 : Ref sig .tc := ⟨.hbm, 468, rfl⟩
abbrev main_v271 : Ref sig .tc := ⟨.hbm, 469, rfl⟩
abbrev main_v272 : Ref sig .tc := ⟨.hbm, 470, rfl⟩
abbrev main_v273 : Ref sig .tc := ⟨.hbm, 471, rfl⟩
abbrev main_c_92 : Ref sig .tc := ⟨.hbm, 472, rfl⟩
abbrev main_v274 : Ref sig .tc := ⟨.hbm, 473, rfl⟩
abbrev main_v275 : Ref sig .tc := ⟨.hbm, 474, rfl⟩
abbrev main_c_93 : Ref sig .tc := ⟨.hbm, 475, rfl⟩
abbrev main_v276 : Ref sig .tc := ⟨.hbm, 476, rfl⟩
abbrev main_v277 : Ref sig .tc := ⟨.hbm, 477, rfl⟩
abbrev main_v278 : Ref sig .tc := ⟨.hbm, 478, rfl⟩
abbrev main_v279 : Ref sig .tc := ⟨.hbm, 479, rfl⟩
abbrev main_v280 : Ref sig .tc := ⟨.hbm, 480, rfl⟩
abbrev main_v281 : Ref sig .tc := ⟨.hbm, 481, rfl⟩
abbrev main_v282 : Ref sig .tc := ⟨.hbm, 482, rfl⟩
abbrev main_c_94 : Ref sig .tc := ⟨.hbm, 483, rfl⟩
abbrev main_v283 : Ref sig .tc := ⟨.hbm, 484, rfl⟩
abbrev main_v284 : Ref sig .tc := ⟨.hbm, 485, rfl⟩
abbrev main_c_95 : Ref sig .tc := ⟨.hbm, 486, rfl⟩
abbrev main_v285 : Ref sig .tc := ⟨.hbm, 487, rfl⟩
abbrev main_v286 : Ref sig .tc := ⟨.hbm, 488, rfl⟩
abbrev main_v287 : Ref sig .tc := ⟨.hbm, 489, rfl⟩
abbrev main_c_96 : Ref sig .tc := ⟨.hbm, 490, rfl⟩
abbrev main_v288 : Ref sig .tc := ⟨.hbm, 491, rfl⟩
abbrev main_v289 : Ref sig .tc := ⟨.hbm, 492, rfl⟩
abbrev main_c_97 : Ref sig .tc := ⟨.hbm, 493, rfl⟩
abbrev main_v290 : Ref sig .tc := ⟨.hbm, 494, rfl⟩
abbrev main_v291 : Ref sig .tc := ⟨.hbm, 495, rfl⟩
abbrev main_v292 : Ref sig .tc := ⟨.hbm, 496, rfl⟩
abbrev main_v293 : Ref sig .tc := ⟨.hbm, 497, rfl⟩
abbrev main_v294 : Ref sig .tc := ⟨.hbm, 498, rfl⟩
abbrev main_v295 : Ref sig .tc := ⟨.hbm, 499, rfl⟩
abbrev main_v296 : Ref sig .tc := ⟨.hbm, 500, rfl⟩
abbrev main_cst_98 : Ref sig .tc := ⟨.hbm, 501, rfl⟩
abbrev main_v297 : Ref sig .tc := ⟨.hbm, 502, rfl⟩
abbrev main_v298 : Ref sig .tc := ⟨.hbm, 503, rfl⟩
abbrev main_v299 : Ref sig .tc := ⟨.hbm, 504, rfl⟩
abbrev main_v300 : Ref sig .tc := ⟨.hbm, 505, rfl⟩
abbrev main_cst_99 : Ref sig .tc := ⟨.hbm, 506, rfl⟩
abbrev main_v301 : Ref sig .tc := ⟨.hbm, 507, rfl⟩
abbrev main_v302 : Ref sig .tc := ⟨.hbm, 508, rfl⟩
abbrev main_v303 : Ref sig .tc := ⟨.hbm, 509, rfl⟩
abbrev main_v304 : Ref sig .tc := ⟨.hbm, 510, rfl⟩
abbrev main_v305 : Ref sig .tc := ⟨.hbm, 511, rfl⟩
abbrev main_v306 : Ref sig .tc := ⟨.hbm, 512, rfl⟩
abbrev main_cst_100 : Ref sig .tc := ⟨.hbm, 513, rfl⟩
abbrev main_v307 : Ref sig .tc := ⟨.hbm, 514, rfl⟩
abbrev main_v308 : Ref sig .tc := ⟨.hbm, 515, rfl⟩
abbrev main_v309 : Ref sig .tc := ⟨.hbm, 516, rfl⟩
abbrev main_v310 : Ref sig .tc := ⟨.hbm, 517, rfl⟩
abbrev main_v311 : Ref sig .tc := ⟨.hbm, 518, rfl⟩
abbrev main_cst_101 : Ref sig .tc := ⟨.hbm, 519, rfl⟩
abbrev main_v312 : Ref sig .tc := ⟨.hbm, 520, rfl⟩
abbrev main_v313 : Ref sig .tc := ⟨.hbm, 521, rfl⟩
abbrev main_v314 : Ref sig .tc := ⟨.hbm, 522, rfl⟩
abbrev main_v315 : Ref sig .tc := ⟨.hbm, 523, rfl⟩
abbrev main_v316 : Ref sig .tc := ⟨.hbm, 524, rfl⟩
abbrev main_v317 : Ref sig .tc := ⟨.hbm, 525, rfl⟩
abbrev main_v318 : Ref sig .tc := ⟨.hbm, 526, rfl⟩
abbrev main_v319 : Ref sig .tc := ⟨.hbm, 527, rfl⟩
abbrev main_v320 : Ref sig .tc := ⟨.hbm, 528, rfl⟩
abbrev main_v321 : Ref sig .tc := ⟨.hbm, 529, rfl⟩
abbrev main_v322 : Ref sig .tc := ⟨.hbm, 530, rfl⟩
abbrev main_v323 : Ref sig .tc := ⟨.hbm, 531, rfl⟩
abbrev main_v324 : Ref sig .tc := ⟨.hbm, 532, rfl⟩
abbrev main_v325 : Ref sig .tc := ⟨.hbm, 533, rfl⟩
abbrev main_v326 : Ref sig .tc := ⟨.hbm, 534, rfl⟩
abbrev main_v327 : Ref sig .tc := ⟨.hbm, 535, rfl⟩
abbrev main_v328 : Ref sig .tc := ⟨.hbm, 536, rfl⟩
abbrev main_call16_cst : Ref sig .tc := ⟨.hbm, 537, rfl⟩
abbrev main_call16_v0 : Ref sig .tc := ⟨.hbm, 538, rfl⟩
abbrev main_v329 : Ref sig .tc := ⟨.hbm, 539, rfl⟩
abbrev main_v330 : Ref sig .tc := ⟨.hbm, 540, rfl⟩
abbrev main_v331 : Ref sig .tc := ⟨.hbm, 541, rfl⟩
abbrev main_v332 : Ref sig .tc := ⟨.hbm, 542, rfl⟩
abbrev main_v333 : Ref sig .tc := ⟨.hbm, 543, rfl⟩
abbrev main_v334 : Ref sig .tc := ⟨.hbm, 544, rfl⟩
abbrev main_call17_cst : Ref sig .tc := ⟨.hbm, 545, rfl⟩
abbrev main_call17_v0 : Ref sig .tc := ⟨.hbm, 546, rfl⟩
abbrev main_v335 : Ref sig .tc := ⟨.hbm, 547, rfl⟩
abbrev main_v336 : Ref sig .tc := ⟨.hbm, 548, rfl⟩
abbrev main_v337 : Ref sig .tc := ⟨.hbm, 549, rfl⟩
abbrev main_v338 : Ref sig .tc := ⟨.hbm, 550, rfl⟩
abbrev main_v339 : Ref sig .tc := ⟨.hbm, 551, rfl⟩
abbrev main_v340 : Ref sig .tc := ⟨.hbm, 552, rfl⟩
abbrev main_call18_cst : Ref sig .tc := ⟨.hbm, 553, rfl⟩
abbrev main_call18_v0 : Ref sig .tc := ⟨.hbm, 554, rfl⟩
abbrev main_v341 : Ref sig .tc := ⟨.hbm, 555, rfl⟩
abbrev main_v342 : Ref sig .tc := ⟨.hbm, 556, rfl⟩
abbrev main_v343 : Ref sig .tc := ⟨.hbm, 557, rfl⟩
abbrev main_v344 : Ref sig .tc := ⟨.hbm, 558, rfl⟩
abbrev main_v345 : Ref sig .tc := ⟨.hbm, 559, rfl⟩
abbrev main_v346 : Ref sig .tc := ⟨.hbm, 560, rfl⟩
abbrev main_v347 : Ref sig .tc := ⟨.hbm, 561, rfl⟩
abbrev main_v348 : Ref sig .tc := ⟨.hbm, 562, rfl⟩
abbrev main_v349 : Ref sig .tc := ⟨.hbm, 563, rfl⟩
abbrev main_c_102 : Ref sig .tc := ⟨.hbm, 564, rfl⟩
abbrev main_v350 : Ref sig .tc := ⟨.hbm, 565, rfl⟩
abbrev main_v351 : Ref sig .tc := ⟨.hbm, 566, rfl⟩
abbrev main_c_103 : Ref sig .tc := ⟨.hbm, 567, rfl⟩
abbrev main_v352 : Ref sig .tc := ⟨.hbm, 568, rfl⟩
abbrev main_v353 : Ref sig .tc := ⟨.hbm, 569, rfl⟩
abbrev main_v354 : Ref sig .tc := ⟨.hbm, 570, rfl⟩
abbrev main_c_104 : Ref sig .tc := ⟨.hbm, 571, rfl⟩
abbrev main_v355 : Ref sig .tc := ⟨.hbm, 572, rfl⟩
abbrev main_v356 : Ref sig .tc := ⟨.hbm, 573, rfl⟩
abbrev main_c_105 : Ref sig .tc := ⟨.hbm, 574, rfl⟩
abbrev main_v357 : Ref sig .tc := ⟨.hbm, 575, rfl⟩
abbrev main_v358 : Ref sig .tc := ⟨.hbm, 576, rfl⟩
abbrev main_v359 : Ref sig .tc := ⟨.hbm, 577, rfl⟩
abbrev main_v360 : Ref sig .tc := ⟨.hbm, 578, rfl⟩
abbrev main_v361 : Ref sig .tc := ⟨.hbm, 579, rfl⟩
abbrev main_v362 : Ref sig .tc := ⟨.hbm, 580, rfl⟩
abbrev main_v363 : Ref sig .tc := ⟨.hbm, 581, rfl⟩
abbrev main_v364 : Ref sig .tc := ⟨.hbm, 582, rfl⟩
abbrev main_v365 : Ref sig .tc := ⟨.hbm, 583, rfl⟩
abbrev main_v366 : Ref sig .tc := ⟨.hbm, 584, rfl⟩
abbrev main_cst_106 : Ref sig .tc := ⟨.hbm, 585, rfl⟩
abbrev main_v367 : Ref sig .tc := ⟨.hbm, 586, rfl⟩
abbrev main_v368 : Ref sig .tc := ⟨.hbm, 587, rfl⟩
abbrev main_cst_107 : Ref sig .tc := ⟨.hbm, 588, rfl⟩
abbrev main_v369 : Ref sig .tc := ⟨.hbm, 589, rfl⟩
abbrev main_v370 : Ref sig .tc := ⟨.hbm, 590, rfl⟩
abbrev main_cst_108 : Ref sig .tc := ⟨.hbm, 591, rfl⟩
abbrev main_v371 : Ref sig .tc := ⟨.hbm, 592, rfl⟩
abbrev main_v372 : Ref sig .tc := ⟨.hbm, 593, rfl⟩
abbrev main_v373 : Ref sig .tc := ⟨.hbm, 594, rfl⟩
abbrev main_v374 : Ref sig .tc := ⟨.hbm, 595, rfl⟩
abbrev main_v375 : Ref sig .tc := ⟨.hbm, 596, rfl⟩
abbrev main_v376 : Ref sig .tc := ⟨.hbm, 597, rfl⟩
abbrev main_v377 : Ref sig .tc := ⟨.hbm, 598, rfl⟩
abbrev main_v378 : Ref sig .tc := ⟨.hbm, 599, rfl⟩
abbrev main_v379 : Ref sig .tc := ⟨.hbm, 600, rfl⟩
abbrev main_cst_109 : Ref sig .tc := ⟨.hbm, 601, rfl⟩
abbrev main_v380 : Ref sig .tc := ⟨.hbm, 602, rfl⟩
abbrev main_v381 : Ref sig .tc := ⟨.hbm, 603, rfl⟩
abbrev main_cst_110 : Ref sig .tc := ⟨.hbm, 604, rfl⟩
abbrev main_v382 : Ref sig .tc := ⟨.hbm, 605, rfl⟩
abbrev main_v383 : Ref sig .tc := ⟨.hbm, 606, rfl⟩
abbrev main_cst_111 : Ref sig .tc := ⟨.hbm, 607, rfl⟩
abbrev main_v384 : Ref sig .tc := ⟨.hbm, 608, rfl⟩
abbrev main_v385 : Ref sig .tc := ⟨.hbm, 609, rfl⟩
abbrev main_cst_112 : Ref sig .tc := ⟨.hbm, 610, rfl⟩
abbrev main_v386 : Ref sig .tc := ⟨.hbm, 611, rfl⟩
abbrev main_v387 : Ref sig .tc := ⟨.hbm, 612, rfl⟩
abbrev main_v388 : Ref sig .tc := ⟨.hbm, 613, rfl⟩
abbrev main_cst_113 : Ref sig .tc := ⟨.hbm, 614, rfl⟩
abbrev main_v389 : Ref sig .tc := ⟨.hbm, 615, rfl⟩
abbrev main_v390 : Ref sig .tc := ⟨.hbm, 616, rfl⟩
abbrev main_cst_114 : Ref sig .tc := ⟨.hbm, 617, rfl⟩
abbrev main_v391 : Ref sig .tc := ⟨.hbm, 618, rfl⟩
abbrev main_v392 : Ref sig .tc := ⟨.hbm, 619, rfl⟩
abbrev main_c_115 : Ref sig .tc := ⟨.hbm, 620, rfl⟩
abbrev main_call19_v0 : Ref sig .tc := ⟨.hbm, 621, rfl⟩
abbrev main_call19_v1 : Ref sig .tc := ⟨.hbm, 622, rfl⟩
abbrev main_v393 : Ref sig .tc := ⟨.hbm, 623, rfl⟩
abbrev main_v394 : Ref sig .tc := ⟨.hbm, 624, rfl⟩
abbrev main_v395 : Ref sig .tc := ⟨.hbm, 625, rfl⟩
abbrev main_c_116 : Ref sig .tc := ⟨.hbm, 626, rfl⟩
abbrev main_call20_v0 : Ref sig .tc := ⟨.hbm, 627, rfl⟩
abbrev main_call20_v1 : Ref sig .tc := ⟨.hbm, 628, rfl⟩
abbrev main_call20_v2 : Ref sig .tc := ⟨.hbm, 629, rfl⟩
abbrev main_v396 : Ref sig .tc := ⟨.hbm, 630, rfl⟩
abbrev main_cst_117 : Ref sig .tc := ⟨.hbm, 631, rfl⟩
abbrev main_v397 : Ref sig .tc := ⟨.hbm, 632, rfl⟩
abbrev main_v398 : Ref sig .tc := ⟨.hbm, 633, rfl⟩
abbrev main_cst_118 : Ref sig .tc := ⟨.hbm, 634, rfl⟩
abbrev main_v399 : Ref sig .tc := ⟨.hbm, 635, rfl⟩
abbrev main_v400 : Ref sig .tc := ⟨.hbm, 636, rfl⟩
abbrev main_v401 : Ref sig .tc := ⟨.hbm, 637, rfl⟩
abbrev main_c_119 : Ref sig .tc := ⟨.hbm, 638, rfl⟩
abbrev main_call21_v0 : Ref sig .tc := ⟨.hbm, 639, rfl⟩
abbrev main_call21_v1 : Ref sig .tc := ⟨.hbm, 640, rfl⟩
abbrev main_call21_v2 : Ref sig .tc := ⟨.hbm, 641, rfl⟩
abbrev main_v402 : Ref sig .tc := ⟨.hbm, 642, rfl⟩
abbrev main_v403 : Ref sig .tc := ⟨.hbm, 643, rfl⟩
abbrev main_cst_120 : Ref sig .tc := ⟨.hbm, 644, rfl⟩
abbrev main_v404 : Ref sig .tc := ⟨.hbm, 645, rfl⟩
abbrev main_v405 : Ref sig .tc := ⟨.hbm, 646, rfl⟩
abbrev main_cst_121 : Ref sig .tc := ⟨.hbm, 647, rfl⟩
abbrev main_v406 : Ref sig .tc := ⟨.hbm, 648, rfl⟩
abbrev main_v407 : Ref sig .tc := ⟨.hbm, 649, rfl⟩
abbrev main_cst_122 : Ref sig .tc := ⟨.hbm, 650, rfl⟩
abbrev main_v408 : Ref sig .tc := ⟨.hbm, 651, rfl⟩
abbrev main_v409 : Ref sig .tc := ⟨.hbm, 652, rfl⟩
abbrev main_v410 : Ref sig .tc := ⟨.hbm, 653, rfl⟩
abbrev main_v411 : Ref sig .tc := ⟨.hbm, 654, rfl⟩
abbrev main_v412 : Ref sig .tc := ⟨.hbm, 655, rfl⟩
abbrev main_v413 : Ref sig .tc := ⟨.hbm, 656, rfl⟩
abbrev main_v414 : Ref sig .tc := ⟨.hbm, 657, rfl⟩
abbrev main_v415 : Ref sig .tc := ⟨.hbm, 658, rfl⟩
abbrev main_v416 : Ref sig .tc := ⟨.hbm, 659, rfl⟩
abbrev main_cst_123 : Ref sig .tc := ⟨.hbm, 660, rfl⟩
abbrev main_v417 : Ref sig .tc := ⟨.hbm, 661, rfl⟩
abbrev main_v418 : Ref sig .tc := ⟨.hbm, 662, rfl⟩
abbrev main_cst_124 : Ref sig .tc := ⟨.hbm, 663, rfl⟩
abbrev main_v419 : Ref sig .tc := ⟨.hbm, 664, rfl⟩
abbrev main_v420 : Ref sig .tc := ⟨.hbm, 665, rfl⟩
abbrev main_cst_125 : Ref sig .tc := ⟨.hbm, 666, rfl⟩
abbrev main_v421 : Ref sig .tc := ⟨.hbm, 667, rfl⟩
abbrev main_v422 : Ref sig .tc := ⟨.hbm, 668, rfl⟩
abbrev main_cst_126 : Ref sig .tc := ⟨.hbm, 669, rfl⟩
abbrev main_v423 : Ref sig .tc := ⟨.hbm, 670, rfl⟩
abbrev main_v424 : Ref sig .tc := ⟨.hbm, 671, rfl⟩
abbrev main_v425 : Ref sig .tc := ⟨.hbm, 672, rfl⟩
abbrev main_cst_127 : Ref sig .tc := ⟨.hbm, 673, rfl⟩
abbrev main_v426 : Ref sig .tc := ⟨.hbm, 674, rfl⟩
abbrev main_v427 : Ref sig .tc := ⟨.hbm, 675, rfl⟩
abbrev main_cst_128 : Ref sig .tc := ⟨.hbm, 676, rfl⟩
abbrev main_v428 : Ref sig .tc := ⟨.hbm, 677, rfl⟩
abbrev main_v429 : Ref sig .tc := ⟨.hbm, 678, rfl⟩
abbrev main_c_129 : Ref sig .tc := ⟨.hbm, 679, rfl⟩
abbrev main_call22_v0 : Ref sig .tc := ⟨.hbm, 680, rfl⟩
abbrev main_call22_v1 : Ref sig .tc := ⟨.hbm, 681, rfl⟩
abbrev main_v430 : Ref sig .tc := ⟨.hbm, 682, rfl⟩
abbrev main_v431 : Ref sig .tc := ⟨.hbm, 683, rfl⟩
abbrev main_v432 : Ref sig .tc := ⟨.hbm, 684, rfl⟩
abbrev main_c_130 : Ref sig .tc := ⟨.hbm, 685, rfl⟩
abbrev main_call23_v0 : Ref sig .tc := ⟨.hbm, 686, rfl⟩
abbrev main_call23_v1 : Ref sig .tc := ⟨.hbm, 687, rfl⟩
abbrev main_call23_v2 : Ref sig .tc := ⟨.hbm, 688, rfl⟩
abbrev main_v433 : Ref sig .tc := ⟨.hbm, 689, rfl⟩
abbrev main_cst_131 : Ref sig .tc := ⟨.hbm, 690, rfl⟩
abbrev main_v434 : Ref sig .tc := ⟨.hbm, 691, rfl⟩
abbrev main_v435 : Ref sig .tc := ⟨.hbm, 692, rfl⟩
abbrev main_cst_132 : Ref sig .tc := ⟨.hbm, 693, rfl⟩
abbrev main_v436 : Ref sig .tc := ⟨.hbm, 694, rfl⟩
abbrev main_v437 : Ref sig .tc := ⟨.hbm, 695, rfl⟩
abbrev main_v438 : Ref sig .tc := ⟨.hbm, 696, rfl⟩
abbrev main_c_133 : Ref sig .tc := ⟨.hbm, 697, rfl⟩
abbrev main_call24_v0 : Ref sig .tc := ⟨.hbm, 698, rfl⟩
abbrev main_call24_v1 : Ref sig .tc := ⟨.hbm, 699, rfl⟩
abbrev main_call24_v2 : Ref sig .tc := ⟨.hbm, 700, rfl⟩
abbrev main_v439 : Ref sig .tc := ⟨.hbm, 701, rfl⟩
abbrev main_v440 : Ref sig .tc := ⟨.hbm, 702, rfl⟩
abbrev main_v441 : Ref sig .tc := ⟨.hbm, 703, rfl⟩
abbrev main_v442 : Ref sig .tc := ⟨.hbm, 704, rfl⟩
abbrev main_values_134 : Ref sig .tc := ⟨.hbm, 705, rfl⟩
abbrev main_indices_135 : Ref sig .tc := ⟨.hbm, 706, rfl⟩
abbrev main_v443 : Ref sig .tc := ⟨.hbm, 707, rfl⟩
abbrev main_v444 : Ref sig .tc := ⟨.hbm, 708, rfl⟩
abbrev main_v445 : Ref sig .tc := ⟨.hbm, 709, rfl⟩
abbrev main_v446 : Ref sig .tc := ⟨.hbm, 710, rfl⟩
abbrev main_v447 : Ref sig .tc := ⟨.hbm, 711, rfl⟩
abbrev main_v448 : Ref sig .tc := ⟨.hbm, 712, rfl⟩
abbrev main_values_136 : Ref sig .tc := ⟨.hbm, 713, rfl⟩
abbrev main_indices_137 : Ref sig .tc := ⟨.hbm, 714, rfl⟩
abbrev main_c_138 : Ref sig .tc := ⟨.hbm, 715, rfl⟩
abbrev main_call25_v0 : Ref sig .tc := ⟨.hbm, 716, rfl⟩
abbrev main_call25_c : Ref sig .tc := ⟨.hbm, 717, rfl⟩
abbrev main_call25_v1 : Ref sig .tc := ⟨.hbm, 718, rfl⟩
abbrev main_call25_c_0 : Ref sig .tc := ⟨.hbm, 719, rfl⟩
abbrev main_call25_v2 : Ref sig .tc := ⟨.hbm, 720, rfl⟩
abbrev main_call25_v3 : Ref sig .tc := ⟨.hbm, 721, rfl⟩
abbrev main_call25_v4 : Ref sig .tc := ⟨.hbm, 722, rfl⟩
abbrev main_call25_c_1 : Ref sig .tc := ⟨.hbm, 723, rfl⟩
abbrev main_call25_v5 : Ref sig .tc := ⟨.hbm, 724, rfl⟩
abbrev main_call25_v6 : Ref sig .tc := ⟨.hbm, 725, rfl⟩
abbrev main_call25_c_2 : Ref sig .tc := ⟨.hbm, 726, rfl⟩
abbrev main_call25_v7 : Ref sig .tc := ⟨.hbm, 727, rfl⟩
abbrev main_call25_v8 : Ref sig .tc := ⟨.hbm, 728, rfl⟩
abbrev main_call25_c_3 : Ref sig .tc := ⟨.hbm, 729, rfl⟩
abbrev main_call25_v9 : Ref sig .tc := ⟨.hbm, 730, rfl⟩
abbrev main_call25_v10 : Ref sig .tc := ⟨.hbm, 731, rfl⟩
abbrev main_call25_v11 : Ref sig .tc := ⟨.hbm, 732, rfl⟩
abbrev main_call25_v12 : Ref sig .tc := ⟨.hbm, 733, rfl⟩
abbrev main_call25_v13 : Ref sig .tc := ⟨.hbm, 734, rfl⟩
abbrev main_call25_v14 : Ref sig .tc := ⟨.hbm, 735, rfl⟩
abbrev main_v449 : Ref sig .tc := ⟨.hbm, 736, rfl⟩
abbrev main_v450 : Ref sig .tc := ⟨.hbm, 737, rfl⟩
abbrev main_c_139 : Ref sig .tc := ⟨.hbm, 738, rfl⟩
abbrev main_call26_v0 : Ref sig .tc := ⟨.hbm, 739, rfl⟩
abbrev main_call26_v1 : Ref sig .tc := ⟨.hbm, 740, rfl⟩
abbrev main_call26_v2 : Ref sig .tc := ⟨.hbm, 741, rfl⟩
abbrev main_call26_v3 : Ref sig .tc := ⟨.hbm, 742, rfl⟩
abbrev main_call26_v4 : Ref sig .tc := ⟨.hbm, 743, rfl⟩
abbrev main_call26_v5 : Ref sig .tc := ⟨.hbm, 744, rfl⟩
abbrev main_call26_v6 : Ref sig .tc := ⟨.hbm, 745, rfl⟩
abbrev main_call26_v7 : Ref sig .tc := ⟨.hbm, 746, rfl⟩
abbrev main_call26_v8 : Ref sig .tc := ⟨.hbm, 747, rfl⟩
abbrev main_call26_c : Ref sig .tc := ⟨.hbm, 748, rfl⟩
abbrev main_call26_v9 : Ref sig .tc := ⟨.hbm, 749, rfl⟩
abbrev main_call26_v10 : Ref sig .tc := ⟨.hbm, 750, rfl⟩
abbrev main_call26_v11 : Ref sig .tc := ⟨.hbm, 751, rfl⟩
abbrev main_call26_c_0 : Ref sig .tc := ⟨.hbm, 752, rfl⟩
abbrev main_call26_v12 : Ref sig .tc := ⟨.hbm, 753, rfl⟩
abbrev main_call26_v13 : Ref sig .tc := ⟨.hbm, 754, rfl⟩
abbrev main_v451 : Ref sig .tc := ⟨.hbm, 755, rfl⟩
abbrev main_v452 : Ref sig .tc := ⟨.hbm, 756, rfl⟩
abbrev main_cst_140 : Ref sig .tc := ⟨.hbm, 757, rfl⟩
abbrev main_v453 : Ref sig .tc := ⟨.hbm, 758, rfl⟩
abbrev main_v454 : Ref sig .tc := ⟨.hbm, 759, rfl⟩
abbrev main_cst_141 : Ref sig .tc := ⟨.hbm, 760, rfl⟩
abbrev main_v455 : Ref sig .tc := ⟨.hbm, 761, rfl⟩
abbrev main_v456 : Ref sig .tc := ⟨.hbm, 762, rfl⟩
abbrev main_cst_142 : Ref sig .tc := ⟨.hbm, 763, rfl⟩
abbrev main_v457 : Ref sig .tc := ⟨.hbm, 764, rfl⟩
abbrev main_v458 : Ref sig .tc := ⟨.hbm, 765, rfl⟩
abbrev main_cst_143 : Ref sig .tc := ⟨.hbm, 766, rfl⟩
abbrev main_v459 : Ref sig .tc := ⟨.hbm, 767, rfl⟩
abbrev main_v460 : Ref sig .tc := ⟨.hbm, 768, rfl⟩
abbrev main_v461 : Ref sig .tc := ⟨.hbm, 769, rfl⟩
abbrev main_v462 : Ref sig .tc := ⟨.hbm, 770, rfl⟩
abbrev main_v463 : Ref sig .tc := ⟨.hbm, 771, rfl⟩
abbrev main_v464 : Ref sig .tc := ⟨.hbm, 772, rfl⟩
abbrev main_v465 : Ref sig .tc := ⟨.hbm, 773, rfl⟩
abbrev main_cst_144 : Ref sig .tc := ⟨.hbm, 774, rfl⟩
abbrev main_v466 : Ref sig .tc := ⟨.hbm, 775, rfl⟩
abbrev main_v467 : Ref sig .tc := ⟨.hbm, 776, rfl⟩
abbrev main_cst_145 : Ref sig .tc := ⟨.hbm, 777, rfl⟩
abbrev main_v468 : Ref sig .tc := ⟨.hbm, 778, rfl⟩
abbrev main_v469 : Ref sig .tc := ⟨.hbm, 779, rfl⟩
abbrev main_v470 : Ref sig .tc := ⟨.hbm, 780, rfl⟩
abbrev main_v471 : Ref sig .tc := ⟨.hbm, 781, rfl⟩
abbrev main_cst_146 : Ref sig .tc := ⟨.hbm, 782, rfl⟩
abbrev main_v472 : Ref sig .tc := ⟨.hbm, 783, rfl⟩
abbrev main_v473 : Ref sig .tc := ⟨.hbm, 784, rfl⟩
abbrev main_cst_147 : Ref sig .tc := ⟨.hbm, 785, rfl⟩
abbrev main_v474 : Ref sig .tc := ⟨.hbm, 786, rfl⟩
abbrev main_v475 : Ref sig .tc := ⟨.hbm, 787, rfl⟩
abbrev main_v476 : Ref sig .tc := ⟨.hbm, 788, rfl⟩
abbrev main_v477 : Ref sig .tc := ⟨.hbm, 789, rfl⟩
abbrev main_v478 : Ref sig .tc := ⟨.hbm, 790, rfl⟩
abbrev main_v479 : Ref sig .tc := ⟨.hbm, 791, rfl⟩
abbrev main_v480 : Ref sig .tc := ⟨.hbm, 792, rfl⟩
abbrev main_v481 : Ref sig .tc := ⟨.hbm, 793, rfl⟩
abbrev main_c_148 : Ref sig .tc := ⟨.hbm, 794, rfl⟩
abbrev main_c_149 : Ref sig .tc := ⟨.hbm, 795, rfl⟩
abbrev main_call27_v0 : Ref sig .tc := ⟨.hbm, 796, rfl⟩
abbrev main_call27_v1 : Ref sig .tc := ⟨.hbm, 797, rfl⟩
abbrev main_call27_v2 : Ref sig .tc := ⟨.hbm, 798, rfl⟩
abbrev main_call27_v3 : Ref sig .tc := ⟨.hbm, 799, rfl⟩
abbrev main_call27_v4 : Ref sig .tc := ⟨.hbm, 800, rfl⟩
abbrev main_v482 : Ref sig .tc := ⟨.hbm, 801, rfl⟩
abbrev main_v483 : Ref sig .tc := ⟨.hbm, 802, rfl⟩
abbrev main_cst_150 : Ref sig .tc := ⟨.hbm, 803, rfl⟩
abbrev main_v484 : Ref sig .tc := ⟨.hbm, 804, rfl⟩
abbrev main_v485 : Ref sig .tc := ⟨.hbm, 805, rfl⟩
abbrev main_c_151 : Ref sig .tc := ⟨.hbm, 806, rfl⟩
abbrev main_c_152 : Ref sig .tc := ⟨.hbm, 807, rfl⟩
abbrev main_call28_v0 : Ref sig .tc := ⟨.hbm, 808, rfl⟩
abbrev main_call28_v1 : Ref sig .tc := ⟨.hbm, 809, rfl⟩
abbrev main_call28_v2 : Ref sig .tc := ⟨.hbm, 810, rfl⟩
abbrev main_call28_v3 : Ref sig .tc := ⟨.hbm, 811, rfl⟩
abbrev main_call28_v4 : Ref sig .tc := ⟨.hbm, 812, rfl⟩
abbrev main_v486 : Ref sig .tc := ⟨.hbm, 813, rfl⟩
abbrev main_v487 : Ref sig .tc := ⟨.hbm, 814, rfl⟩
abbrev main_c_153 : Ref sig .tc := ⟨.hbm, 815, rfl⟩
abbrev main_c_154 : Ref sig .tc := ⟨.hbm, 816, rfl⟩
abbrev main_call29_v0 : Ref sig .tc := ⟨.hbm, 817, rfl⟩
abbrev main_call29_v1 : Ref sig .tc := ⟨.hbm, 818, rfl⟩
abbrev main_call29_v2 : Ref sig .tc := ⟨.hbm, 819, rfl⟩
abbrev main_call29_v3 : Ref sig .tc := ⟨.hbm, 820, rfl⟩
abbrev main_call29_v4 : Ref sig .tc := ⟨.hbm, 821, rfl⟩
abbrev main_v488 : Ref sig .tc := ⟨.hbm, 822, rfl⟩
abbrev main_v489 : Ref sig .tc := ⟨.hbm, 823, rfl⟩
abbrev main_cst_155 : Ref sig .tc := ⟨.hbm, 824, rfl⟩
abbrev main_v490 : Ref sig .tc := ⟨.hbm, 825, rfl⟩
abbrev main_v491 : Ref sig .tc := ⟨.hbm, 826, rfl⟩
abbrev main_c_156 : Ref sig .tc := ⟨.hbm, 827, rfl⟩
abbrev main_c_157 : Ref sig .tc := ⟨.hbm, 828, rfl⟩
abbrev main_call30_v0 : Ref sig .tc := ⟨.hbm, 829, rfl⟩
abbrev main_call30_v1 : Ref sig .tc := ⟨.hbm, 830, rfl⟩
abbrev main_call30_v2 : Ref sig .tc := ⟨.hbm, 831, rfl⟩
abbrev main_call30_v3 : Ref sig .tc := ⟨.hbm, 832, rfl⟩
abbrev main_call30_v4 : Ref sig .tc := ⟨.hbm, 833, rfl⟩
abbrev main_v492 : Ref sig .tc := ⟨.hbm, 834, rfl⟩
abbrev main_v493 : Ref sig .tc := ⟨.hbm, 835, rfl⟩
abbrev main_c_158 : Ref sig .tc := ⟨.hbm, 836, rfl⟩
abbrev main_v494 : Ref sig .tc := ⟨.hbm, 837, rfl⟩
abbrev main_v495 : Ref sig .tc := ⟨.hbm, 838, rfl⟩
abbrev main_c_159 : Ref sig .tc := ⟨.hbm, 839, rfl⟩
abbrev main_v496 : Ref sig .tc := ⟨.hbm, 840, rfl⟩
abbrev main_v497 : Ref sig .tc := ⟨.hbm, 841, rfl⟩
abbrev main_v498 : Ref sig .tc := ⟨.hbm, 842, rfl⟩
abbrev main_c_160 : Ref sig .tc := ⟨.hbm, 843, rfl⟩
abbrev main_v499 : Ref sig .tc := ⟨.hbm, 844, rfl⟩
abbrev main_v500 : Ref sig .tc := ⟨.hbm, 845, rfl⟩
abbrev main_c_161 : Ref sig .tc := ⟨.hbm, 846, rfl⟩
abbrev main_v501 : Ref sig .tc := ⟨.hbm, 847, rfl⟩
abbrev main_v502 : Ref sig .tc := ⟨.hbm, 848, rfl⟩
abbrev main_v503 : Ref sig .tc := ⟨.hbm, 849, rfl⟩
abbrev main_v504 : Ref sig .tc := ⟨.hbm, 850, rfl⟩
abbrev main_v505 : Ref sig .tc := ⟨.hbm, 851, rfl⟩
abbrev main_v506 : Ref sig .tc := ⟨.hbm, 852, rfl⟩
abbrev main_v507 : Ref sig .tc := ⟨.hbm, 853, rfl⟩
abbrev main_c_162 : Ref sig .tc := ⟨.hbm, 854, rfl⟩
abbrev main_v508 : Ref sig .tc := ⟨.hbm, 855, rfl⟩
abbrev main_v509 : Ref sig .tc := ⟨.hbm, 856, rfl⟩
abbrev main_c_163 : Ref sig .tc := ⟨.hbm, 857, rfl⟩
abbrev main_v510 : Ref sig .tc := ⟨.hbm, 858, rfl⟩
abbrev main_v511 : Ref sig .tc := ⟨.hbm, 859, rfl⟩
abbrev main_v512 : Ref sig .tc := ⟨.hbm, 860, rfl⟩
abbrev main_c_164 : Ref sig .tc := ⟨.hbm, 861, rfl⟩
abbrev main_v513 : Ref sig .tc := ⟨.hbm, 862, rfl⟩
abbrev main_v514 : Ref sig .tc := ⟨.hbm, 863, rfl⟩
abbrev main_c_165 : Ref sig .tc := ⟨.hbm, 864, rfl⟩
abbrev main_v515 : Ref sig .tc := ⟨.hbm, 865, rfl⟩
abbrev main_v516 : Ref sig .tc := ⟨.hbm, 866, rfl⟩
abbrev main_v517 : Ref sig .tc := ⟨.hbm, 867, rfl⟩
abbrev main_v518 : Ref sig .tc := ⟨.hbm, 868, rfl⟩
abbrev main_v519 : Ref sig .tc := ⟨.hbm, 869, rfl⟩
abbrev main_v520 : Ref sig .tc := ⟨.hbm, 870, rfl⟩
abbrev main_v521 : Ref sig .tc := ⟨.hbm, 871, rfl⟩
abbrev main_c_166 : Ref sig .tc := ⟨.hbm, 872, rfl⟩
abbrev main_v522 : Ref sig .tc := ⟨.hbm, 873, rfl⟩
abbrev main_v523 : Ref sig .tc := ⟨.hbm, 874, rfl⟩
abbrev main_c_167 : Ref sig .tc := ⟨.hbm, 875, rfl⟩
abbrev main_v524 : Ref sig .tc := ⟨.hbm, 876, rfl⟩
abbrev main_v525 : Ref sig .tc := ⟨.hbm, 877, rfl⟩
abbrev main_v526 : Ref sig .tc := ⟨.hbm, 878, rfl⟩
abbrev main_c_168 : Ref sig .tc := ⟨.hbm, 879, rfl⟩
abbrev main_v527 : Ref sig .tc := ⟨.hbm, 880, rfl⟩
abbrev main_v528 : Ref sig .tc := ⟨.hbm, 881, rfl⟩
abbrev main_c_169 : Ref sig .tc := ⟨.hbm, 882, rfl⟩
abbrev main_v529 : Ref sig .tc := ⟨.hbm, 883, rfl⟩
abbrev main_v530 : Ref sig .tc := ⟨.hbm, 884, rfl⟩
abbrev main_v531 : Ref sig .tc := ⟨.hbm, 885, rfl⟩
abbrev main_v532 : Ref sig .tc := ⟨.hbm, 886, rfl⟩
abbrev main_v533 : Ref sig .tc := ⟨.hbm, 887, rfl⟩
abbrev main_v534 : Ref sig .tc := ⟨.hbm, 888, rfl⟩
abbrev main_v535 : Ref sig .tc := ⟨.hbm, 889, rfl⟩
abbrev main_c_170 : Ref sig .tc := ⟨.hbm, 890, rfl⟩
abbrev main_v536 : Ref sig .tc := ⟨.hbm, 891, rfl⟩
abbrev main_v537 : Ref sig .tc := ⟨.hbm, 892, rfl⟩
abbrev main_c_171 : Ref sig .tc := ⟨.hbm, 893, rfl⟩
abbrev main_v538 : Ref sig .tc := ⟨.hbm, 894, rfl⟩
abbrev main_v539 : Ref sig .tc := ⟨.hbm, 895, rfl⟩
abbrev main_v540 : Ref sig .tc := ⟨.hbm, 896, rfl⟩
abbrev main_c_172 : Ref sig .tc := ⟨.hbm, 897, rfl⟩
abbrev main_v541 : Ref sig .tc := ⟨.hbm, 898, rfl⟩
abbrev main_v542 : Ref sig .tc := ⟨.hbm, 899, rfl⟩
abbrev main_c_173 : Ref sig .tc := ⟨.hbm, 900, rfl⟩
abbrev main_v543 : Ref sig .tc := ⟨.hbm, 901, rfl⟩
abbrev main_v544 : Ref sig .tc := ⟨.hbm, 902, rfl⟩
abbrev main_v545 : Ref sig .tc := ⟨.hbm, 903, rfl⟩
abbrev main_v546 : Ref sig .tc := ⟨.hbm, 904, rfl⟩
abbrev main_v547 : Ref sig .tc := ⟨.hbm, 905, rfl⟩
abbrev main_v548 : Ref sig .tc := ⟨.hbm, 906, rfl⟩
abbrev main_v549 : Ref sig .tc := ⟨.hbm, 907, rfl⟩
abbrev main_cst_174 : Ref sig .tc := ⟨.hbm, 908, rfl⟩
abbrev main_v550 : Ref sig .tc := ⟨.hbm, 909, rfl⟩
abbrev main_v551 : Ref sig .tc := ⟨.hbm, 910, rfl⟩
abbrev main_v552 : Ref sig .tc := ⟨.hbm, 911, rfl⟩
abbrev main_v553 : Ref sig .tc := ⟨.hbm, 912, rfl⟩
abbrev main_cst_175 : Ref sig .tc := ⟨.hbm, 913, rfl⟩
abbrev main_v554 : Ref sig .tc := ⟨.hbm, 914, rfl⟩
abbrev main_v555 : Ref sig .tc := ⟨.hbm, 915, rfl⟩
abbrev main_v556 : Ref sig .tc := ⟨.hbm, 916, rfl⟩
abbrev main_v557 : Ref sig .tc := ⟨.hbm, 917, rfl⟩
abbrev main_v558 : Ref sig .tc := ⟨.hbm, 918, rfl⟩
abbrev main_v559 : Ref sig .tc := ⟨.hbm, 919, rfl⟩
abbrev main_cst_176 : Ref sig .tc := ⟨.hbm, 920, rfl⟩
abbrev main_v560 : Ref sig .tc := ⟨.hbm, 921, rfl⟩
abbrev main_v561 : Ref sig .tc := ⟨.hbm, 922, rfl⟩
abbrev main_v562 : Ref sig .tc := ⟨.hbm, 923, rfl⟩
abbrev main_v563 : Ref sig .tc := ⟨.hbm, 924, rfl⟩
abbrev main_v564 : Ref sig .tc := ⟨.hbm, 925, rfl⟩
abbrev main_cst_177 : Ref sig .tc := ⟨.hbm, 926, rfl⟩
abbrev main_v565 : Ref sig .tc := ⟨.hbm, 927, rfl⟩
abbrev main_v566 : Ref sig .tc := ⟨.hbm, 928, rfl⟩
abbrev main_v567 : Ref sig .tc := ⟨.hbm, 929, rfl⟩
abbrev main_v568 : Ref sig .tc := ⟨.hbm, 930, rfl⟩
abbrev main_v569 : Ref sig .tc := ⟨.hbm, 931, rfl⟩
abbrev main_v570 : Ref sig .tc := ⟨.hbm, 932, rfl⟩
abbrev main_v571 : Ref sig .tc := ⟨.hbm, 933, rfl⟩
abbrev main_v572 : Ref sig .tc := ⟨.hbm, 934, rfl⟩
abbrev main_v573 : Ref sig .tc := ⟨.hbm, 935, rfl⟩
abbrev main_v574 : Ref sig .tc := ⟨.hbm, 936, rfl⟩
abbrev main_v575 : Ref sig .tc := ⟨.hbm, 937, rfl⟩
abbrev main_v576 : Ref sig .tc := ⟨.hbm, 938, rfl⟩
abbrev main_v577 : Ref sig .tc := ⟨.hbm, 939, rfl⟩
abbrev main_v578 : Ref sig .tc := ⟨.hbm, 940, rfl⟩
abbrev main_cst_178 : Ref sig .tc := ⟨.hbm, 941, rfl⟩
abbrev main_v579 : Ref sig .tc := ⟨.hbm, 942, rfl⟩
abbrev main_v580 : Ref sig .tc := ⟨.hbm, 943, rfl⟩
abbrev main_cst_179 : Ref sig .tc := ⟨.hbm, 944, rfl⟩
abbrev main_v581 : Ref sig .tc := ⟨.hbm, 945, rfl⟩
abbrev main_v582 : Ref sig .tc := ⟨.hbm, 946, rfl⟩
abbrev main_v583 : Ref sig .tc := ⟨.hbm, 947, rfl⟩
abbrev main_v584 : Ref sig .tc := ⟨.hbm, 948, rfl⟩
abbrev main_cst_180 : Ref sig .tc := ⟨.hbm, 949, rfl⟩
abbrev main_v585 : Ref sig .tc := ⟨.hbm, 950, rfl⟩
abbrev main_v586 : Ref sig .tc := ⟨.hbm, 951, rfl⟩
abbrev main_cst_181 : Ref sig .tc := ⟨.hbm, 952, rfl⟩
abbrev main_v587 : Ref sig .tc := ⟨.hbm, 953, rfl⟩
abbrev main_v588 : Ref sig .tc := ⟨.hbm, 954, rfl⟩
abbrev main_v589 : Ref sig .tc := ⟨.hbm, 955, rfl⟩
abbrev main_v590 : Ref sig .tc := ⟨.hbm, 956, rfl⟩
abbrev main_v591 : Ref sig .tc := ⟨.hbm, 957, rfl⟩
abbrev main_v592 : Ref sig .tc := ⟨.hbm, 958, rfl⟩
abbrev main_v593 : Ref sig .tc := ⟨.hbm, 959, rfl⟩
abbrev main_v594 : Ref sig .tc := ⟨.hbm, 960, rfl⟩
abbrev main_c_182 : Ref sig .tc := ⟨.hbm, 961, rfl⟩
abbrev main_c_183 : Ref sig .tc := ⟨.hbm, 962, rfl⟩
abbrev main_call31_v0 : Ref sig .tc := ⟨.hbm, 963, rfl⟩
abbrev main_call31_v1 : Ref sig .tc := ⟨.hbm, 964, rfl⟩
abbrev main_call31_v2 : Ref sig .tc := ⟨.hbm, 965, rfl⟩
abbrev main_call31_v3 : Ref sig .tc := ⟨.hbm, 966, rfl⟩
abbrev main_call31_v4 : Ref sig .tc := ⟨.hbm, 967, rfl⟩
abbrev main_v595 : Ref sig .tc := ⟨.hbm, 968, rfl⟩
abbrev main_v596 : Ref sig .tc := ⟨.hbm, 969, rfl⟩
abbrev main_cst_184 : Ref sig .tc := ⟨.hbm, 970, rfl⟩
abbrev main_v597 : Ref sig .tc := ⟨.hbm, 971, rfl⟩
abbrev main_v598 : Ref sig .tc := ⟨.hbm, 972, rfl⟩
abbrev main_c_185 : Ref sig .tc := ⟨.hbm, 973, rfl⟩
abbrev main_c_186 : Ref sig .tc := ⟨.hbm, 974, rfl⟩
abbrev main_call32_v0 : Ref sig .tc := ⟨.hbm, 975, rfl⟩
abbrev main_call32_v1 : Ref sig .tc := ⟨.hbm, 976, rfl⟩
abbrev main_call32_v2 : Ref sig .tc := ⟨.hbm, 977, rfl⟩
abbrev main_call32_v3 : Ref sig .tc := ⟨.hbm, 978, rfl⟩
abbrev main_call32_v4 : Ref sig .tc := ⟨.hbm, 979, rfl⟩
abbrev main_v599 : Ref sig .tc := ⟨.hbm, 980, rfl⟩
abbrev main_v600 : Ref sig .tc := ⟨.hbm, 981, rfl⟩
abbrev main_c_187 : Ref sig .tc := ⟨.hbm, 982, rfl⟩
abbrev main_c_188 : Ref sig .tc := ⟨.hbm, 983, rfl⟩
abbrev main_call33_v0 : Ref sig .tc := ⟨.hbm, 984, rfl⟩
abbrev main_call33_v1 : Ref sig .tc := ⟨.hbm, 985, rfl⟩
abbrev main_call33_v2 : Ref sig .tc := ⟨.hbm, 986, rfl⟩
abbrev main_call33_v3 : Ref sig .tc := ⟨.hbm, 987, rfl⟩
abbrev main_call33_v4 : Ref sig .tc := ⟨.hbm, 988, rfl⟩
abbrev main_v601 : Ref sig .tc := ⟨.hbm, 989, rfl⟩
abbrev main_v602 : Ref sig .tc := ⟨.hbm, 990, rfl⟩
abbrev main_cst_189 : Ref sig .tc := ⟨.hbm, 991, rfl⟩
abbrev main_v603 : Ref sig .tc := ⟨.hbm, 992, rfl⟩
abbrev main_v604 : Ref sig .tc := ⟨.hbm, 993, rfl⟩
abbrev main_c_190 : Ref sig .tc := ⟨.hbm, 994, rfl⟩
abbrev main_c_191 : Ref sig .tc := ⟨.hbm, 995, rfl⟩
abbrev main_call34_v0 : Ref sig .tc := ⟨.hbm, 996, rfl⟩
abbrev main_call34_v1 : Ref sig .tc := ⟨.hbm, 997, rfl⟩
abbrev main_call34_v2 : Ref sig .tc := ⟨.hbm, 998, rfl⟩
abbrev main_call34_v3 : Ref sig .tc := ⟨.hbm, 999, rfl⟩
abbrev main_call34_v4 : Ref sig .tc := ⟨.hbm, 1000, rfl⟩
abbrev main_v605 : Ref sig .tc := ⟨.hbm, 1001, rfl⟩
abbrev main_v606 : Ref sig .tc := ⟨.hbm, 1002, rfl⟩
abbrev main_c_192 : Ref sig .tc := ⟨.hbm, 1003, rfl⟩
abbrev main_v607 : Ref sig .tc := ⟨.hbm, 1004, rfl⟩
abbrev main_v608 : Ref sig .tc := ⟨.hbm, 1005, rfl⟩
abbrev main_c_193 : Ref sig .tc := ⟨.hbm, 1006, rfl⟩
abbrev main_v609 : Ref sig .tc := ⟨.hbm, 1007, rfl⟩
abbrev main_v610 : Ref sig .tc := ⟨.hbm, 1008, rfl⟩
abbrev main_v611 : Ref sig .tc := ⟨.hbm, 1009, rfl⟩
abbrev main_c_194 : Ref sig .tc := ⟨.hbm, 1010, rfl⟩
abbrev main_v612 : Ref sig .tc := ⟨.hbm, 1011, rfl⟩
abbrev main_v613 : Ref sig .tc := ⟨.hbm, 1012, rfl⟩
abbrev main_c_195 : Ref sig .tc := ⟨.hbm, 1013, rfl⟩
abbrev main_v614 : Ref sig .tc := ⟨.hbm, 1014, rfl⟩
abbrev main_v615 : Ref sig .tc := ⟨.hbm, 1015, rfl⟩
abbrev main_v616 : Ref sig .tc := ⟨.hbm, 1016, rfl⟩
abbrev main_v617 : Ref sig .tc := ⟨.hbm, 1017, rfl⟩
abbrev main_v618 : Ref sig .tc := ⟨.hbm, 1018, rfl⟩
abbrev main_v619 : Ref sig .tc := ⟨.hbm, 1019, rfl⟩
abbrev main_v620 : Ref sig .tc := ⟨.hbm, 1020, rfl⟩
abbrev main_c_196 : Ref sig .tc := ⟨.hbm, 1021, rfl⟩
abbrev main_v621 : Ref sig .tc := ⟨.hbm, 1022, rfl⟩
abbrev main_v622 : Ref sig .tc := ⟨.hbm, 1023, rfl⟩
abbrev main_c_197 : Ref sig .tc := ⟨.hbm, 1024, rfl⟩
abbrev main_v623 : Ref sig .tc := ⟨.hbm, 1025, rfl⟩
abbrev main_v624 : Ref sig .tc := ⟨.hbm, 1026, rfl⟩
abbrev main_v625 : Ref sig .tc := ⟨.hbm, 1027, rfl⟩
abbrev main_c_198 : Ref sig .tc := ⟨.hbm, 1028, rfl⟩
abbrev main_v626 : Ref sig .tc := ⟨.hbm, 1029, rfl⟩
abbrev main_v627 : Ref sig .tc := ⟨.hbm, 1030, rfl⟩
abbrev main_c_199 : Ref sig .tc := ⟨.hbm, 1031, rfl⟩
abbrev main_v628 : Ref sig .tc := ⟨.hbm, 1032, rfl⟩
abbrev main_v629 : Ref sig .tc := ⟨.hbm, 1033, rfl⟩
abbrev main_v630 : Ref sig .tc := ⟨.hbm, 1034, rfl⟩
abbrev main_v631 : Ref sig .tc := ⟨.hbm, 1035, rfl⟩
abbrev main_v632 : Ref sig .tc := ⟨.hbm, 1036, rfl⟩
abbrev main_v633 : Ref sig .tc := ⟨.hbm, 1037, rfl⟩
abbrev main_v634 : Ref sig .tc := ⟨.hbm, 1038, rfl⟩
abbrev main_c_200 : Ref sig .tc := ⟨.hbm, 1039, rfl⟩
abbrev main_v635 : Ref sig .tc := ⟨.hbm, 1040, rfl⟩
abbrev main_v636 : Ref sig .tc := ⟨.hbm, 1041, rfl⟩
abbrev main_c_201 : Ref sig .tc := ⟨.hbm, 1042, rfl⟩
abbrev main_v637 : Ref sig .tc := ⟨.hbm, 1043, rfl⟩
abbrev main_v638 : Ref sig .tc := ⟨.hbm, 1044, rfl⟩
abbrev main_v639 : Ref sig .tc := ⟨.hbm, 1045, rfl⟩
abbrev main_c_202 : Ref sig .tc := ⟨.hbm, 1046, rfl⟩
abbrev main_v640 : Ref sig .tc := ⟨.hbm, 1047, rfl⟩
abbrev main_v641 : Ref sig .tc := ⟨.hbm, 1048, rfl⟩
abbrev main_c_203 : Ref sig .tc := ⟨.hbm, 1049, rfl⟩
abbrev main_v642 : Ref sig .tc := ⟨.hbm, 1050, rfl⟩
abbrev main_v643 : Ref sig .tc := ⟨.hbm, 1051, rfl⟩
abbrev main_v644 : Ref sig .tc := ⟨.hbm, 1052, rfl⟩
abbrev main_v645 : Ref sig .tc := ⟨.hbm, 1053, rfl⟩
abbrev main_v646 : Ref sig .tc := ⟨.hbm, 1054, rfl⟩
abbrev main_v647 : Ref sig .tc := ⟨.hbm, 1055, rfl⟩
abbrev main_v648 : Ref sig .tc := ⟨.hbm, 1056, rfl⟩
abbrev main_c_204 : Ref sig .tc := ⟨.hbm, 1057, rfl⟩
abbrev main_v649 : Ref sig .tc := ⟨.hbm, 1058, rfl⟩
abbrev main_v650 : Ref sig .tc := ⟨.hbm, 1059, rfl⟩
abbrev main_c_205 : Ref sig .tc := ⟨.hbm, 1060, rfl⟩
abbrev main_v651 : Ref sig .tc := ⟨.hbm, 1061, rfl⟩
abbrev main_v652 : Ref sig .tc := ⟨.hbm, 1062, rfl⟩
abbrev main_v653 : Ref sig .tc := ⟨.hbm, 1063, rfl⟩
abbrev main_c_206 : Ref sig .tc := ⟨.hbm, 1064, rfl⟩
abbrev main_v654 : Ref sig .tc := ⟨.hbm, 1065, rfl⟩
abbrev main_v655 : Ref sig .tc := ⟨.hbm, 1066, rfl⟩
abbrev main_c_207 : Ref sig .tc := ⟨.hbm, 1067, rfl⟩
abbrev main_v656 : Ref sig .tc := ⟨.hbm, 1068, rfl⟩
abbrev main_v657 : Ref sig .tc := ⟨.hbm, 1069, rfl⟩
abbrev main_v658 : Ref sig .tc := ⟨.hbm, 1070, rfl⟩
abbrev main_v659 : Ref sig .tc := ⟨.hbm, 1071, rfl⟩
abbrev main_v660 : Ref sig .tc := ⟨.hbm, 1072, rfl⟩
abbrev main_v661 : Ref sig .tc := ⟨.hbm, 1073, rfl⟩
abbrev main_v662 : Ref sig .tc := ⟨.hbm, 1074, rfl⟩
abbrev main_cst_208 : Ref sig .tc := ⟨.hbm, 1075, rfl⟩
abbrev main_v663 : Ref sig .tc := ⟨.hbm, 1076, rfl⟩
abbrev main_v664 : Ref sig .tc := ⟨.hbm, 1077, rfl⟩
abbrev main_v665 : Ref sig .tc := ⟨.hbm, 1078, rfl⟩
abbrev main_v666 : Ref sig .tc := ⟨.hbm, 1079, rfl⟩
abbrev main_cst_209 : Ref sig .tc := ⟨.hbm, 1080, rfl⟩
abbrev main_v667 : Ref sig .tc := ⟨.hbm, 1081, rfl⟩
abbrev main_v668 : Ref sig .tc := ⟨.hbm, 1082, rfl⟩
abbrev main_v669 : Ref sig .tc := ⟨.hbm, 1083, rfl⟩
abbrev main_v670 : Ref sig .tc := ⟨.hbm, 1084, rfl⟩
abbrev main_v671 : Ref sig .tc := ⟨.hbm, 1085, rfl⟩
abbrev main_v672 : Ref sig .tc := ⟨.hbm, 1086, rfl⟩
abbrev main_cst_210 : Ref sig .tc := ⟨.hbm, 1087, rfl⟩
abbrev main_v673 : Ref sig .tc := ⟨.hbm, 1088, rfl⟩
abbrev main_v674 : Ref sig .tc := ⟨.hbm, 1089, rfl⟩
abbrev main_v675 : Ref sig .tc := ⟨.hbm, 1090, rfl⟩
abbrev main_v676 : Ref sig .tc := ⟨.hbm, 1091, rfl⟩
abbrev main_v677 : Ref sig .tc := ⟨.hbm, 1092, rfl⟩
abbrev main_cst_211 : Ref sig .tc := ⟨.hbm, 1093, rfl⟩
abbrev main_v678 : Ref sig .tc := ⟨.hbm, 1094, rfl⟩
abbrev main_v679 : Ref sig .tc := ⟨.hbm, 1095, rfl⟩
abbrev main_v680 : Ref sig .tc := ⟨.hbm, 1096, rfl⟩
abbrev main_v681 : Ref sig .tc := ⟨.hbm, 1097, rfl⟩
abbrev main_v682 : Ref sig .tc := ⟨.hbm, 1098, rfl⟩
abbrev main_v683 : Ref sig .tc := ⟨.hbm, 1099, rfl⟩
abbrev main_v684 : Ref sig .tc := ⟨.hbm, 1100, rfl⟩
abbrev main_v685 : Ref sig .tc := ⟨.hbm, 1101, rfl⟩
abbrev main_v686 : Ref sig .tc := ⟨.hbm, 1102, rfl⟩
abbrev main_v687 : Ref sig .tc := ⟨.hbm, 1103, rfl⟩
abbrev main_v688 : Ref sig .tc := ⟨.hbm, 1104, rfl⟩
abbrev main_v689 : Ref sig .tc := ⟨.hbm, 1105, rfl⟩
abbrev main_v690 : Ref sig .tc := ⟨.hbm, 1106, rfl⟩
abbrev main_v691 : Ref sig .tc := ⟨.hbm, 1107, rfl⟩
abbrev main_v692 : Ref sig .tc := ⟨.hbm, 1108, rfl⟩
abbrev main_v693 : Ref sig .tc := ⟨.hbm, 1109, rfl⟩
abbrev main_v694 : Ref sig .tc := ⟨.hbm, 1110, rfl⟩
abbrev main_call35_cst : Ref sig .tc := ⟨.hbm, 1111, rfl⟩
abbrev main_call35_v0 : Ref sig .tc := ⟨.hbm, 1112, rfl⟩
abbrev main_v695 : Ref sig .tc := ⟨.hbm, 1113, rfl⟩
abbrev main_v696 : Ref sig .tc := ⟨.hbm, 1114, rfl⟩
abbrev main_v697 : Ref sig .tc := ⟨.hbm, 1115, rfl⟩
abbrev main_v698 : Ref sig .tc := ⟨.hbm, 1116, rfl⟩
abbrev main_v699 : Ref sig .tc := ⟨.hbm, 1117, rfl⟩
abbrev main_v700 : Ref sig .tc := ⟨.hbm, 1118, rfl⟩
abbrev main_call36_cst : Ref sig .tc := ⟨.hbm, 1119, rfl⟩
abbrev main_call36_v0 : Ref sig .tc := ⟨.hbm, 1120, rfl⟩
abbrev main_v701 : Ref sig .tc := ⟨.hbm, 1121, rfl⟩
abbrev main_v702 : Ref sig .tc := ⟨.hbm, 1122, rfl⟩
abbrev main_v703 : Ref sig .tc := ⟨.hbm, 1123, rfl⟩
abbrev main_v704 : Ref sig .tc := ⟨.hbm, 1124, rfl⟩
abbrev main_v705 : Ref sig .tc := ⟨.hbm, 1125, rfl⟩
abbrev main_v706 : Ref sig .tc := ⟨.hbm, 1126, rfl⟩
abbrev main_call37_cst : Ref sig .tc := ⟨.hbm, 1127, rfl⟩
abbrev main_call37_v0 : Ref sig .tc := ⟨.hbm, 1128, rfl⟩
abbrev main_v707 : Ref sig .tc := ⟨.hbm, 1129, rfl⟩
abbrev main_v708 : Ref sig .tc := ⟨.hbm, 1130, rfl⟩
abbrev main_v709 : Ref sig .tc := ⟨.hbm, 1131, rfl⟩
abbrev main_v710 : Ref sig .tc := ⟨.hbm, 1132, rfl⟩
abbrev main_v711 : Ref sig .tc := ⟨.hbm, 1133, rfl⟩
abbrev main_v712 : Ref sig .tc := ⟨.hbm, 1134, rfl⟩
abbrev main_v713 : Ref sig .tc := ⟨.hbm, 1135, rfl⟩
abbrev main_v714 : Ref sig .tc := ⟨.hbm, 1136, rfl⟩
abbrev main_v715 : Ref sig .tc := ⟨.hbm, 1137, rfl⟩
abbrev main_c_212 : Ref sig .tc := ⟨.hbm, 1138, rfl⟩
abbrev main_v716 : Ref sig .tc := ⟨.hbm, 1139, rfl⟩
abbrev main_v717 : Ref sig .tc := ⟨.hbm, 1140, rfl⟩
abbrev main_c_213 : Ref sig .tc := ⟨.hbm, 1141, rfl⟩
abbrev main_v718 : Ref sig .tc := ⟨.hbm, 1142, rfl⟩
abbrev main_v719 : Ref sig .tc := ⟨.hbm, 1143, rfl⟩
abbrev main_v720 : Ref sig .tc := ⟨.hbm, 1144, rfl⟩
abbrev main_c_214 : Ref sig .tc := ⟨.hbm, 1145, rfl⟩
abbrev main_v721 : Ref sig .tc := ⟨.hbm, 1146, rfl⟩
abbrev main_v722 : Ref sig .tc := ⟨.hbm, 1147, rfl⟩
abbrev main_c_215 : Ref sig .tc := ⟨.hbm, 1148, rfl⟩
abbrev main_v723 : Ref sig .tc := ⟨.hbm, 1149, rfl⟩
abbrev main_v724 : Ref sig .tc := ⟨.hbm, 1150, rfl⟩
abbrev main_v725 : Ref sig .tc := ⟨.hbm, 1151, rfl⟩
abbrev main_v726 : Ref sig .tc := ⟨.hbm, 1152, rfl⟩
abbrev main_v727 : Ref sig .tc := ⟨.hbm, 1153, rfl⟩
abbrev main_v728 : Ref sig .tc := ⟨.hbm, 1154, rfl⟩
abbrev main_v729 : Ref sig .tc := ⟨.hbm, 1155, rfl⟩
abbrev main_v730 : Ref sig .tc := ⟨.hbm, 1156, rfl⟩
abbrev main_v731 : Ref sig .tc := ⟨.hbm, 1157, rfl⟩
abbrev main_v732 : Ref sig .tc := ⟨.hbm, 1158, rfl⟩
abbrev main_v733 : Ref sig .tc := ⟨.hbm, 1159, rfl⟩
abbrev main_v734 : Ref sig .tc := ⟨.hbm, 1160, rfl⟩
abbrev main_cst_216 : Ref sig .tc := ⟨.hbm, 1161, rfl⟩
abbrev main_v735 : Ref sig .tc := ⟨.hbm, 1162, rfl⟩
abbrev main_v736 : Ref sig .tc := ⟨.hbm, 1163, rfl⟩
abbrev main_cst_217 : Ref sig .tc := ⟨.hbm, 1164, rfl⟩
abbrev main_v737 : Ref sig .tc := ⟨.hbm, 1165, rfl⟩
abbrev main_v738 : Ref sig .tc := ⟨.hbm, 1166, rfl⟩
abbrev main_cst_218 : Ref sig .tc := ⟨.hbm, 1167, rfl⟩
abbrev main_v739 : Ref sig .tc := ⟨.hbm, 1168, rfl⟩
abbrev main_v740 : Ref sig .tc := ⟨.hbm, 1169, rfl⟩
abbrev main_v741 : Ref sig .tc := ⟨.hbm, 1170, rfl⟩
abbrev main_v742 : Ref sig .tc := ⟨.hbm, 1171, rfl⟩
abbrev main_v743 : Ref sig .tc := ⟨.hbm, 1172, rfl⟩
abbrev main_v744 : Ref sig .tc := ⟨.hbm, 1173, rfl⟩
abbrev main_v745 : Ref sig .tc := ⟨.hbm, 1174, rfl⟩
abbrev main_v746 : Ref sig .tc := ⟨.hbm, 1175, rfl⟩
abbrev main_v747 : Ref sig .tc := ⟨.hbm, 1176, rfl⟩
abbrev main_cst_219 : Ref sig .tc := ⟨.hbm, 1177, rfl⟩
abbrev main_v748 : Ref sig .tc := ⟨.hbm, 1178, rfl⟩
abbrev main_v749 : Ref sig .tc := ⟨.hbm, 1179, rfl⟩
abbrev main_cst_220 : Ref sig .tc := ⟨.hbm, 1180, rfl⟩
abbrev main_v750 : Ref sig .tc := ⟨.hbm, 1181, rfl⟩
abbrev main_v751 : Ref sig .tc := ⟨.hbm, 1182, rfl⟩
abbrev main_cst_221 : Ref sig .tc := ⟨.hbm, 1183, rfl⟩
abbrev main_v752 : Ref sig .tc := ⟨.hbm, 1184, rfl⟩
abbrev main_v753 : Ref sig .tc := ⟨.hbm, 1185, rfl⟩
abbrev main_cst_222 : Ref sig .tc := ⟨.hbm, 1186, rfl⟩
abbrev main_v754 : Ref sig .tc := ⟨.hbm, 1187, rfl⟩
abbrev main_v755 : Ref sig .tc := ⟨.hbm, 1188, rfl⟩
abbrev main_v756 : Ref sig .tc := ⟨.hbm, 1189, rfl⟩
abbrev main_cst_223 : Ref sig .tc := ⟨.hbm, 1190, rfl⟩
abbrev main_v757 : Ref sig .tc := ⟨.hbm, 1191, rfl⟩
abbrev main_v758 : Ref sig .tc := ⟨.hbm, 1192, rfl⟩
abbrev main_cst_224 : Ref sig .tc := ⟨.hbm, 1193, rfl⟩
abbrev main_v759 : Ref sig .tc := ⟨.hbm, 1194, rfl⟩
abbrev main_v760 : Ref sig .tc := ⟨.hbm, 1195, rfl⟩
abbrev main_c_225 : Ref sig .tc := ⟨.hbm, 1196, rfl⟩
abbrev main_call38_v0 : Ref sig .tc := ⟨.hbm, 1197, rfl⟩
abbrev main_call38_v1 : Ref sig .tc := ⟨.hbm, 1198, rfl⟩
abbrev main_v761 : Ref sig .tc := ⟨.hbm, 1199, rfl⟩
abbrev main_v762 : Ref sig .tc := ⟨.hbm, 1200, rfl⟩
abbrev main_v763 : Ref sig .tc := ⟨.hbm, 1201, rfl⟩
abbrev main_c_226 : Ref sig .tc := ⟨.hbm, 1202, rfl⟩
abbrev main_call39_v0 : Ref sig .tc := ⟨.hbm, 1203, rfl⟩
abbrev main_call39_v1 : Ref sig .tc := ⟨.hbm, 1204, rfl⟩
abbrev main_call39_v2 : Ref sig .tc := ⟨.hbm, 1205, rfl⟩
abbrev main_v764 : Ref sig .tc := ⟨.hbm, 1206, rfl⟩
abbrev main_cst_227 : Ref sig .tc := ⟨.hbm, 1207, rfl⟩
abbrev main_v765 : Ref sig .tc := ⟨.hbm, 1208, rfl⟩
abbrev main_v766 : Ref sig .tc := ⟨.hbm, 1209, rfl⟩
abbrev main_cst_228 : Ref sig .tc := ⟨.hbm, 1210, rfl⟩
abbrev main_v767 : Ref sig .tc := ⟨.hbm, 1211, rfl⟩
abbrev main_v768 : Ref sig .tc := ⟨.hbm, 1212, rfl⟩
abbrev main_v769 : Ref sig .tc := ⟨.hbm, 1213, rfl⟩
abbrev main_c_229 : Ref sig .tc := ⟨.hbm, 1214, rfl⟩
abbrev main_call40_v0 : Ref sig .tc := ⟨.hbm, 1215, rfl⟩
abbrev main_call40_v1 : Ref sig .tc := ⟨.hbm, 1216, rfl⟩
abbrev main_call40_v2 : Ref sig .tc := ⟨.hbm, 1217, rfl⟩
abbrev main_v770 : Ref sig .tc := ⟨.hbm, 1218, rfl⟩
abbrev main_v771 : Ref sig .tc := ⟨.hbm, 1219, rfl⟩
abbrev main_cst_230 : Ref sig .tc := ⟨.hbm, 1220, rfl⟩
abbrev main_v772 : Ref sig .tc := ⟨.hbm, 1221, rfl⟩
abbrev main_v773 : Ref sig .tc := ⟨.hbm, 1222, rfl⟩
abbrev main_cst_231 : Ref sig .tc := ⟨.hbm, 1223, rfl⟩
abbrev main_v774 : Ref sig .tc := ⟨.hbm, 1224, rfl⟩
abbrev main_v775 : Ref sig .tc := ⟨.hbm, 1225, rfl⟩
abbrev main_cst_232 : Ref sig .tc := ⟨.hbm, 1226, rfl⟩
abbrev main_v776 : Ref sig .tc := ⟨.hbm, 1227, rfl⟩
abbrev main_v777 : Ref sig .tc := ⟨.hbm, 1228, rfl⟩
abbrev main_v778 : Ref sig .tc := ⟨.hbm, 1229, rfl⟩
abbrev main_v779 : Ref sig .tc := ⟨.hbm, 1230, rfl⟩
abbrev main_v780 : Ref sig .tc := ⟨.hbm, 1231, rfl⟩
abbrev main_v781 : Ref sig .tc := ⟨.hbm, 1232, rfl⟩
abbrev main_v782 : Ref sig .tc := ⟨.hbm, 1233, rfl⟩
abbrev main_v783 : Ref sig .tc := ⟨.hbm, 1234, rfl⟩
abbrev main_v784 : Ref sig .tc := ⟨.hbm, 1235, rfl⟩
abbrev main_cst_233 : Ref sig .tc := ⟨.hbm, 1236, rfl⟩
abbrev main_v785 : Ref sig .tc := ⟨.hbm, 1237, rfl⟩
abbrev main_v786 : Ref sig .tc := ⟨.hbm, 1238, rfl⟩
abbrev main_cst_234 : Ref sig .tc := ⟨.hbm, 1239, rfl⟩
abbrev main_v787 : Ref sig .tc := ⟨.hbm, 1240, rfl⟩
abbrev main_v788 : Ref sig .tc := ⟨.hbm, 1241, rfl⟩
abbrev main_cst_235 : Ref sig .tc := ⟨.hbm, 1242, rfl⟩
abbrev main_v789 : Ref sig .tc := ⟨.hbm, 1243, rfl⟩
abbrev main_v790 : Ref sig .tc := ⟨.hbm, 1244, rfl⟩
abbrev main_cst_236 : Ref sig .tc := ⟨.hbm, 1245, rfl⟩
abbrev main_v791 : Ref sig .tc := ⟨.hbm, 1246, rfl⟩
abbrev main_v792 : Ref sig .tc := ⟨.hbm, 1247, rfl⟩
abbrev main_v793 : Ref sig .tc := ⟨.hbm, 1248, rfl⟩
abbrev main_cst_237 : Ref sig .tc := ⟨.hbm, 1249, rfl⟩
abbrev main_v794 : Ref sig .tc := ⟨.hbm, 1250, rfl⟩
abbrev main_v795 : Ref sig .tc := ⟨.hbm, 1251, rfl⟩
abbrev main_cst_238 : Ref sig .tc := ⟨.hbm, 1252, rfl⟩
abbrev main_v796 : Ref sig .tc := ⟨.hbm, 1253, rfl⟩
abbrev main_v797 : Ref sig .tc := ⟨.hbm, 1254, rfl⟩
abbrev main_c_239 : Ref sig .tc := ⟨.hbm, 1255, rfl⟩
abbrev main_call41_v0 : Ref sig .tc := ⟨.hbm, 1256, rfl⟩
abbrev main_call41_v1 : Ref sig .tc := ⟨.hbm, 1257, rfl⟩
abbrev main_v798 : Ref sig .tc := ⟨.hbm, 1258, rfl⟩
abbrev main_v799 : Ref sig .tc := ⟨.hbm, 1259, rfl⟩
abbrev main_v800 : Ref sig .tc := ⟨.hbm, 1260, rfl⟩
abbrev main_c_240 : Ref sig .tc := ⟨.hbm, 1261, rfl⟩
abbrev main_call42_v0 : Ref sig .tc := ⟨.hbm, 1262, rfl⟩
abbrev main_call42_v1 : Ref sig .tc := ⟨.hbm, 1263, rfl⟩
abbrev main_call42_v2 : Ref sig .tc := ⟨.hbm, 1264, rfl⟩
abbrev main_v801 : Ref sig .tc := ⟨.hbm, 1265, rfl⟩
abbrev main_cst_241 : Ref sig .tc := ⟨.hbm, 1266, rfl⟩
abbrev main_v802 : Ref sig .tc := ⟨.hbm, 1267, rfl⟩
abbrev main_v803 : Ref sig .tc := ⟨.hbm, 1268, rfl⟩
abbrev main_cst_242 : Ref sig .tc := ⟨.hbm, 1269, rfl⟩
abbrev main_v804 : Ref sig .tc := ⟨.hbm, 1270, rfl⟩
abbrev main_v805 : Ref sig .tc := ⟨.hbm, 1271, rfl⟩
abbrev main_v806 : Ref sig .tc := ⟨.hbm, 1272, rfl⟩
abbrev main_c_243 : Ref sig .tc := ⟨.hbm, 1273, rfl⟩
abbrev main_call43_v0 : Ref sig .tc := ⟨.hbm, 1274, rfl⟩
abbrev main_call43_v1 : Ref sig .tc := ⟨.hbm, 1275, rfl⟩
abbrev main_call43_v2 : Ref sig .tc := ⟨.hbm, 1276, rfl⟩
abbrev main_v807 : Ref sig .tc := ⟨.hbm, 1277, rfl⟩
abbrev main_v808 : Ref sig .tc := ⟨.hbm, 1278, rfl⟩
abbrev main_v809 : Ref sig .tc := ⟨.hbm, 1279, rfl⟩
abbrev main_v810 : Ref sig .tc := ⟨.hbm, 1280, rfl⟩
abbrev main_cst_244 : Ref sig .tc := ⟨.hbm, 1281, rfl⟩
abbrev main_v811 : Ref sig .tc := ⟨.hbm, 1282, rfl⟩
abbrev main_cst_245 : Ref sig .tc := ⟨.hbm, 1283, rfl⟩
abbrev main_v812 : Ref sig .tc := ⟨.hbm, 1284, rfl⟩
abbrev main_v813 : Ref sig .tc := ⟨.hbm, 1285, rfl⟩
abbrev main_v814 : Ref sig .tc := ⟨.hbm, 1286, rfl⟩
abbrev main_v815 : Ref sig .tc := ⟨.hbm, 1287, rfl⟩
abbrev main_v816 : Ref sig .tc := ⟨.hbm, 1288, rfl⟩
abbrev main_v817 : Ref sig .tc := ⟨.hbm, 1289, rfl⟩
abbrev main_cst_246 : Ref sig .tc := ⟨.hbm, 1290, rfl⟩
abbrev main_v818 : Ref sig .tc := ⟨.hbm, 1291, rfl⟩
abbrev main_v819 : Ref sig .tc := ⟨.hbm, 1292, rfl⟩
abbrev main_v820 : Ref sig .tc := ⟨.hbm, 1293, rfl⟩
abbrev main_v821 : Ref sig .tc := ⟨.hbm, 1294, rfl⟩

abbrev nD : Nat := 1
abbrev τ : Topo := Topo.v7x

variable {F : FTy → Type} [FloatOps F]
-- ==== Proof.Own.Real.lean ====
/-
  Extended reals that are real numbers, and arrays of them: the operations both programs use keep them real, so that the
  sums and products of the proof may be taken in ℝ. With the values of the literals that occur.
-/
module

public import Idealize.ShloMosaic.PureOps.Ideal
public import Idealize.ShloMosaic.PureOps.Ideal.Laws
public import Idealize.ShloMosaic.Lib.IdealHost

@[expose] public section

noncomputable section

namespace Cert

open Idealize.ShloMosaic
open scoped BigOperators

/-- An extended real that is a real number. -/
def IsReal (x : EReal) : Prop := ∃ r : ℝ, x = (r : EReal)

namespace IsReal

theorem coe (r : ℝ) : IsReal (r : EReal) := ⟨r, rfl⟩
theorem zero : IsReal 0 := ⟨0, rfl⟩
theorem one : IsReal 1 := ⟨1, rfl⟩

theorem add {x y : EReal} : IsReal x → IsReal y → IsReal (x + y)
  | ⟨a, ha⟩, ⟨b, hb⟩ => ⟨a + b, by rw [ha, hb, EReal.coe_add]⟩

theorem sub {x y : EReal} : IsReal x → IsReal y → IsReal (x - y)
  | ⟨a, ha⟩, ⟨b, hb⟩ => ⟨a - b, by rw [ha, hb, EReal.coe_sub]⟩

theorem mul {x y : EReal} : IsReal x → IsReal y → IsReal (x * y)
  | ⟨a, ha⟩, ⟨b, hb⟩ => ⟨a * b, by rw [ha, hb, EReal.coe_mul]⟩

theorem max {x y : EReal} (hx : IsReal x) (hy : IsReal y) : IsReal (max x y) := by
  rcases le_total x y with h | h
  · rwa [max_eq_right h]
  · rwa [max_eq_left h]

theorem sum {ι : Type} (s : Finset ι) {f : ι → EReal} (h : ∀ i ∈ s, IsReal (f i)) : IsReal (∑ i ∈ s, f i) :=
  Finset.sum_induction f IsReal (fun _ _ => add) zero h

/-- A real minus itself. -/
theorem sub_self {x : EReal} : IsReal x → x - x = 0
  | ⟨a, ha⟩ => by rw [ha, ← EReal.coe_sub, _root_.sub_self]; rfl

/-- `|x| < ∞`, as a comparison of the printed precondition, says that `x` is real. -/
theorem of_abs_lt_top {x : EReal} (h : Max.max x (-x) < ⊤) : IsReal x := by
  induction x with
  | bot => simp at h
  | top => simp at h
  | coe r => exact ⟨r, rfl⟩

end IsReal

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_max (a b : ℝ) : max (a : EReal) (b : EReal) = ((max a b : ℝ) : EReal) :=
  (EReal.coe_strictMono.monotone.map_max).symm

theorem coe_abs (a : ℝ) : (FloatOps.absf (φ := .f32) (F := Ideal) (a : EReal) : EReal) = ((|a| : ℝ) : EReal) := by
  show max (a : EReal) (-(a : EReal)) = _
  rw [← EReal.coe_neg, coe_max]; rfl

theorem div_coe_coe (a : ℝ) {b : ℝ} (h : b ≠ 0) : Ideal.div (a : EReal) (b : EReal) = ((a / b : ℝ) : EReal) := by
  rw [Ideal.div_coe h, ← EReal.coe_mul, mul_one_div]

/-- A natural number below `2 ^ 31`, as a word, converted to a float. -/
theorem sitofp_nat {n : ℕ} (h : n < 2 ^ 31) : (FloatOps.sitofp (F := Ideal) .f32 (BitVec.ofNat 32 n) : EReal) = ((n : ℝ) : EReal) := by
  show (((BitVec.ofNat 32 n).toInt : ℝ) : EReal) = _
  have : (BitVec.ofNat 32 n).toInt = (n : ℤ) := by
    rw [BitVec.toInt_eq_toNat_of_lt] <;> rw [BitVec.toNat_ofNat, Nat.mod_eq_of_lt] <;> omega
  rw [this]; norm_cast

/-! ### The literals -/

theorem lit_half : Ideal.ofBits .f32 0x3F000000#32 = ((1 / 2 : ℝ) : EReal) := by
  simp [Ideal.ofBits, Ideal.ieee, -EReal.coe_mul]; norm_num
theorem lit_quarter : Ideal.ofBits .f32 0x3E800000#32 = ((1 / 4 : ℝ) : EReal) := by
  simp [Ideal.ofBits, Ideal.ieee, -EReal.coe_mul]; norm_num
theorem lit_threequarters : Ideal.ofBits .f32 0x3F400000#32 = ((3 / 4 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_three : Ideal.ofBits .f32 0x40400000#32 = ((3 : ℝ) : EReal) := by
  simp [Ideal.ofBits, Ideal.ieee, -EReal.coe_mul]; norm_num
theorem lit_seven : Ideal.ofBits .f32 0x40E00000#32 = ((7 : ℝ) : EReal) := by
  simp [Ideal.ofBits, Ideal.ieee, -EReal.coe_mul]; norm_num
theorem lit_eight : Ideal.ofBits .f32 0x41000000#32 = ((8 : ℝ) : EReal) := by
  simp [Ideal.ofBits, Ideal.ieee, -EReal.coe_mul]; norm_num
theorem lit_112 : Ideal.ofBits .f32 0x42E00000#32 = ((112 : ℝ) : EReal) := by
  simp [Ideal.ofBits, Ideal.ieee, -EReal.coe_mul]; norm_num
theorem lit_224 : Ideal.ofBits .f32 0x43600000#32 = ((224 : ℝ) : EReal) := by
  simp [Ideal.ofBits, Ideal.ieee, -EReal.coe_mul]; norm_num
theorem lit_448 : Ideal.ofBits .f32 0x43E00000#32 = ((448 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul, -EReal.coe_neg]; norm_num
theorem lit_eps : Ideal.ofBits .f32 0x38FA0000#32 = ((125 / 1048576 : ℝ) : EReal) := by
  simp [Ideal.ofBits, Ideal.ieee, -EReal.coe_mul]; norm_num
theorem lit_111h : Ideal.ofBits .f32 0x42DF0000#32 = ((223 / 2 : ℝ) : EReal) := by
  simp [Ideal.ofBits, Ideal.ieee, -EReal.coe_mul]; norm_num
theorem lit_223h : Ideal.ofBits .f32 0x435F8000#32 = ((447 / 2 : ℝ) : EReal) := by
  simp [Ideal.ofBits, Ideal.ieee, -EReal.coe_mul]; norm_num
theorem lit_447h : Ideal.ofBits .f32 0x43DFC000#32 = ((895 / 2 : ℝ) : EReal) := by
  simp [Ideal.ofBits, Ideal.ieee, -EReal.coe_mul]; norm_num
theorem lit_neg_inf : Ideal.ofBits .f32 0xFF800000#32 = ⊥ := by
  simp [Ideal.ofBits, Ideal.ieee]

end Cert

end
-- ==== Proof.Own.Weights.lean ====
/-
  The weights of a bilinear resize, one number at a time. `wt` is what the reference's weight array holds at (k, i): the
  triangle kernel at the sampling position, divided by its sum over the input positions. `wt_real` gives it as a real
  number; `up_even` and `up_odd` are the weighted sums of the ×2 enlargement, `down_eq` the weights of the ÷2 reduction.
-/
module

public import proofs.«01_k».proof.Proof.Own.Real

@[expose] public section

noncomputable section

namespace Cert.Weights

open Idealize.ShloMosaic
open scoped BigOperators

/-- The sampling position of output position `i`. -/
def samp (sc : EReal) (i : ℕ) : EReal :=
  (FloatOps.sitofp (F := Ideal) .f32 (BitVec.ofNat 32 i) + Ideal.ofBits .f32 0x3F000000#32) * sc - Ideal.ofBits .f32 0x3F000000#32

/-- The triangle kernel between output position `i` and input position `k`. -/
def raw (sc dv : EReal) (k i : ℕ) : EReal :=
  max 0 (1 - Ideal.div (FloatOps.absf (φ := .f32) (F := Ideal) (samp sc i - FloatOps.sitofp (F := Ideal) .f32 (BitVec.ofNat 32 k))) dv)

/-- The weight, as the reference computes it. -/
def wt (n : ℕ) (sc dv hi : EReal) (k i : ℕ) : EReal :=
  Scalar.select (IntOp.andi (BitVec.ofBool (decide (Ideal.ofBits .f32 0xBF000000#32 ≤ samp sc i))) (BitVec.ofBool (decide (samp sc i ≤ hi))))
    (if Ideal.ofBits .f32 0x38FA0000#32 < (FloatOps.absf (φ := .f32) (F := Ideal) (∑ x : Fin n, raw sc dv x.val i) : EReal) then
        Ideal.div (raw sc dv k i)
          (if (∑ x : Fin n, raw sc dv x.val i) ≠ 0 then ∑ x : Fin n, raw sc dv x.val i else FloatOps.sitofp (F := Ideal) .f32 1#32)
      else FloatOps.sitofp (F := Ideal) .f32 0#32)
    (FloatOps.sitofp (F := Ideal) .f32 0#32)

/-- The triangle kernel in ℝ. -/
def rawR (s d : ℝ) (k i : ℕ) : ℝ := max 0 (1 - |((i : ℝ) + 1 / 2) * s - 1 / 2 - k| / d)

theorem samp_real (s : ℝ) {i : ℕ} (hi : i < 2 ^ 31) : samp (s : EReal) i = ((((i : ℝ) + 1 / 2) * s - 1 / 2 : ℝ) : EReal) := by
  unfold samp
  rw [sitofp_nat hi, lit_half, ← EReal.coe_add, ← EReal.coe_mul, ← EReal.coe_sub]

theorem raw_real (s : ℝ) {d : ℝ} (hd : d ≠ 0) {k i : ℕ} (hk : k < 2 ^ 31) (hi : i < 2 ^ 31) :
    raw (s : EReal) (d : EReal) k i = ((rawR s d k i : ℝ) : EReal) := by
  unfold raw rawR
  rw [samp_real s hi, sitofp_nat hk, ← EReal.coe_sub, coe_abs, div_coe_coe _ hd, ← EReal.coe_one, ← EReal.coe_sub, ← EReal.coe_zero, coe_max]

theorem wt_real (n : ℕ) (s : ℝ) {d h : ℝ} (hd : d ≠ 0) {k i : ℕ} (hn : n ≤ 2 ^ 31) (hk : k < n) (hi : i < 2 ^ 31)
    (lo : -(1 / 2) ≤ ((i : ℝ) + 1 / 2) * s - 1 / 2) (up : ((i : ℝ) + 1 / 2) * s - 1 / 2 ≤ h)
    {T : ℝ} (hT : ∑ x : Fin n, rawR s d x.val i = T) (pos : 1 / 2 ≤ T) :
    wt n (s : EReal) (d : EReal) (h : EReal) k i = ((rawR s d k i / T : ℝ) : EReal) := by
  have hsum : ∑ x : Fin n, raw (s : EReal) (d : EReal) x.val i = ((T : ℝ) : EReal) := by
    rw [← hT, ← coe_sum]
    exact Finset.sum_congr rfl fun x _ => raw_real s hd (by omega) hi
  have hT0 : T ≠ 0 := by linarith
  unfold wt
  rw [hsum, samp_real s hi, raw_real s hd (by omega) hi, lit_neg_half, lit_eps, coe_abs, abs_of_nonneg (by linarith)]
  rw [if_pos (EReal.coe_lt_coe_iff.mpr (by linarith)), if_pos (by rw [← EReal.coe_zero]; exact fun e => hT0 (EReal.coe_eq_coe_iff.mp e)),
    decide_eq_true (EReal.coe_le_coe_iff.mpr lo), decide_eq_true (EReal.coe_le_coe_iff.mpr up), div_coe_coe _ hT0]
  rfl

/-- A sum over `Fin n` of one term. -/
theorem sum_one {n : ℕ} (c : ℕ) (f : ℕ → ℝ) (p : ℝ) :
    ∑ k : Fin n, f k.val * (if k.val = c then p else 0) = if c < n then f c * p else 0 := by
  by_cases h : c < n
  · rw [if_pos h, Finset.sum_eq_single (⟨c, h⟩ : Fin n)]
    · simp
    · intro k _ hk; rw [if_neg (fun e => hk (Fin.ext e)), mul_zero]
    · intro hk; exact absurd (Finset.mem_univ _) hk
  · rw [if_neg h]; refine Finset.sum_eq_zero fun k _ => ?_
    rw [if_neg (by have := k.isLt; omega), mul_zero]

/-- The triangle of the ×2 enlargement at an even output position `2 * a`. -/
theorem rawR_even (a k : ℕ) : rawR (1 / 2) 1 k (2 * a) = (if k = a then 3 / 4 else 0) + (if k + 1 = a then 1 / 4 else 0) := by
  unfold rawR
  push_cast
  rcases lt_trichotomy (k + 1) a with h | h | h
  · have h' : (k : ℝ) + 2 ≤ a := by exact_mod_cast h
    rw [if_neg (by omega), if_neg (by omega), abs_of_nonneg (by linarith), max_eq_left (by linarith)]; norm_num
  · have h' : (k : ℝ) + 1 = a := by exact_mod_cast h
    rw [if_neg (by omega), if_pos h, abs_of_nonneg (by linarith), max_eq_right (by linarith)]; linarith
  · rcases Nat.lt_or_ge a k with g | g
    · have h' : (a : ℝ) + 1 ≤ k := by exact_mod_cast g
      rw [if_neg (by omega), if_neg (by omega), abs_of_nonpos (by linarith), max_eq_left (by linarith)]; norm_num
    · have e : k = a := by omega
      subst e
      rw [if_pos rfl, if_neg (by omega), abs_of_nonpos (by linarith), max_eq_right (by linarith)]; linarith

/-- The triangle of the ×2 enlargement at an odd output position `2 * a + 1`. -/
theorem rawR_odd (a k : ℕ) : rawR (1 / 2) 1 k (2 * a + 1) = (if k = a then 3 / 4 else 0) + (if k = a + 1 then 1 / 4 else 0) := by
  unfold rawR
  push_cast
  rcases lt_trichotomy k (a + 1) with h | h | h
  · rcases Nat.lt_or_ge k a with g | g
    · have h' : (k : ℝ) + 1 ≤ a := by exact_mod_cast g
      rw [if_neg (by omega), if_neg (by omega), abs_of_nonneg (by linarith), max_eq_left (by linarith)]; norm_num
    · have e : k = a := by omega
      subst e
      rw [if_pos rfl, if_neg (by omega), abs_of_nonneg (by linarith), max_eq_right (by linarith)]; linarith
  · have h' : (k : ℝ) = a + 1 := by exact_mod_cast h
    rw [if_neg (by omega), if_pos h, abs_of_nonpos (by linarith), max_eq_right (by linarith)]; linarith
  · have h' : (a : ℝ) + 2 ≤ k := by exact_mod_cast h
    rw [if_neg (by omega), if_neg (by omega), abs_of_nonpos (by linarith), max_eq_left (by linarith)]; norm_num

/-- The triangle of the ÷2 reduction. -/
theorem rawR_down (i k : ℕ) : rawR 2 2 k i =
    (if k = 2 * i then 3 / 4 else 0) + (if k = 2 * i + 1 then 3 / 4 else 0) + (if k + 1 = 2 * i then 1 / 4 else 0) + (if k = 2 * i + 2 then 1 / 4 else 0) := by
  unfold rawR
  rcases lt_trichotomy (k + 1) (2 * i) with h | h | h
  · have h' : (k : ℝ) + 2 ≤ 2 * i := by exact_mod_cast h
    rw [if_neg (by omega), if_neg (by omega), if_neg (by omega), if_neg (by omega), abs_of_nonneg (by linarith), max_eq_left (by linarith)]; norm_num
  · have h' : (k : ℝ) + 1 = 2 * i := by exact_mod_cast h
    rw [if_neg (by omega), if_neg (by omega), if_pos h, if_neg (by omega), abs_of_nonneg (by linarith), max_eq_right (by linarith)]; linarith
  · rcases Nat.lt_or_ge (2 * i + 2) k with g | g
    · have h' : (2 : ℝ) * i + 3 ≤ k := by exact_mod_cast g
      rw [if_neg (by omega), if_neg (by omega), if_neg (by omega), if_neg (by omega), abs_of_nonpos (by linarith), max_eq_left (by linarith)]; norm_num
    · have e : k = 2 * i ∨ k = 2 * i + 1 ∨ k = 2 * i + 2 := by omega
      rcases e with e | e | e
      · have h' : (k : ℝ) = 2 * i := by exact_mod_cast e
        rw [if_pos e, if_neg (by omega), if_neg (by omega), if_neg (by omega), abs_of_nonneg (by linarith), max_eq_right (by linarith)]; linarith
      · have h' : (k : ℝ) = 2 * i + 1 := by exact_mod_cast e
        rw [if_neg (by omega), if_pos e, if_neg (by omega), if_neg (by omega), abs_of_nonpos (by linarith), max_eq_right (by linarith)]; linarith
      · have h' : (k : ℝ) = 2 * i + 2 := by exact_mod_cast e
        rw [if_neg (by omega), if_neg (by omega), if_neg (by omega), if_pos e, abs_of_nonpos (by linarith), max_eq_right (by linarith)]; linarith

/-- The weighted sum of an even output position of the enlargement. -/
theorem sumR_even {n : ℕ} (f : ℕ → ℝ) {a : ℕ} (ha : a < n) :
    ∑ k : Fin n, f k.val * rawR (1 / 2) 1 k.val (2 * a) = f a * (3 / 4) + if 0 < a then f (a - 1) * (1 / 4) else 0 := by
  rcases Nat.eq_zero_or_pos a with h | h
  · subst h
    have : ∀ k : Fin n, f k.val * rawR (1 / 2) 1 k.val (2 * 0) = f k.val * (if k.val = 0 then 3 / 4 else 0) := fun k => by
      rw [rawR_even, if_neg (by omega : ¬ (k.val + 1 = 0)), add_zero]
    rw [Finset.sum_congr rfl fun k _ => this k, sum_one, if_pos ha]; simp
  · have : ∀ k : Fin n, f k.val * rawR (1 / 2) 1 k.val (2 * a) = f k.val * (if k.val = a then 3 / 4 else 0) + f k.val * (if k.val = a - 1 then 1 / 4 else 0) := fun k => by
      rw [rawR_even, mul_add]; congr 3; exact propext (by omega)
    rw [Finset.sum_congr rfl fun k _ => this k, Finset.sum_add_distrib, sum_one, sum_one, if_pos ha, if_pos (by omega), if_pos h]

/-- The weighted sum of an odd output position of the enlargement. -/
theorem sumR_odd {n : ℕ} (f : ℕ → ℝ) {a : ℕ} (ha : a < n) :
    ∑ k : Fin n, f k.val * rawR (1 / 2) 1 k.val (2 * a + 1) = f a * (3 / 4) + if a + 1 < n then f (a + 1) * (1 / 4) else 0 := by
  rw [Finset.sum_congr rfl fun k _ => by rw [rawR_odd, mul_add], Finset.sum_add_distrib, sum_one, sum_one, if_pos ha]

/-- The triangles of the reduction sum to two, and to seven quarters at the two edges. -/
theorem sumR_down {i : ℕ} (hi : i < 224) : ∑ k : Fin 448, rawR 2 2 k.val i = if i = 0 ∨ i = 223 then 7 / 4 else 2 := by
  have e : ∀ k : Fin 448, rawR 2 2 k.val i = (1 * (if k.val = 2 * i then 3 / 4 else 0) + 1 * (if k.val = 2 * i + 1 then 3 / 4 else 0)
      + 1 * (if k.val = 2 * i + 2 then 1 / 4 else 0)) + 1 * (if k.val + 1 = 2 * i then 1 / 4 else 0) := fun k => by
    rw [rawR_down]; ring
  have s := fun c p => sum_one (n := 448) c (fun _ => 1) p
  rw [Finset.sum_congr rfl fun k _ => e k, Finset.sum_add_distrib, Finset.sum_add_distrib, Finset.sum_add_distrib, s, s, s]
  rcases Nat.eq_zero_or_pos i with h | h
  · subst h
    rw [Finset.sum_eq_zero fun k _ => by rw [if_neg (by omega), mul_zero]]
    norm_num
  · rw [Finset.sum_congr rfl fun k _ => by rw [if_congr (show k.val + 1 = 2 * i ↔ k.val = 2 * i - 1 by omega) rfl rfl], s]
    rw [if_pos (by omega : 2 * i < 448), if_pos (by omega : 2 * i + 1 < 448), if_pos (by omega : 2 * i - 1 < 448)]
    by_cases g : i = 223
    · rw [if_neg (by omega), if_pos (Or.inr g)]; norm_num
    · rw [if_pos (by omega), if_neg (by omega)]; norm_num

end Cert.Weights

end
-- ==== Proof.Own.RefEnlarge.lean ====
module

public import proofs.«01_k».proof.Proof.Gen.ReferenceIdeal.Run
public import proofs.«01_k».proof.Proof.Own.Weights
public import Idealize.ShloMosaic.Lib.Pointwise

@[expose] public section

set_option maxRecDepth 16384

noncomputable section

namespace Cert.RefEnlarge

open Idealize.ShloMosaic Idealize.SL.Sem Cert.ReferenceIdeal Cert.ReferenceIdeal.Gen Cert.ReferenceIdeal.Value Cert.Weights
open scoped BigOperators

/-- The reference's valuations. -/
abbrev RV := Valuation Cert.ReferenceIdeal.τ Cert.ReferenceIdeal.sig (Elt Ideal)

/-- The points of the first enlargement, with the chosen points' logits written over them. -/
def pts1 (V : RV) : FVec Ideal S4x50176x21 .f32 :=
  Host.scatter scatter_S4x50176x21_S4x8192x2_S4x8192x21_2_01_01_2 (fun _ b => b) (shapeCast _ (res_main_v76 V) shapeCasts_S4x224x224x21_S4x50176x21) (concatenate S4x8192x2 2 [⟨S4x8192x1, (broadcastInDim S4x8192x1 ![0, 1] bcast_S4x8192_S4x8192x1_0_1 (broadcastInDim S4x8192 ![0, 1] bcast_S4x1_S4x8192_0_1 (select (cmpi .slt (res_main_v349 V) (broadcastInDim S4x1 ![] bcast_S_S4x1 (constantI S_ 32 0#32))) (addi (res_main_v349 V) (broadcastInDim S4x1 ![] bcast_S_S4x1 (constantI S_ 32 4#32))) (res_main_v349 V))))⟩, ⟨S4x8192x1, (broadcastInDim S4x8192x1 ![0, 1] bcast_S4x8192_S4x8192x1_0_1 (select (cmpi .slt (res_main_indices_27 V) (broadcastInDim S4x8192 ![] bcast_S_S4x8192 (constantI S_ 32 0#32))) (addi (res_main_indices_27 V) (broadcastInDim S4x8192 ![] bcast_S_S4x8192 (constantI S_ 32 50176#32))) (res_main_indices_27 V)))⟩] concatenates_S4x8192x1_S4x8192x1_S4x8192x2_d2) (res_main_v346 V)

/-- The same as a grid: what the second enlargement is of. -/
def grid1 (V : RV) : FVec Ideal S4x224x224x21 .f32 := shapeCast _ (pts1 V) shapeCasts_S4x50176x21_S4x224x224x21

theorem grid1_at (V : RV) (b : Fin 4) (i j : Fin 224) (c : Fin 21) :
    grid1 V (ix4 b i j c) = pts1 V (ix3 b ⟨i.val * 224 + j.val, by have := i.isLt; have := j.isLt; omega⟩ c) := by
  pointwise [grid1]

/-- The first enlargement at an index: two weighted sums. -/
theorem v76_at (V : RV) (b : Fin 4) (i j : Fin 224) (c : Fin 21) :
    (res_main_v76 V : FVec Ideal S4x224x224x21 .f32) (ix4 b i j c)
      = ∑ x : Fin 112, (∑ y : Fin 112, wt 112 (Ideal.ofBits .f32 0x3F000000#32) 1 (Ideal.ofBits .f32 0x42DF0000#32) y i
          * (V (Proc.devRef .tc main_arg0) : FVec Ideal S4x112x112x21 .f32) (ix4 b y x c))
        * wt 112 (Ideal.ofBits .f32 0x3F000000#32) 1 (Ideal.ofBits .f32 0x42DF0000#32) x j := by
  pointwise [res_main_v76, res_main_v6, res_main_v19, res_main_v21, res_main_v43, res_main_v56, res_main_v58]
  rfl

/-- The second enlargement at an index. -/
theorem v442_at (V : RV) (b : Fin 4) (i j : Fin 448) (c : Fin 21) :
    (res_main_v442 V : FVec Ideal S4x448x448x21 .f32) (ix4 b i j c)
      = ∑ x : Fin 224, (∑ y : Fin 224, wt 224 (Ideal.ofBits .f32 0x3F000000#32) 1 (Ideal.ofBits .f32 0x435F8000#32) y i
          * grid1 V (ix4 b y x c))
        * wt 224 (Ideal.ofBits .f32 0x3F000000#32) 1 (Ideal.ofBits .f32 0x435F8000#32) x j := by
  pointwise [res_main_v442, res_main_v372, res_main_v385, res_main_v387, res_main_v409, res_main_v422, res_main_v424]
  refine @Finset.sum_congr (Fin 224) EReal _ _ _ _ _ rfl fun x _ => congrArg₂ (fun a b : EReal => a * b)
    (@Finset.sum_congr (Fin 224) EReal _ _ _ _ _ rfl fun y _ => congrArg₂ (fun a b : EReal => a * b) rfl ?_) rfl
  exact (grid1_at V b y x c).symm

end Cert.RefEnlarge

end
-- ==== Proof.Own.Enlarge.lean ====
/-
  The kernel's ×2 enlargement, one axis at a time: each value is put beside its neighbours with weights 3/4 and 1/4, the
  edge value standing in for the neighbour that is missing. First the host operations, then what they hold at an index.
-/
module

public import proofs.«01_k».proof.Proof.Gen.KernelIdeal.Launch.Ops06
public import proofs.«01_k».proof.Proof.Own.Weights
public import Idealize.ShloMosaic.Lib.Pointwise

@[expose] public section

set_option maxRecDepth 16384

noncomputable section

namespace Cert.Enlarge

open Idealize.ShloMosaic Cert.KernelIdeal Cert.KernelIdeal.Gen
open scoped BigOperators

/-- Rows of the first enlargement, 112 to 224. -/
def rows1 (x : FVec Ideal S4x112x112x21 .f32) : FVec Ideal S4x224x112x21 .f32 :=
  shapeCast _ (concatenate S4x112x2x112x21 2
    [⟨S4x112x1x112x21, broadcastInDim S4x112x1x112x21 ![0, 1, 3, 4] bcast_S4x112x112x21_S4x112x1x112x21_0_1_3_4
        (addf (mulf (broadcastInDim S4x112x112x21 ![] bcast_S_S4x112x112x21 (constant S_ .f32 0x3E800000#32))
            (concatenate S4x112x112x21 1 [⟨S4x1x112x21, extractStridedSlice S4x1x112x21 ![0, 0, 0, 0] x slices_S4x112x112x21_S4x1x112x21_0_0_0_0⟩,
              ⟨S4x111x112x21, extractStridedSlice S4x111x112x21 ![0, 0, 0, 0] x slices_S4x112x112x21_S4x111x112x21_0_0_0_0⟩] concatenates_S4x1x112x21_S4x111x112x21_S4x112x112x21_d1))
          (mulf (broadcastInDim S4x112x112x21 ![] bcast_S_S4x112x112x21 (constant S_ .f32 0x3F400000#32)) x))⟩,
     ⟨S4x112x1x112x21, broadcastInDim S4x112x1x112x21 ![0, 1, 3, 4] bcast_S4x112x112x21_S4x112x1x112x21_0_1_3_4
        (addf (mulf (broadcastInDim S4x112x112x21 ![] bcast_S_S4x112x112x21 (constant S_ .f32 0x3F400000#32)) x)
          (mulf (broadcastInDim S4x112x112x21 ![] bcast_S_S4x112x112x21 (constant S_ .f32 0x3E800000#32))
            (concatenate S4x112x112x21 1 [⟨S4x111x112x21, extractStridedSlice S4x111x112x21 ![0, 1, 0, 0] x slices_S4x112x112x21_S4x111x112x21_0_1_0_0⟩,
              ⟨S4x1x112x21, extractStridedSlice S4x1x112x21 ![0, 111, 0, 0] x slices_S4x112x112x21_S4x1x112x21_0_111_0_0⟩] concatenates_S4x111x112x21_S4x1x112x21_S4x112x112x21_d1)))⟩]
    concatenates_S4x112x1x112x21_S4x112x1x112x21_S4x112x2x112x21_d2) shapeCasts_S4x112x2x112x21_S4x224x112x21

/-- Columns of the first enlargement, 112 to 224. -/
def cols1 (x : FVec Ideal S4x224x112x21 .f32) : FVec Ideal S4x224x224x21 .f32 :=
  shapeCast _ (concatenate S4x224x112x2x21 3
    [⟨S4x224x112x1x21, broadcastInDim S4x224x112x1x21 ![0, 1, 2, 4] bcast_S4x224x112x21_S4x224x112x1x21_0_1_2_4
        (addf (mulf (broadcastInDim S4x224x112x21 ![] bcast_S_S4x224x112x21 (constant S_ .f32 0x3E800000#32))
            (concatenate S4x224x112x21 2 [⟨S4x224x1x21, extractStridedSlice S4x224x1x21 ![0, 0, 0, 0] x slices_S4x224x112x21_S4x224x1x21_0_0_0_0⟩,
              ⟨S4x224x111x21, extractStridedSlice S4x224x111x21 ![0, 0, 0, 0] x slices_S4x224x112x21_S4x224x111x21_0_0_0_0⟩] concatenates_S4x224x1x21_S4x224x111x21_S4x224x112x21_d2))
          (mulf (broadcastInDim S4x224x112x21 ![] bcast_S_S4x224x112x21 (constant S_ .f32 0x3F400000#32)) x))⟩,
     ⟨S4x224x112x1x21, broadcastInDim S4x224x112x1x21 ![0, 1, 2, 4] bcast_S4x224x112x21_S4x224x112x1x21_0_1_2_4
        (addf (mulf (broadcastInDim S4x224x112x21 ![] bcast_S_S4x224x112x21 (constant S_ .f32 0x3F400000#32)) x)
          (mulf (broadcastInDim S4x224x112x21 ![] bcast_S_S4x224x112x21 (constant S_ .f32 0x3E800000#32))
            (concatenate S4x224x112x21 2 [⟨S4x224x111x21, extractStridedSlice S4x224x111x21 ![0, 0, 1, 0] x slices_S4x224x112x21_S4x224x111x21_0_0_1_0⟩,
              ⟨S4x224x1x21, extractStridedSlice S4x224x1x21 ![0, 0, 111, 0] x slices_S4x224x112x21_S4x224x1x21_0_0_111_0⟩] concatenates_S4x224x111x21_S4x224x1x21_S4x224x112x21_d2)))⟩]
    concatenates_S4x224x112x1x21_S4x224x112x1x21_S4x224x112x2x21_d3) shapeCasts_S4x224x112x2x21_S4x224x224x21

/-- Rows of the second enlargement, 224 to 448. -/
def rows2 (x : FVec Ideal S4x224x224x21 .f32) : FVec Ideal S4x448x224x21 .f32 :=
  shapeCast _ (concatenate S4x224x2x224x21 2
    [⟨S4x224x1x224x21, broadcastInDim S4x224x1x224x21 ![0, 1, 3, 4] bcast_S4x224x224x21_S4x224x1x224x21_0_1_3_4
        (addf (mulf (broadcastInDim S4x224x224x21 ![] bcast_S_S4x224x224x21 (constant S_ .f32 0x3E800000#32))
            (concatenate S4x224x224x21 1 [⟨S4x1x224x21, extractStridedSlice S4x1x224x21 ![0, 0, 0, 0] x slices_S4x224x224x21_S4x1x224x21_0_0_0_0⟩,
              ⟨S4x223x224x21, extractStridedSlice S4x223x224x21 ![0, 0, 0, 0] x slices_S4x224x224x21_S4x223x224x21_0_0_0_0⟩] concatenates_S4x1x224x21_S4x223x224x21_S4x224x224x21_d1))
          (mulf (broadcastInDim S4x224x224x21 ![] bcast_S_S4x224x224x21 (constant S_ .f32 0x3F400000#32)) x))⟩,
     ⟨S4x224x1x224x21, broadcastInDim S4x224x1x224x21 ![0, 1, 3, 4] bcast_S4x224x224x21_S4x224x1x224x21_0_1_3_4
        (addf (mulf (broadcastInDim S4x224x224x21 ![] bcast_S_S4x224x224x21 (constant S_ .f32 0x3F400000#32)) x)
          (mulf (broadcastInDim S4x224x224x21 ![] bcast_S_S4x224x224x21 (constant S_ .f32 0x3E800000#32))
            (concatenate S4x224x224x21 1 [⟨S4x223x224x21, extractStridedSlice S4x223x224x21 ![0, 1, 0, 0] x slices_S4x224x224x21_S4x223x224x21_0_1_0_0⟩,
              ⟨S4x1x224x21, extractStridedSlice S4x1x224x21 ![0, 223, 0, 0] x slices_S4x224x224x21_S4x1x224x21_0_223_0_0⟩] concatenates_S4x223x224x21_S4x1x224x21_S4x224x224x21_d1)))⟩]
    concatenates_S4x224x1x224x21_S4x224x1x224x21_S4x224x2x224x21_d2) shapeCasts_S4x224x2x224x21_S4x448x224x21

/-- Columns of the second enlargement, 224 to 448. -/
def cols2 (x : FVec Ideal S4x448x224x21 .f32) : FVec Ideal S4x448x448x21 .f32 :=
  shapeCast _ (concatenate S4x448x224x2x21 3
    [⟨S4x448x224x1x21, broadcastInDim S4x448x224x1x21 ![0, 1, 2, 4] bcast_S4x448x224x21_S4x448x224x1x21_0_1_2_4
        (addf (mulf (broadcastInDim S4x448x224x21 ![] bcast_S_S4x448x224x21 (constant S_ .f32 0x3E800000#32))
            (concatenate S4x448x224x21 2 [⟨S4x448x1x21, extractStridedSlice S4x448x1x21 ![0, 0, 0, 0] x slices_S4x448x224x21_S4x448x1x21_0_0_0_0⟩,
              ⟨S4x448x223x21, extractStridedSlice S4x448x223x21 ![0, 0, 0, 0] x slices_S4x448x224x21_S4x448x223x21_0_0_0_0⟩] concatenates_S4x448x1x21_S4x448x223x21_S4x448x224x21_d2))
          (mulf (broadcastInDim S4x448x224x21 ![] bcast_S_S4x448x224x21 (constant S_ .f32 0x3F400000#32)) x))⟩,
     ⟨S4x448x224x1x21, broadcastInDim S4x448x224x1x21 ![0, 1, 2, 4] bcast_S4x448x224x21_S4x448x224x1x21_0_1_2_4
        (addf (mulf (broadcastInDim S4x448x224x21 ![] bcast_S_S4x448x224x21 (constant S_ .f32 0x3F400000#32)) x)
          (mulf (broadcastInDim S4x448x224x21 ![] bcast_S_S4x448x224x21 (constant S_ .f32 0x3E800000#32))
            (concatenate S4x448x224x21 2 [⟨S4x448x223x21, extractStridedSlice S4x448x223x21 ![0, 0, 1, 0] x slices_S4x448x224x21_S4x448x223x21_0_0_1_0⟩,
              ⟨S4x448x1x21, extractStridedSlice S4x448x1x21 ![0, 0, 223, 0] x slices_S4x448x224x21_S4x448x1x21_0_0_223_0⟩] concatenates_S4x448x223x21_S4x448x1x21_S4x448x224x21_d2)))⟩]
    concatenates_S4x448x224x1x21_S4x448x224x1x21_S4x448x224x2x21_d3) shapeCasts_S4x448x224x2x21_S4x448x448x21

/-- One value of the enlargement of the row `f` of `n` values: the weighted sum of the row. -/
def up (n : ℕ) (f : ℕ → ℝ) (i : ℕ) : ℝ := ∑ k : Fin n, f k.val * (Weights.rawR (1 / 2) 1 k.val i / ∑ x : Fin n, Weights.rawR (1 / 2) 1 x.val i)

/-- The weights at a position add up to one, and to three quarters at the two ends. -/
theorem total_pos {n i : ℕ} (hi : i < 2 * n) : (1 / 2 : ℝ) ≤ ∑ x : Fin n, Weights.rawR (1 / 2) 1 x.val i := by
  rcases Nat.even_or_odd' i with ⟨a, rfl | rfl⟩
  · have h := Weights.sumR_even (n := n) (fun _ => 1) (a := a) (by omega)
    simp only [one_mul] at h
    rw [h]; split_ifs <;> norm_num
  · have h := Weights.sumR_odd (n := n) (fun _ => 1) (a := a) (by omega)
    simp only [one_mul] at h
    rw [h]; split_ifs <;> norm_num

/-- The kernel's neighbours with weights 1/4 and 3/4 are the weighted sum. -/
theorem mix_eq {n : ℕ} (f : ℕ → ℝ) {i : ℕ} (hi : i < 2 * n) :
    (if i % 2 < 1 then (1 / 4 : ℝ) * (if i / 2 < 1 then f (i / 2) else f (i / 2 - 1)) + 3 / 4 * f (i / 2)
      else 3 / 4 * f (i / 2) + 1 / 4 * (if i / 2 < n - 1 then f (1 + i / 2) else f (n - 1 + (i / 2 - (n - 1))))) = up n f i := by
  have s : up n f i = (∑ k : Fin n, f k.val * Weights.rawR (1 / 2) 1 k.val i) / ∑ x : Fin n, Weights.rawR (1 / 2) 1 x.val i := by
    rw [Finset.sum_div]; exact Finset.sum_congr rfl fun k _ => (mul_div_assoc _ _ _).symm
  rw [s]
  rcases Nat.even_or_odd' i with ⟨a, rfl | rfl⟩
  · have h := Weights.sumR_even (n := n) (fun _ => 1) (a := a) (by omega)
    simp only [one_mul] at h
    rw [h, Weights.sumR_even f (by omega : a < n), if_pos (by omega), show 2 * a / 2 = a by omega]
    rcases Nat.eq_zero_or_pos a with g | g
    · subst g; simp; ring
    · rw [if_neg (by omega), if_pos g, if_pos g]; ring
  · have h := Weights.sumR_odd (n := n) (fun _ => 1) (a := a) (by omega)
    simp only [one_mul] at h
    rw [h, Weights.sumR_odd f (by omega : a < n), if_neg (by omega), show (2 * a + 1) / 2 = a by omega]
    by_cases g : a + 1 < n
    · rw [if_pos (by omega), if_pos g, if_pos g, Nat.add_comm 1 a]; ring
    · rw [if_neg (by omega), if_neg g, if_neg g, show n - 1 + (a - (n - 1)) = a by omega]; ring

/-- The same over the ideal numbers, in the form the host operations leave. -/
theorem mix_coe {n : ℕ} (f : ℕ → ℝ) {i : ℕ} (hi : i < 2 * n) :
    (if i % 2 < 1 then Ideal.ofBits .f32 0x3E800000#32 * (if i / 2 < 1 then (f (i / 2) : EReal) else (f (i / 2 - 1) : EReal))
        + Ideal.ofBits .f32 0x3F400000#32 * (f (i / 2) : EReal)
      else Ideal.ofBits .f32 0x3F400000#32 * (f (i / 2) : EReal)
        + Ideal.ofBits .f32 0x3E800000#32 * (if i / 2 < n - 1 then (f (1 + i / 2) : EReal) else (f (n - 1 + (i / 2 - (n - 1))) : EReal)))
      = ((up n f i : ℝ) : EReal) := by
  rw [← mix_eq f hi, lit_quarter, lit_threequarters]
  split_ifs <;> simp only [EReal.coe_add, EReal.coe_mul]

theorem rows1_at (x : FVec Ideal S4x112x112x21 .f32) (b : Fin 4) (i : Fin 224) (j : Fin 112) (c : Fin 21) (f : ℕ → ℝ)
    (h : ∀ k : Fin 112, x (ix4 b k j c) = (f k.val : EReal)) : rows1 x (ix4 b i j c) = (up 112 f i.val : EReal) := by
  pointwise [rows1]
  simp only [h, dite_eq_ite]
  exact mix_coe (n := 112) f (by have := i.isLt; omega)

theorem cols1_at (x : FVec Ideal S4x224x112x21 .f32) (b : Fin 4) (i : Fin 224) (j : Fin 224) (c : Fin 21) (f : ℕ → ℝ)
    (h : ∀ k : Fin 112, x (ix4 b i k c) = (f k.val : EReal)) : cols1 x (ix4 b i j c) = (up 112 f j.val : EReal) := by
  pointwise [cols1]
  simp only [h, dite_eq_ite]
  exact mix_coe (n := 112) f (by have := j.isLt; omega)

theorem rows2_at (x : FVec Ideal S4x224x224x21 .f32) (b : Fin 4) (i : Fin 448) (j : Fin 224) (c : Fin 21) (f : ℕ → ℝ)
    (h : ∀ k : Fin 224, x (ix4 b k j c) = (f k.val : EReal)) : rows2 x (ix4 b i j c) = (up 224 f i.val : EReal) := by
  pointwise [rows2]
  simp only [h, dite_eq_ite]
  exact mix_coe (n := 224) f (by have := i.isLt; omega)

theorem cols2_at (x : FVec Ideal S4x448x224x21 .f32) (b : Fin 4) (i : Fin 448) (j : Fin 448) (c : Fin 21) (f : ℕ → ℝ)
    (h : ∀ k : Fin 224, x (ix4 b i k c) = (f k.val : EReal)) : cols2 x (ix4 b i j c) = (up 224 f j.val : EReal) := by
  pointwise [cols2]
  simp only [h, dite_eq_ite]
  exact mix_coe (n := 224) f (by have := j.isLt; omega)

/-- The reference's weighted sum of a row of real numbers. -/
theorem wsum {n : ℕ} (hn : n ≤ 2 ^ 30) {hr : ℝ} (hh : (n : ℝ) - 1 / 2 ≤ hr) (g : Fin n → EReal) (f : ℕ → ℝ) (hg : ∀ k, g k = (f k.val : EReal))
    {i : ℕ} (hi : i < 2 * n) :
    ∑ k : Fin n, g k * Weights.wt n ((1 / 2 : ℝ) : EReal) ((1 : ℝ) : EReal) (hr : EReal) k.val i = ((up n f i : ℝ) : EReal) := by
  unfold up
  rw [← coe_sum]
  refine Finset.sum_congr rfl fun k _ => ?_
  have hi' : (i : ℝ) + 1 ≤ 2 * n := by exact_mod_cast hi
  have hi0 : (0 : ℝ) ≤ i := Nat.cast_nonneg i
  rw [hg k, Weights.wt_real n (1 / 2) one_ne_zero (by omega) k.isLt (by omega) (by linarith) (by linarith) rfl (total_pos hi), ← EReal.coe_mul]

/-- Both axes of the first enlargement, for an array of real numbers: the reference's two weighted sums. -/
theorem both1 (x : FVec Ideal S4x112x112x21 .f32) (hx : ∀ i, IsReal (x i)) (b : Fin 4) (i j : Fin 224) (c : Fin 21) :
    cols1 (rows1 x) (ix4 b i j c)
      = ∑ k : Fin 112, (∑ y : Fin 112, Weights.wt 112 (Ideal.ofBits .f32 0x3F000000#32) 1 (Ideal.ofBits .f32 0x42DF0000#32) y i * x (ix4 b y k c))
        * Weights.wt 112 (Ideal.ofBits .f32 0x3F000000#32) 1 (Ideal.ofBits .f32 0x42DF0000#32) k j := by
  choose g hg using hx
  have hr : ∀ k : Fin 112, rows1 x (ix4 b i k c) = (up 112 (fun y => if h : y < 112 then g (ix4 b ⟨y, h⟩ k c) else 0) i.val : EReal) :=
    fun k => rows1_at x b i k c _ fun y => by simp only [y.isLt, dite_true, Fin.eta, hg]
  rw [cols1_at (rows1 x) b i j c (fun k => if hk : k < 112 then up 112 (fun y => if h : y < 112 then g (ix4 b ⟨y, h⟩ ⟨k, hk⟩ c) else 0) i.val else 0)
    fun k => by simp only [k.isLt, dite_true, Fin.eta, hr]]
  rw [lit_half, lit_111h, ← EReal.coe_one]
  rw [← wsum (hr := 223 / 2) (by norm_num) (by norm_num) (fun k => rows1 x (ix4 b i k c)) _ (fun k => by simp only [k.isLt, dite_true, Fin.eta, hr]) (by have := j.isLt; omega)]
  refine Finset.sum_congr rfl fun k _ => ?_
  rw [hr k, ← wsum (hr := 223 / 2) (by norm_num) (by norm_num) (fun y => x (ix4 b y k c)) _ (fun y => by simp only [y.isLt, dite_true, Fin.eta, hg]) (by have := i.isLt; omega)]
  simp only [mul_comm (x _)]

/-- Both axes of the second enlargement. -/
theorem both2 (x : FVec Ideal S4x224x224x21 .f32) (hx : ∀ i, IsReal (x i)) (b : Fin 4) (i j : Fin 448) (c : Fin 21) :
    cols2 (rows2 x) (ix4 b i j c)
      = ∑ k : Fin 224, (∑ y : Fin 224, Weights.wt 224 (Ideal.ofBits .f32 0x3F000000#32) 1 (Ideal.ofBits .f32 0x435F8000#32) y i * x (ix4 b y k c))
        * Weights.wt 224 (Ideal.ofBits .f32 0x3F000000#32) 1 (Ideal.ofBits .f32 0x435F8000#32) k j := by
  choose g hg using hx
  have hr : ∀ k : Fin 224, rows2 x (ix4 b i k c) = (up 224 (fun y => if h : y < 224 then g (ix4 b ⟨y, h⟩ k c) else 0) i.val : EReal) :=
    fun k => rows2_at x b i k c _ fun y => by simp only [y.isLt, dite_true, Fin.eta, hg]
  rw [cols2_at (rows2 x) b i j c (fun k => if hk : k < 224 then up 224 (fun y => if h : y < 224 then g (ix4 b ⟨y, h⟩ ⟨k, hk⟩ c) else 0) i.val else 0)
    fun k => by simp only [k.isLt, dite_true, Fin.eta, hr]]
  rw [lit_half, lit_223h, ← EReal.coe_one]
  rw [← wsum (hr := 447 / 2) (by norm_num) (by norm_num) (fun k => rows2 x (ix4 b i k c)) _ (fun k => by simp only [k.isLt, dite_true, Fin.eta, hr]) (by have := j.isLt; omega)]
  refine Finset.sum_congr rfl fun k _ => ?_
  rw [hr k, ← wsum (hr := 447 / 2) (by norm_num) (by norm_num) (fun y => x (ix4 b y k c)) _ (fun y => by simp only [y.isLt, dite_true, Fin.eta, hg]) (by have := i.isLt; omega)]
  simp only [mul_comm (x _)]

/-- The second enlargement of real numbers is made of real numbers. -/
theorem real2 (x : FVec Ideal S4x224x224x21 .f32) (hx : ∀ i, IsReal (x i)) (b : Fin 4) (i j : Fin 448) (c : Fin 21) :
    IsReal (cols2 (rows2 x) (ix4 b i j c)) := by
  choose g hg using hx
  have hr : ∀ k : Fin 224, rows2 x (ix4 b i k c) = (up 224 (fun y => if h : y < 224 then g (ix4 b ⟨y, h⟩ k c) else 0) i.val : EReal) :=
    fun k => rows2_at x b i k c _ fun y => by simp only [y.isLt, dite_true, Fin.eta, hg]
  exact ⟨_, cols2_at (rows2 x) b i j c (fun k => if hk : k < 224 then up 224 (fun y => if h : y < 224 then g (ix4 b ⟨y, h⟩ ⟨k, hk⟩ c) else 0) i.val else 0)
    fun k => by simp only [k.isLt, dite_true, Fin.eta, hr]⟩

/-- The first enlargement of real numbers is made of real numbers. -/
theorem real1 (x : FVec Ideal S4x112x112x21 .f32) (hx : ∀ i, IsReal (x i)) (b : Fin 4) (i j : Fin 224) (c : Fin 21) :
    IsReal (cols1 (rows1 x) (ix4 b i j c)) := by
  choose g hg using hx
  have hr : ∀ k : Fin 112, rows1 x (ix4 b i k c) = (up 112 (fun y => if h : y < 112 then g (ix4 b ⟨y, h⟩ k c) else 0) i.val : EReal) :=
    fun k => rows1_at x b i k c _ fun y => by simp only [y.isLt, dite_true, Fin.eta, hg]
  exact ⟨_, cols1_at (rows1 x) b i j c (fun k => if hk : k < 112 then up 112 (fun y => if h : y < 112 then g (ix4 b ⟨y, h⟩ ⟨k, hk⟩ c) else 0) i.val else 0)
    fun k => by simp only [k.isLt, dite_true, Fin.eta, hr]⟩

end Cert.Enlarge

end
-- ==== Proof.Own.Order.lean ====
/-
  The largest and the largest but one of a row, two ways: by a sort, and by a maximum, the first lane that holds it, and the
  maximum of the other lanes.
-/
module

public import Idealize.ShloMosaic.PureOps
public import Idealize.ShloMosaic.Lib.Pointwise
public import Idealize.ShloMosaic.Lib.SortFacts
public import proofs.«01_k».proof.Proof.Own.Real

@[expose] public section

noncomputable section

namespace Cert.Gap

open Idealize.ShloMosaic

/-! ### What a sort leaves first and second -/

/-- The order of the sort: the permutation that puts the greater value first. -/
def order {n : ℕ} (f : Fin n → EReal) : Fin n → Fin n :=
  sortedFrom (fun k k' => FloatOps.cmpfTotal (F := Ideal) (φ := .f32) .gt (f k) (f k') == 1#1)

theorem order_le {n : ℕ} (f : Fin n → EReal) {i j : Fin n} (h : i < j) : f (order f j) ≤ f (order f i) := by
  have gt : ∀ a b : Fin n, (FloatOps.cmpfTotal (F := Ideal) (φ := .f32) .gt (f a) (f b) == 1#1) = decide (f b < f a) := by
    intro a b
    show (BitVec.ofBool (decide (f a > f b)) == 1#1) = _
    by_cases hh : f b < f a
    · simp [hh]
    · simp [hh]
  have := sortedFrom_noInversion (fun k k' => decide (f k' < f k)) (fun k k' => decide (f k' < f k))
    (fun a b h => by exact decide_eq_false (not_lt.mpr (of_decide_eq_true h).le)) (fun a b h => h)
    (fun a b c h1 h2 => by simp only [decide_eq_false_iff_not, not_lt] at *; exact h1.trans h2) i j h
  unfold order
  simp only [gt]
  simpa using this

/-- The first of the order is the largest. -/
theorem order_first {n : ℕ} (f : Fin (n + 1) → EReal) (c : Fin (n + 1)) : f c ≤ f (order f 0) := by
  obtain ⟨k, rfl⟩ := sortedFrom_surjective (fun k k' => FloatOps.cmpfTotal (F := Ideal) (φ := .f32) .gt (f k) (f k') == 1#1) c
  rcases Fin.eq_zero_or_eq_succ k with rfl | ⟨j, rfl⟩
  · exact le_rfl
  · exact order_le f (Fin.succ_pos j)

/-- The second of the order is the largest but one: the largest once any lane that holds the largest is left out. -/
theorem order_second {n : ℕ} (f : Fin (n + 2) → EReal) (a : Fin (n + 2)) (ha : f a = f (order f 0)) :
    (Finset.univ.fold max ⊥ fun c => if c = a then ⊥ else f c) = f (order f 1) := by
  apply le_antisymm
  · refine (Finset.fold_max_le _).mpr ⟨bot_le, fun c _ => ?_⟩
    split_ifs with h
    · exact bot_le
    · obtain ⟨k, rfl⟩ := sortedFrom_surjective (fun k k' => FloatOps.cmpfTotal (F := Ideal) (φ := .f32) .gt (f k) (f k') == 1#1) c
      obtain ⟨l, rfl⟩ := sortedFrom_surjective (fun k k' => FloatOps.cmpfTotal (F := Ideal) (φ := .f32) .gt (f k) (f k') == 1#1) a
      change f (order f k) ≤ f (order f 1)
      rcases lt_trichotomy k 1 with g | g | g
      · have hk : k = 0 := Fin.ext (by have : k.val < 1 := g; simpa using Nat.lt_one_iff.mp this)
        subst hk
        have hl : 1 ≤ l := by
          by_contra hl
          have : l = 0 := Fin.ext (by have : l.val < 1 := not_le.mp hl; simpa using Nat.lt_one_iff.mp this)
          exact h (this ▸ rfl)
        change f (order f l) = _ at ha
        rw [← ha]
        rcases hl.eq_or_lt with e | e
        · rw [← e]
        · exact order_le f e
      · rw [g]
      · exact order_le f g
  · by_cases h : order f 1 = a
    · have h0 : order f 0 ≠ a := fun e => by
        have := sortedFrom_injective (fun k k' => FloatOps.cmpfTotal (F := Ideal) (φ := .f32) .gt (f k) (f k') == 1#1) (h.trans e.symm)
        exact absurd this (by simp)
      refine le_trans (order_first f _) (Finset.le_fold_max _ |>.mpr (Or.inr ⟨order f 0, Finset.mem_univ _, ?_⟩))
      rw [if_neg h0]
    · refine Finset.le_fold_max _ |>.mpr (Or.inr ⟨order f 1, Finset.mem_univ _, ?_⟩)
      rw [if_neg h]

theorem order_max {n : ℕ} (f : Fin (n + 1) → EReal) : (Finset.univ.fold max ⊥ f) = f (order f 0) :=
  le_antisymm ((Finset.fold_max_le _).mpr ⟨bot_le, fun c _ => order_first f c⟩)
    (Finset.le_fold_max _ |>.mpr (Or.inr ⟨_, Finset.mem_univ _, le_rfl⟩))

theorem minsi_le (a b : BitVec 32) : (IntOp.minsi a b).toInt = min a.toInt b.toInt := by
  unfold IntOp.minsi
  split_ifs with h <;> simp only [BitVec.slt, decide_eq_true_eq, BitVec.sle] at h <;> omega

/-- The least word of a family: below the start, and the start or one of the family. -/
theorem fold_minsi {ι : Type} [DecidableEq ι] (s : Finset ι) (g : ι → BitVec 32) (v : BitVec 32) :
    (∀ i ∈ s, (s.fold IntOp.minsi v g).toInt ≤ (g i).toInt) ∧ (s.fold IntOp.minsi v g = v ∨ ∃ i ∈ s, s.fold IntOp.minsi v g = g i) := by
  induction s using Finset.induction_on with
  | empty => exact ⟨by simp, Or.inl rfl⟩
  | insert a s ha ih =>
    rw [Finset.fold_insert ha]
    refine ⟨fun i hi => ?_, ?_⟩
    · rw [minsi_le]
      rcases Finset.mem_insert.mp hi with rfl | hi
      · exact min_le_left _ _
      · exact (min_le_right _ _).trans (ih.1 i hi)
    · unfold IntOp.minsi
      split_ifs
      · exact Or.inr ⟨a, Finset.mem_insert_self _ _, rfl⟩
      · rcases ih.2 with e | ⟨i, hi, e⟩
        · exact Or.inl e
        · exact Or.inr ⟨i, Finset.mem_insert_of_mem hi, e⟩

/-- The least lane that holds `m` is a lane that holds it. -/
theorem lane_spec (f : Fin 21 → EReal) (m : EReal) (h : ∃ c, f c = m) :
    ∃ a : Fin 21, f a = m ∧ Finset.univ.fold IntOp.minsi (2147483647#32) (fun c : Fin 21 => if f c = m then BitVec.ofNat 32 c.val else 21#32) = BitVec.ofNat 32 a.val := by
  obtain ⟨c, hc⟩ := h
  have s := fold_minsi Finset.univ (fun c : Fin 21 => if f c = m then BitVec.ofNat 32 c.val else 21#32) (2147483647#32)
  have small : ∀ c : Fin 21, (BitVec.ofNat 32 c.val).toInt < 21 := by decide
  have hle := s.1 c (Finset.mem_univ _)
  simp only [hc, if_true] at hle
  have hlt := lt_of_le_of_lt hle (small c)
  rcases s.2 with e | ⟨a, -, e⟩
  · rw [e] at hlt; exact absurd hlt (by decide)
  · by_cases ha : f a = m
    · exact ⟨a, ha, by rw [e, if_pos ha]⟩
    · rw [e, if_neg ha] at hlt; exact absurd hlt (by decide)

end Cert.Gap

end
-- ==== Proof.Own.Gap.lean ====
/-
  The measure the points are chosen by. The kernel takes the largest of the 21 values of a point, the first lane that holds
  it, and the largest of the other lanes; the reference sorts the 21 values and takes the first two. Both then subtract.
  Once on the 224 × 224 grid, once on the 448 × 448 grid.
-/
module

public import proofs.«01_k».proof.Proof.Gen.KernelIdeal.Launch.Ops06
public import proofs.«01_k».proof.Proof.Gen.ReferenceIdeal
public import proofs.«01_k».proof.Proof.Own.Order

@[expose] public section

set_option maxRecDepth 16384

noncomputable section

namespace Cert.Gap

open Idealize.ShloMosaic Cert.KernelIdeal Cert.KernelIdeal.Gen

/-- The two values per point that the sort leaves. -/
abbrev S4x224x224x2 : Shape := ⟨4, ![4, 224, 224, 2]⟩
abbrev S4x448x448x2 : Shape := ⟨4, ![4, 448, 448, 2]⟩

theorem subf_at {s : Shape} (a b : FVec Ideal s .f32) (i : s.Idx) : subf a b i = (a i : EReal) - b i := rfl

/-! ### The 224 × 224 grid -/

/-- The largest of the 21 values. -/
def top1 (x : FVec Ideal S4x224x224x21 .f32) : FVec Ideal S4x224x224 .f32 :=
  Host.reduce FloatOps.maximumf x (constant S_ .f32 0xFF800000#32) reducesTo_S4x224x224x21_S4x224x224_d3 h_S_

/-- The first lane of the 21 that holds `m`. -/
def lane1 (x : FVec Ideal S4x224x224x21 .f32) (m : FVec Ideal S4x224x224 .f32) : IVec S4x224x224 32 :=
  Host.reduce IntOp.minsi
    (select (cmpf .oeq x (broadcastInDim S4x224x224x21 ![0, 1, 2, 3] bcast_S4x224x224x1_S4x224x224x21_0_1_2_3
        (broadcastInDim S4x224x224x1 ![0, 1, 2] bcast_S4x224x224_S4x224x224x1_0_1_2 m)))
      (iotaInDim S4x224x224x21 32 3) (broadcastInDim S4x224x224x21 ![] bcast_S_S4x224x224x21 (constantI S_ 32 21#32)))
    (constantI S_ 32 2147483647#32) reducesTo_S4x224x224x21_S4x224x224_d3 h_S_

/-- The 21 values with −∞ put at lane `l`. -/
def rest1 (x : FVec Ideal S4x224x224x21 .f32) (l : IVec S4x224x224 32) : FVec Ideal S4x224x224x21 .f32 :=
  select (cmpi .eq (iotaInDim S4x224x224x21 32 3) (broadcastInDim S4x224x224x21 ![0, 1, 2, 3] bcast_S4x224x224x1_S4x224x224x21_0_1_2_3
      (broadcastInDim S4x224x224x1 ![0, 1, 2] bcast_S4x224x224_S4x224x224x1_0_1_2 l)))
    (broadcastInDim S4x224x224x21 ![] bcast_S_S4x224x224x21 (constant S_ .f32 0xFF800000#32)) x

/-- A grid as a list of points. -/
def flat1 (g : FVec Ideal S4x224x224 .f32) : FVec Ideal S4x50176 .f32 := shapeCast _ g shapeCasts_S4x224x224_S4x50176

/-- The largest of the other lanes, less the largest. -/
def gap1 (x : FVec Ideal S4x224x224x21 .f32) : FVec Ideal S4x50176 .f32 :=
  flat1 (subf (top1 (rest1 x (lane1 x (top1 x)))) (top1 x))

theorem top1_at (x : FVec Ideal S4x224x224x21 .f32) (b : Fin 4) (i j : Fin 224) :
    top1 x (ix3 b i j) = Finset.univ.fold max (Ideal.ofBits FTy.f32 0xFF800000#32) (fun c : Fin 21 => x (ix4 b i j c)) := by
  pointwise [top1]

theorem lane1_at (x : FVec Ideal S4x224x224x21 .f32) (m : FVec Ideal S4x224x224 .f32) (b : Fin 4) (i j : Fin 224) :
    lane1 x m (ix3 b i j)
      = Finset.univ.fold IntOp.minsi (2147483647#32) (fun c : Fin 21 => if x (ix4 b i j c) = m (ix3 b i j) then BitVec.ofNat 32 c.val else 21#32) := by
  pointwise [lane1]

theorem rest1_at (x : FVec Ideal S4x224x224x21 .f32) (l : IVec S4x224x224 32) (b : Fin 4) (i j : Fin 224) (c : Fin 21) :
    rest1 x l (ix4 b i j c) = Scalar.select (IntOp.cmpi .eq (BitVec.ofNat 32 c.val) (l (ix3 b i j))) (Ideal.ofBits FTy.f32 0xFF800000#32) (x (ix4 b i j c)) := by
  pointwise [rest1]

theorem flat1_at (g : FVec Ideal S4x224x224 .f32) (b : Fin 4) (i : Fin 50176) :
    flat1 g (ix2 b i) = g (ix3 b ⟨i.val / 224, by have := i.isLt; omega⟩ ⟨i.val % 224, by have := i.isLt; omega⟩) := by
  pointwise [flat1]

theorem along_last (b : Fin 4) (i j : Fin 224) (k c : Fin 21) : (ix4 b i j k).along 3 c = ix4 b i j c := by
  funext a
  fin_cases a <;> rfl

/-- The first two of the sorted row. -/
theorem topk_at (x : FVec Ideal S4x224x224x21 .f32) (b : Fin 4) (i j : Fin 224) (k : Fin 2) :
  (Host.topK S4x224x224x2 3 (FloatOps.cmpfTotal (F := Ideal) (φ := .f32) .gt) x (by decide)).1 (ix4 b i j k) = x (ix4 b i j
     (order (fun c : Fin 21 => x (ix4 b i j c)) (k.castLE (by omega)))) := by
  unfold Host.topK
  dsimp only
  rw [Host.sort2_eq_sortBy]
  dsimp only
  unfold Host.sortBy
  pointwise
  simp only [along_last]
  rfl

/-- The reference's difference: the second of the sorted row less the first, as a list of points. -/
def spread1 (v : FVec Ideal S4x224x224x2 .f32) : FVec Ideal S4x50176 .f32 :=
  shapeCast _ (subf
    (shapeCast _ (extractStridedSlice ReferenceIdeal.S4x224x224x1 ![0, 0, 0, 1] v ReferenceIdeal.Gen.slices_S4x224x224x2_S4x224x224x1_0_0_0_1) ReferenceIdeal.Gen.shapeCasts_S4x224x224x1_S4x224x224)
    (shapeCast _ (extractStridedSlice ReferenceIdeal.S4x224x224x1 ![0, 0, 0, 0] v ReferenceIdeal.Gen.slices_S4x224x224x2_S4x224x224x1_0_0_0_0) ReferenceIdeal.Gen.shapeCasts_S4x224x224x1_S4x224x224))
    shapeCasts_S4x224x224_S4x50176

theorem spread1_at (v : FVec Ideal S4x224x224x2 .f32) (b : Fin 4) (i : Fin 50176) :
    spread1 v (ix2 b i) = v (ix4 b ⟨i.val / 224, by have := i.isLt; omega⟩ ⟨i.val % 224, by have := i.isLt; omega⟩ 1)
      - v (ix4 b ⟨i.val / 224, by have := i.isLt; omega⟩ ⟨i.val % 224, by have := i.isLt; omega⟩ 0) := by
  pointwise [spread1]

/-- The kernel's difference at a point: the second of the order less the first. -/
theorem gap1_at (x : FVec Ideal S4x224x224x21 .f32) (b : Fin 4) (i j : Fin 224) :
    top1 (rest1 x (lane1 x (top1 x))) (ix3 b i j) - top1 x (ix3 b i j)
      = x (ix4 b i j (order (fun c : Fin 21 => x (ix4 b i j c)) 1)) - x (ix4 b i j (order (fun c : Fin 21 => x (ix4 b i j c)) 0)) := by
  have h1 : top1 x (ix3 b i j) = x (ix4 b i j (order (fun c : Fin 21 => x (ix4 b i j c)) 0)) := by
    rw [top1_at, lit_neg_inf]; exact order_max (fun c : Fin 21 => x (ix4 b i j c))
  obtain ⟨a, ha, e⟩ := lane_spec (fun c : Fin 21 => x (ix4 b i j c)) (top1 x (ix3 b i j)) ⟨_, h1.symm⟩
  have hl : lane1 x (top1 x) (ix3 b i j) = BitVec.ofNat 32 a.val := by rw [lane1_at]; exact e
  have hs : ∀ c : Fin 21, rest1 x (lane1 x (top1 x)) (ix4 b i j c) = if c = a then ⊥ else x (ix4 b i j c) := fun c => by
    rw [rest1_at, hl, lit_neg_inf]
    have : ∀ c a : Fin 21, IntOp.cmpi .eq (BitVec.ofNat 32 c.val) (BitVec.ofNat 32 a.val) = if c = a then 1#1 else 0#1 := by decide
    rw [this]
    split_ifs <;> rfl
  rw [top1_at (rest1 x _), lit_neg_inf, h1]
  simp only [hs]
  rw [order_second (fun c : Fin 21 => x (ix4 b i j c)) a (ha.trans h1)]

/-- The two lists of differences are the same. -/
theorem gap1_eq (x : FVec Ideal S4x224x224x21 .f32) (h : S4x224x224x21.Slices (fun _ => 0) S4x224x224x2) :
    gap1 x = spread1 (Host.topK S4x224x224x2 3 (FloatOps.cmpfTotal (F := Ideal) (φ := .f32) .gt) x h).1 := by
  funext i
  idx_vars i
  unfold gap1
  rw [flat1_at, spread1_at]
  rw [subf_at, gap1_at, topk_at, topk_at]
  rfl

/-! ### The 448 × 448 grid -/

/-- The largest of the 21 values. -/
def top2 (x : FVec Ideal S4x448x448x21 .f32) : FVec Ideal S4x448x448 .f32 :=
  Host.reduce FloatOps.maximumf x (constant S_ .f32 0xFF800000#32) reducesTo_S4x448x448x21_S4x448x448_d3 h_S_

/-- The first lane of the 21 that holds `m`. -/
def lane2 (x : FVec Ideal S4x448x448x21 .f32) (m : FVec Ideal S4x448x448 .f32) : IVec S4x448x448 32 :=
  Host.reduce IntOp.minsi
    (select (cmpf .oeq x (broadcastInDim S4x448x448x21 ![0, 1, 2, 3] bcast_S4x448x448x1_S4x448x448x21_0_1_2_3
        (broadcastInDim S4x448x448x1 ![0, 1, 2] bcast_S4x448x448_S4x448x448x1_0_1_2 m)))
      (iotaInDim S4x448x448x21 32 3) (broadcastInDim S4x448x448x21 ![] bcast_S_S4x448x448x21 (constantI S_ 32 21#32)))
    (constantI S_ 32 2147483647#32) reducesTo_S4x448x448x21_S4x448x448_d3 h_S_

/-- The 21 values with −∞ put at lane `l`. -/
def rest2 (x : FVec Ideal S4x448x448x21 .f32) (l : IVec S4x448x448 32) : FVec Ideal S4x448x448x21 .f32 :=
  select (cmpi .eq (iotaInDim S4x448x448x21 32 3) (broadcastInDim S4x448x448x21 ![0, 1, 2, 3] bcast_S4x448x448x1_S4x448x448x21_0_1_2_3
      (broadcastInDim S4x448x448x1 ![0, 1, 2] bcast_S4x448x448_S4x448x448x1_0_1_2 l)))
    (broadcastInDim S4x448x448x21 ![] bcast_S_S4x448x448x21 (constant S_ .f32 0xFF800000#32)) x

/-- A grid as a list of points. -/
def flat2 (g : FVec Ideal S4x448x448 .f32) : FVec Ideal S4x200704 .f32 := shapeCast _ g shapeCasts_S4x448x448_S4x200704

/-- The largest of the other lanes, less the largest. -/
def gap2 (x : FVec Ideal S4x448x448x21 .f32) : FVec Ideal S4x200704 .f32 :=
  flat2 (subf (top2 (rest2 x (lane2 x (top2 x)))) (top2 x))

theorem top2_at (x : FVec Ideal S4x448x448x21 .f32) (b : Fin 4) (i j : Fin 448) :
    top2 x (ix3 b i j) = Finset.univ.fold max (Ideal.ofBits FTy.f32 0xFF800000#32) (fun c : Fin 21 => x (ix4 b i j c)) := by
  pointwise [top2]

theorem lane2_at (x : FVec Ideal S4x448x448x21 .f32) (m : FVec Ideal S4x448x448 .f32) (b : Fin 4) (i j : Fin 448) :
    lane2 x m (ix3 b i j)
      = Finset.univ.fold IntOp.minsi (2147483647#32) (fun c : Fin 21 => if x (ix4 b i j c) = m (ix3 b i j) then BitVec.ofNat 32 c.val else 21#32) := by
  pointwise [lane2]

theorem rest2_at (x : FVec Ideal S4x448x448x21 .f32) (l : IVec S4x448x448 32) (b : Fin 4) (i j : Fin 448) (c : Fin 21) :
    rest2 x l (ix4 b i j c) = Scalar.select (IntOp.cmpi .eq (BitVec.ofNat 32 c.val) (l (ix3 b i j))) (Ideal.ofBits FTy.f32 0xFF800000#32) (x (ix4 b i j c)) := by
  pointwise [rest2]

theorem flat2_at (g : FVec Ideal S4x448x448 .f32) (b : Fin 4) (i : Fin 200704) :
    flat2 g (ix2 b i) = g (ix3 b ⟨i.val / 448, by have := i.isLt; omega⟩ ⟨i.val % 448, by have := i.isLt; omega⟩) := by
  pointwise [flat2]

theorem along_last2 (b : Fin 4) (i j : Fin 448) (k c : Fin 21) : (ix4 b i j k).along 3 c = ix4 b i j c := by
  funext a
  fin_cases a <;> rfl

/-- The first two of the sorted row. -/
theorem topk2_at (x : FVec Ideal S4x448x448x21 .f32) (b : Fin 4) (i j : Fin 448) (k : Fin 2) :
  (Host.topK S4x448x448x2 3 (FloatOps.cmpfTotal (F := Ideal) (φ := .f32) .gt) x (by decide)).1 (ix4 b i j k) = x (ix4 b i j
     (order (fun c : Fin 21 => x (ix4 b i j c)) (k.castLE (by omega)))) := by
  unfold Host.topK
  dsimp only
  rw [Host.sort2_eq_sortBy]
  dsimp only
  unfold Host.sortBy
  pointwise
  simp only [along_last2]
  rfl

/-- The reference's difference: the second of the sorted row less the first, as a list of points. -/
def spread2 (v : FVec Ideal S4x448x448x2 .f32) : FVec Ideal S4x200704 .f32 :=
  shapeCast _ (subf
    (shapeCast _ (extractStridedSlice ReferenceIdeal.S4x448x448x1 ![0, 0, 0, 1] v ReferenceIdeal.Gen.slices_S4x448x448x2_S4x448x448x1_0_0_0_1) ReferenceIdeal.Gen.shapeCasts_S4x448x448x1_S4x448x448)
    (shapeCast _ (extractStridedSlice ReferenceIdeal.S4x448x448x1 ![0, 0, 0, 0] v ReferenceIdeal.Gen.slices_S4x448x448x2_S4x448x448x1_0_0_0_0) ReferenceIdeal.Gen.shapeCasts_S4x448x448x1_S4x448x448))
    shapeCasts_S4x448x448_S4x200704

theorem spread2_at (v : FVec Ideal S4x448x448x2 .f32) (b : Fin 4) (i : Fin 200704) :
    spread2 v (ix2 b i) = v (ix4 b ⟨i.val / 448, by have := i.isLt; omega⟩ ⟨i.val % 448, by have := i.isLt; omega⟩ 1)
      - v (ix4 b ⟨i.val / 448, by have := i.isLt; omega⟩ ⟨i.val % 448, by have := i.isLt; omega⟩ 0) := by
  pointwise [spread2]

/-- The kernel's difference at a point: the second of the order less the first. -/
theorem gap2_at (x : FVec Ideal S4x448x448x21 .f32) (b : Fin 4) (i j : Fin 448) :
    top2 (rest2 x (lane2 x (top2 x))) (ix3 b i j) - top2 x (ix3 b i j)
      = x (ix4 b i j (order (fun c : Fin 21 => x (ix4 b i j c)) 1)) - x (ix4 b i j (order (fun c : Fin 21 => x (ix4 b i j c)) 0)) := by
  have h1 : top2 x (ix3 b i j) = x (ix4 b i j (order (fun c : Fin 21 => x (ix4 b i j c)) 0)) := by
    rw [top2_at, lit_neg_inf]; exact order_max (fun c : Fin 21 => x (ix4 b i j c))
  obtain ⟨a, ha, e⟩ := lane_spec (fun c : Fin 21 => x (ix4 b i j c)) (top2 x (ix3 b i j)) ⟨_, h1.symm⟩
  have hl : lane2 x (top2 x) (ix3 b i j) = BitVec.ofNat 32 a.val := by rw [lane2_at]; exact e
  have hs : ∀ c : Fin 21, rest2 x (lane2 x (top2 x)) (ix4 b i j c) = if c = a then ⊥ else x (ix4 b i j c) := fun c => by
    rw [rest2_at, hl, lit_neg_inf]
    have : ∀ c a : Fin 21, IntOp.cmpi .eq (BitVec.ofNat 32 c.val) (BitVec.ofNat 32 a.val) = if c = a then 1#1 else 0#1 := by decide
    rw [this]
    split_ifs <;> rfl
  rw [top2_at (rest2 x _), lit_neg_inf, h1]
  simp only [hs]
  rw [order_second (fun c : Fin 21 => x (ix4 b i j c)) a (ha.trans h1)]

/-- The two lists of differences are the same. -/
theorem gap2_eq (x : FVec Ideal S4x448x448x21 .f32) (h : S4x448x448x21.Slices (fun _ => 0) S4x448x448x2) :
    gap2 x = spread2 (Host.topK S4x448x448x2 3 (FloatOps.cmpfTotal (F := Ideal) (φ := .f32) .gt) x h).1 := by
  funext i
  idx_vars i
  unfold gap2
  rw [flat2_at, spread2_at]
  rw [subf_at, gap2_at, topk2_at, topk2_at]
  rfl

end Cert.Gap

end
-- ==== Proof.Own.Reads.lean ====
/-
  Help for reading a host stretch: two-part concatenations under a name that a rewriting step can enter.
-/
module

public import proofs.«01_k».proof.Proof.Gen.ReferenceIdeal.Run
public import proofs.«01_k».proof.Proof.Gen.KernelIdeal.Frame
public import Idealize.ShloMosaic.Lib.Pointwise
public import Idealize.ShloMosaic.Lib.StableHlo.RunRead
public import proofs.«01_k».proof.Proof.Own.RefEnlarge
public import proofs.«01_k».proof.Proof.Own.Enlarge
public import proofs.«01_k».proof.Proof.Own.Gap

@[expose] public section

noncomputable section

namespace Cert.Reads

open Idealize.ShloMosaic Idealize.SL.Sem

/-- The kernel's valuations. -/
abbrev KV := Valuation Cert.KernelIdeal.τ Cert.KernelIdeal.sig (Elt Ideal)

export Cert.RefEnlarge (RV)

/-- A concatenation of two parts. -/
def cat2 {α : Type} (t : Shape) (d : Fin t.rank) (s₁ s₂ : Shape) (a : s₁.Idx → α) (b : s₂.Idx → α) (h : Shape.Concatenates [s₁, s₂] t d) : t.Idx → α :=
  concatenate t d [⟨s₁, a⟩, ⟨s₂, b⟩] h

theorem cat2_fold {α : Type} (t : Shape) (d : Fin t.rank) (s₁ s₂ : Shape) (a : s₁.Idx → α) (b : s₂.Idx → α) (h : Shape.Concatenates [s₁, s₂] t d) :
    concatenate t d [⟨s₁, a⟩, ⟨s₂, b⟩] h = cat2 t d s₁ s₂ a b h := (rfl)

end Cert.Reads

end
-- ==== Proof.Own.StepA.lean ====
/-
  The first stretch of the kernel: the first enlargement, the measure of every point, and the first choice of points.
-/
module

public import proofs.«01_k».proof.Proof.Own.Reads

@[expose] public section

set_option maxRecDepth 16384

noncomputable section

namespace Cert.StepA

open Idealize.ShloMosaic Idealize.ShloMosaic.StableHlo Cert.KernelIdeal Cert.KernelIdeal.Gen Idealize.SL.Sem Cert.Reads

theorem rows (V : KV) : (after (hostOps0.take 24) V (Proc.devRef .tc main_v19) : FVec Ideal S4x224x112x21 .f32)
    = Enlarge.rows1 (V (Proc.devRef .tc main_arg0)) := by
  after_reads_simp [cat2_fold]
  rfl

theorem cols (V : KV) : (after ((hostOps0.drop 24).take 24) V (Proc.devRef .tc main_v39) : FVec Ideal S4x224x224x21 .f32)
    = Enlarge.cols1 (V (Proc.devRef .tc main_v19)) := by
  after_reads_simp [cat2_fold]
  rfl

/-! The stretches of the measure, one by one. -/

abbrev x0 (V : KV) : KV := after ((hostOps0.drop 24).drop 24) V
abbrev x1 (V : KV) : KV := after hostOps0_1 V
abbrev x2 (V : KV) : KV := after hostOps0_2 V
abbrev x3 (V : KV) : KV := after hostOps0_3 V
abbrev x4 (V : KV) : KV := after hostOps0_4 V

/-- The largest value, the lanes that hold it. -/
theorem s0 (V : KV) :
    (x0 V (Proc.devRef .tc main_v40) : FVec Ideal S4x224x224 .f32) = Gap.top1 (V (Proc.devRef .tc main_v39))
    ∧ (x0 V (Proc.devRef .tc main_v41) : IVec S4x224x224x21 32) = iotaInDim S4x224x224x21 32 3
    ∧ (x0 V (Proc.devRef .tc main_v44) : IVec S4x224x224x21 1) = cmpf .oeq (V (Proc.devRef .tc main_v39) : FVec Ideal S4x224x224x21 .f32)
        (broadcastInDim S4x224x224x21 ![0, 1, 2, 3] bcast_S4x224x224x1_S4x224x224x21_0_1_2_3
          (broadcastInDim S4x224x224x1 ![0, 1, 2] bcast_S4x224x224_S4x224x224x1_0_1_2 (Gap.top1 (V (Proc.devRef .tc main_v39)))))
    ∧ (x0 V (Proc.devRef .tc main_c) : IVec S_ 32) = constantI S_ 32 21#32
    ∧ x0 V (Proc.devRef .tc main_v39) = V (Proc.devRef .tc main_v39) := by
  refine ⟨?_, ?_, ?_, ?_, ?_⟩ <;> after_reads_simp <;> rfl

theorem s1 (V : KV) :
    (x1 V (Proc.devRef .tc main_v45) : IVec S4x224x224x21 32) = select (V (Proc.devRef .tc main_v44) : IVec S4x224x224x21 1)
        (V (Proc.devRef .tc main_v41) : IVec S4x224x224x21 32) (broadcastInDim S4x224x224x21 ![] bcast_S_S4x224x224x21 (V (Proc.devRef .tc main_c) : IVec S_ 32))
    ∧ x1 V (Proc.devRef .tc main_v39) = V (Proc.devRef .tc main_v39) ∧ x1 V (Proc.devRef .tc main_v40) = V (Proc.devRef .tc main_v40)
    ∧ x1 V (Proc.devRef .tc main_v41) = V (Proc.devRef .tc main_v41) := by
  refine ⟨?_, ?_, ?_, ?_⟩ <;> after_reads_simp <;> rfl

theorem s2 (V : KV) :
    (x2 V (Proc.devRef .tc main_v49) : IVec S4x224x224x21 1) = cmpi .eq (V (Proc.devRef .tc main_v41) : IVec S4x224x224x21 32)
        (broadcastInDim S4x224x224x21 ![0, 1, 2, 3] bcast_S4x224x224x1_S4x224x224x21_0_1_2_3
          (broadcastInDim S4x224x224x1 ![0, 1, 2] bcast_S4x224x224_S4x224x224x1_0_1_2 (Host.reduce IntOp.minsi (V (Proc.devRef .tc main_v45) : IVec S4x224x224x21 32)
            (constantI S_ 32 2147483647#32) reducesTo_S4x224x224x21_S4x224x224_d3 h_S_)))
    ∧ (x2 V (Proc.devRef .tc main_cst_9) : FVec Ideal S_ .f32) = (constant S_ .f32 0xFF800000#32 : FVec Ideal S_ .f32)
    ∧ x2 V (Proc.devRef .tc main_v39) = V (Proc.devRef .tc main_v39) ∧ x2 V (Proc.devRef .tc main_v40) = V (Proc.devRef .tc main_v40) := by
  refine ⟨?_, ?_, ?_, ?_⟩ <;> after_reads_simp <;> rfl

theorem s3 (V : KV) :
    (x3 V (Proc.devRef .tc main_v50) : FVec Ideal S4x224x224x21 .f32) = select (V (Proc.devRef .tc main_v49) : IVec S4x224x224x21 1)
        (broadcastInDim S4x224x224x21 ![] bcast_S_S4x224x224x21 (V (Proc.devRef .tc main_cst_9) : FVec Ideal S_ .f32)) (V (Proc.devRef .tc main_v39) : FVec Ideal S4x224x224x21 .f32)
    ∧ x3 V (Proc.devRef .tc main_v39) = V (Proc.devRef .tc main_v39) ∧ x3 V (Proc.devRef .tc main_v40) = V (Proc.devRef .tc main_v40) := by
  refine ⟨?_, ?_, ?_⟩ <;> after_reads_simp <;> rfl

theorem s4 (V : KV) :
    (x4 V (Proc.devRef .tc main_v53) : FVec Ideal S4x50176 .f32) = Gap.flat1 (subf (Gap.top1 (V (Proc.devRef .tc main_v50))) (V (Proc.devRef .tc main_v40)))
    ∧ (x4 V (Proc.devRef .tc main_indices) : IVec S4x8192 32)
        = (Host.topK S4x8192 1 (FloatOps.cmpfTotal (F := Ideal) (φ := .f32) .gt) (x4 V (Proc.devRef .tc main_v53) : FVec Ideal S4x50176 .f32) sliceFits_S4x50176_S4x8192).2
    ∧ (x4 V (Proc.devRef .tc main_c_11) : IVec S_ 32) = constantI S_ 32 224#32
    ∧ x4 V (Proc.devRef .tc main_v39) = V (Proc.devRef .tc main_v39) := by
  refine ⟨?_, ?_, ?_, ?_⟩ <;> after_reads_simp <;> rfl

/-- The rest of the stretch, from the enlargement on. -/
abbrev rest (V : KV) : KV := x4 (x3 (x2 (x1 (x0 V))))

theorem rest39 (V : KV) : rest V (Proc.devRef .tc main_v39) = V (Proc.devRef .tc main_v39) := by
  unfold rest
  rw [(s4 _).2.2.2, (s3 _).2.1, (s2 _).2.2.1, (s1 _).2.1, (s0 _).2.2.2.2]

theorem gap (V : KV) : (rest V (Proc.devRef .tc main_v53) : FVec Ideal S4x50176 .f32)
    = Gap.gap1 (V (Proc.devRef .tc main_v39)) := by
  unfold rest
  rw [(s4 _).1, (s3 _).1, (s3 _).2.2, (s2 _).1, (s2 _).2.1, (s2 _).2.2.1, (s2 _).2.2.2, (s1 _).1, (s1 _).2.1, (s1 _).2.2.1, (s1 _).2.2.2,
    (s0 _).2.2.1, (s0 _).1, (s0 _).2.1, (s0 _).2.2.2.1, (s0 _).2.2.2.2]
  rfl

/-- The contents after the stretch. -/
abbrev post (V : KV) : KV := after hostOps0_4 (after hostOps0_3 (after hostOps0_2 (after hostOps0_1 (after hostOps0 V))))

/-- The stretch in three pieces. -/
theorem post_eq (V : KV) : post V = rest (after ((hostOps0.drop 24).take 24) (after (hostOps0.take 24) V)) := by
  have e : ∀ X : KV, after hostOps0 X = after ((hostOps0.drop 24).drop 24) (after ((hostOps0.drop 24).take 24) (after (hostOps0.take 24) X)) := fun X => by
    rw [← StableHlo.after_append, ← StableHlo.after_append]; rfl
  show x4 (x3 (x2 (x1 (after hostOps0 V)))) = _
  rw [e V]

/-- The first enlargement is the reference's. -/
theorem enlarged (V : KV) (V' : RV) (h0 : (V (Proc.devRef .tc main_arg0) : FVec Ideal S4x112x112x21 .f32) = V' (Proc.devRef .tc ReferenceIdeal.main_arg0))
    (hr : ∀ i, IsReal ((V (Proc.devRef .tc main_arg0) : FVec Ideal S4x112x112x21 .f32) i)) :
    (post V (Proc.devRef .tc main_v39) : FVec Ideal S4x224x224x21 .f32) = ReferenceIdeal.Value.res_main_v76 V' := by
  rw [post_eq, rest39, cols, rows]
  funext i
  idx_vars i
  rw [Enlarge.both1 _ hr]
  refine Eq.trans ?_ (RefEnlarge.v76_at V' _ _ _ _).symm
  rw [h0]

/-- The first choice of points is the reference's. -/
theorem chosen (V : KV) (V' : RV) (h0 : (V (Proc.devRef .tc main_arg0) : FVec Ideal S4x112x112x21 .f32) = V' (Proc.devRef .tc ReferenceIdeal.main_arg0))
    (hr : ∀ i, IsReal ((V (Proc.devRef .tc main_arg0) : FVec Ideal S4x112x112x21 .f32) i)) :
    (post V (Proc.devRef .tc main_indices) : IVec S4x8192 32) = ReferenceIdeal.Value.res_main_indices_27 V'
    ∧ (post V (Proc.devRef .tc main_c_11) : IVec S_ 32) = constantI S_ 32 224#32 := by
  have h39 := enlarged V V' h0 hr
  rw [post_eq, rest39] at h39
  have h53 : (post V (Proc.devRef .tc main_v53) : FVec Ideal S4x50176 .f32) = ReferenceIdeal.Value.res_main_v82 V' := by
    rw [post_eq, gap, h39, Gap.gap1_eq _ ReferenceIdeal.Gen.sliceFits_S4x224x224x21_S4x224x224x2]
    rfl
  refine ⟨?_, ?_⟩
  · have := (s4 (x3 (x2 (x1 (after hostOps0 V))))).2.1
    refine this.trans ?_
    rw [show (x4 (x3 (x2 (x1 (after hostOps0 V)))) (Proc.devRef .tc main_v53) : FVec Ideal S4x50176 .f32) = _ from h53]
    rfl
  · exact (s4 (x3 (x2 (x1 (after hostOps0 V))))).2.2.1

end Cert.StepA

end
-- ==== Proof.Own.StepB.lean ====
/-
  The first sampling: the coordinates of the chosen points, and the values of the enlargement and of the fine features there.
-/
module

public import proofs.«01_k».proof.Proof.Own.Reads

@[expose] public section

set_option maxRecDepth 16384

noncomputable section

namespace Cert.StepB

open Idealize.ShloMosaic Idealize.ShloMosaic.StableHlo Cert.KernelIdeal Cert.KernelIdeal.Gen Idealize.SL.Sem Cert.Reads

/-- The contents after the stretch. -/
abbrev post (V : KV) : KV := after (hostOps0_24.take 104) (after hostOps0_23 (after hostOps0_22 (after hostOps0_21 (after hostOps0_20 (after hostOps0_19 (after hostOps0_18 (after hostOps0_17 (after hostOps0_16 (after hostOps0_15 (after hostOps0_14 (after hostOps0_13 (after hostOps0_12 (after hostOps0_11 (after hostOps0_10 (after hostOps0_9 (after hostOps0_8 (after hostOps0_7 (after hostOps0_6 (after hostOps0_5 V)))))))))))))))))))

variable (V : KV) (V' : RV)
  (h : (V (Proc.devRef .tc main_indices) : IVec S4x8192 32) = ReferenceIdeal.Value.res_main_indices_27 V')
  (hc : (V (Proc.devRef .tc main_c_11) : IVec S_ 32) = constantI S_ 32 224#32)

include h hc

theorem coords : (post V (Proc.devRef .tc main_v68) : FVec Ideal S4x8192x2 .f32) = ReferenceIdeal.Value.res_main_v97 V' := by
  after_reads_simp [cat2_fold]
  rw [h, hc]
  simp only [StableHlo.TRef.toBuf, StableHlo.TRef.ofBuf, cast_cast, cast_eq]
  rfl

theorem coarse (hU : (V (Proc.devRef .tc main_v39) : FVec Ideal S4x224x224x21 .f32) = ReferenceIdeal.Value.res_main_v76 V') :
    (post V (Proc.devRef .tc main_v181) : FVec Ideal S4x8192x21 .f32) = ReferenceIdeal.Value.res_main_v210 V' := by
  after_reads_simp [cat2_fold]
  rw [h, hc, hU]
  simp only [StableHlo.TRef.toBuf, StableHlo.TRef.ofBuf, cast_cast, cast_eq]
  rfl

theorem fine (h1 : (V (Proc.devRef .tc main_arg1) : FVec Ideal S4x112x112x256 .f32) = V' (Proc.devRef .tc ReferenceIdeal.main_arg1)) :
    (post V (Proc.devRef .tc main_v294) : FVec Ideal S4x8192x256 .f32) = ReferenceIdeal.Value.res_main_v323 V' := by
  after_reads_simp [cat2_fold]
  rw [h, hc, h1]
  simp only [StableHlo.TRef.toBuf, StableHlo.TRef.ofBuf, cast_cast, cast_eq]
  rfl

end Cert.StepB

end
-- ==== Proof.Own.StepC.lean ====
/-
  The first point head, and its logits written over the enlargement.
-/
module

public import proofs.«01_k».proof.Proof.Own.Reads

@[expose] public section

set_option maxRecDepth 16384

noncomputable section

namespace Cert.StepC

open Idealize.ShloMosaic Idealize.ShloMosaic.StableHlo Cert.KernelIdeal Cert.KernelIdeal.Gen Idealize.SL.Sem Cert.Reads

/-- The contents after the head. -/
abbrev headed (V : KV) : KV := after (hostOps0_30.take 5) (after hostOps0_29 (after hostOps0_28 (after hostOps0_27 (after hostOps0_26 (after hostOps0_25 (after (hostOps0_24.drop 104) V))))))

theorem head (V : KV) (V' : RV)
    (hx : (V (Proc.devRef .tc main_v181) : FVec Ideal S4x8192x21 .f32) = ReferenceIdeal.Value.res_main_v210 V')
    (hf : (V (Proc.devRef .tc main_v294) : FVec Ideal S4x8192x256 .f32) = ReferenceIdeal.Value.res_main_v323 V')
    (h2 : (V (Proc.devRef .tc main_arg2) : FVec Ideal S277x256 .f32) = V' (Proc.devRef .tc ReferenceIdeal.main_arg2))
    (h3 : (V (Proc.devRef .tc main_arg3) : FVec Ideal S256 .f32) = V' (Proc.devRef .tc ReferenceIdeal.main_arg3))
    (h4 : (V (Proc.devRef .tc main_arg4) : FVec Ideal S277x256 .f32) = V' (Proc.devRef .tc ReferenceIdeal.main_arg4))
    (h5 : (V (Proc.devRef .tc main_arg5) : FVec Ideal S256 .f32) = V' (Proc.devRef .tc ReferenceIdeal.main_arg5))
    (h6 : (V (Proc.devRef .tc main_arg6) : FVec Ideal S277x256 .f32) = V' (Proc.devRef .tc ReferenceIdeal.main_arg6))
    (h7 : (V (Proc.devRef .tc main_arg7) : FVec Ideal S256 .f32) = V' (Proc.devRef .tc ReferenceIdeal.main_arg7))
    (h8 : (V (Proc.devRef .tc main_arg8) : FVec Ideal S277x21 .f32) = V' (Proc.devRef .tc ReferenceIdeal.main_arg8))
    (h9 : (V (Proc.devRef .tc main_arg9) : FVec Ideal S21 .f32) = V' (Proc.devRef .tc ReferenceIdeal.main_arg9)) :
    (headed V (Proc.devRef .tc main_v317) : FVec Ideal S4x8192x21 .f32) = ReferenceIdeal.Value.res_main_v346 V' := by
  after_reads_simp [cat2_fold]
  rw [hx, hf, h2, h3, h4, h5, h6, h7, h8, h9]
  simp only [StableHlo.TRef.toBuf, StableHlo.TRef.ofBuf, cast_cast, cast_eq]
  rfl

theorem written (V : KV) (V' : RV)
    (hU : (V (Proc.devRef .tc main_v39) : FVec Ideal S4x224x224x21 .f32) = ReferenceIdeal.Value.res_main_v76 V')
    (h : (V (Proc.devRef .tc main_indices) : IVec S4x8192 32) = ReferenceIdeal.Value.res_main_indices_27 V')
    (hp : (V (Proc.devRef .tc main_v317) : FVec Ideal S4x8192x21 .f32) = ReferenceIdeal.Value.res_main_v346 V') :
    (after ((hostOps0_30.drop 5).take 23) V (Proc.devRef .tc main_v336) : FVec Ideal S4x224x224x21 .f32) = RefEnlarge.grid1 V' := by
  after_reads_simp [cat2_fold]
  rw [hU, h, hp]
  rfl

end Cert.StepC

end
-- ==== Proof.Own.StepE.lean ====
/-
  The second enlargement, the measure of every point of it, and the second choice of points.
-/
module

public import proofs.«01_k».proof.Proof.Own.Reads

@[expose] public section

set_option maxRecDepth 16384

noncomputable section

namespace Cert.StepE

open Idealize.ShloMosaic Idealize.ShloMosaic.StableHlo Cert.KernelIdeal Cert.KernelIdeal.Gen Idealize.SL.Sem Cert.Reads

theorem rows (V : KV) : (after ((hostOps0_30.drop 28).take 24) V (Proc.devRef .tc main_v356) : FVec Ideal S4x448x224x21 .f32)
    = Enlarge.rows2 (V (Proc.devRef .tc main_v336)) := by
  after_reads_simp [cat2_fold]
  rfl

theorem cols (V : KV) : (after (((hostOps0_30.drop 28).drop 24).take 24) V (Proc.devRef .tc main_v376) : FVec Ideal S4x448x448x21 .f32)
    = Enlarge.cols2 (V (Proc.devRef .tc main_v356)) := by
  after_reads_simp [cat2_fold]
  rfl

/-! The stretches of the measure, one by one. -/

abbrev x0 (V : KV) : KV := after (((hostOps0_30.drop 28).drop 24).drop 24) V
abbrev x1 (V : KV) : KV := after hostOps0_31 V
abbrev x2 (V : KV) : KV := after hostOps0_32 V
abbrev x3 (V : KV) : KV := after hostOps0_33 V
abbrev x4 (V : KV) : KV := after hostOps0_34 V

/-- The largest value, the lanes that hold it. -/
theorem s0 (V : KV) :
    (x0 V (Proc.devRef .tc main_v377) : FVec Ideal S4x448x448 .f32) = Gap.top2 (V (Proc.devRef .tc main_v376))
    ∧ (x0 V (Proc.devRef .tc main_v378) : IVec S4x448x448x21 32) = iotaInDim S4x448x448x21 32 3
    ∧ (x0 V (Proc.devRef .tc main_v381) : IVec S4x448x448x21 1) = cmpf .oeq (V (Proc.devRef .tc main_v376) : FVec Ideal S4x448x448x21 .f32)
        (broadcastInDim S4x448x448x21 ![0, 1, 2, 3] bcast_S4x448x448x1_S4x448x448x21_0_1_2_3
          (broadcastInDim S4x448x448x1 ![0, 1, 2] bcast_S4x448x448_S4x448x448x1_0_1_2 (Gap.top2 (V (Proc.devRef .tc main_v376)))))
    ∧ (x0 V (Proc.devRef .tc main_c_98) : IVec S_ 32) = constantI S_ 32 21#32
    ∧ x0 V (Proc.devRef .tc main_v376) = V (Proc.devRef .tc main_v376) := by
  refine ⟨?_, ?_, ?_, ?_, ?_⟩ <;> after_reads_simp <;> rfl

theorem s1 (V : KV) :
    (x1 V (Proc.devRef .tc main_v382) : IVec S4x448x448x21 32) = select (V (Proc.devRef .tc main_v381) : IVec S4x448x448x21 1)
        (V (Proc.devRef .tc main_v378) : IVec S4x448x448x21 32) (broadcastInDim S4x448x448x21 ![] bcast_S_S4x448x448x21 (V (Proc.devRef .tc main_c_98) : IVec S_ 32))
    ∧ x1 V (Proc.devRef .tc main_v376) = V (Proc.devRef .tc main_v376) ∧ x1 V (Proc.devRef .tc main_v377) = V (Proc.devRef .tc main_v377)
    ∧ x1 V (Proc.devRef .tc main_v378) = V (Proc.devRef .tc main_v378) := by
  refine ⟨?_, ?_, ?_, ?_⟩ <;> after_reads_simp <;> rfl

theorem s2 (V : KV) :
    (x2 V (Proc.devRef .tc main_v386) : IVec S4x448x448x21 1) = cmpi .eq (V (Proc.devRef .tc main_v378) : IVec S4x448x448x21 32)
        (broadcastInDim S4x448x448x21 ![0, 1, 2, 3] bcast_S4x448x448x1_S4x448x448x21_0_1_2_3
          (broadcastInDim S4x448x448x1 ![0, 1, 2] bcast_S4x448x448_S4x448x448x1_0_1_2 (Host.reduce IntOp.minsi (V (Proc.devRef .tc main_v382) : IVec S4x448x448x21 32)
            (constantI S_ 32 2147483647#32) reducesTo_S4x448x448x21_S4x448x448_d3 h_S_)))
    ∧ (x2 V (Proc.devRef .tc main_cst_100) : FVec Ideal S_ .f32) = (constant S_ .f32 0xFF800000#32 : FVec Ideal S_ .f32)
    ∧ x2 V (Proc.devRef .tc main_v376) = V (Proc.devRef .tc main_v376) ∧ x2 V (Proc.devRef .tc main_v377) = V (Proc.devRef .tc main_v377) := by
  refine ⟨?_, ?_, ?_, ?_⟩ <;> after_reads_simp <;> rfl

theorem s3 (V : KV) :
    (x3 V (Proc.devRef .tc main_v387) : FVec Ideal S4x448x448x21 .f32) = select (V (Proc.devRef .tc main_v386) : IVec S4x448x448x21 1)
        (broadcastInDim S4x448x448x21 ![] bcast_S_S4x448x448x21 (V (Proc.devRef .tc main_cst_100) : FVec Ideal S_ .f32)) (V (Proc.devRef .tc main_v376) : FVec Ideal S4x448x448x21 .f32)
    ∧ x3 V (Proc.devRef .tc main_v376) = V (Proc.devRef .tc main_v376) ∧ x3 V (Proc.devRef .tc main_v377) = V (Proc.devRef .tc main_v377) := by
  refine ⟨?_, ?_, ?_⟩ <;> after_reads_simp <;> rfl

theorem s4 (V : KV) :
    (x4 V (Proc.devRef .tc main_v390) : FVec Ideal S4x200704 .f32) = Gap.flat2 (subf (Gap.top2 (V (Proc.devRef .tc main_v387))) (V (Proc.devRef .tc main_v377)))
    ∧ (x4 V (Proc.devRef .tc main_indices_103) : IVec S4x8192 32)
        = (Host.topK S4x8192 1 (FloatOps.cmpfTotal (F := Ideal) (φ := .f32) .gt) (x4 V (Proc.devRef .tc main_v390) : FVec Ideal S4x200704 .f32) sliceFits_S4x200704_S4x8192).2
    ∧ (x4 V (Proc.devRef .tc main_c_104) : IVec S_ 32) = constantI S_ 32 448#32
    ∧ x4 V (Proc.devRef .tc main_v376) = V (Proc.devRef .tc main_v376) := by
  refine ⟨?_, ?_, ?_, ?_⟩ <;> after_reads_simp <;> rfl

/-- The rest of the stretch, from the enlargement on. -/
abbrev rest (V : KV) : KV := x4 (x3 (x2 (x1 (x0 V))))

theorem rest376 (V : KV) : rest V (Proc.devRef .tc main_v376) = V (Proc.devRef .tc main_v376) := by
  unfold rest
  rw [(s4 _).2.2.2, (s3 _).2.1, (s2 _).2.2.1, (s1 _).2.1, (s0 _).2.2.2.2]

theorem gap (V : KV) : (rest V (Proc.devRef .tc main_v390) : FVec Ideal S4x200704 .f32)
    = Gap.gap2 (V (Proc.devRef .tc main_v376)) := by
  unfold rest
  rw [(s4 _).1, (s3 _).1, (s3 _).2.2, (s2 _).1, (s2 _).2.1, (s2 _).2.2.1, (s2 _).2.2.2, (s1 _).1, (s1 _).2.1, (s1 _).2.2.1, (s1 _).2.2.2,
    (s0 _).2.2.1, (s0 _).1, (s0 _).2.1, (s0 _).2.2.2.1, (s0 _).2.2.2.2]
  rfl

/-- The contents after the stretch. -/
abbrev post (V : KV) : KV := after hostOps0_34 (after hostOps0_33 (after hostOps0_32 (after hostOps0_31 (after (hostOps0_30.drop 28) V))))

/-- The stretch in three pieces. -/
theorem post_eq (V : KV) : post V = rest (after (((hostOps0_30.drop 28).drop 24).take 24) (after ((hostOps0_30.drop 28).take 24) V)) := by
  have e : ∀ X : KV, after (hostOps0_30.drop 28) X
      = after (((hostOps0_30.drop 28).drop 24).drop 24) (after (((hostOps0_30.drop 28).drop 24).take 24) (after ((hostOps0_30.drop 28).take 24) X)) := fun X => by
    rw [← StableHlo.after_append, ← StableHlo.after_append]; rfl
  show x4 (x3 (x2 (x1 (after (hostOps0_30.drop 28) V)))) = _
  rw [e V]

/-- The second enlargement is the reference's. -/
theorem enlarged (V : KV) (V' : RV) (h0 : (V (Proc.devRef .tc main_v336) : FVec Ideal S4x224x224x21 .f32) = RefEnlarge.grid1 V')
    (hr : ∀ i, IsReal (RefEnlarge.grid1 V' i)) :
    (post V (Proc.devRef .tc main_v376) : FVec Ideal S4x448x448x21 .f32) = ReferenceIdeal.Value.res_main_v442 V' := by
  rw [post_eq, rest376, cols, rows, h0]
  funext i
  idx_vars i
  rw [Enlarge.both2 _ hr]
  exact (RefEnlarge.v442_at V' _ _ _ _).symm

/-- Its entries are real numbers. -/
theorem real (V : KV) (V' : RV) (h0 : (V (Proc.devRef .tc main_v336) : FVec Ideal S4x224x224x21 .f32) = RefEnlarge.grid1 V')
    (hr : ∀ i, IsReal (RefEnlarge.grid1 V' i)) (i : S4x448x448x21.Idx) : IsReal (ReferenceIdeal.Value.res_main_v442 V' i) := by
  rw [← enlarged V V' h0 hr, post_eq, rest376, cols, rows, h0]
  idx_vars i
  exact Enlarge.real2 _ hr _ _ _ _

/-- The second choice of points is the reference's. -/
theorem chosen (V : KV) (V' : RV) (h0 : (V (Proc.devRef .tc main_v336) : FVec Ideal S4x224x224x21 .f32) = RefEnlarge.grid1 V')
    (hr : ∀ i, IsReal (RefEnlarge.grid1 V' i)) :
    (post V (Proc.devRef .tc main_indices_103) : IVec S4x8192 32) = ReferenceIdeal.Value.res_main_indices_137 V'
    ∧ (post V (Proc.devRef .tc main_c_104) : IVec S_ 32) = constantI S_ 32 448#32 := by
  have h39 := enlarged V V' h0 hr
  rw [post_eq, rest376] at h39
  have h53 : (post V (Proc.devRef .tc main_v390) : FVec Ideal S4x200704 .f32) = ReferenceIdeal.Value.res_main_v448 V' := by
    rw [post_eq, gap, h39, Gap.gap2_eq _ ReferenceIdeal.Gen.sliceFits_S4x448x448x21_S4x448x448x2]
    rfl
  refine ⟨?_, ?_⟩
  · have := (s4 (x3 (x2 (x1 (after (hostOps0_30.drop 28) V))))).2.1
    refine this.trans ?_
    rw [show (x4 (x3 (x2 (x1 (after (hostOps0_30.drop 28) V)))) (Proc.devRef .tc main_v390) : FVec Ideal S4x200704 .f32) = _ from h53]
    rfl
  · exact (s4 (x3 (x2 (x1 (after (hostOps0_30.drop 28) V))))).2.2.1

end Cert.StepE

end
-- ==== Proof.Own.StepF.lean ====
/-
  The second sampling: the coordinates of the chosen points, the fine features there, and what the second point head is given.
-/
module

public import proofs.«01_k».proof.Proof.Own.Reads

@[expose] public section

set_option maxRecDepth 16384

noncomputable section

namespace Cert.StepF

open Idealize.ShloMosaic Idealize.ShloMosaic.StableHlo Cert.KernelIdeal Cert.KernelIdeal.Gen Idealize.SL.Sem Cert.Reads

/-- Rows of a flattened array by number, as the kernel takes them. -/
def takeFlat (x : FVec Ideal S4x200704x21 .f32) (k : IVec S4x8192x1 32) : FVec Ideal S4x8192x21 .f32 :=
  have n : IVec S4x8192x1 32 := select (cmpi .slt k (broadcastInDim S4x8192x1 ![] bcast_S_S4x8192x1 (constantI S_ 32 0#32)))
    (addi k (broadcastInDim S4x8192x1 ![] bcast_S_S4x8192x1 (constantI S_ 32 200704#32))) k
  select (broadcastInDim S4x8192x21 ![0, 1] bcast_S4x8192_S4x8192x21_0_1 (Host.reduce IntOp.andi
      (andi (cmpi .sge n (broadcastInDim S4x8192x1 ![] bcast_S_S4x8192x1 (constantI S_ 32 0#32)))
        (cmpi .sle n (broadcastInDim S4x8192x1 ![0, 1, 2] bcast_S1x1x1_S4x8192x1_0_1_2 (broadcastInDim S1x1x1 ![2] bcast_S1_S1x1x1_2 (constantI S1 32 200703#32)))))
      (constantI S_ 1 1#1) reducesTo_S4x8192x1_S4x8192_d2 h_S_))
    (Host.gather gather_S4x200704x21_S4x8192x1_S4x8192x21_2_1_0_0_1_2_1121 x n)
    (broadcastInDim S4x8192x21 ![] bcast_S_S4x8192x21 (constant S_ .f32 0x7FC00000#32))

/-- An array of points flattened. -/
def flatten (x : FVec Ideal S4x448x448x21 .f32) : FVec Ideal S4x200704x21 .f32 := shapeCast S4x200704x21 x shapeCasts_S4x448x448x21_S4x200704x21

/-- Numbers as a column. -/
def column (idx : IVec S4x8192 32) : IVec S4x8192x1 32 := broadcastInDim S4x8192x1 ![0, 1] bcast_S4x8192_S4x8192x1_0_1 idx

/-- The contents after the coordinates. -/
abbrev before (V : KV) : KV := after hostOps0_37 (after hostOps0_36 (after hostOps0_35 V))

/-- The contents after the stretches behind the taking. -/
abbrev late (V : KV) : KV := after (hostOps0_48.take 104) (after hostOps0_47 (after hostOps0_46 (after hostOps0_45 (after hostOps0_44 (after hostOps0_43 (after hostOps0_42 (after hostOps0_41 (after hostOps0_40 V))))))))

/-- The contents after the sampling. -/
abbrev post (V : KV) : KV := late (after hostOps0_39 (after hostOps0_38 (before V)))

/-- The contents after the operands of the head are laid out. -/
abbrev laid (V : KV) : KV := after (hostOps0_48.drop 104) V

theorem before_kept (V : KV) : before V (Proc.devRef .tc main_v376) = V (Proc.devRef .tc main_v376)
    ∧ before V (Proc.devRef .tc main_indices_103) = V (Proc.devRef .tc main_indices_103) := by
  refine ⟨?_, ?_⟩ <;> after_reads_simp

theorem flat38 (V : KV) : (after hostOps0_38 V (Proc.devRef .tc main_v406) : FVec Ideal S4x200704x21 .f32) = flatten (V (Proc.devRef .tc main_v376))
    ∧ (after hostOps0_38 V (Proc.devRef .tc main_v407) : IVec S4x8192x1 32) = column (V (Proc.devRef .tc main_indices_103)) := by
  refine ⟨?_, ?_⟩ <;> after_reads_simp <;> rfl

theorem take39 (V : KV) : (after hostOps0_39 V (Proc.devRef .tc main_v408) : FVec Ideal S4x8192x21 .f32)
    = takeFlat (V (Proc.devRef .tc main_v406)) (V (Proc.devRef .tc main_v407)) := by
  after_reads_simp
  simp only [StableHlo.TRef.toBuf, StableHlo.TRef.ofBuf, cast_cast, cast_eq]
  rfl

theorem late_kept (V : KV) : late V (Proc.devRef .tc main_v408) = V (Proc.devRef .tc main_v408)
    ∧ late V (Proc.devRef .tc main_v406) = V (Proc.devRef .tc main_v406) := by
  refine ⟨?_, ?_⟩ <;> after_reads_simp

theorem mid_kept (V : KV) : after hostOps0_39 V (Proc.devRef .tc main_v406) = V (Proc.devRef .tc main_v406) := by
  after_reads_simp

theorem taken (V : KV) : (post V (Proc.devRef .tc main_v408) : FVec Ideal S4x8192x21 .f32)
    = takeFlat (flatten (V (Proc.devRef .tc main_v376))) (column (V (Proc.devRef .tc main_indices_103))) := by
  show late _ _ = _
  rw [(late_kept _).1, take39]
  rw [(flat38 _).1, (flat38 _).2, (before_kept V).1, (before_kept V).2]

theorem flat (V : KV) : (post V (Proc.devRef .tc main_v406) : FVec Ideal S4x200704x21 .f32) = flatten (V (Proc.devRef .tc main_v376)) := by
  show late _ _ = _
  rw [(late_kept _).2, mid_kept, (flat38 _).1, (before_kept V).1]

theorem laid_eq (V : KV) :
    (laid V (Proc.devRef .tc main_v523) : FVec Ideal S32768x277 .f32) = shapeCast S32768x277
        (cat2 S4x8192x277 2 S4x8192x21 S4x8192x256 (V (Proc.devRef .tc main_v408) : FVec Ideal S4x8192x21 .f32) (V (Proc.devRef .tc main_v521) : FVec Ideal S4x8192x256 .f32)
          concatenates_S4x8192x21_S4x8192x256_S4x8192x277_d2) shapeCasts_S4x8192x277_S32768x277
    ∧ (laid V (Proc.devRef .tc main_v524) : FVec Ideal S1x256 .f32) = shapeCast S1x256 (V (Proc.devRef .tc main_arg3) : FVec Ideal S256 .f32) shapeCasts_S256_S1x256
    ∧ (laid V (Proc.devRef .tc main_v525) : FVec Ideal S1x256 .f32) = shapeCast S1x256 (V (Proc.devRef .tc main_arg5) : FVec Ideal S256 .f32) shapeCasts_S256_S1x256
    ∧ (laid V (Proc.devRef .tc main_v526) : FVec Ideal S1x256 .f32) = shapeCast S1x256 (V (Proc.devRef .tc main_arg7) : FVec Ideal S256 .f32) shapeCasts_S256_S1x256
    ∧ (laid V (Proc.devRef .tc main_v527) : FVec Ideal S1x21 .f32) = shapeCast S1x21 (V (Proc.devRef .tc main_arg9) : FVec Ideal S21 .f32) shapeCasts_S21_S1x21 := by
  refine ⟨?_, ?_, ?_, ?_, ?_⟩ <;> after_reads_simp [cat2_fold] <;> rfl

variable (V : KV) (V' : RV)
  (h : (V (Proc.devRef .tc main_indices_103) : IVec S4x8192 32) = ReferenceIdeal.Value.res_main_indices_137 V')
  (hc : (V (Proc.devRef .tc main_c_104) : IVec S_ 32) = constantI S_ 32 448#32)

include h hc

theorem coords : (post V (Proc.devRef .tc main_v405) : FVec Ideal S4x8192x2 .f32) = ReferenceIdeal.Value.res_main_v463 V' := by
  obtain ⟨idx, hi⟩ : ∃ idx : IVec S4x8192 32, idx = ReferenceIdeal.Value.res_main_indices_137 V' := ⟨_, rfl⟩
  rw [← hi] at h
  after_reads_simp [cat2_fold]
  simp only [StableHlo.TRef.toBuf, StableHlo.TRef.ofBuf, cast_cast, cast_eq]
  rw [h, hc]
  subst hi
  rfl

theorem fine (h1 : (V (Proc.devRef .tc main_arg1) : FVec Ideal S4x112x112x256 .f32) = V' (Proc.devRef .tc ReferenceIdeal.main_arg1)) :
    (post V (Proc.devRef .tc main_v521) : FVec Ideal S4x8192x256 .f32) = ReferenceIdeal.Value.res_main_v689 V' := by
  obtain ⟨idx, hi⟩ : ∃ idx : IVec S4x8192 32, idx = ReferenceIdeal.Value.res_main_indices_137 V' := ⟨_, rfl⟩
  rw [← hi] at h
  after_reads_simp [cat2_fold]
  simp only [StableHlo.TRef.toBuf, StableHlo.TRef.ofBuf, cast_cast, cast_eq]
  rw [h, hc, h1]
  subst hi
  rfl

end Cert.StepF

end
-- ==== Proof.Own.StepG.lean ====
/-
  The second step's points written over the second enlargement, the reduction's weights, and the results.
-/
module

public import proofs.«01_k».proof.Proof.Own.StepF

@[expose] public section

set_option maxRecDepth 16384

noncomputable section

namespace Cert.StepG

open Idealize.ShloMosaic Idealize.ShloMosaic.StableHlo Cert.KernelIdeal Cert.KernelIdeal.Gen Idealize.SL.Sem Cert.Reads

/-- Rows of a flattened array replaced by number. -/
def put (x : FVec Ideal S4x200704x21 .f32) (idx : IVec S4x8192 32) (u : FVec Ideal S4x8192x21 .f32) : FVec Ideal S4x200704x21 .f32 :=
  have k : IVec S4x1 32 := broadcastInDim S4x1 ![0] bcast_S4_S4x1_0 (iotaInDim S4 32 0)
  Host.scatter scatter_S4x200704x21_S4x8192x2_S4x8192x21_2_01_01_2 (fun _ b => b) x
    (cat2 S4x8192x2 2 S4x8192x1 S4x8192x1
      (broadcastInDim S4x8192x1 ![0, 1] bcast_S4x8192_S4x8192x1_0_1 (broadcastInDim S4x8192 ![0, 1] bcast_S4x1_S4x8192_0_1
        (select (cmpi .slt k (broadcastInDim S4x1 ![] bcast_S_S4x1 (constantI S_ 32 0#32))) (addi k (broadcastInDim S4x1 ![] bcast_S_S4x1 (constantI S_ 32 4#32))) k)))
      (broadcastInDim S4x8192x1 ![0, 1] bcast_S4x8192_S4x8192x1_0_1
        (select (cmpi .slt idx (broadcastInDim S4x8192 ![] bcast_S_S4x8192 (constantI S_ 32 0#32))) (addi idx (broadcastInDim S4x8192 ![] bcast_S_S4x8192 (constantI S_ 32 200704#32))) idx))
      concatenates_S4x8192x1_S4x8192x1_S4x8192x2_d2) u

/-- A flattened array as planes, one for each picture and class. -/
def planes (x : FVec Ideal S4x200704x21 .f32) : FVec Ideal S84x448x448 .f32 :=
  shapeCast S84x448x448 (transpose S4x21x448x448 [0, 3, 1, 2] (shapeCast S4x448x448x21 x shapeCasts_S4x200704x21_S4x448x448x21)
    transposes_S4x448x448x21_S4x21x448x448_0_3_1_2) shapeCasts_S4x21x448x448_S84x448x448

/-- The rows' numbers and twice these. -/
def rowNo : IVec S224x448 32 := iotaInDim S224x448 32 0
/-- The columns' numbers. -/
def colNo : IVec S224x448 32 := iotaInDim S224x448 32 1
/-- A word everywhere. -/
def every (w : BitVec 32) : IVec S224x448 32 := broadcastInDim S224x448 ![] bcast_S_S224x448 (constantI S_ 32 w)
/-- A number everywhere. -/
def everyF (w : BitVec 32) : FVec Ideal S224x448 .f32 := broadcastInDim S224x448 ![] bcast_S_S224x448 (constant S_ .f32 w)

/-- The two middle columns of a row. -/
def middle : IVec S224x448 1 := ori (cmpi .eq colNo (muli (every 2#32) rowNo)) (cmpi .eq colNo (addi (muli (every 2#32) rowNo) (every 1#32)))
/-- The two outer columns of a row. -/
def outer : IVec S224x448 1 :=
  ori (cmpi .eq colNo (subi (muli (every 2#32) rowNo) (every 1#32))) (cmpi .eq colNo (addi (muli (every 2#32) rowNo) (every 2#32)))
/-- The first row and the last. -/
def edge : IVec S224x448 1 := ori (cmpi .eq rowNo (every 0#32)) (cmpi .eq rowNo (every 223#32))

/-- The reduction's weights. -/
def weights : FVec Ideal S224x448 .f32 :=
  Host.divf (select middle (everyF 0x40400000#32) (select outer (everyF 0x3F800000#32) (everyF 0x00000000#32))) (select edge (everyF 0x40E00000#32) (everyF 0x41000000#32))

/-- The contents before the first reducing kernel. -/
abbrev post (V : KV) : KV := after hostOps1_6 (after hostOps1_5 (after hostOps1_4 (after hostOps1_3 (after hostOps1_2 (after hostOps1_1 (after hostOps1 V))))))

theorem logits (V : KV) : (post V (Proc.devRef .tc main_v529) : FVec Ideal S4x8192x21 .f32)
    = shapeCast S4x8192x21 (V (Proc.devRef .tc main_v528) : FVec Ideal S32768x21 .f32) shapeCasts_S32768x21_S4x8192x21 := by
  after_reads_simp [cat2_fold]
  rfl

theorem written (V : KV) : (post V (Proc.devRef .tc main_v580) : FVec Ideal S84x448x448 .f32)
    = planes (put (V (Proc.devRef .tc main_v406)) (V (Proc.devRef .tc main_indices_103))
        (shapeCast S4x8192x21 (V (Proc.devRef .tc main_v528) : FVec Ideal S32768x21 .f32) shapeCasts_S32768x21_S4x8192x21)) := by
  after_reads_simp [cat2_fold]
  rfl

theorem weighed (V : KV) : (post V (Proc.devRef .tc main_v579) : FVec Ideal S224x448 .f32) = weights := by
  after_reads_simp [cat2_fold]
  simp only [StableHlo.TRef.toBuf, StableHlo.TRef.ofBuf, cast_cast, cast_eq]
  rfl

theorem between (V : KV) :
    (after hostOps2 V (Proc.devRef .tc main_v582) : FVec Ideal S4x21x224x448 .f32)
        = shapeCast S4x21x224x448 (V (Proc.devRef .tc main_v581) : FVec Ideal S84x224x448 .f32) shapeCasts_S84x224x448_S4x21x224x448
    ∧ (after hostOps2 V (Proc.devRef .tc main_v583) : FVec Ideal S448x224 .f32)
        = transpose S448x224 [1, 0] (V (Proc.devRef .tc main_v579) : FVec Ideal S224x448 .f32) transposes_S224x448_S448x224_1_0 := by
  refine ⟨?_, ?_⟩ <;> after_reads_simp [cat2_fold] <;> rfl

theorem results (V : KV) :
    (after hostOps3 V (Proc.devRef .tc main_v585) : FVec Ideal S4x224x224x21 .f32)
        = transpose S4x224x224x21 [0, 2, 3, 1] (V (Proc.devRef .tc main_v584) : FVec Ideal S4x21x224x224 .f32) transposes_S4x21x224x224_S4x224x224x21_0_2_3_1
    ∧ (after hostOps3 V (Proc.devRef .tc main_v586) : FVec Ideal S4x16384x21 .f32)
        = cat2 S4x16384x21 1 S4x8192x21 S4x8192x21 (V (Proc.devRef .tc main_v317) : FVec Ideal S4x8192x21 .f32) (V (Proc.devRef .tc main_v529) : FVec Ideal S4x8192x21 .f32)
            concatenates_S4x8192x21_S4x8192x21_S4x16384x21_d1
    ∧ (after hostOps3 V (Proc.devRef .tc main_v587) : FVec Ideal S4x16384x2 .f32)
        = cat2 S4x16384x2 1 S4x8192x2 S4x8192x2 (V (Proc.devRef .tc main_v68) : FVec Ideal S4x8192x2 .f32) (V (Proc.devRef .tc main_v405) : FVec Ideal S4x8192x2 .f32)
            concatenates_S4x8192x2_S4x8192x2_S4x16384x2_d1 := by
  refine ⟨?_, ?_, ?_⟩ <;> after_reads_simp [cat2_fold] <;> rfl

end Cert.StepG

end
-- ==== Proof.Own.Kept.lean ====
/-
  What the stretches of the host code leave alone.
-/
module

public import proofs.«01_k».proof.Proof.Own.StepA
public import proofs.«01_k».proof.Proof.Own.StepB
public import proofs.«01_k».proof.Proof.Own.StepC
public import proofs.«01_k».proof.Proof.Own.StepE
public import proofs.«01_k».proof.Proof.Own.StepF
public import proofs.«01_k».proof.Proof.Own.StepG

@[expose] public section

set_option maxRecDepth 16384

noncomputable section

namespace Cert.Kept

open Idealize.ShloMosaic Idealize.ShloMosaic.StableHlo Cert.KernelIdeal Cert.KernelIdeal.Gen Idealize.SL.Sem Cert.Reads

/-- The contents after the first step's points are written over the first enlargement. -/
abbrev mid (V : KV) : KV := after ((hostOps0_30.drop 5).take 23) V

/-- The second point head's operands, from the state before the second enlargement. -/
abbrev second (V : KV) : KV := StepF.laid (StepF.post (StepE.post V))

/-- The whole first step, from the state after the first choice. -/
abbrev first (V : KV) : KV := mid (StepC.headed (StepB.post V))

/-- The first enlargement and its choice leave the arguments. -/
theorem enlarging1 (V : KV) (r : Ref Cert.KernelIdeal.sig .tc) (h : r ∉ hostOps0_W) (h1 : r ∉ hostOps0_1_W) (h2 : r ∉ hostOps0_2_W) (h3 : r ∉ hostOps0_3_W)
    (h4 : r ∉ hostOps0_4_W) : StepA.post V (Proc.devRef .tc r) = V (Proc.devRef .tc r) :=
  (after_of_writes_sub hostOps0_4 _ hostOps0_4_writes h4).trans ((after_of_writes_sub hostOps0_3 _ hostOps0_3_writes h3).trans
    ((after_of_writes_sub hostOps0_2 _ hostOps0_2_writes h2).trans ((after_of_writes_sub hostOps0_1 _ hostOps0_1_writes h1).trans
      (after_of_writes_sub hostOps0 _ hostOps0_writes h))))

/-- The first sampling. -/
theorem sampling1 (V : KV) :
    StepB.post V (Proc.devRef .tc main_v39) = V (Proc.devRef .tc main_v39)
    ∧ StepB.post V (Proc.devRef .tc main_indices) = V (Proc.devRef .tc main_indices)
    ∧ StepB.post V (Proc.devRef .tc main_arg1) = V (Proc.devRef .tc main_arg1)
    ∧ StepB.post V (Proc.devRef .tc main_arg2) = V (Proc.devRef .tc main_arg2)
    ∧ StepB.post V (Proc.devRef .tc main_arg3) = V (Proc.devRef .tc main_arg3)
    ∧ StepB.post V (Proc.devRef .tc main_arg4) = V (Proc.devRef .tc main_arg4)
    ∧ StepB.post V (Proc.devRef .tc main_arg5) = V (Proc.devRef .tc main_arg5)
    ∧ StepB.post V (Proc.devRef .tc main_arg6) = V (Proc.devRef .tc main_arg6)
    ∧ StepB.post V (Proc.devRef .tc main_arg7) = V (Proc.devRef .tc main_arg7)
    ∧ StepB.post V (Proc.devRef .tc main_arg8) = V (Proc.devRef .tc main_arg8)
    ∧ StepB.post V (Proc.devRef .tc main_arg9) = V (Proc.devRef .tc main_arg9) := by
  refine ⟨?_, ?_, ?_, ?_, ?_, ?_, ?_, ?_, ?_, ?_, ?_⟩ <;> after_reads_simp

/-- The first point head. -/
theorem heading1 (V : KV) :
    StepC.headed V (Proc.devRef .tc main_v39) = V (Proc.devRef .tc main_v39)
    ∧ StepC.headed V (Proc.devRef .tc main_indices) = V (Proc.devRef .tc main_indices)
    ∧ StepC.headed V (Proc.devRef .tc main_v68) = V (Proc.devRef .tc main_v68)
    ∧ StepC.headed V (Proc.devRef .tc main_arg1) = V (Proc.devRef .tc main_arg1)
    ∧ StepC.headed V (Proc.devRef .tc main_arg2) = V (Proc.devRef .tc main_arg2)
    ∧ StepC.headed V (Proc.devRef .tc main_arg3) = V (Proc.devRef .tc main_arg3)
    ∧ StepC.headed V (Proc.devRef .tc main_arg4) = V (Proc.devRef .tc main_arg4)
    ∧ StepC.headed V (Proc.devRef .tc main_arg5) = V (Proc.devRef .tc main_arg5)
    ∧ StepC.headed V (Proc.devRef .tc main_arg6) = V (Proc.devRef .tc main_arg6)
    ∧ StepC.headed V (Proc.devRef .tc main_arg7) = V (Proc.devRef .tc main_arg7)
    ∧ StepC.headed V (Proc.devRef .tc main_arg8) = V (Proc.devRef .tc main_arg8)
    ∧ StepC.headed V (Proc.devRef .tc main_arg9) = V (Proc.devRef .tc main_arg9) := by
  refine ⟨?_, ?_, ?_, ?_, ?_, ?_, ?_, ?_, ?_, ?_, ?_, ?_⟩ <;> after_reads_simp

/-- The first writing. -/
theorem writing1 (V : KV) :
    mid V (Proc.devRef .tc main_v317) = V (Proc.devRef .tc main_v317)
    ∧ mid V (Proc.devRef .tc main_v68) = V (Proc.devRef .tc main_v68)
    ∧ mid V (Proc.devRef .tc main_arg1) = V (Proc.devRef .tc main_arg1)
    ∧ mid V (Proc.devRef .tc main_arg2) = V (Proc.devRef .tc main_arg2)
    ∧ mid V (Proc.devRef .tc main_arg3) = V (Proc.devRef .tc main_arg3)
    ∧ mid V (Proc.devRef .tc main_arg4) = V (Proc.devRef .tc main_arg4)
    ∧ mid V (Proc.devRef .tc main_arg5) = V (Proc.devRef .tc main_arg5)
    ∧ mid V (Proc.devRef .tc main_arg6) = V (Proc.devRef .tc main_arg6)
    ∧ mid V (Proc.devRef .tc main_arg7) = V (Proc.devRef .tc main_arg7)
    ∧ mid V (Proc.devRef .tc main_arg8) = V (Proc.devRef .tc main_arg8)
    ∧ mid V (Proc.devRef .tc main_arg9) = V (Proc.devRef .tc main_arg9) := by
  refine ⟨?_, ?_, ?_, ?_, ?_, ?_, ?_, ?_, ?_, ?_, ?_⟩ <;> after_reads_simp

/-- The second enlargement and its choice. -/
theorem enlarging2 (V : KV) :
    StepE.post V (Proc.devRef .tc main_v317) = V (Proc.devRef .tc main_v317)
    ∧ StepE.post V (Proc.devRef .tc main_v68) = V (Proc.devRef .tc main_v68)
    ∧ StepE.post V (Proc.devRef .tc main_arg1) = V (Proc.devRef .tc main_arg1)
    ∧ StepE.post V (Proc.devRef .tc main_arg2) = V (Proc.devRef .tc main_arg2)
    ∧ StepE.post V (Proc.devRef .tc main_arg3) = V (Proc.devRef .tc main_arg3)
    ∧ StepE.post V (Proc.devRef .tc main_arg4) = V (Proc.devRef .tc main_arg4)
    ∧ StepE.post V (Proc.devRef .tc main_arg5) = V (Proc.devRef .tc main_arg5)
    ∧ StepE.post V (Proc.devRef .tc main_arg6) = V (Proc.devRef .tc main_arg6)
    ∧ StepE.post V (Proc.devRef .tc main_arg7) = V (Proc.devRef .tc main_arg7)
    ∧ StepE.post V (Proc.devRef .tc main_arg8) = V (Proc.devRef .tc main_arg8)
    ∧ StepE.post V (Proc.devRef .tc main_arg9) = V (Proc.devRef .tc main_arg9) := by
  refine ⟨?_, ?_, ?_, ?_, ?_, ?_, ?_, ?_, ?_, ?_, ?_⟩ <;> after_reads_simp

/-- The second sampling. -/
theorem sampling2 (V : KV) :
    StepF.post V (Proc.devRef .tc main_v317) = V (Proc.devRef .tc main_v317)
    ∧ StepF.post V (Proc.devRef .tc main_v68) = V (Proc.devRef .tc main_v68)
    ∧ StepF.post V (Proc.devRef .tc main_indices_103) = V (Proc.devRef .tc main_indices_103)
    ∧ StepF.post V (Proc.devRef .tc main_arg2) = V (Proc.devRef .tc main_arg2)
    ∧ StepF.post V (Proc.devRef .tc main_arg3) = V (Proc.devRef .tc main_arg3)
    ∧ StepF.post V (Proc.devRef .tc main_arg4) = V (Proc.devRef .tc main_arg4)
    ∧ StepF.post V (Proc.devRef .tc main_arg5) = V (Proc.devRef .tc main_arg5)
    ∧ StepF.post V (Proc.devRef .tc main_arg6) = V (Proc.devRef .tc main_arg6)
    ∧ StepF.post V (Proc.devRef .tc main_arg7) = V (Proc.devRef .tc main_arg7)
    ∧ StepF.post V (Proc.devRef .tc main_arg8) = V (Proc.devRef .tc main_arg8)
    ∧ StepF.post V (Proc.devRef .tc main_arg9) = V (Proc.devRef .tc main_arg9) := by
  refine ⟨?_, ?_, ?_, ?_, ?_, ?_, ?_, ?_, ?_, ?_, ?_⟩ <;> after_reads_simp

/-- The operands of the second point head. -/
theorem laying2 (V : KV) :
    StepF.laid V (Proc.devRef .tc main_v317) = V (Proc.devRef .tc main_v317)
    ∧ StepF.laid V (Proc.devRef .tc main_v68) = V (Proc.devRef .tc main_v68)
    ∧ StepF.laid V (Proc.devRef .tc main_indices_103) = V (Proc.devRef .tc main_indices_103)
    ∧ StepF.laid V (Proc.devRef .tc main_v405) = V (Proc.devRef .tc main_v405)
    ∧ StepF.laid V (Proc.devRef .tc main_v406) = V (Proc.devRef .tc main_v406)
    ∧ StepF.laid V (Proc.devRef .tc main_arg2) = V (Proc.devRef .tc main_arg2)
    ∧ StepF.laid V (Proc.devRef .tc main_arg4) = V (Proc.devRef .tc main_arg4)
    ∧ StepF.laid V (Proc.devRef .tc main_arg6) = V (Proc.devRef .tc main_arg6)
    ∧ StepF.laid V (Proc.devRef .tc main_arg8) = V (Proc.devRef .tc main_arg8) := by
  refine ⟨?_, ?_, ?_, ?_, ?_, ?_, ?_, ?_, ?_⟩ <;> after_reads_simp

end Cert.Kept

end
-- ==== Proof.Own.Args.lean ====
/-
  The agreement of a state of the host code with the reference's arguments.
-/
module

public import proofs.«01_k».proof.Proof.Own.Kept

@[expose] public section

set_option maxRecDepth 16384

noncomputable section

namespace Cert.States

open Idealize.ShloMosaic Idealize.ShloMosaic.StableHlo Cert.KernelIdeal Cert.KernelIdeal.Gen Idealize.SL.Sem Cert.Reads Cert.RefEnlarge

/-- The fine features and the weights of a state are those the reference was launched with. -/
def Args (V : KV) (V' : RV) : Prop :=
  (V (Proc.devRef .tc main_arg1) : FVec Ideal S4x112x112x256 .f32) = V' (Proc.devRef .tc ReferenceIdeal.main_arg1)
  ∧ (V (Proc.devRef .tc main_arg2) : FVec Ideal S277x256 .f32) = V' (Proc.devRef .tc ReferenceIdeal.main_arg2)
  ∧ (V (Proc.devRef .tc main_arg3) : FVec Ideal S256 .f32) = V' (Proc.devRef .tc ReferenceIdeal.main_arg3)
  ∧ (V (Proc.devRef .tc main_arg4) : FVec Ideal S277x256 .f32) = V' (Proc.devRef .tc ReferenceIdeal.main_arg4)
  ∧ (V (Proc.devRef .tc main_arg5) : FVec Ideal S256 .f32) = V' (Proc.devRef .tc ReferenceIdeal.main_arg5)
  ∧ (V (Proc.devRef .tc main_arg6) : FVec Ideal S277x256 .f32) = V' (Proc.devRef .tc ReferenceIdeal.main_arg6)
  ∧ (V (Proc.devRef .tc main_arg7) : FVec Ideal S256 .f32) = V' (Proc.devRef .tc ReferenceIdeal.main_arg7)
  ∧ (V (Proc.devRef .tc main_arg8) : FVec Ideal S277x21 .f32) = V' (Proc.devRef .tc ReferenceIdeal.main_arg8)
  ∧ (V (Proc.devRef .tc main_arg9) : FVec Ideal S21 .f32) = V' (Proc.devRef .tc ReferenceIdeal.main_arg9)

end Cert.States

end
-- ==== Proof.Own.Sample.lean ====
/-
  Reading rows by number: the gathers of both programs at an index, and the numbers a choice of points gives.
-/
module

public import proofs.«01_k».proof.Proof.Own.StepF
public import proofs.«01_k».proof.Proof.Own.Real
public import Idealize.ShloMosaic.Lib.Routing.Words

@[expose] public section

set_option maxRecDepth 16384

noncomputable section

namespace Cert.Sample

open Idealize.ShloMosaic Idealize.SL.Sem Cert.KernelIdeal Cert.KernelIdeal.Gen Cert.Reads

/-- The kernel's gather reads the row of the given number. -/
theorem gather_row (x : FVec Ideal S4x200704x21 .f32) (k : IVec S4x8192x1 32) (b : Fin 4) (p : Fin 8192) (c : Fin 21) :
    Host.gather gather_S4x200704x21_S4x8192x1_S4x8192x21_2_1_0_0_1_2_1121 x k (ix3 b p c)
      = x (ix3 b ⟨min (k (ix3 b p 0)).toInt.toNat 200703, by omega⟩ c) := by
  show x _ = x _
  congr 1
  funext a
  fin_cases a
  · refine Fin.ext ?_
    show GatherDims.start _ _ _ _ + GatherDims.batchCoord _ _ _ + GatherDims.offCoord _ _ _ = b.val
    rw [GatherDims.start_batching _ _ _ _ (by decide), GatherDims.offCoord_eq_zero _ _ _ (by decide)]
    simp only [Nat.zero_add, Nat.add_zero]
    rfl
  · refine Fin.ext ?_
    show GatherDims.start _ _ _ _ + GatherDims.batchCoord _ _ _ + GatherDims.offCoord _ _ _ = _
    rw [GatherDims.batchCoord_eq_zero _ _ _ (by decide), GatherDims.offCoord_eq_zero _ _ _ (by decide)]
    simp only [Nat.add_zero]
    unfold GatherDims.start
    rw [dif_pos (by decide)]
    have e : GatherDims.siIdx gather_S4x200704x21_S4x8192x1_S4x8192x21_2_1_0_0_1_2_1121 (ix3 b p c) ⟨0, by decide⟩ = ix3 b p 0 := by
      funext a
      fin_cases a <;> rfl
    exact congrArg (fun z => min (k z).toInt.toNat 200703) e
  · refine Fin.ext ?_
    show GatherDims.start _ _ _ _ + GatherDims.batchCoord _ _ _ + GatherDims.offCoord _ _ _ = c.val
    rw [GatherDims.batchCoord_eq_zero _ _ _ (by decide)]
    unfold GatherDims.start
    rw [dif_neg (by decide)]
    simp only [Nat.zero_add, Nat.add_zero]
    rfl

/-- The reference's gather reads the point of the given row and column. -/
theorem gather_point (x : FVec Ideal S4x448x448x21 .f32) (k : IVec ReferenceIdeal.S4x8192x2 32) (b : Fin 4) (p : Fin 8192) (c : Fin 21) :
    Host.gather ReferenceIdeal.gather_S4x448x448x21_S4x8192x2_S4x8192x21_2_12_0_0_12_2_11121 x k (ix3 b p c)
      = x (ix4 b ⟨min (k (ix3 b p 0)).toInt.toNat 447, by omega⟩ ⟨min (k (ix3 b p 1)).toInt.toNat 447, by omega⟩ c) := by
  show x _ = x _
  congr 1
  funext a
  fin_cases a
  · refine Fin.ext ?_
    show GatherDims.start _ _ _ _ + GatherDims.batchCoord _ _ _ + GatherDims.offCoord _ _ _ = b.val
    rw [GatherDims.start_batching _ _ _ _ (by decide), GatherDims.offCoord_eq_zero _ _ _ (by decide)]
    simp only [Nat.zero_add, Nat.add_zero]
    rfl
  · refine Fin.ext ?_
    show GatherDims.start _ _ _ _ + GatherDims.batchCoord _ _ _ + GatherDims.offCoord _ _ _ = _
    rw [GatherDims.batchCoord_eq_zero _ _ _ (by decide), GatherDims.offCoord_eq_zero _ _ _ (by decide)]
    simp only [Nat.add_zero]
    unfold GatherDims.start
    rw [dif_pos (by decide)]
    have e : GatherDims.siIdx ReferenceIdeal.gather_S4x448x448x21_S4x8192x2_S4x8192x21_2_12_0_0_12_2_11121 (ix3 b p c) ⟨0, by decide⟩ = ix3 b p 0 := by
      funext a
      fin_cases a <;> rfl
    exact congrArg (fun z => min (k z).toInt.toNat 447) e
  · refine Fin.ext ?_
    show GatherDims.start _ _ _ _ + GatherDims.batchCoord _ _ _ + GatherDims.offCoord _ _ _ = _
    rw [GatherDims.batchCoord_eq_zero _ _ _ (by decide), GatherDims.offCoord_eq_zero _ _ _ (by decide)]
    simp only [Nat.add_zero]
    unfold GatherDims.start
    rw [dif_pos (by decide)]
    have e : GatherDims.siIdx ReferenceIdeal.gather_S4x448x448x21_S4x8192x2_S4x8192x21_2_12_0_0_12_2_11121 (ix3 b p c) ⟨1, by decide⟩ = ix3 b p 1 := by
      funext a
      fin_cases a <;> rfl
    exact congrArg (fun z => min (k z).toInt.toNat 447) e
  · refine Fin.ext ?_
    show GatherDims.start _ _ _ _ + GatherDims.batchCoord _ _ _ + GatherDims.offCoord _ _ _ = c.val
    rw [GatherDims.batchCoord_eq_zero _ _ _ (by decide)]
    unfold GatherDims.start
    rw [dif_neg (by decide)]
    simp only [Nat.zero_add, Nat.add_zero]
    rfl

/-- The numbers a choice of points gives are numbers of points. -/
theorem number (x : FVec Ideal S4x200704 .f32) (h : S4x200704.Slices (fun _ => 0) S4x8192) (b : Fin 4) (p : Fin 8192) :
    ∃ n < 200704, (Host.topK S4x8192 1 (FloatOps.cmpfTotal (F := Ideal) (φ := .f32) .gt) x h).2 (ix2 b p) = BitVec.ofNat 32 n := by
  unfold Host.topK Host.sort2
  dsimp only
  rw [dif_pos (by decide : 1 < S4x200704.rank)]
  unfold extractStridedSlice
  dsimp only
  rw [dif_pos (by decide : 1 < S4x200704.rank)]
  unfold iotaInDim
  exact ⟨_, Fin.isLt _, rfl⟩

/-! The coordinates of a chosen point, in steps of the grid, are its column and its row. -/

open Cert.ReferenceIdeal.Value

theorem fold_one {ι : Type} [DecidableEq ι] (s : Finset ι) : s.fold IntOp.andi 1#1 (fun _ => 1#1) = 1#1 := by
  induction s using Finset.induction_on with
  | empty => rfl
  | insert a s ha ih => rw [Finset.fold_insert ha, ih]; rfl

/-- A point's centre in steps of the grid is its number. -/
theorem centre (m : ℕ) : Ideal.div (((m : ℝ) : EReal) + Ideal.ofBits .f32 0x3F000000#32) (Ideal.ofBits .f32 0x43E00000#32)
    * Ideal.ofBits .f32 0x43E00000#32 - Ideal.ofBits .f32 0x3F000000#32 = ((m : ℝ) : EReal) := by
  rw [lit_half, lit_448, ← EReal.coe_add, div_coe_coe _ (by norm_num), ← EReal.coe_mul, ← EReal.coe_sub]
  congr 1
  field_simp
  ring

theorem floor_nat (m : ℕ) : Ideal.liftRound Int.floor ((m : ℝ) : EReal) = ((m : ℝ) : EReal) := by
  show ((⌊(m : ℝ)⌋ : ℝ) : EReal) = _
  rw [Int.floor_natCast, Int.cast_natCast]

/-- A number of the grid clamped to it and turned to a word is itself. -/
theorem clamp_nat (m : ℕ) (h : m < 448) :
    Ideal.fptosi 32 (min ((447 : ℝ) : EReal) (max ((0 : ℝ) : EReal) ((m : ℝ) : EReal))) = BitVec.ofNat 32 m := by
  have h1 : max ((0 : ℝ) : EReal) ((m : ℝ) : EReal) = ((m : ℝ) : EReal) := max_eq_right (EReal.coe_le_coe_iff.2 (Nat.cast_nonneg m))
  have h2 : (m : ℝ) ≤ 447 := by exact_mod_cast Nat.le_of_lt_succ h
  rw [h1, min_eq_right (EReal.coe_le_coe_iff.2 h2)]
  unfold Ideal.fptosi Ideal.toIntClamped
  have h3 : (if (0 : ℝ) ≤ (m : ℝ) then ⌊(m : ℝ)⌋ else ⌈(m : ℝ)⌉) = (m : ℤ) := by rw [if_pos (Nat.cast_nonneg m), Int.floor_natCast]
  show BitVec.ofInt 32 (max (-((2 ^ (32 - 1) : ℕ) : ℤ)) (min (((2 ^ (32 - 1) : ℕ) : ℤ) - 1) (if (0 : ℝ) ≤ (m : ℝ) then ⌊(m : ℝ)⌋ else ⌈(m : ℝ)⌉))) = _
  rw [h3, show max (-((2 ^ (32 - 1) : ℕ) : ℤ)) (min (((2 ^ (32 - 1) : ℕ) : ℤ) - 1) (m : ℤ)) = (m : ℤ) by norm_num; omega]
  exact BitVec.ofInt_natCast ..

theorem s447 : (FloatOps.sitofp (F := Ideal) .f32 447#32 : EReal) = ((447 : ℝ) : EReal) :=
  (sitofp_nat (n := 447) (by norm_num)).trans (by norm_num)

theorem s0 : (FloatOps.sitofp (F := Ideal) .f32 0#32 : EReal) = ((0 : ℝ) : EReal) :=
  (sitofp_nat (n := 0) (by norm_num)).trans (by norm_num)

theorem toNat_nat {m : ℕ} (h : m < 2 ^ 31) : (BitVec.ofNat 32 m).toInt.toNat = m := by
  rw [BitVec.toInt_eq_toNat_of_lt (by rw [BitVec.toNat_ofNat]; omega), Int.toNat_natCast, BitVec.toNat_ofNat]
  omega

theorem word_nonneg {m : ℕ} (h : m < 2 ^ 31) : IntOp.cmpi .slt (BitVec.ofNat 32 m) 0#32 = 0#1 := by
  have : ¬ (BitVec.ofNat 32 m).slt 0#32 = true := by
    rw [BitVec.slt_iff_toInt_lt, BitVec.toInt_eq_toNat_of_lt (by rw [BitVec.toNat_ofNat]; omega)]
    simp
    omega
  unfold IntOp.cmpi
  simp [this]

theorem word_ge {m : ℕ} (h : m < 2 ^ 31) : IntOp.cmpi .sge (BitVec.ofNat 32 m) 0#32 = 1#1 := by
  have : (0#32).sle (BitVec.ofNat 32 m) = true := by
    rw [BitVec.sle_iff_toInt_le, BitVec.toInt_eq_toNat_of_lt (x := BitVec.ofNat 32 m) (by rw [BitVec.toNat_ofNat]; omega)]
    simp
    omega
  unfold IntOp.cmpi
  simp [this]

theorem word_le {m : ℕ} (h : m < 200704) : IntOp.cmpi .sle (BitVec.ofNat 32 m) 200703#32 = 1#1 := by
  have : (BitVec.ofNat 32 m).sle 200703#32 = true := by
    rw [BitVec.sle_iff_toInt_le, BitVec.toInt_eq_toNat_of_lt (x := BitVec.ofNat 32 m) (by rw [BitVec.toNat_ofNat]; omega), BitVec.toNat_ofNat]
    show ((m % 2 ^ 32 : ℕ) : ℤ) ≤ 200703
    omega
  unfold IntOp.cmpi
  simp [this]

section
variable (V : RV) (b : Fin 4) (p : Fin 8192) {n : ℕ} (hn : n < 200704)
  (h : (res_main_indices_137 V : IVec ReferenceIdeal.S4x8192 32) (ix2 b p) = BitVec.ofNat 32 n)

include hn h

theorem column_at : (res_main_v469 V : FVec Ideal ReferenceIdeal.S4x8192 .f32) (ix2 b p) = (((n % 448 : ℕ) : ℝ) : EReal) := by
  pointwise [res_main_v469, res_main_v463, res_main_call25_v0, res_main_call25_v2, res_main_call25_v4, res_main_call26_v0, res_main_call26_v2]
  rw [h, show id (constantI ReferenceIdeal.S_ 32 448#32) ix0 = 448#32 from rfl,
    show Scalar.select (IntOp.cmpi .eq 448#32 0#32) 1#32 448#32 = 448#32 from rfl,
    Routing.remsi_word .host (by omega) (by norm_num) (by norm_num), word_nonneg (by omega),
    show IntOp.cmpi .slt 448#32 0#32 = 0#1 from rfl, show IntOp.cmpi .ne 0#1 0#1 = 0#1 from rfl]
  rw [show ∀ z : BitVec 1, IntOp.andi 0#1 z = 0#1 from by decide, show ∀ x y : BitVec 32, Scalar.select 0#1 x y = y from fun _ _ => rfl,
    sitofp_nat (by omega)]
  exact centre _

theorem row_at : (res_main_v475 V : FVec Ideal ReferenceIdeal.S4x8192 .f32) (ix2 b p) = (((n / 448 : ℕ) : ℝ) : EReal) := by
  pointwise [res_main_v475, res_main_v463, res_main_call25_v0, res_main_call25_v2, res_main_call25_v4, res_main_call26_v0, res_main_call26_v2]
  rw [h, show id (constantI ReferenceIdeal.S_ 32 448#32) ix0 = 448#32 from rfl,
    Routing.remsi_word .host (by omega) (by norm_num) (by norm_num), Routing.divsi_word .host (by omega) (by norm_num) (by norm_num)]
  have e : IntOp.andi (IntOp.cmpi .ne (if BitVec.ofNat 32 n = 0 then (0 : BitVec 32) else if BitVec.msb (BitVec.ofNat 32 n) = true then -1 else 1)
      (if (448#32 : BitVec 32) = 0 then (0 : BitVec 32) else if BitVec.msb 448#32 = true then -1 else 1))
      (IntOp.cmpi .ne (BitVec.ofNat 32 (n % 448)) 0#32) = 0#1 := by
    by_cases h0 : n = 0
    · subst h0; rfl
    · have h1 : ¬ BitVec.ofNat 32 n = 0 := fun e => h0 (by
        have := congrArg BitVec.toNat e
        rw [BitVec.toNat_ofNat, Nat.mod_eq_of_lt (by omega)] at this
        exact this)
      have h2 : ¬ BitVec.msb (BitVec.ofNat 32 n) = true := by
        rw [BitVec.msb_eq_decide, BitVec.toNat_ofNat]
        simp; omega
      rw [if_neg h1, if_neg h2]
      generalize IntOp.cmpi .ne (BitVec.ofNat 32 (n % 448)) 0#32 = z
      revert z
      decide
  rw [e, show ∀ x y : BitVec 32, Scalar.select 0#1 x y = y from fun _ _ => rfl, sitofp_nat (by omega)]
  exact centre _

/-- The reference's interpolation at a chosen point is the value there. -/
theorem sampled (c : Fin 21) : (res_main_v576 V : FVec Ideal ReferenceIdeal.S4x8192x21 .f32) (ix3 b p c)
    = (res_main_v442 V : FVec Ideal ReferenceIdeal.S4x448x448x21 .f32) (ix4 b ⟨n / 448, by omega⟩ ⟨n % 448, by omega⟩ c) := by
  have hc := column_at V b p hn h
  have hr := row_at V b p hn h
  have c0 : (res_main_v476 V : FVec Ideal ReferenceIdeal.S4x8192 .f32) (ix2 b p) = (((n % 448 : ℕ) : ℝ) : EReal) := by
    pointwise [res_main_v476]; rw [hc]; exact floor_nat _
  have r0 : (res_main_v477 V : FVec Ideal ReferenceIdeal.S4x8192 .f32) (ix2 b p) = (((n / 448 : ℕ) : ℝ) : EReal) := by
    pointwise [res_main_v477]; rw [hr]; exact floor_nat _
  have lx : (res_main_v479 V : FVec Ideal ReferenceIdeal.S4x8192x1 .f32) (ix3 b p 0) = (0 : EReal) := by
    pointwise [res_main_v479]; rw [hc, c0]; exact IsReal.sub_self (IsReal.coe _)
  have ly : (res_main_v481 V : FVec Ideal ReferenceIdeal.S4x8192x1 .f32) (ix3 b p 0) = (0 : EReal) := by
    pointwise [res_main_v481]; rw [hr, r0]; exact IsReal.sub_self (IsReal.coe _)
  have x0 : (res_main_v483 V : IVec ReferenceIdeal.S4x8192 32) (ix2 b p) = BitVec.ofNat 32 (n % 448) := by
    pointwise [res_main_v483]
    rw [c0, s447, s0]
    exact clamp_nat _ (by omega)
  have y0 : (res_main_v489 V : IVec ReferenceIdeal.S4x8192 32) (ix2 b p) = BitVec.ofNat 32 (n / 448) := by
    pointwise [res_main_v489]
    rw [r0, s447, s0]
    exact clamp_nat _ (by omega)
  pointwise [res_main_v576]
  simp only [gather_point]
  pointwise
  rw [lx, ly]
  simp only [mul_zero, zero_mul, add_zero, sub_zero, mul_one]
  simp only [x0, y0, word_nonneg (show n % 448 < 2 ^ 31 by omega), word_nonneg (show n / 448 < 2 ^ 31 by omega),
    show ∀ x y : BitVec 32, Scalar.select 0#1 x y = y from fun _ _ => rfl, toNat_nat (show n % 448 < 2 ^ 31 by omega), toNat_nat (show n / 448 < 2 ^ 31 by omega)]
  congr 2 <;> exact Fin.ext (by dsimp only; omega)

end

/-- The kernel's taking is the value at the point of the given number. -/
theorem taken_at (x : FVec Ideal S4x448x448x21 .f32) (i : IVec S4x8192 32) (b : Fin 4) (p : Fin 8192) (c : Fin 21) {n : ℕ} (hn : n < 200704)
    (h : i (ix2 b p) = BitVec.ofNat 32 n) :
    StepF.takeFlat (StepF.flatten x) (StepF.column i) (ix3 b p c) = x (ix4 b ⟨n / 448, by omega⟩ ⟨n % 448, by omega⟩ c) := by
  have hf : ∀ m : Fin 200704, StepF.flatten x (ix3 b m c) = x (ix4 b ⟨m.val / 448, by omega⟩ ⟨m.val % 448, by omega⟩ c) := fun m => by
    pointwise [StepF.flatten]
  generalize StepF.flatten x = y at hf
  pointwise [StepF.takeFlat, StepF.column]
  simp only [gather_row]
  pointwise
  simp only [h, word_nonneg (show n < 2 ^ 31 by omega), show ∀ x y : BitVec 32, Scalar.select 0#1 x y = y from fun _ _ => rfl,
    toNat_nat (show n < 2 ^ 31 by omega), word_ge (show n < 2 ^ 31 by omega), word_le (show n < 200704 by omega), show IntOp.andi 1#1 1#1 = 1#1 from rfl]
  rw [fold_one, show ∀ x y : EReal, Scalar.select 1#1 x y = x from fun _ _ => rfl, hf]
  congr 2 <;> exact Fin.ext (by dsimp only; omega)

end Cert.Sample

end
-- ==== Proof.Own.Finite.lean ====
/-
  Which intermediate arrays of the reference hold real numbers only, given that the arguments do.
-/
module

public import proofs.«01_k».proof.Proof.Own.RefEnlarge
public import proofs.«01_k».proof.Proof.Own.Real
public import Idealize.ShloMosaic.Lib.Routing.OpsOrder

@[expose] public section

set_option maxRecDepth 16384

noncomputable section

namespace Cert.Finite

open Idealize.ShloMosaic Idealize.SL.Sem Cert.ReferenceIdeal Cert.ReferenceIdeal.Gen Cert.ReferenceIdeal.Value

/-- Every entry is a real number. -/
def All {s : Shape} (x : FVec Ideal s .f32) : Prop := ∀ i, IsReal (x i)

variable {s t : Shape} {x y : FVec Ideal s .f32}

theorem addf (hx : All x) (hy : All y) : All (addf x y) := fun i => (hx i).add (hy i)
theorem subf (hx : All x) (hy : All y) : All (subf x y) := fun i => (hx i).sub (hy i)
theorem mulf (hx : All x) (hy : All y) : All (mulf x y) := fun i => (hx i).mul (hy i)
theorem maximumf (hx : All x) (hy : All y) : All (maximumf x y) := fun i => (hx i).max (hy i)
theorem broadcast (d : Fin s.rank → Fin t.rank) (h) (hx : All x) : All (broadcastInDim t d h x) := fun _ => hx _
theorem shapeCast (h) (hx : All x) : All (shapeCast t x h) := fun _ => hx _
theorem slice (o : Fin s.rank → ℕ) (h) (hx : All x) : All (extractStridedSlice t o x h) := fun _ => hx _
theorem constant {w : BitVec 32} (h : IsReal (Ideal.ofBits .f32 w)) : All (constant s .f32 w) := fun _ => h
theorem sitofp (k : IVec s 32) : All (sitofp .f32 k) := fun i => ⟨((k i).toInt : ℝ), rfl⟩
theorem floor (hx : All x) : All (Host.floor x) := fun i => by
  obtain ⟨r, hr⟩ := hx i
  refine ⟨(⌊r⌋ : ℝ), ?_⟩
  show Ideal.liftRound Int.floor (x i) = _
  rw [hr]; rfl
theorem divf {r : ℝ} (h0 : r ≠ 0) (hx : All x) (hy : ∀ i, y i = (r : EReal)) : All (Host.divf x y) := fun i => by
  obtain ⟨a, ha⟩ := hx i
  refine ⟨a / r, ?_⟩
  show Ideal.div (x i) (y i) = _
  rw [ha, hy, div_coe_coe _ h0]
theorem gather {si : Shape} (d : GatherDims s si t) (k : IVec si 32) (hx : All x) : All (Host.gather d x k) := fun _ => hx _
theorem dot {sr so : Shape} {z : FVec Ideal sr .f32} (d : DotDims s sr so) (hx : All x) (hz : All z) : All (Host.dotGeneral d none x z) := fun j => by
  simp only [Host.dotGeneral]
  rw [Ideal.dotGeneral_apply]
  exact IsReal.sum _ fun k _ => (hx _).mul (hz _)
theorem cat {s₁ s₂ : Shape} {a : FVec Ideal s₁ .f32} {b : FVec Ideal s₂ .f32} (d : Fin t.rank) (h) (ha : All a) (hb : All b) :
    All (concatenate t d [⟨s₁, a⟩, ⟨s₂, b⟩] h) := fun j => by
  refine concatenate_forall (P := fun z : EReal => IsReal z) t d _ h (fun p hp i => ?_) j
  rcases List.mem_cons.1 hp with rfl | hp
  · exact ha i
  · rcases List.mem_cons.1 hp with rfl | hp
    · exact hb i
    · exact absurd hp List.not_mem_nil
theorem scatter {si u : Shape} {k : IVec si 32} {v : FVec Ideal u .f32} (d : ScatterDims s si u) (hx : All x) (hv : All v) :
    All (Host.scatter d (fun _ b => b) x k v) :=
  Routing.scatter_forall d (fun _ b => b) (fun z : EReal => IsReal z) (fun _ _ _ h => h) x k v hx hv

theorem half : IsReal (Ideal.ofBits .f32 0x3F000000#32) := ⟨_, lit_half⟩
theorem unit : IsReal (Ideal.ofBits .f32 0x3F800000#32) := ⟨1, by rw [Ideal.ofBits_one_f32]; rfl⟩
theorem nought : IsReal (Ideal.ofBits .f32 0x00000000#32) := ⟨0, by rw [Ideal.ofBits_zero_f32]; rfl⟩
theorem n112 : IsReal (Ideal.ofBits .f32 0x42E00000#32) := ⟨_, lit_112⟩
theorem n224 : IsReal (Ideal.ofBits .f32 0x43600000#32) := ⟨_, lit_224⟩
theorem n448 : IsReal (Ideal.ofBits .f32 0x43E00000#32) := ⟨_, lit_448⟩

variable (V : RefEnlarge.RV)

theorem coords1 : All (res_main_v97 V : FVec Ideal S4x8192x2 .f32) := by
  unfold res_main_v97
  refine cat _ _ (broadcast _ _ (divf (r := 224) (by norm_num) (addf (sitofp _) (broadcast _ _ (constant half))) fun _ => lit_224))
    (broadcast _ _ (divf (r := 224) (by norm_num) (addf (sitofp _) (broadcast _ _ (constant half))) fun _ => lit_224))

theorem coords2 : All (res_main_v463 V : FVec Ideal S4x8192x2 .f32) := by
  unfold res_main_v463
  refine cat _ _ (broadcast _ _ (divf (r := 448) (by norm_num) (addf (sitofp _) (broadcast _ _ (constant half))) fun _ => lit_448))
    (broadcast _ _ (divf (r := 448) (by norm_num) (addf (sitofp _) (broadcast _ _ (constant half))) fun _ => lit_448))

theorem part {c : FVec Ideal S4x8192x2 .f32} (hc : All c) {w : BitVec 32} (hw : IsReal (Ideal.ofBits .f32 w)) (o : Fin 3 → ℕ) (h1) (h2) (h3) (h4) :
    All (Idealize.ShloMosaic.subf (Idealize.ShloMosaic.mulf (Idealize.ShloMosaic.shapeCast S4x8192 (extractStridedSlice S4x8192x1 o c h1) h2)
      (broadcastInDim S4x8192 ![] h3 (Idealize.ShloMosaic.constant S_ .f32 w)))
      (broadcastInDim S4x8192 ![] h4 (Idealize.ShloMosaic.constant S_ .f32 0x3F000000#32)) : FVec Ideal S4x8192 .f32) :=
  subf (mulf (shapeCast _ (slice _ _ hc)) (broadcast _ _ (constant hw))) (broadcast _ _ (constant half))

theorem v103 : All (res_main_v103 V : FVec Ideal S4x8192 .f32) := part (coords1 V) n224 _ _ _ _ _
theorem v109 : All (res_main_v109 V : FVec Ideal S4x8192 .f32) := part (coords1 V) n224 _ _ _ _ _
theorem v216 : All (res_main_v216 V : FVec Ideal S4x8192 .f32) := part (coords1 V) n112 _ _ _ _ _
theorem v222 : All (res_main_v222 V : FVec Ideal S4x8192 .f32) := part (coords1 V) n112 _ _ _ _ _
theorem v469 : All (res_main_v469 V : FVec Ideal S4x8192 .f32) := part (coords2 V) n448 _ _ _ _ _
theorem v475 : All (res_main_v475 V : FVec Ideal S4x8192 .f32) := part (coords2 V) n448 _ _ _ _ _
theorem v582 : All (res_main_v582 V : FVec Ideal S4x8192 .f32) := part (coords2 V) n112 _ _ _ _ _
theorem v588 : All (res_main_v588 V : FVec Ideal S4x8192 .f32) := part (coords2 V) n112 _ _ _ _ _

theorem v113 : All (res_main_v113 V : FVec Ideal S4x8192x1 .f32) := broadcast _ _ (subf (v103 V) (floor (v103 V)))
theorem v115 : All (res_main_v115 V : FVec Ideal S4x8192x1 .f32) := broadcast _ _ (subf (v109 V) (floor (v109 V)))
theorem v226 : All (res_main_v226 V : FVec Ideal S4x8192x1 .f32) := broadcast _ _ (subf (v216 V) (floor (v216 V)))
theorem v228 : All (res_main_v228 V : FVec Ideal S4x8192x1 .f32) := broadcast _ _ (subf (v222 V) (floor (v222 V)))
theorem v479 : All (res_main_v479 V : FVec Ideal S4x8192x1 .f32) := broadcast _ _ (subf (v469 V) (floor (v469 V)))
theorem v481 : All (res_main_v481 V : FVec Ideal S4x8192x1 .f32) := broadcast _ _ (subf (v475 V) (floor (v475 V)))
theorem v592 : All (res_main_v592 V : FVec Ideal S4x8192x1 .f32) := broadcast _ _ (subf (v582 V) (floor (v582 V)))
theorem v594 : All (res_main_v594 V : FVec Ideal S4x8192x1 .f32) := broadcast _ _ (subf (v588 V) (floor (v588 V)))

/-- Four corners mixed with real weights. -/
theorem mix {x : FVec Ideal s .f32} (h : All x) {u v : FVec Ideal S4x8192x1 .f32} (hu : All u) (hv : All v)
    (d : GatherDims s S4x8192x2 t) (k1 k2 k3 k4 : IVec S4x8192x2 32) (e : Fin 3 → Fin t.rank) (hd) (hn) :
    All (Idealize.ShloMosaic.addf (Idealize.ShloMosaic.addf (Idealize.ShloMosaic.addf
      (Idealize.ShloMosaic.mulf (Idealize.ShloMosaic.mulf (Host.gather d x k1)
        (broadcastInDim t e hd (Idealize.ShloMosaic.subf (broadcastInDim S4x8192x1 ![] hn (Idealize.ShloMosaic.constant S_ .f32 0x3F800000#32)) u)))
        (broadcastInDim t e hd (Idealize.ShloMosaic.subf (broadcastInDim S4x8192x1 ![] hn (Idealize.ShloMosaic.constant S_ .f32 0x3F800000#32)) v)))
      (Idealize.ShloMosaic.mulf (Idealize.ShloMosaic.mulf (Host.gather d x k2) (broadcastInDim t e hd u))
        (broadcastInDim t e hd (Idealize.ShloMosaic.subf (broadcastInDim S4x8192x1 ![] hn (Idealize.ShloMosaic.constant S_ .f32 0x3F800000#32)) v))))
      (Idealize.ShloMosaic.mulf (Idealize.ShloMosaic.mulf (Host.gather d x k3)
        (broadcastInDim t e hd (Idealize.ShloMosaic.subf (broadcastInDim S4x8192x1 ![] hn (Idealize.ShloMosaic.constant S_ .f32 0x3F800000#32)) u)))
        (broadcastInDim t e hd v)))
      (Idealize.ShloMosaic.mulf (Idealize.ShloMosaic.mulf (Host.gather d x k4) (broadcastInDim t e hd u)) (broadcastInDim t e hd v))) :=
  have one := broadcast (t := S4x8192x1) ![] hn (constant (s := S_) unit)
  have nx := broadcast e hd (subf one hu)
  have ny := broadcast e hd (subf one hv)
  have lx := broadcast e hd hu
  have ly := broadcast e hd hv
  addf (addf (addf (mulf (mulf (gather d k1 h) nx) ny) (mulf (mulf (gather d k2 h) lx) ny)) (mulf (mulf (gather d k3 h) nx) ly))
    (mulf (mulf (gather d k4 h) lx) ly)

theorem coarse1 (h : All (res_main_v76 V : FVec Ideal S4x224x224x21 .f32)) : All (res_main_v210 V : FVec Ideal S4x8192x21 .f32) := by
  exact mix h (v113 V) (v115 V) _ _ _ _ _ _ _ _

theorem fine1 (h : All (V (Proc.devRef .tc main_arg1) : FVec Ideal S4x112x112x256 .f32)) : All (res_main_v323 V : FVec Ideal S4x8192x256 .f32) := by
  exact mix h (v226 V) (v228 V) _ _ _ _ _ _ _ _

theorem coarse2 (h : All (res_main_v442 V : FVec Ideal S4x448x448x21 .f32)) : All (res_main_v576 V : FVec Ideal S4x8192x21 .f32) := by
  exact mix h (v479 V) (v481 V) _ _ _ _ _ _ _ _

theorem fine2 (h : All (V (Proc.devRef .tc main_arg1) : FVec Ideal S4x112x112x256 .f32)) : All (res_main_v689 V : FVec Ideal S4x8192x256 .f32) := by
  exact mix h (v592 V) (v594 V) _ _ _ _ _ _ _ _

section
variable (h1 : All (V (Proc.devRef .tc main_arg1) : FVec Ideal S4x112x112x256 .f32))
  (h2 : All (V (Proc.devRef .tc main_arg2) : FVec Ideal S277x256 .f32)) (h3 : All (V (Proc.devRef .tc main_arg3) : FVec Ideal S256 .f32))
  (h4 : All (V (Proc.devRef .tc main_arg4) : FVec Ideal S277x256 .f32)) (h5 : All (V (Proc.devRef .tc main_arg5) : FVec Ideal S256 .f32))
  (h6 : All (V (Proc.devRef .tc main_arg6) : FVec Ideal S277x256 .f32)) (h7 : All (V (Proc.devRef .tc main_arg7) : FVec Ideal S256 .f32))
  (h8 : All (V (Proc.devRef .tc main_arg8) : FVec Ideal S277x21 .f32)) (h9 : All (V (Proc.devRef .tc main_arg9) : FVec Ideal S21 .f32))
include h1 h2 h3 h4 h5 h6 h7 h8 h9

theorem head1 (h : All (res_main_v76 V : FVec Ideal S4x224x224x21 .f32)) : All (res_main_v346 V : FVec Ideal S4x8192x21 .f32) := by
  have hc := coarse1 V h
  have z : ∀ h', All (broadcastInDim S4x8192x256 ![] h' (Idealize.ShloMosaic.constant S_ .f32 0x00000000#32) : FVec Ideal S4x8192x256 .f32) := fun _ => broadcast _ _ (constant nought)
  exact addf (dot _ (cat _ _ (maximumf (addf (dot _ (cat _ _ (maximumf (addf (dot _ (cat _ _ (maximumf (addf (dot _ (cat _ _ hc (fine1 V h1)) h2)
    (broadcast _ _ (broadcast _ _ h3))) (z _)) hc) h4) (broadcast _ _ (broadcast _ _ h5))) (z _)) hc) h6) (broadcast _ _ (broadcast _ _ h7))) (z _)) hc) h8)
    (broadcast _ _ (broadcast _ _ h9))

theorem head2 (h : All (res_main_v442 V : FVec Ideal S4x448x448x21 .f32)) : All (res_main_v712 V : FVec Ideal S4x8192x21 .f32) := by
  have hc := coarse2 V h
  have z : ∀ h', All (broadcastInDim S4x8192x256 ![] h' (Idealize.ShloMosaic.constant S_ .f32 0x00000000#32) : FVec Ideal S4x8192x256 .f32) := fun _ => broadcast _ _ (constant nought)
  exact addf (dot _ (cat _ _ (maximumf (addf (dot _ (cat _ _ (maximumf (addf (dot _ (cat _ _ (maximumf (addf (dot _ (cat _ _ hc (fine2 V h1)) h2)
    (broadcast _ _ (broadcast _ _ h3))) (z _)) hc) h4) (broadcast _ _ (broadcast _ _ h5))) (z _)) hc) h6) (broadcast _ _ (broadcast _ _ h7))) (z _)) hc) h8)
    (broadcast _ _ (broadcast _ _ h9))

/-- The grid of the first step is real. -/
theorem grid (h : All (res_main_v76 V : FVec Ideal S4x224x224x21 .f32)) : All (RefEnlarge.grid1 V) :=
  shapeCast _ (scatter _ (shapeCast _ h) (head1 V h1 h2 h3 h4 h5 h6 h7 h8 h9 h))

end

end Cert.Finite

end
-- ==== Proof.Own.States.lean ====
/-
  The two steps from one state of the host code to the next, against the reference's values.
-/
module

public import proofs.«01_k».proof.Proof.Own.Args
public import proofs.«01_k».proof.Proof.Own.Sample
public import proofs.«01_k».proof.Proof.Own.Finite

@[expose] public section

set_option maxRecDepth 16384

noncomputable section

namespace Cert.States

open Idealize.ShloMosaic Idealize.ShloMosaic.StableHlo Cert.KernelIdeal Cert.KernelIdeal.Gen Idealize.SL.Sem Cert.Reads Cert.RefEnlarge

/-- The whole first step. -/
theorem first (V : KV) (V' : RV)
    (hU : (V (Proc.devRef .tc main_v39) : FVec Ideal S4x224x224x21 .f32) = ReferenceIdeal.Value.res_main_v76 V')
    (hi : (V (Proc.devRef .tc main_indices) : IVec S4x8192 32) = ReferenceIdeal.Value.res_main_indices_27 V')
    (hc : (V (Proc.devRef .tc main_c_11) : IVec S_ 32) = constantI S_ 32 224#32) (hA : Args V V') :
    (Kept.first V (Proc.devRef .tc main_v336) : FVec Ideal S4x224x224x21 .f32) = grid1 V'
    ∧ (Kept.first V (Proc.devRef .tc main_v317) : FVec Ideal S4x8192x21 .f32) = ReferenceIdeal.Value.res_main_v346 V'
    ∧ (Kept.first V (Proc.devRef .tc main_v68) : FVec Ideal S4x8192x2 .f32) = ReferenceIdeal.Value.res_main_v97 V'
    ∧ Args (Kept.first V) V' := by
  have hB := StepB.coords V V' hi hc
  have hx := StepB.coarse V V' hi hc hU
  have hf := StepB.fine V V' hi hc hA.1
  obtain ⟨k39, ki, k1, k2, k3, k4, k5, k6, k7, k8, k9⟩ := Kept.sampling1 V
  unfold Kept.first
  generalize StepB.post V = B at *
  have hh := StepC.head B V' hx hf (k2.trans hA.2.1) (k3.trans hA.2.2.1) (k4.trans hA.2.2.2.1) (k5.trans hA.2.2.2.2.1) (k6.trans hA.2.2.2.2.2.1) (k7.trans hA.2.2.2.2.2.2.1) (k8.trans hA.2.2.2.2.2.2.2.1) (k9.trans hA.2.2.2.2.2.2.2.2)
  obtain ⟨l39, li, l68, l1, l2, l3, l4, l5, l6, l7, l8, l9⟩ := Kept.heading1 B
  generalize StepC.headed B = C at *
  have hw := StepC.written C V' (l39.trans (k39.trans hU)) (li.trans (ki.trans hi)) hh
  obtain ⟨m317, m68, m1, m2, m3, m4, m5, m6, m7, m8, m9⟩ := Kept.writing1 C
  exact ⟨hw, m317.trans hh, m68.trans (l68.trans hB),
    ⟨m1.trans (l1.trans (k1.trans hA.1)), m2.trans (l2.trans (k2.trans hA.2.1)), m3.trans (l3.trans (k3.trans hA.2.2.1)), m4.trans (l4.trans (k4.trans hA.2.2.2.1)),
     m5.trans (l5.trans (k5.trans hA.2.2.2.2.1)), m6.trans (l6.trans (k6.trans hA.2.2.2.2.2.1)), m7.trans (l7.trans (k7.trans hA.2.2.2.2.2.2.1)), m8.trans (l8.trans (k8.trans hA.2.2.2.2.2.2.2.1)),
     m9.trans (l9.trans (k9.trans hA.2.2.2.2.2.2.2.2))⟩⟩

/-- The reference's chosen points have numbers below the image's size. -/
theorem chosen_number (V' : RV) (b : Fin 4) (p : Fin 8192) :
    ∃ n < 200704, (ReferenceIdeal.Value.res_main_indices_137 V' : IVec ReferenceIdeal.S4x8192 32) (ix2 b p) = BitVec.ofNat 32 n :=
  Sample.number _ _ b p

/-- The kernel's taking of the chosen points is the reference's interpolation. -/
theorem taking (V' : RV) :
    StepF.takeFlat (StepF.flatten (ReferenceIdeal.Value.res_main_v442 V')) (StepF.column (ReferenceIdeal.Value.res_main_indices_137 V'))
      = ReferenceIdeal.Value.res_main_v576 V' := by
  funext i
  obtain ⟨b, p, c, rfl⟩ : ∃ b p c, i = ix3 b p c := ⟨i 0, i 1, i 2, by funext k; fin_cases k <;> rfl⟩
  obtain ⟨n, hn, h⟩ := chosen_number V' b p
  exact (Sample.taken_at _ _ b p c hn h).trans (Sample.sampled V' b p hn h c).symm

/-- The second step up to its point head's operands. -/
theorem second (V : KV) (V' : RV) (hg : (V (Proc.devRef .tc main_v336) : FVec Ideal S4x224x224x21 .f32) = grid1 V')
    (hr : ∀ i, IsReal (grid1 V' i)) (hA : Args V V') :
    (Kept.second V (Proc.devRef .tc main_v405) : FVec Ideal S4x8192x2 .f32) = ReferenceIdeal.Value.res_main_v463 V'
    ∧ (Kept.second V (Proc.devRef .tc main_v406) : FVec Ideal S4x200704x21 .f32) = StepF.flatten (ReferenceIdeal.Value.res_main_v442 V')
    ∧ (Kept.second V (Proc.devRef .tc main_indices_103) : IVec S4x8192 32) = ReferenceIdeal.Value.res_main_indices_137 V'
    ∧ (Kept.second V (Proc.devRef .tc main_v523) : FVec Ideal S32768x277 .f32) = shapeCast S32768x277
        (cat2 S4x8192x277 2 S4x8192x21 S4x8192x256 (ReferenceIdeal.Value.res_main_v576 V' : FVec Ideal S4x8192x21 .f32) (ReferenceIdeal.Value.res_main_v689 V' : FVec Ideal S4x8192x256 .f32)
          concatenates_S4x8192x21_S4x8192x256_S4x8192x277_d2) shapeCasts_S4x8192x277_S32768x277
    ∧ (Kept.second V (Proc.devRef .tc main_v524) : FVec Ideal S1x256 .f32) = shapeCast S1x256 (V' (Proc.devRef .tc ReferenceIdeal.main_arg3) : FVec Ideal S256 .f32) shapeCasts_S256_S1x256
    ∧ (Kept.second V (Proc.devRef .tc main_v525) : FVec Ideal S1x256 .f32) = shapeCast S1x256 (V' (Proc.devRef .tc ReferenceIdeal.main_arg5) : FVec Ideal S256 .f32) shapeCasts_S256_S1x256
    ∧ (Kept.second V (Proc.devRef .tc main_v526) : FVec Ideal S1x256 .f32) = shapeCast S1x256 (V' (Proc.devRef .tc ReferenceIdeal.main_arg7) : FVec Ideal S256 .f32) shapeCasts_S256_S1x256
    ∧ (Kept.second V (Proc.devRef .tc main_v527) : FVec Ideal S1x21 .f32) = shapeCast S1x21 (V' (Proc.devRef .tc ReferenceIdeal.main_arg9) : FVec Ideal S21 .f32) shapeCasts_S21_S1x21
    ∧ (Kept.second V (Proc.devRef .tc main_arg2) : FVec Ideal S277x256 .f32) = V' (Proc.devRef .tc ReferenceIdeal.main_arg2)
    ∧ (Kept.second V (Proc.devRef .tc main_arg4) : FVec Ideal S277x256 .f32) = V' (Proc.devRef .tc ReferenceIdeal.main_arg4)
    ∧ (Kept.second V (Proc.devRef .tc main_arg6) : FVec Ideal S277x256 .f32) = V' (Proc.devRef .tc ReferenceIdeal.main_arg6)
    ∧ (Kept.second V (Proc.devRef .tc main_arg8) : FVec Ideal S277x21 .f32) = V' (Proc.devRef .tc ReferenceIdeal.main_arg8)
    ∧ Kept.second V (Proc.devRef .tc main_v317) = V (Proc.devRef .tc main_v317)
    ∧ Kept.second V (Proc.devRef .tc main_v68) = V (Proc.devRef .tc main_v68) := by
  have hE := StepE.enlarged V V' hg hr
  obtain ⟨hi, hc⟩ := StepE.chosen V V' hg hr
  obtain ⟨k317, k68, k1, k2, k3, k4, k5, k6, k7, k8, k9⟩ := Kept.enlarging2 V
  unfold Kept.second
  generalize StepE.post V = E at *
  have fc := StepF.coords E V' hi hc
  have ff := StepF.fine E V' hi hc (k1.trans hA.1)
  have ft := StepF.taken E
  have fl := StepF.flat E
  rw [hE] at ft fl
  rw [hi] at ft
  rw [taking V'] at ft
  obtain ⟨l317, l68, li, l2, l3, l4, l5, l6, l7, l8, l9⟩ := Kept.sampling2 E
  generalize StepF.post E = G at *
  obtain ⟨g523, g524, g525, g526, g527⟩ := StepF.laid_eq G
  obtain ⟨m317, m68, mi, m405, m406, m2, m4, m6, m8⟩ := Kept.laying2 G
  rw [ft, ff] at g523
  rw [l3, k3, hA.2.2.1] at g524
  rw [l5, k5, hA.2.2.2.2.1] at g525
  rw [l7, k7, hA.2.2.2.2.2.2.1] at g526
  rw [l9, k9, hA.2.2.2.2.2.2.2.2] at g527
  exact ⟨m405.trans fc, m406.trans fl, mi.trans (li.trans hi), g523, g524, g525, g526, g527, m2.trans (l2.trans (k2.trans hA.2.1)),
    m4.trans (l4.trans (k4.trans hA.2.2.2.1)), m6.trans (l6.trans (k6.trans hA.2.2.2.2.2.1)), m8.trans (l8.trans (k8.trans hA.2.2.2.2.2.2.2.1)),
    m317.trans (l317.trans k317), m68.trans (l68.trans k68)⟩

end Cert.States

end
-- ==== Proof.Own.Mlp.lean ====
/-
  The point head, one row at a time. `Mlp.head` is the four-layer perceptron that both programs apply to a point:
  `x` is the row of 277 inputs (21 coarse logits, then 256 fine features), the coarse logits are joined to the input of
  every later layer, and the last layer has no rectifier. `pay_eq` says that what the kernel's body stores for a block of
  1024 points is this function row by row: its roundings to bf16 are the identity over the extended reals, and its two
  products per layer are the two parts of the sum over the joined axis.
-/
module

public import proofs.«01_k».proof.Proof.Gen.KernelIdeal.Skeleton
public import Idealize.ShloMosaic.Lib.Pointwise

@[expose] public section

set_option maxRecDepth 16384

noncomputable section

namespace Cert.Mlp

open Idealize.ShloMosaic Cert.KernelIdeal Cert.KernelIdeal.Gen
open scoped BigOperators

/-- A matrix, a vector and a row of extended reals. -/
abbrev Mat (a b : ℕ) : Type := Fin a → Fin b → EReal

/-- The first layer before its rectifier. -/
def first (x : Fin 277 → EReal) (w : Mat 277 256) (b : Fin 256 → EReal) (j : Fin 256) : EReal :=
  (∑ k, x k * w k j) + b j

/-- A later layer before its rectifier: 256 hidden values joined with the 21 coarse logits. -/
def later {n : ℕ} (x : Fin 277 → EReal) (h : Fin 256 → EReal) (w : Mat 277 n) (b : Fin n → EReal) (j : Fin n) : EReal :=
  ((∑ k : Fin 256, h k * w ⟨k.val, by omega⟩ j) + ∑ k : Fin 21, x ⟨k.val, by omega⟩ * w ⟨256 + k.val, by omega⟩ j) + b j

/-- The whole head. -/
def head (x : Fin 277 → EReal) (w1 : Mat 277 256) (b1 : Fin 256 → EReal) (w2 : Mat 277 256) (b2 : Fin 256 → EReal)
    (w3 : Mat 277 256) (b3 : Fin 256 → EReal) (wo : Mat 277 21) (bo : Fin 21 → EReal) : Fin 21 → EReal :=
  later x (fun l => max (later x (fun k => max (later x (fun j => max (first x w1 b1 j) 0) w2 b2 k) 0) w3 b3 l) 0) wo bo

theorem pay_eq (x0 : Vec Ideal S1024x277 .f32) (x1 : Vec Ideal S277x256 .f32) (x2 : Vec Ideal S1x256 .f32) (x3 : Vec Ideal S277x256 .f32)
    (x4 : Vec Ideal S1x256 .f32) (x5 : Vec Ideal S277x256 .f32) (x6 : Vec Ideal S1x256 .f32) (x7 : Vec Ideal S277x21 .f32)
    (x8 : Vec Ideal S1x21 .f32) (r : Fin 1024) (c : Fin 21) :
    k0_pay1 (F := Ideal) (k0_pay3 x0) (k0_pay4 x0 x1 x2 x3 x4 x5) (k0_pay5 x6) x7 x8 (ix2 r c) =
      head (fun k => x0 (ix2 r k)) (fun k j => x1 (ix2 k j)) (fun j => x2 (ix2 0 j)) (fun k j => x3 (ix2 k j))
        (fun j => x4 (ix2 0 j)) (fun k j => x5 (ix2 k j)) (fun j => x6 (ix2 0 j)) (fun k j => x7 (ix2 k j))
        (fun j => x8 (ix2 0 j)) c := by
  pointwise [k0_pay1, k0_pay2, k0_pay3, k0_pay4, k0_pay5]
  rfl

end Cert.Mlp

end
-- ==== Proof.Own.Region0.lean ====
/-
  What the first kernel leaves: the point head of every row.
-/
module

public import proofs.«01_k».proof.Proof.Own.Mlp
public import proofs.«01_k».proof.Proof.Gen.KernelIdeal.Frame
public import Idealize.ShloMosaic.Lib.Pipeline.ValueKit

@[expose] public section

set_option maxRecDepth 16384

noncomputable section

namespace Cert.Region0

open Idealize.ShloMosaic Idealize.ShloMosaic.TcCoe Idealize.SL.Sem Cert.KernelIdeal Cert.KernelIdeal.Gen
open Idealize.ShloMosaic.Pipeline (Dat)

/-- The head of every row. -/
def heads (x : FVec Ideal S32768x277 .f32) (w1 : FVec Ideal S277x256 .f32) (b1 : FVec Ideal S1x256 .f32) (w2 : FVec Ideal S277x256 .f32)
    (b2 : FVec Ideal S1x256 .f32) (w3 : FVec Ideal S277x256 .f32) (b3 : FVec Ideal S1x256 .f32) (wo : FVec Ideal S277x21 .f32)
    (bo : FVec Ideal S1x21 .f32) : FVec Ideal S32768x21 .f32 := fun i =>
  Mlp.head (fun k => x (ix2 (i 0) k)) (fun k j => w1 (ix2 k j)) (fun j => b1 (ix2 0 j)) (fun k j => w2 (ix2 k j)) (fun j => b2 (ix2 0 j))
    (fun k j => w3 (ix2 k j)) (fun j => b3 (ix2 0 j)) (fun k j => wo (ix2 k j)) (fun j => bo (ix2 0 j)) (i 1)

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![t.val, 0] :=
  (by decide +kernel : ∀ t : Fin grid0.N, _)

variable (V : (c : Dev nD) → (b : Ref sig .tc) → Buf (Elt Ideal) ((c : Thread nD τ).loc b))

theorem left (c : Dev nD) : (dat0 V c).arrAt 9 cfg0.N
    = heads (V c main_v523) (V c main_arg2) (V c main_v524) (V c main_arg4) (V c main_v525) (V c main_arg6) (V c main_v526) (V c main_arg8) (V c main_v527) := by
  refine (dat0 V c).arrAt_eq_of_covers 9 _ (by decide +kernel) fun t _ y => ?_
  blk_simp
  rw [after0_9]
  frame_out
  idx_vars y
  rw [Mlp.pay_eq]
  blk_point [iblk0, heads, idx t]

end Cert.Region0

end
-- ==== Proof.Own.Down.lean ====
/-
  The reducing kernels at an index: products in three parts, and the softmax over the classes.
-/
module

public import proofs.«01_k».proof.Proof.Gen.KernelIdeal.Skeleton
public import proofs.«01_k».proof.Proof.Own.Real
public import Idealize.ShloMosaic.Lib.Pointwise

@[expose] public section

set_option maxRecDepth 16384

noncomputable section

namespace Cert.Down

open Idealize.ShloMosaic Cert.KernelIdeal Cert.KernelIdeal.Gen
open scoped BigOperators

/-- A sum of products in three parts: the numbers, and what their roundings leave of them. -/
def prod3 (a b : Fin 448 → EReal) : EReal := ((∑ k, a k * b k) + ∑ k, (a k - a k) * b k) + ∑ k, a k * (b k - b k)

theorem prod3_real {a b : Fin 448 → EReal} (ha : ∀ k, IsReal (a k)) (hb : ∀ k, IsReal (b k)) : prod3 a b = ∑ k, a k * b k := by
  unfold prod3
  have h1 : ∑ k, (a k - a k) * b k = 0 := Finset.sum_eq_zero fun k _ => by rw [(ha k).sub_self, zero_mul]
  have h2 : ∑ k, a k * (b k - b k) = 0 := Finset.sum_eq_zero fun k _ => by rw [(hb k).sub_self, mul_zero]
  rw [h1, h2, add_zero, add_zero]

/-- The softmax over the classes. -/
def soft (z : Fin 21 → EReal) (c : Fin 21) : EReal :=
  Ideal.div (Ideal.exp (z c - Finset.univ.fold max (⊥ : EReal) z)) (∑ k, Ideal.exp (z k - Finset.univ.fold max (⊥ : EReal) z))

theorem pay1 (m : Vec Ideal S224x448 .f32) (x : Vec Ideal S1x448x448 .f32) (i : Fin 224) (w : Fin 448) :
    k1_pay1 (F := Ideal) m x (ix3 0 i w) = prod3 (fun h => m (ix2 i h)) (fun h => x (ix3 0 h w)) := by
  pointwise [k1_pay1]
  rfl

theorem pay2 (x : Vec Ideal S1x21x224x448 .f32) (m : Vec Ideal S448x224 .f32) (c : Fin 21) (i j : Fin 224) :
    k2_pay1 (F := Ideal) x m (ix4 0 c i j) = soft (fun k => prod3 (fun w => x (ix4 0 k i w)) (fun w => m (ix2 w j))) c := by
  pointwise [k2_pay1]
  rw [lit_neg_inf]
  rfl

end Cert.Down

end
-- ==== Proof.Own.Region12.lean ====
/-
  What the two reducing kernels leave.
-/
module

public import proofs.«01_k».proof.Proof.Own.Down
public import proofs.«01_k».proof.Proof.Gen.KernelIdeal.Frame
public import Idealize.ShloMosaic.Lib.Pipeline.ValueKit

@[expose] public section

set_option maxRecDepth 16384

noncomputable section

namespace Cert.Region12

open Idealize.ShloMosaic Idealize.ShloMosaic.TcCoe Idealize.SL.Sem Cert.KernelIdeal Cert.KernelIdeal.Gen
open Idealize.ShloMosaic.Pipeline (Dat)

/-- The planes reduced along their rows. -/
def rows (m : FVec Ideal S224x448 .f32) (x : FVec Ideal S84x448x448 .f32) : FVec Ideal S84x224x448 .f32 := fun i =>
  Down.prod3 (fun h => m (ix2 (i 1) h)) (fun h => x (ix3 (i 0) h (i 2)))

/-- The planes reduced along their columns, and the softmax over the classes. -/
def probs (x : FVec Ideal S4x21x224x448 .f32) (m : FVec Ideal S448x224 .f32) : FVec Ideal S4x21x224x224 .f32 := fun i =>
  Down.soft (fun k => Down.prod3 (fun w => x (ix4 (i 0) k (i 2) w)) (fun w => m (ix2 w (i 3)))) (i 1)

theorem idx1 : ∀ t : Fin cfg1.N, win1_0.index t = ![0, 0] ∧ win1_1.index t = ![t.val, 0, 0] ∧ win1_2.index t = ![t.val, 0, 0] :=
  (by decide +kernel : ∀ t : Fin grid1.N, _)

theorem idx2 : ∀ t : Fin cfg2.N, win2_0.index t = ![t.val, 0, 0, 0] ∧ win2_1.index t = ![0, 0] ∧ win2_2.index t = ![t.val, 0, 0, 0] :=
  (by decide +kernel : ∀ t : Fin grid2.N, _)

variable (V : (c : Dev nD) → (b : Ref sig .tc) → Buf (Elt Ideal) ((c : Thread nD τ).loc b))

theorem left1 (c : Dev nD) : (dat1 V c).arrAt 2 cfg1.N = rows (V c main_v579) (V c main_v580) := by
  refine (dat1 V c).arrAt_eq_of_covers 2 _ (by decide +kernel) fun t _ y => ?_
  blk_simp
  rw [after1_2]
  frame_out
  idx_vars y
  obtain rfl : y0 = 0 := Subsingleton.elim _ _
  rw [Down.pay1]
  blk_point [iblk1, rows, idx1 t]

theorem left2 (c : Dev nD) : (dat2 V c).arrAt 2 cfg2.N = probs (V c main_v582) (V c main_v583) := by
  refine (dat2 V c).arrAt_eq_of_covers 2 _ (by decide +kernel) fun t _ y => ?_
  blk_simp
  rw [after2_2]
  frame_out
  idx_vars y
  obtain rfl : y0 = 0 := Subsingleton.elim _ _
  rw [Down.pay2]
  blk_point [iblk2, probs, idx2 t]

end Cert.Region12

end
-- ==== Proof.Own.Tail.lean ====
/-
  The kernel's states in a row: the states before the first pipelined kernel, and the results from the states after it.
-/
module

public import proofs.«01_k».proof.Proof.Own.Kept
public import proofs.«01_k».proof.Proof.Own.Region0
public import proofs.«01_k».proof.Proof.Own.Region12
public import proofs.«01_k».proof.Proof.Gen.KernelIdeal.Frame

@[expose] public section

set_option maxRecDepth 16384

noncomputable section

namespace Cert.Tail

open Idealize.ShloMosaic Idealize.ShloMosaic.StableHlo Idealize.ShloMosaic.TcCoe Idealize.SL.Sem Cert.KernelIdeal Cert.KernelIdeal.Gen Cert.Reads

/-- A long stretch in two parts. -/
theorem split24 (V : KV) : after hostOps0_24 V = after (hostOps0_24.drop 104) (after (hostOps0_24.take 104) V) := by
  rw [← after_append]; rfl

/-- A long stretch in three parts. -/
theorem split30 (V : KV) : after hostOps0_30 V = after (hostOps0_30.drop 28) (after ((hostOps0_30.drop 5).take 23) (after (hostOps0_30.take 5) V)) := by
  rw [← after_append, ← after_append]; rfl

/-- A long stretch in two parts. -/
theorem split48 (V : KV) : after hostOps0_48 V = after (hostOps0_48.drop 104) (after (hostOps0_48.take 104) V) := by
  rw [← after_append]; rfl

variable (m : (ℓ : Loc nD τ sig) → Buf (Elt Ideal) ℓ) (ρ : Dev nD → PrngReg) (c : Dev nD)

theorem sampled1 : after (hostOps0_24.take 104) (W24 m ρ c) = StepB.post (StepA.post (W0 m ρ c)) := rfl

theorem headed1 : after (hostOps0_30.take 5) (W30 m ρ c) = StepC.headed (StepB.post (StepA.post (W0 m ρ c))) := by
  rw [← sampled1]
  show after (hostOps0_30.take 5) (after hostOps0_29 (after hostOps0_28 (after hostOps0_27 (after hostOps0_26 (after hostOps0_25 (after hostOps0_24 (W24 m ρ c))))))) = _
  rw [split24]

theorem enlarged2 : W35 m ρ c = StepE.post (Kept.first (StepA.post (W0 m ρ c))) := by
  unfold Kept.first
  rw [← headed1]
  show after hostOps0_34 (after hostOps0_33 (after hostOps0_32 (after hostOps0_31 (after hostOps0_30 (W30 m ρ c))))) = _
  rw [split30]

/-- The state before the first pipelined kernel. -/
theorem before : W49 m ρ c = Kept.second (Kept.first (StepA.post (W0 m ρ c))) := by
  unfold Kept.second
  rw [← enlarged2]
  exact split48 (W48 m ρ c)

/-- What the first pipelined kernel leaves. -/
theorem heads : W50 m ρ c (Proc.devRef .tc main_v528) = Region0.heads (W49 m ρ c (Proc.devRef .tc main_v523)) (W49 m ρ c (Proc.devRef .tc main_arg2))
    (W49 m ρ c (Proc.devRef .tc main_v524)) (W49 m ρ c (Proc.devRef .tc main_arg4)) (W49 m ρ c (Proc.devRef .tc main_v525))
    (W49 m ρ c (Proc.devRef .tc main_arg6)) (W49 m ρ c (Proc.devRef .tc main_v526)) (W49 m ρ c (Proc.devRef .tc main_arg8))
    (W49 m ρ c (Proc.devRef .tc main_v527)) :=
  (W50_arr m ρ c 9).trans (Region0.left (V49 m ρ) c)

/-- The first pipelined kernel leaves everything but its output. -/
theorem past0 : W50 m ρ c (Proc.devRef .tc main_v406) = W49 m ρ c (Proc.devRef .tc main_v406)
    ∧ W50 m ρ c (Proc.devRef .tc main_indices_103) = W49 m ρ c (Proc.devRef .tc main_indices_103)
    ∧ W50 m ρ c (Proc.devRef .tc main_v317) = W49 m ρ c (Proc.devRef .tc main_v317)
    ∧ W50 m ρ c (Proc.devRef .tc main_v68) = W49 m ρ c (Proc.devRef .tc main_v68)
    ∧ W50 m ρ c (Proc.devRef .tc main_v405) = W49 m ρ c (Proc.devRef .tc main_v405) :=
  ⟨W50_of m ρ c _ (by decide +kernel), W50_of m ρ c _ (by decide +kernel), W50_of m ρ c _ (by decide +kernel), W50_of m ρ c _ (by decide +kernel),
    W50_of m ρ c _ (by decide +kernel)⟩

/-- A buffer written after the first pipelined kernel by none of the later stretches up to the second. -/
theorem past1 (r : Ref sig .tc) (h0 : r ∉ hostOps1_W) (h1 : r ∉ hostOps1_1_W) (h2 : r ∉ hostOps1_2_W) (h3 : r ∉ hostOps1_3_W) (h4 : r ∉ hostOps1_4_W)
    (h5 : r ∉ hostOps1_5_W) (h6 : r ∉ hostOps1_6_W) : W57 m ρ c (Proc.devRef .tc r) = W50 m ρ c (Proc.devRef .tc r) :=
  (W57_of m ρ c r h6).trans ((W56_of m ρ c r h5).trans ((W55_of m ρ c r h4).trans ((W54_of m ρ c r h3).trans ((W53_of m ρ c r h2).trans
    ((W52_of m ρ c r h1).trans (W51_of m ρ c r h0))))))

/-- A buffer that the last two pipelined kernels and the host code between them leave. -/
theorem past2 (r : Ref sig .tc) (h1 : ∀ w : Fin cfg1.W, Pipeline.arrRef spec1 w = r → (cfg1.win w).isOut = false) (h : r ∉ hostOps2_W)
    (h2 : ∀ w : Fin cfg2.W, Pipeline.arrRef spec2 w = r → (cfg2.win w).isOut = false) :
    W60 m ρ c (Proc.devRef .tc r) = W57 m ρ c (Proc.devRef .tc r) :=
  (W60_of m ρ c r h2).trans ((W59_of m ρ c r h).trans (W58_of m ρ c r h1))

/-- What is left of the first step and the second step's values when the results are put together. -/
theorem parts : W60 m ρ c (Proc.devRef .tc main_v317) = W49 m ρ c (Proc.devRef .tc main_v317)
    ∧ W60 m ρ c (Proc.devRef .tc main_v68) = W49 m ρ c (Proc.devRef .tc main_v68)
    ∧ W60 m ρ c (Proc.devRef .tc main_v405) = W49 m ρ c (Proc.devRef .tc main_v405)
    ∧ (W60 m ρ c (Proc.devRef .tc main_v529) : FVec Ideal S4x8192x21 .f32)
        = shapeCast S4x8192x21 (W50 m ρ c (Proc.devRef .tc main_v528) : FVec Ideal S32768x21 .f32) shapeCasts_S32768x21_S4x8192x21 := by
  obtain ⟨-, -, p317, p68, p405⟩ := past0 m ρ c
  refine ⟨((past2 m ρ c _ (by decide +kernel) (by decide) (by decide +kernel)).trans (past1 m ρ c _ (by decide) (by decide) (by decide) (by decide) (by decide) (by decide) (by decide))).trans p317,
    ((past2 m ρ c _ (by decide +kernel) (by decide) (by decide +kernel)).trans (past1 m ρ c _ (by decide) (by decide) (by decide) (by decide) (by decide) (by decide) (by decide))).trans p68,
    ((past2 m ρ c _ (by decide +kernel) (by decide) (by decide +kernel)).trans (past1 m ρ c _ (by decide) (by decide) (by decide) (by decide) (by decide) (by decide) (by decide))).trans p405,
    (past2 m ρ c _ (by decide +kernel) (by decide) (by decide +kernel)).trans ?_⟩
  exact StepG.logits (W50 m ρ c)

/-- The reduced rows. -/
theorem reduced1 : (W58 m ρ c (Proc.devRef .tc main_v581) : FVec Ideal S84x224x448 .f32)
    = Region12.rows StepG.weights (StepG.planes (StepG.put (W49 m ρ c (Proc.devRef .tc main_v406)) (W49 m ρ c (Proc.devRef .tc main_indices_103))
        (shapeCast S4x8192x21 (W50 m ρ c (Proc.devRef .tc main_v528) : FVec Ideal S32768x21 .f32) shapeCasts_S32768x21_S4x8192x21))) := by
  obtain ⟨p406, pi, -, -, -⟩ := past0 m ρ c
  have h1 : (W57 m ρ c (Proc.devRef .tc main_v579) : FVec Ideal S224x448 .f32) = StepG.weights := StepG.weighed (W50 m ρ c)
  have h2 := StepG.written (W50 m ρ c)
  rw [p406, pi] at h2
  refine ((W58_arr m ρ c 2).trans (Region12.left1 (V57 m ρ) c)).trans ?_
  exact congrArg₂ Region12.rows h1 h2

/-- The probabilities, classes first. -/
theorem reduced2 : (W60 m ρ c (Proc.devRef .tc main_v584) : FVec Ideal S4x21x224x224 .f32)
    = Region12.probs (shapeCast S4x21x224x448 (W58 m ρ c (Proc.devRef .tc main_v581) : FVec Ideal S84x224x448 .f32) shapeCasts_S84x224x448_S4x21x224x448)
        (transpose S448x224 [1, 0] StepG.weights transposes_S224x448_S448x224_1_0) := by
  have h1 : (W57 m ρ c (Proc.devRef .tc main_v579) : FVec Ideal S224x448 .f32) = StepG.weights := StepG.weighed (W50 m ρ c)
  have h0 : W58 m ρ c (Proc.devRef .tc main_v579) = W57 m ρ c (Proc.devRef .tc main_v579) := W58_of m ρ c _ (by decide +kernel)
  obtain ⟨g1, g2⟩ := StepG.between (W58 m ρ c)
  rw [h0, h1] at g2
  refine ((W60_arr m ρ c 2).trans (Region12.left2 (V59 m ρ) c)).trans ?_
  exact congrArg₂ Region12.probs g1 g2

end Cert.Tail

end
-- ==== Proof.Own.Probs.lean ====
/-
  The last reduction and the probabilities: the two pipelined kernels against the plain sums.
-/
module

public import proofs.«01_k».proof.Proof.Own.Region12
public import proofs.«01_k».proof.Proof.Own.StepG
public import proofs.«01_k».proof.Proof.Own.Real

@[expose] public section

set_option maxRecDepth 16384

noncomputable section

namespace Cert.Probs

open Idealize.ShloMosaic Idealize.SL.Sem Cert.KernelIdeal Cert.KernelIdeal.Gen Cert.Reads
open scoped BigOperators

/-- A class's place among all planes. -/
abbrev plane (b : Fin 4) (c : Fin 21) : Fin 84 := ⟨b.val * 21 + c.val, by have := b.isLt; have := c.isLt; omega⟩

/-- A pixel's place among all points. -/
abbrev pixel (y x : Fin 448) : Fin 200704 := ⟨y.val * 448 + x.val, by have := y.isLt; have := x.isLt; omega⟩

/-- The planes hold the points, class by class. -/
theorem planes_at (g : FVec Ideal S4x200704x21 .f32) (b : Fin 4) (c : Fin 21) (y x : Fin 448) :
    StepG.planes g (ix3 (plane b c) y x) = g (ix3 b (pixel y x) c) := by
  pointwise [StepG.planes]
  have := c.isLt
  congr 2 <;> exact Fin.ext (by dsimp only; omega)

/-- The reduced planes, read by image and class. -/
theorem by_class (r : FVec Ideal S84x224x448 .f32) (b : Fin 4) (c : Fin 21) (i : Fin 224) (x : Fin 448) :
    shapeCast S4x21x224x448 r shapeCasts_S84x224x448_S4x21x224x448 (ix4 b c i x) = r (ix3 (plane b c) i x) := by
  pointwise

/-- The weights turned over. -/
theorem turned (m : FVec Ideal S224x448 .f32) (x : Fin 448) (j : Fin 224) :
    transpose S448x224 [1, 0] m transposes_S224x448_S448x224_1_0 (ix2 x j) = m (ix2 j x) := by
  pointwise

/-- The probabilities with the classes last. -/
theorem classes_last (q : FVec Ideal S4x21x224x224 .f32) (b : Fin 4) (i j : Fin 224) (c : Fin 21) :
    transpose S4x224x224x21 [0, 2, 3, 1] q transposes_S4x21x224x224_S4x224x224x21_0_2_3_1 (ix4 b i j c) = q (ix4 b c i j) := by
  pointwise

variable (m : FVec Ideal S224x448 .f32) (hm : ∀ i, IsReal (m i)) (g : FVec Ideal S4x200704x21 .f32) (hg : ∀ i, IsReal (g i))

include hm hg in
/-- The first reduction's rows are the plain sums. -/
theorem rows_at (b : Fin 4) (c : Fin 21) (i : Fin 224) (x : Fin 448) :
    Region12.rows m (StepG.planes g) (ix3 (plane b c) i x) = ∑ y : Fin 448, m (ix2 i y) * g (ix3 b (pixel y x) c) := by
  unfold Region12.rows
  show Down.prod3 (fun h => m (ix2 i h)) (fun h => StepG.planes g (ix3 (plane b c) h x)) = _
  simp only [planes_at]
  exact Down.prod3_real (fun _ => hm _) (fun _ => hg _)

include hm hg in
/-- The probabilities are the shares of the exponentials of the doubly reduced sums. -/
theorem probs_at (b : Fin 4) (i j : Fin 224) (c : Fin 21) :
    transpose S4x224x224x21 [0, 2, 3, 1] (Region12.probs
        (shapeCast S4x21x224x448 (Region12.rows m (StepG.planes g)) shapeCasts_S84x224x448_S4x21x224x448)
        (transpose S448x224 [1, 0] m transposes_S224x448_S448x224_1_0)) transposes_S4x21x224x224_S4x224x224x21_0_2_3_1 (ix4 b i j c)
      = Down.soft (fun k => ∑ x : Fin 448, (∑ y : Fin 448, m (ix2 i y) * g (ix3 b (pixel y x) k)) * m (ix2 j x)) c := by
  refine (classes_last _ b i j c).trans ?_
  unfold Region12.probs
  show Down.soft (fun k => Down.prod3 (fun w => shapeCast S4x21x224x448 _ _ (ix4 b k i w)) (fun w => transpose S448x224 [1, 0] _ _ (ix2 w j))) c = _
  refine congrArg (fun z => Down.soft z c) (funext fun k => ?_)
  refine (congrArg₂ Down.prod3 (funext fun x => (by_class _ b k i x).trans (rows_at m hm g hg b k i x)) (funext fun x => turned m x j)).trans ?_
  exact Down.prod3_real (fun x => IsReal.sum _ fun y _ => (hm _).mul (hg _)) (fun _ => hm _)

end Cert.Probs

end
-- ==== Proof.Own.RefMlp.lean ====
/-
  The reference's point head, one row at a time.
-/
module

public import proofs.«01_k».proof.Proof.Own.Mlp
public import proofs.«01_k».proof.Proof.Own.RefEnlarge

@[expose] public section

set_option maxRecDepth 16384

noncomputable section

namespace Cert.RefMlp

open Idealize.ShloMosaic Idealize.SL.Sem Cert.ReferenceIdeal Cert.ReferenceIdeal.Gen Cert.ReferenceIdeal.Value
open scoped BigOperators

/-- A point's inputs: 21 coarse logits, then 256 fine features. -/
def row (a : FVec Ideal S4x8192x21 .f32) (f : FVec Ideal S4x8192x256 .f32) (b : Fin 4) (p : Fin 8192) (k : Fin 277) : EReal :=
  if h : k.val < 21 then a (ix3 b p ⟨k.val, h⟩) else f (ix3 b p ⟨k.val - 21, by omega⟩)

variable (a : FVec Ideal S4x8192x21 .f32) (f h : FVec Ideal S4x8192x256 .f32) (b : Fin 4) (p : Fin 8192)

theorem split (w : Fin 277 → EReal) :
    ∑ k : Fin 277, row a f b p k * w k
      = (∑ k : Fin 21, a (ix3 b p k) * w ⟨k.val, by omega⟩) + ∑ k : Fin 256, f (ix3 b p k) * w ⟨21 + k.val, by omega⟩ := by
  refine (Fin.sum_univ_add (a := 21) (b := 256) fun k : Fin (21 + 256) => row a f b p k * w k).trans ?_
  refine congrArg₂ (fun a b : EReal => a + b) (Finset.sum_congr rfl fun k _ => ?_) (Finset.sum_congr rfl fun k _ => ?_)
  · refine congrArg₂ (fun a b : EReal => a * b) ?_ rfl
    unfold row
    rw [dif_pos (show (Fin.castAdd 256 k).val < 21 from k.isLt)]; rfl
  · refine congrArg₂ (fun a b : EReal => a * b) ?_ rfl
    unfold row
    rw [dif_neg (show ¬ (Fin.natAdd 21 k).val < 21 by rw [Fin.val_natAdd]; omega)]
    refine congrArg (fun q => f (ix3 b p q)) (Fin.ext ?_)
    show (Fin.natAdd 21 k).val - 21 = k.val
    have := Fin.val_natAdd 21 k
    omega

theorem first_at (w : FVec Ideal S277x256 .f32) (v : FVec Ideal S256 .f32) (j : Fin 256) :
    addf (Host.dotGeneral dot_S4x8192x277_S277x256_S4x8192x256_2_0_01_1_n_n none (concatenate S4x8192x277 2 [⟨S4x8192x21, a⟩, ⟨S4x8192x256, f⟩] concatenates_S4x8192x21_S4x8192x256_S4x8192x277_d2) w)
      (broadcastInDim S4x8192x256 ![0, 1, 2] bcast_S1x1x256_S4x8192x256_0_1_2 (broadcastInDim S1x1x256 ![2] bcast_S256_S1x1x256_2 v)) (ix3 b p j)
    = Mlp.first (row a f b p) (fun k j => w (ix2 k j)) (fun j => v (ix1 j)) j := by
  pointwise
  unfold Mlp.first
  rw [split a f b p fun k => w (ix2 k j)]

theorem later_at (w : FVec Ideal S277x256 .f32) (v : FVec Ideal S256 .f32) (j : Fin 256) :
    addf (Host.dotGeneral dot_S4x8192x277_S277x256_S4x8192x256_2_0_01_1_n_n none (concatenate S4x8192x277 2 [⟨S4x8192x256, h⟩, ⟨S4x8192x21, a⟩] concatenates_S4x8192x256_S4x8192x21_S4x8192x277_d2) w)
      (broadcastInDim S4x8192x256 ![0, 1, 2] bcast_S1x1x256_S4x8192x256_0_1_2 (broadcastInDim S1x1x256 ![2] bcast_S256_S1x1x256_2 v)) (ix3 b p j)
    = Mlp.later (row a f b p) (fun k => h (ix3 b p k)) (fun k j => w (ix2 k j)) (fun j => v (ix1 j)) j := by
  pointwise
  refine congrArg₂ (fun a b : EReal => a + b) ?_ rfl
  refine congrArg₂ (fun a b : EReal => a + b) rfl (Finset.sum_congr rfl fun k _ => congrArg₂ (fun a b : EReal => a * b) ?_ rfl)
  unfold row
  rw [dif_pos k.isLt]

theorem last_at (w : FVec Ideal S277x21 .f32) (v : FVec Ideal S21 .f32) (j : Fin 21) :
    addf (Host.dotGeneral dot_S4x8192x277_S277x21_S4x8192x21_2_0_01_1_n_n none (concatenate S4x8192x277 2 [⟨S4x8192x256, h⟩, ⟨S4x8192x21, a⟩] concatenates_S4x8192x256_S4x8192x21_S4x8192x277_d2) w)
      (broadcastInDim S4x8192x21 ![0, 1, 2] bcast_S1x1x21_S4x8192x21_0_1_2 (broadcastInDim S1x1x21 ![2] bcast_S21_S1x1x21_2 v)) (ix3 b p j)
    = Mlp.later (row a f b p) (fun k => h (ix3 b p k)) (fun k j => w (ix2 k j)) (fun j => v (ix1 j)) j := by
  pointwise
  refine congrArg₂ (fun a b : EReal => a + b) ?_ rfl
  refine congrArg₂ (fun a b : EReal => a + b) rfl (Finset.sum_congr rfl fun k _ => congrArg₂ (fun a b : EReal => a * b) ?_ rfl)
  unfold row
  rw [dif_pos k.isLt]

theorem rect_at (x : FVec Ideal S4x8192x256 .f32) (j : Fin 256) :
    maximumf x (broadcastInDim S4x8192x256 ![] bcast_S_S4x8192x256 (constant S_ .f32 0x00000000#32)) (ix3 b p j) = max (x (ix3 b p j)) 0 := by
  pointwise

theorem v712_at (V : RefEnlarge.RV) (c : Fin 21) : (res_main_v712 V : FVec Ideal S4x8192x21 .f32) (ix3 b p c)
    = Mlp.head (row (res_main_v576 V) (res_main_v689 V) b p)
        (fun k j => (V (Proc.devRef .tc main_arg2) : FVec Ideal S277x256 .f32) (ix2 k j)) (fun j => (V (Proc.devRef .tc main_arg3) : FVec Ideal S256 .f32) (ix1 j))
        (fun k j => (V (Proc.devRef .tc main_arg4) : FVec Ideal S277x256 .f32) (ix2 k j)) (fun j => (V (Proc.devRef .tc main_arg5) : FVec Ideal S256 .f32) (ix1 j))
        (fun k j => (V (Proc.devRef .tc main_arg6) : FVec Ideal S277x256 .f32) (ix2 k j)) (fun j => (V (Proc.devRef .tc main_arg7) : FVec Ideal S256 .f32) (ix1 j))
        (fun k j => (V (Proc.devRef .tc main_arg8) : FVec Ideal S277x21 .f32) (ix2 k j)) (fun j => (V (Proc.devRef .tc main_arg9) : FVec Ideal S21 .f32) (ix1 j)) c := by
  unfold res_main_v712
  generalize (res_main_v576 V : FVec Ideal S4x8192x21 .f32) = a
  generalize (res_main_v689 V : FVec Ideal S4x8192x256 .f32) = f
  unfold Mlp.head
  rw [last_at a f]
  refine congrArg (fun h => Mlp.later _ h _ _ c) (funext fun l => ?_)
  rw [rect_at, later_at a f]
  refine congrArg (fun h => max (Mlp.later _ h _ _ l) 0) (funext fun k => ?_)
  rw [rect_at, later_at a f]
  refine congrArg (fun h => max (Mlp.later _ h _ _ k) 0) (funext fun j => ?_)
  rw [rect_at, first_at]

end Cert.RefMlp

end
-- ==== Proof.Own.Logits.lean ====
/-
  The second step's point head: the pipelined kernel's rows are the reference's points.
-/
module

public import proofs.«01_k».proof.Proof.Own.Region0
public import proofs.«01_k».proof.Proof.Own.RefMlp
public import proofs.«01_k».proof.Proof.Own.Reads

@[expose] public section

set_option maxRecDepth 16384

noncomputable section

namespace Cert.Logits

open Idealize.ShloMosaic Idealize.SL.Sem Cert.KernelIdeal Cert.KernelIdeal.Gen Cert.Reads Cert.RefEnlarge

/-- A point's place among all rows. -/
abbrev place (b : Fin 4) (p : Fin 8192) : Fin 32768 := ⟨b.val * 8192 + p.val, by have := b.isLt; have := p.isLt; omega⟩

/-- The rows of points, read by image and point. -/
theorem by_point (y : FVec Ideal S32768x21 .f32) (b : Fin 4) (p : Fin 8192) (c : Fin 21) :
    shapeCast S4x8192x21 y shapeCasts_S32768x21_S4x8192x21 (ix3 b p c) = y (ix2 (place b p) c) := by
  pointwise

/-- A row of the operand is the point's coarse logits and then its fine features. -/
theorem row_at (a : FVec Ideal S4x8192x21 .f32) (f : FVec Ideal S4x8192x256 .f32) (b : Fin 4) (p : Fin 8192) (k : Fin 277) :
    shapeCast S32768x277 (cat2 S4x8192x277 2 S4x8192x21 S4x8192x256 a f concatenates_S4x8192x21_S4x8192x256_S4x8192x277_d2)
      shapeCasts_S4x8192x277_S32768x277 (ix2 (place b p) k) = RefMlp.row a f b p k := by
  unfold cat2 RefMlp.row
  pointwise
  have := p.isLt
  split <;> congr 2 <;> exact Fin.ext (by dsimp only; omega)

/-- A bias laid out as one row. -/
theorem bias_at (v : FVec Ideal S256 .f32) (j : Fin 256) : shapeCast S1x256 v shapeCasts_S256_S1x256 (ix2 0 j) = v (ix1 j) := by
  pointwise

/-- The last bias laid out as one row. -/
theorem bias_at' (v : FVec Ideal S21 .f32) (j : Fin 21) : shapeCast S1x21 v shapeCasts_S21_S1x21 (ix2 0 j) = v (ix1 j) := by
  pointwise

/-- A point's logits from the laid out operands. -/
theorem heads_at (a : FVec Ideal S4x8192x21 .f32) (f : FVec Ideal S4x8192x256 .f32) (w1 : FVec Ideal S277x256 .f32) (v1 : FVec Ideal S256 .f32)
    (w2 : FVec Ideal S277x256 .f32) (v2 : FVec Ideal S256 .f32) (w3 : FVec Ideal S277x256 .f32) (v3 : FVec Ideal S256 .f32)
    (wo : FVec Ideal S277x21 .f32) (vo : FVec Ideal S21 .f32) (b : Fin 4) (p : Fin 8192) (c : Fin 21) :
    shapeCast S4x8192x21 (Region0.heads
      (shapeCast S32768x277 (cat2 S4x8192x277 2 S4x8192x21 S4x8192x256 a f concatenates_S4x8192x21_S4x8192x256_S4x8192x277_d2) shapeCasts_S4x8192x277_S32768x277)
      w1 (shapeCast S1x256 v1 shapeCasts_S256_S1x256) w2 (shapeCast S1x256 v2 shapeCasts_S256_S1x256) w3 (shapeCast S1x256 v3 shapeCasts_S256_S1x256)
      wo (shapeCast S1x21 vo shapeCasts_S21_S1x21)) shapeCasts_S32768x21_S4x8192x21 (ix3 b p c)
    = Mlp.head (RefMlp.row a f b p) (fun k j => w1 (ix2 k j)) (fun j => v1 (ix1 j)) (fun k j => w2 (ix2 k j)) (fun j => v2 (ix1 j))
        (fun k j => w3 (ix2 k j)) (fun j => v3 (ix1 j)) (fun k j => wo (ix2 k j)) (fun j => vo (ix1 j)) c := by
  have h1 := fun k => row_at a f b p k
  generalize shapeCast S32768x277 _ _ = x at *
  have g1 := bias_at v1
  have g2 := bias_at v2
  have g3 := bias_at v3
  have g4 := bias_at' vo
  generalize shapeCast S1x256 v1 _ = u1 at *
  generalize shapeCast S1x256 v2 _ = u2 at *
  generalize shapeCast S1x256 v3 _ = u3 at *
  generalize shapeCast S1x21 vo _ = uo at *
  refine (by_point _ b p c).trans ?_
  unfold Region0.heads
  show Mlp.head (fun k => x (ix2 (place b p) k)) _ (fun j => u1 (ix2 0 j)) _ (fun j => u2 (ix2 0 j)) _ (fun j => u3 (ix2 0 j)) _ (fun j => uo (ix2 0 j)) c = _
  rw [funext h1, funext g1, funext g2, funext g3, funext g4]

/-- The rows of the kernel's head are the reference's logits. -/
theorem heads_eq (V' : RV) (w1 : FVec Ideal S277x256 .f32) (v1 : FVec Ideal S256 .f32)
    (w2 : FVec Ideal S277x256 .f32) (v2 : FVec Ideal S256 .f32) (w3 : FVec Ideal S277x256 .f32) (v3 : FVec Ideal S256 .f32)
    (wo : FVec Ideal S277x21 .f32) (vo : FVec Ideal S21 .f32)
    (h2 : w1 = V' (Proc.devRef .tc ReferenceIdeal.main_arg2)) (h3 : v1 = V' (Proc.devRef .tc ReferenceIdeal.main_arg3))
    (h4 : w2 = V' (Proc.devRef .tc ReferenceIdeal.main_arg4)) (h5 : v2 = V' (Proc.devRef .tc ReferenceIdeal.main_arg5))
    (h6 : w3 = V' (Proc.devRef .tc ReferenceIdeal.main_arg6)) (h7 : v3 = V' (Proc.devRef .tc ReferenceIdeal.main_arg7))
    (h8 : wo = V' (Proc.devRef .tc ReferenceIdeal.main_arg8)) (h9 : vo = V' (Proc.devRef .tc ReferenceIdeal.main_arg9)) :
    shapeCast S4x8192x21 (Region0.heads
      (shapeCast S32768x277 (cat2 S4x8192x277 2 S4x8192x21 S4x8192x256 (ReferenceIdeal.Value.res_main_v576 V' : FVec Ideal S4x8192x21 .f32) (ReferenceIdeal.Value.res_main_v689 V' : FVec Ideal S4x8192x256 .f32)
          concatenates_S4x8192x21_S4x8192x256_S4x8192x277_d2) shapeCasts_S4x8192x277_S32768x277)
      w1 (shapeCast S1x256 v1 shapeCasts_S256_S1x256) w2 (shapeCast S1x256 v2 shapeCasts_S256_S1x256) w3 (shapeCast S1x256 v3 shapeCasts_S256_S1x256)
      wo (shapeCast S1x21 vo shapeCasts_S21_S1x21)) shapeCasts_S32768x21_S4x8192x21
    = ReferenceIdeal.Value.res_main_v712 V' := by
  have key := fun b p c => RefMlp.v712_at b p V' c
  rw [← h2, ← h3, ← h4, ← h5, ← h6, ← h7, ← h8, ← h9] at key
  generalize (ReferenceIdeal.Value.res_main_v712 V' : FVec Ideal S4x8192x21 .f32) = z at *
  generalize (ReferenceIdeal.Value.res_main_v576 V' : FVec Ideal S4x8192x21 .f32) = a at *
  generalize (ReferenceIdeal.Value.res_main_v689 V' : FVec Ideal S4x8192x256 .f32) = f at *
  funext i
  obtain ⟨b, p, c, rfl⟩ : ∃ b p c, i = ix3 b p c := ⟨i 0, i 1, i 2, by funext k; fin_cases k <;> rfl⟩
  exact (heads_at a f w1 v1 w2 v2 w3 v3 wo vo b p c).trans (key b p c).symm

end Cert.Logits

end
-- ==== Proof.Own.RefDown.lean ====
/-
  The reference's reduction at an index, and its softmax.
-/
module

public import proofs.«01_k».proof.Proof.Own.RefEnlarge
public import proofs.«01_k».proof.Proof.Own.Down

@[expose] public section

set_option maxRecDepth 16384

noncomputable section

namespace Cert.RefDown

open Idealize.ShloMosaic Idealize.SL.Sem Cert.ReferenceIdeal Cert.ReferenceIdeal.Gen Cert.ReferenceIdeal.Value Cert.Weights Cert.RefEnlarge
open scoped BigOperators

/-- The points of the second enlargement, with the chosen points' logits written over them. -/
def pts2 (V : RV) : FVec Ideal S4x200704x21 .f32 :=
  Host.scatter scatter_S4x200704x21_S4x8192x2_S4x8192x21_2_01_01_2 (fun _ b => b) (shapeCast _ (res_main_v442 V) shapeCasts_S4x448x448x21_S4x200704x21) (concatenate S4x8192x2 2 [⟨S4x8192x1, (broadcastInDim S4x8192x1 ![0, 1] bcast_S4x8192_S4x8192x1_0_1 (broadcastInDim S4x8192 ![0, 1] bcast_S4x1_S4x8192_0_1 (select (cmpi .slt (res_main_v715 V) (broadcastInDim S4x1 ![] bcast_S_S4x1 (constantI S_ 32 0#32))) (addi (res_main_v715 V) (broadcastInDim S4x1 ![] bcast_S_S4x1 (constantI S_ 32 4#32))) (res_main_v715 V))))⟩, ⟨S4x8192x1, (broadcastInDim S4x8192x1 ![0, 1] bcast_S4x8192_S4x8192x1_0_1 (select (cmpi .slt (res_main_indices_137 V) (broadcastInDim S4x8192 ![] bcast_S_S4x8192 (constantI S_ 32 0#32))) (addi (res_main_indices_137 V) (broadcastInDim S4x8192 ![] bcast_S_S4x8192 (constantI S_ 32 200704#32))) (res_main_indices_137 V)))⟩] concatenates_S4x8192x1_S4x8192x1_S4x8192x2_d2) (res_main_v712 V)

/-- The same as a grid: what the reduction is of. -/
def grid2 (V : RV) : FVec Ideal S4x448x448x21 .f32 := shapeCast _ (pts2 V) shapeCasts_S4x200704x21_S4x448x448x21

theorem grid2_at (V : RV) (b : Fin 4) (i j : Fin 448) (c : Fin 21) :
    grid2 V (ix4 b i j c) = pts2 V (ix3 b ⟨i.val * 448 + j.val, by have := i.isLt; have := j.isLt; omega⟩ c) := by
  pointwise [grid2]

/-- The weights along the rows. -/
def wrow (V : RV) : FVec Ideal S448x224 .f32 :=
  select (broadcastInDim S448x224 ![1] bcast_S224_S448x224_1 (andi (cmpf .oge (res_main_v740 V) (broadcastInDim S224 ![] bcast_S_S224 (constant S_ .f32 0xBF000000#32))) (cmpf .ole (res_main_v740 V) (broadcastInDim S224 ![] bcast_S_S224 (constant S_ .f32 0x43DFC000#32))))) (select (broadcastInDim S448x224 ![0, 1] bcast_S1x224_S448x224_0_1 (cmpf .ogt (Host.absf (res_main_v755 V)) (broadcastInDim S1x224 ![] bcast_S_S1x224 (constant S_ .f32 0x38FA0000#32)))) (Host.divf (res_main_v753 V) (broadcastInDim S448x224 ![0, 1] bcast_S1x224_S448x224_0_1 (select (cmpf .une (res_main_v755 V) (broadcastInDim S1x224 ![] bcast_S_S1x224 (constant S_ .f32 0x00000000#32))) (res_main_v755 V) (broadcastInDim S1x224 ![] bcast_S_S1x224 (sitofp .f32 (constantI S_ 32 1#32)))))) (broadcastInDim S448x224 ![] bcast_S_S448x224 (sitofp .f32 (constantI S_ 32 0#32)))) (broadcastInDim S448x224 ![] bcast_S_S448x224 (sitofp .f32 (constantI S_ 32 0#32)))

/-- The weights along the columns. -/
def wcol (V : RV) : FVec Ideal S448x224 .f32 :=
  select (broadcastInDim S448x224 ![1] bcast_S224_S448x224_1 (andi (cmpf .oge (res_main_v777 V) (broadcastInDim S224 ![] bcast_S_S224 (constant S_ .f32 0xBF000000#32))) (cmpf .ole (res_main_v777 V) (broadcastInDim S224 ![] bcast_S_S224 (constant S_ .f32 0x43DFC000#32))))) (select (broadcastInDim S448x224 ![0, 1] bcast_S1x224_S448x224_0_1 (cmpf .ogt (Host.absf (res_main_v792 V)) (broadcastInDim S1x224 ![] bcast_S_S1x224 (constant S_ .f32 0x38FA0000#32)))) (Host.divf (res_main_v790 V) (broadcastInDim S448x224 ![0, 1] bcast_S1x224_S448x224_0_1 (select (cmpf .une (res_main_v792 V) (broadcastInDim S1x224 ![] bcast_S_S1x224 (constant S_ .f32 0x00000000#32))) (res_main_v792 V) (broadcastInDim S1x224 ![] bcast_S_S1x224 (sitofp .f32 (constantI S_ 32 1#32)))))) (broadcastInDim S448x224 ![] bcast_S_S448x224 (sitofp .f32 (constantI S_ 32 0#32)))) (broadcastInDim S448x224 ![] bcast_S_S448x224 (sitofp .f32 (constantI S_ 32 0#32)))

theorem wrow_at (V : RV) (h : Fin 448) (i : Fin 224) : wrow V (ix2 h i) = wt 448 (Ideal.ofBits .f32 0x40000000#32) (Ideal.ofBits .f32 0x40000000#32) (Ideal.ofBits .f32 0x43DFC000#32) h i := by
  pointwise [wrow, res_main_v740, res_main_v753, res_main_v755]
  rfl

theorem wcol_at (V : RV) (h : Fin 448) (i : Fin 224) : wcol V (ix2 h i) = wt 448 (Ideal.ofBits .f32 0x40000000#32) (Ideal.ofBits .f32 0x40000000#32) (Ideal.ofBits .f32 0x43DFC000#32) h i := by
  pointwise [wcol, res_main_v777, res_main_v790, res_main_v792]
  rfl

/-- Two products, one for each direction. -/
def reduced (u v : FVec Ideal S448x224 .f32) (x : FVec Ideal S4x448x448x21 .f32) : FVec Ideal S4x224x224x21 .f32 :=
  transpose S4x224x224x21 [1, 0, 3, 2] (Host.dotGeneral dot_S224x4x448x21_S448x224_S224x4x21x224_2_0_013_1_n_n none
    (Host.dotGeneral dot_S448x224_S4x448x448x21_S224x4x448x21_0_1_1_023_n_n none u x) v) transposes_S224x4x21x224_S4x224x224x21_1_0_3_2

theorem reduced_at (u v : FVec Ideal S448x224 .f32) (x : FVec Ideal S4x448x448x21 .f32) (b : Fin 4) (i j : Fin 224) (c : Fin 21) :
    reduced u v x (ix4 b i j c) = ∑ w : Fin 448, (∑ h : Fin 448, u (ix2 h i) * x (ix4 b h w c)) * v (ix2 w j) := by
  pointwise [reduced]

theorem v810_eq (V : RV) : (res_main_v810 V : FVec Ideal S4x224x224x21 .f32) = reduced (wrow V) (wcol V) (grid2 V) := rfl

/-- The reduction at an index. -/
theorem v810_at (V : RV) (b : Fin 4) (i j : Fin 224) (c : Fin 21) :
    (res_main_v810 V : FVec Ideal S4x224x224x21 .f32) (ix4 b i j c)
      = ∑ x : Fin 448, (∑ y : Fin 448, wt 448 (Ideal.ofBits .f32 0x40000000#32) (Ideal.ofBits .f32 0x40000000#32) (Ideal.ofBits .f32 0x43DFC000#32) y i * grid2 V (ix4 b y x c)) * wt 448 (Ideal.ofBits .f32 0x40000000#32) (Ideal.ofBits .f32 0x40000000#32) (Ideal.ofBits .f32 0x43DFC000#32) x j := by
  rw [v810_eq, reduced_at]
  simp only [wrow_at, wcol_at]

/-- The greatest entry over the classes. -/
theorem top_at (x : FVec Ideal S4x224x224x21 .f32) (b : Fin 4) (i j : Fin 224) :
    (Host.reduce FloatOps.maximumf x (constant S_ .f32 0xFF800000#32) reducesTo_S4x224x224x21_S4x224x224_d3 h_S_ : FVec Ideal S4x224x224 .f32) (ix3 b i j)
      = Finset.univ.fold max (⊥ : EReal) fun k : Fin 21 => x (ix4 b i j k) := by
  pointwise
  rw [lit_neg_inf]

/-- The sum over the classes. -/
theorem total_at (x : FVec Ideal S4x224x224x21 .f32) (b : Fin 4) (i j : Fin 224) :
    (Host.reduceAdd x (constant S_ .f32 0x00000000#32) reducesTo_S4x224x224x21_S4x224x224_d3 h_S_ : FVec Ideal S4x224x224 .f32) (ix3 b i j)
      = ∑ k : Fin 21, x (ix4 b i j k) := by
  pointwise

/-- The exponentials, from the greatest entries. -/
def shifted (x : FVec Ideal S4x224x224x21 .f32) (m : FVec Ideal S4x224x224 .f32) : FVec Ideal S4x224x224x21 .f32 :=
  Host.exp (subf x (broadcastInDim S4x224x224x21 ![0, 1, 2, 3] bcast_S4x224x224x1_S4x224x224x21_0_1_2_3 (broadcastInDim S4x224x224x1 ![0, 1, 2] bcast_S4x224x224_S4x224x224x1_0_1_2 (maximumf (broadcastInDim S4x224x224 ![] bcast_S_S4x224x224 (constant S_ .f32 0xFF800000#32)) m))))

/-- The quotients, from the sums. -/
def shared (e : FVec Ideal S4x224x224x21 .f32) (s : FVec Ideal S4x224x224 .f32) : FVec Ideal S4x224x224x21 .f32 :=
  Host.divf e (broadcastInDim S4x224x224x21 ![0, 1, 2, 3] bcast_S4x224x224x1_S4x224x224x21_0_1_2_3 (broadcastInDim S4x224x224x1 ![0, 1, 2] bcast_S4x224x224_S4x224x224x1_0_1_2 s))

theorem shifted_at (x : FVec Ideal S4x224x224x21 .f32) (m : FVec Ideal S4x224x224 .f32) (b : Fin 4) (i j : Fin 224) (k : Fin 21) :
    shifted x m (ix4 b i j k) = Ideal.exp (x (ix4 b i j k) - m (ix3 b i j)) := by
  pointwise [shifted]
  rw [lit_neg_inf, max_eq_right bot_le]

theorem shared_at (e : FVec Ideal S4x224x224x21 .f32) (s : FVec Ideal S4x224x224 .f32) (b : Fin 4) (i j : Fin 224) (k : Fin 21) :
    shared e s (ix4 b i j k) = Ideal.div (e (ix4 b i j k)) (s (ix3 b i j)) := by
  pointwise [shared]

/-- The softmax at an index. -/
theorem soft_at (x e : FVec Ideal S4x224x224x21 .f32) (m s : FVec Ideal S4x224x224 .f32) (he : e = shifted x m)
    (hm : ∀ b i j, m (ix3 b i j) = Finset.univ.fold max (⊥ : EReal) fun k : Fin 21 => x (ix4 b i j k))
    (hs : ∀ b i j, s (ix3 b i j) = ∑ k : Fin 21, e (ix4 b i j k))
    (b : Fin 4) (i j : Fin 224) (c : Fin 21) : shared e s (ix4 b i j c) = Down.soft (fun k => x (ix4 b i j k)) c := by
  have h : ∀ k : Fin 21, e (ix4 b i j k) = Ideal.exp (x (ix4 b i j k) - Finset.univ.fold max (⊥ : EReal) fun k : Fin 21 => x (ix4 b i j k)) := fun k => by
    rw [he, shifted_at, hm]
  rw [shared_at, hs]
  simp only [h]
  unfold Down.soft
  rfl

end Cert.RefDown

end
-- ==== Proof.Own.DownWeights.lean ====
/-
  The kernel's table of the reduction's weights is the reference's: triangles of half width two, normalised.
-/
module

public import proofs.«01_k».proof.Proof.Own.StepG
public import proofs.«01_k».proof.Proof.Own.Weights
public import Idealize.ShloMosaic.Lib.Pointwise

@[expose] public section

set_option maxRecDepth 16384

noncomputable section

namespace Cert.DownWeights

open Idealize.ShloMosaic Cert.StepG Cert.Weights
open scoped BigOperators

/-- A comparison of words as a proposition. -/
theorem cmp_eq (x y : BitVec 32) : IntOp.cmpi .eq x y = if x = y then 1#1 else 0#1 := by
  unfold IntOp.cmpi
  by_cases h : x = y
  · simp [h]
  · rw [if_neg h]
    show BitVec.ofBool (x == y) = _
    rw [beq_eq_false_iff_ne.2 h]; rfl

theorem or_bit {p q : Prop} [Decidable p] [Decidable q] : IntOp.ori (if p then 1#1 else 0#1) (if q then 1#1 else 0#1) = if p ∨ q then 1#1 else 0#1 := by
  by_cases hp : p <;> by_cases hq : q <;> simp [hp, hq] <;> rfl

theorem select_bit {p : Prop} [Decidable p] {α : Type} (x y : α) : Scalar.select (if p then 1#1 else 0#1) x y = if p then x else y := by
  by_cases hp : p <;> simp [hp] <;> rfl

variable (i : Fin 224) (h : Fin 448)

theorem middle_at : middle (ix2 i h) = if h.val = 2 * i.val ∨ h.val = 2 * i.val + 1 then 1#1 else 0#1 := by
  have e0 : BitVec.ofNat 32 h.val = IntOp.muli 2#32 (BitVec.ofNat 32 i.val) ↔ h.val = 2 * i.val := by
    unfold IntOp.muli; have := i.isLt; have := h.isLt; rw [← BitVec.toNat_inj, BitVec.toNat_mul]; simp only [BitVec.toNat_ofNat]; omega
  have e1 : BitVec.ofNat 32 h.val = IntOp.addi (IntOp.muli 2#32 (BitVec.ofNat 32 i.val)) 1#32 ↔ h.val = 2 * i.val + 1 := by
    unfold IntOp.muli IntOp.addi; have := i.isLt; have := h.isLt; rw [← BitVec.toNat_inj, BitVec.toNat_add, BitVec.toNat_mul]; simp only [BitVec.toNat_ofNat]; omega
  pointwise [middle, colNo, rowNo, every]
  rw [cmp_eq, cmp_eq, or_bit]
  simp only [e0, e1]

theorem outer_at : outer (ix2 i h) = if h.val + 1 = 2 * i.val ∨ h.val = 2 * i.val + 2 then 1#1 else 0#1 := by
  have e0 : BitVec.ofNat 32 h.val = IntOp.subi (IntOp.muli 2#32 (BitVec.ofNat 32 i.val)) 1#32 ↔ h.val + 1 = 2 * i.val := by
    unfold IntOp.muli IntOp.subi; have := i.isLt; have := h.isLt; rw [← BitVec.toNat_inj, BitVec.toNat_sub, BitVec.toNat_mul]; simp only [BitVec.toNat_ofNat]; omega
  have e1 : BitVec.ofNat 32 h.val = IntOp.addi (IntOp.muli 2#32 (BitVec.ofNat 32 i.val)) 2#32 ↔ h.val = 2 * i.val + 2 := by
    unfold IntOp.muli IntOp.addi; have := i.isLt; have := h.isLt; rw [← BitVec.toNat_inj, BitVec.toNat_add, BitVec.toNat_mul]; simp only [BitVec.toNat_ofNat]; omega
  pointwise [outer, colNo, rowNo, every]
  rw [cmp_eq, cmp_eq, or_bit]
  simp only [e0, e1]

theorem edge_at : edge (ix2 i h) = if i.val = 0 ∨ i.val = 223 then 1#1 else 0#1 := by
  have e0 : BitVec.ofNat 32 i.val = 0#32 ↔ i.val = 0 := by
    have := i.isLt; rw [← BitVec.toNat_inj]; simp only [BitVec.toNat_ofNat]; omega
  have e1 : BitVec.ofNat 32 i.val = 223#32 ↔ i.val = 223 := by
    have := i.isLt; rw [← BitVec.toNat_inj]; simp only [BitVec.toNat_ofNat]; omega
  pointwise [edge, rowNo, every]
  rw [cmp_eq, cmp_eq, or_bit]
  simp only [e0, e1]

/-- The reduction's weight of row or column `h` for `i`. -/
def down : ℝ := rawR 2 2 h.val i.val / (if i.val = 0 ∨ i.val = 223 then 7 / 4 else 2)

theorem weights_at : weights (ix2 i h) = ((down i h : ℝ) : EReal) := by
  unfold down
  rw [rawR_down]
  pointwise [weights, everyF]
  rw [middle_at, outer_at, edge_at, select_bit, select_bit, select_bit, lit_three, lit_seven, lit_eight]
  have num : (if h.val = 2 * i.val ∨ h.val = 2 * i.val + 1 then ((3 : ℝ) : EReal) else if h.val + 1 = 2 * i.val ∨ h.val = 2 * i.val + 2 then 1 else 0)
      = ((if h.val = 2 * i.val ∨ h.val = 2 * i.val + 1 then (3 : ℝ) else if h.val + 1 = 2 * i.val ∨ h.val = 2 * i.val + 2 then 1 else 0 : ℝ) : EReal) := by
    split
    · rfl
    · split <;> rfl
  have den : (if i.val = 0 ∨ i.val = 223 then ((7 : ℝ) : EReal) else ((8 : ℝ) : EReal)) = ((if i.val = 0 ∨ i.val = 223 then (7 : ℝ) else 8 : ℝ) : EReal) := by
    split <;> rfl
  rw [num, den, div_coe_coe _ (by split <;> norm_num)]
  congr 1
  have hd : (if i.val = 0 ∨ i.val = 223 then (7 : ℝ) else 8) = 4 * (if i.val = 0 ∨ i.val = 223 then 7 / 4 else 2) := by
    split <;> norm_num
  have hn : (if h.val = 2 * i.val ∨ h.val = 2 * i.val + 1 then (3 : ℝ) else if h.val + 1 = 2 * i.val ∨ h.val = 2 * i.val + 2 then 1 else 0)
      = 4 * ((((if h.val = 2 * i.val then 3 / 4 else 0) + if h.val = 2 * i.val + 1 then 3 / 4 else 0) + if h.val + 1 = 2 * i.val then 1 / 4 else 0)
        + if h.val = 2 * i.val + 2 then 1 / 4 else 0) := by
    by_cases c1 : h.val = 2 * i.val
    · rw [if_pos (Or.inl c1), if_pos c1, if_neg (by omega), if_neg (by omega), if_neg (by omega)]; norm_num
    by_cases c2 : h.val = 2 * i.val + 1
    · rw [if_pos (Or.inr c2), if_neg c1, if_pos c2, if_neg (by omega), if_neg (by omega)]; norm_num
    by_cases c3 : h.val + 1 = 2 * i.val
    · rw [if_neg (by omega), if_pos (Or.inl c3), if_neg c1, if_neg c2, if_pos c3, if_neg (by omega)]; norm_num
    by_cases c4 : h.val = 2 * i.val + 2
    · rw [if_neg (by omega), if_pos (Or.inr c4), if_neg c1, if_neg c2, if_neg c3, if_pos c4]; norm_num
    · rw [if_neg (by omega), if_neg (by omega), if_neg c1, if_neg c2, if_neg c3, if_neg c4]; norm_num
  rw [hn, hd, mul_div_mul_left _ _ (by norm_num)]

theorem wt_down : wt 448 (Ideal.ofBits .f32 0x40000000#32) (Ideal.ofBits .f32 0x40000000#32) (Ideal.ofBits .f32 0x43DFC000#32) h.val i.val = ((down i h : ℝ) : EReal) := by
  rw [lit_two, lit_447h]
  have hi : (i.val : ℝ) ≤ 223 := by exact_mod_cast Nat.le_of_lt_succ i.isLt
  have h0 : (0 : ℝ) ≤ i.val := Nat.cast_nonneg _
  refine wt_real 448 2 (by norm_num) (by norm_num) h.isLt (by omega) ?_ ?_ (sumR_down i.isLt) ?_
  · linarith
  · linarith
  · split <;> norm_num

end Cert.DownWeights

end
-- ==== Proof.Own.Final.lean ====
/-
  The second step's written points and the three results, from the values of the second point head.
-/
module

public import proofs.«01_k».proof.Proof.Own.Probs
public import proofs.«01_k».proof.Proof.Own.Logits
public import proofs.«01_k».proof.Proof.Own.RefDown
public import proofs.«01_k».proof.Proof.Own.DownWeights
public import proofs.«01_k».proof.Proof.Own.Finite
public import proofs.«01_k».proof.Proof.Own.StepF

@[expose] public section

set_option maxRecDepth 16384

noncomputable section

namespace Cert.Final

open Idealize.ShloMosaic Idealize.SL.Sem Cert.KernelIdeal Cert.KernelIdeal.Gen Cert.Reads Cert.RefEnlarge
open Cert.ReferenceIdeal.Value
open scoped BigOperators

/-- The kernel's written points are the reference's. -/
theorem put_eq (V' : RV) : StepG.put (StepF.flatten (res_main_v442 V')) (res_main_indices_137 V') (res_main_v712 V') = RefDown.pts2 V' := by
  unfold RefDown.pts2 StepG.put StepF.flatten cat2 res_main_v715
  generalize (res_main_v442 V' : FVec Ideal S4x448x448x21 .f32) = x
  generalize (res_main_indices_137 V' : IVec S4x8192 32) = k
  generalize (res_main_v712 V' : FVec Ideal S4x8192x21 .f32) = u
  rfl

/-- The weights are real numbers. -/
theorem weights_real (i : S224x448.Idx) : IsReal (StepG.weights i) := by
  obtain ⟨a, b, rfl⟩ : ∃ a b, i = ix2 a b := ⟨i 0, i 1, by funext k; fin_cases k <;> rfl⟩
  exact ⟨_, DownWeights.weights_at a b⟩

/-- The doubly reduced sums, with the kernel's weights. -/
theorem sums_at (V' : RV) (b : Fin 4) (i j : Fin 224) (c : Fin 21) :
    (res_main_v810 V' : FVec Ideal S4x224x224x21 .f32) (ix4 b i j c)
      = ∑ x : Fin 448, (∑ y : Fin 448, StepG.weights (ix2 i y) * RefDown.pts2 V' (ix3 b (Probs.pixel y x) c)) * StepG.weights (ix2 j x) := by
  refine (RefDown.v810_at V' b i j c).trans ?_
  simp only [RefDown.grid2_at, DownWeights.weights_at, DownWeights.wt_down]

/-- The exponentials. -/
theorem exps (V' : RV) : (res_main_v817 V' : FVec Ideal ReferenceIdeal.S4x224x224x21 .f32) = RefDown.shifted (res_main_v810 V')
    (Host.reduce FloatOps.maximumf (res_main_v810 V') (constant ReferenceIdeal.S_ .f32 0xFF800000#32) ReferenceIdeal.Gen.reducesTo_S4x224x224x21_S4x224x224_d3 ReferenceIdeal.Gen.h_S_) := by
  unfold res_main_v817 RefDown.shifted
  generalize (res_main_v810 V' : FVec Ideal ReferenceIdeal.S4x224x224x21 .f32) = x
  rfl

/-- The reference's probabilities at one place. -/
theorem shares_at (V' : RV) (b : Fin 4) (i j : Fin 224) (c : Fin 21) :
    RefDown.shared (res_main_v817 V') (Host.reduceAdd (res_main_v817 V' : FVec Ideal ReferenceIdeal.S4x224x224x21 .f32) (constant ReferenceIdeal.S_ .f32 0x00000000#32)
      ReferenceIdeal.Gen.reducesTo_S4x224x224x21_S4x224x224_d3 ReferenceIdeal.Gen.h_S_) (ix4 b i j c)
      = Down.soft (fun k => (res_main_v810 V' : FVec Ideal S4x224x224x21 .f32) (ix4 b i j k)) c :=
  RefDown.soft_at _ _ _ _ (exps V') (fun b i j => RefDown.top_at _ b i j) (fun b i j => RefDown.total_at _ b i j) b i j c

/-- The first result: the probabilities. -/
theorem probabilities (V' : RV) (hg : ∀ i, IsReal (RefDown.pts2 V' i)) :
    transpose S4x224x224x21 [0, 2, 3, 1] (Region12.probs
        (shapeCast S4x21x224x448 (Region12.rows StepG.weights (StepG.planes (RefDown.pts2 V'))) shapeCasts_S84x224x448_S4x21x224x448)
        (transpose S448x224 [1, 0] StepG.weights transposes_S224x448_S448x224_1_0)) transposes_S4x21x224x224_S4x224x224x21_0_2_3_1
      = RefDown.shared (res_main_v817 V') (Host.reduceAdd (res_main_v817 V' : FVec Ideal ReferenceIdeal.S4x224x224x21 .f32) (constant ReferenceIdeal.S_ .f32 0x00000000#32)
          ReferenceIdeal.Gen.reducesTo_S4x224x224x21_S4x224x224_d3 ReferenceIdeal.Gen.h_S_) := by
  have key := shares_at V'
  have sums := sums_at V'
  have mine := Probs.probs_at StepG.weights weights_real (RefDown.pts2 V') hg
  generalize RefDown.shared (res_main_v817 V') _ = z at *
  generalize transpose S4x224x224x21 [0, 2, 3, 1] (Region12.probs _ _) _ = y at *
  funext t
  obtain ⟨b, i, j, c, rfl⟩ : ∃ b i j c, t = ix4 b i j c := ⟨t 0, t 1, t 2, t 3, by funext k; fin_cases k <;> rfl⟩
  refine (mine b i j c).trans ((congrArg (fun f => Down.soft f c) (funext fun k => (sums b i j k).symm)).trans (key b i j c).symm)

/-- The written points are real numbers. -/
theorem points_real (V' : RV) (hx : Finite.All (res_main_v442 V' : FVec Ideal ReferenceIdeal.S4x448x448x21 .f32))
    (hu : Finite.All (res_main_v712 V' : FVec Ideal ReferenceIdeal.S4x8192x21 .f32)) : ∀ i, IsReal (RefDown.pts2 V' i) :=
  Finite.scatter _ (Finite.shapeCast _ hx) hu

end Cert.Final

end
-- ==== Proof.Own.Value.lean ====
/-
  The kernel's three results are the reference's.
-/
module

public import proofs.«01_k».proof.Proof.Own.States
public import proofs.«01_k».proof.Proof.Own.Tail
public import proofs.«01_k».proof.Proof.Own.Final

@[expose] public section

set_option maxRecDepth 16384

noncomputable section

namespace Cert.Value

open Idealize.ShloMosaic Idealize.ShloMosaic.StableHlo Idealize.ShloMosaic.TcCoe Idealize.SL.Sem Cert.KernelIdeal Cert.KernelIdeal.Gen Cert.Reads Cert.RefEnlarge
open Cert.ReferenceIdeal.Value

/-- The first choice leaves the arguments. -/
theorem args1 (V : KV) (V' : RV) (hA : States.Args V V') : States.Args (StepA.post V) V' := by
  have k := fun r h h1 h2 h3 h4 => Kept.enlarging1 V r h h1 h2 h3 h4
  have k1 := k main_arg1 (by decide) (by decide) (by decide) (by decide) (by decide)
  have k2 := k main_arg2 (by decide) (by decide) (by decide) (by decide) (by decide)
  have k3 := k main_arg3 (by decide) (by decide) (by decide) (by decide) (by decide)
  have k4 := k main_arg4 (by decide) (by decide) (by decide) (by decide) (by decide)
  have k5 := k main_arg5 (by decide) (by decide) (by decide) (by decide) (by decide)
  have k6 := k main_arg6 (by decide) (by decide) (by decide) (by decide) (by decide)
  have k7 := k main_arg7 (by decide) (by decide) (by decide) (by decide) (by decide)
  have k8 := k main_arg8 (by decide) (by decide) (by decide) (by decide) (by decide)
  have k9 := k main_arg9 (by decide) (by decide) (by decide) (by decide) (by decide)
  clear k
  generalize StepA.post V = A at *
  obtain ⟨a1, a2, a3, a4, a5, a6, a7, a8, a9⟩ := hA
  exact ⟨k1.trans a1, k2.trans a2, k3.trans a3, k4.trans a4, k5.trans a5, k6.trans a6, k7.trans a7, k8.trans a8, k9.trans a9⟩

/-- The first enlargement is real. -/
theorem real76 (V : KV) (V' : RV) (h0 : (V (Proc.devRef .tc main_arg0) : FVec Ideal S4x112x112x21 .f32) = V' (Proc.devRef .tc ReferenceIdeal.main_arg0))
    (hr : ∀ i, IsReal ((V (Proc.devRef .tc main_arg0) : FVec Ideal S4x112x112x21 .f32) i)) :
    Finite.All (res_main_v76 V' : FVec Ideal ReferenceIdeal.S4x224x224x21 .f32) := fun i => by
  rw [← StepA.enlarged V V' h0 hr, StepA.post_eq, StepA.rest39, StepA.cols, StepA.rows]
  idx_vars i
  exact Enlarge.real1 _ hr _ _ _ _

/-- The first step, from the launch. -/
theorem step1 (V : KV) (V' : RV) (h0 : (V (Proc.devRef .tc main_arg0) : FVec Ideal S4x112x112x21 .f32) = V' (Proc.devRef .tc ReferenceIdeal.main_arg0))
    (hr : ∀ i, IsReal ((V (Proc.devRef .tc main_arg0) : FVec Ideal S4x112x112x21 .f32) i)) (hA : States.Args V V') :
    (Kept.first (StepA.post V) (Proc.devRef .tc main_v336) : FVec Ideal S4x224x224x21 .f32) = grid1 V'
    ∧ (Kept.first (StepA.post V) (Proc.devRef .tc main_v317) : FVec Ideal S4x8192x21 .f32) = res_main_v346 V'
    ∧ (Kept.first (StepA.post V) (Proc.devRef .tc main_v68) : FVec Ideal S4x8192x2 .f32) = res_main_v97 V'
    ∧ States.Args (Kept.first (StepA.post V)) V' :=
  States.first _ V' (StepA.enlarged V V' h0 hr) (StepA.chosen V V' h0 hr).1 (StepA.chosen V V' h0 hr).2 (args1 V V' hA)

/-- What the two steps leave before the first pipelined kernel, with the values' being real. -/
structure Ready (V : KV) (V' : RV) : Prop where
  v317 : (V (Proc.devRef .tc main_v317) : FVec Ideal S4x8192x21 .f32) = res_main_v346 V'
  v68 : (V (Proc.devRef .tc main_v68) : FVec Ideal S4x8192x2 .f32) = res_main_v97 V'
  v405 : (V (Proc.devRef .tc main_v405) : FVec Ideal S4x8192x2 .f32) = res_main_v463 V'
  v406 : (V (Proc.devRef .tc main_v406) : FVec Ideal S4x200704x21 .f32) = StepF.flatten (res_main_v442 V')
  idx : (V (Proc.devRef .tc main_indices_103) : IVec S4x8192 32) = res_main_indices_137 V'
  head : shapeCast S4x8192x21 (Region0.heads (V (Proc.devRef .tc main_v523)) (V (Proc.devRef .tc main_arg2))
    (V (Proc.devRef .tc main_v524)) (V (Proc.devRef .tc main_arg4)) (V (Proc.devRef .tc main_v525))
    (V (Proc.devRef .tc main_arg6)) (V (Proc.devRef .tc main_v526)) (V (Proc.devRef .tc main_arg8))
    (V (Proc.devRef .tc main_v527))) shapeCasts_S32768x21_S4x8192x21 = res_main_v712 V'

/-- The state before the first pipelined kernel. -/
theorem ready (V : KV) (V' : RV) (h0 : (V (Proc.devRef .tc main_arg0) : FVec Ideal S4x112x112x21 .f32) = V' (Proc.devRef .tc ReferenceIdeal.main_arg0))
    (hr : ∀ i, IsReal ((V (Proc.devRef .tc main_arg0) : FVec Ideal S4x112x112x21 .f32) i)) (hA : States.Args V V')
    (hg : Finite.All (grid1 V')) : Ready (Kept.second (Kept.first (StepA.post V))) V' := by
  obtain ⟨g, p317, p68, hA2⟩ := step1 V V' h0 hr hA
  generalize Kept.first (StepA.post V) = B at *
  obtain ⟨s405, s406, si, s523, s524, s525, s526, s527, s2, s4, s6, s8, s317, s68⟩ := States.second B V' g hg hA2
  generalize Kept.second B = C at *
  refine ⟨s317.trans p317, s68.trans p68, s405, s406, si, ?_⟩
  rw [s523, s524, s525, s526, s527]
  exact Logits.heads_eq V' _ _ _ _ _ _ _ _ s2 rfl s4 rfl s6 rfl s8 rfl

variable (m : (ℓ : Loc nD τ sig) → Buf (Elt Ideal) ℓ) (ρ : Dev nD → PrngReg) (c : Dev nD) (V' : RV)

/-- The three results, from a ready state. -/
theorem results (h : Ready (W49 m ρ c) V') (hp : ∀ i, IsReal (RefDown.pts2 V' i)) :
    (W61 m ρ c (Proc.devRef .tc main_v585) : FVec Ideal S4x224x224x21 .f32)
      = RefDown.shared (res_main_v817 V') (Host.reduceAdd (res_main_v817 V' : FVec Ideal ReferenceIdeal.S4x224x224x21 .f32) (constant ReferenceIdeal.S_ .f32 0x00000000#32)
          ReferenceIdeal.Gen.reducesTo_S4x224x224x21_S4x224x224_d3 ReferenceIdeal.Gen.h_S_)
    ∧ (W61 m ρ c (Proc.devRef .tc main_v586) : FVec Ideal S4x16384x21 .f32)
      = cat2 S4x16384x21 1 S4x8192x21 S4x8192x21 (res_main_v346 V' : FVec Ideal S4x8192x21 .f32) (res_main_v712 V' : FVec Ideal S4x8192x21 .f32)
          concatenates_S4x8192x21_S4x8192x21_S4x16384x21_d1
    ∧ (W61 m ρ c (Proc.devRef .tc main_v587) : FVec Ideal S4x16384x2 .f32)
      = cat2 S4x16384x2 1 S4x8192x2 S4x8192x2 (res_main_v97 V' : FVec Ideal S4x8192x2 .f32) (res_main_v463 V' : FVec Ideal S4x8192x2 .f32)
          concatenates_S4x8192x2_S4x8192x2_S4x16384x2_d1 := by
  obtain ⟨r1, r2, r3⟩ := StepG.results (W60 m ρ c)
  obtain ⟨t317, t68, t405, t529⟩ := Tail.parts m ρ c
  have hh := Tail.heads m ρ c
  have e1 := Tail.reduced1 m ρ c
  have e2 := Tail.reduced2 m ρ c
  rw [hh, h.head] at t529
  rw [hh, h.head, h.v406, h.idx, Final.put_eq] at e1
  rw [e1] at e2
  rw [e2] at r1
  rw [t317, t529, h.v317] at r2
  rw [t68, t405, h.v68, h.v405] at r3
  exact ⟨r1.trans (Final.probabilities V' hp), r2, r3⟩

end Cert.Value

end
-- ==== Proof.Own.Launch.lean ====
/-
  The precondition: every argument holds real numbers.
-/
module

public import proofs.«01_k».proof.Defs
public import proofs.«01_k».proof.Proof.Own.Finite

@[expose] public section

set_option maxRecDepth 16384

noncomputable section

namespace Cert.Launch

open Idealize.ShloMosaic Idealize.SL.Sem

/-- The bits of infinity. -/
theorem lit_top : Ideal.ofBits .f32 0x7F800000#32 = (⊤ : EReal) := by
  simp [Ideal.ofBits, Ideal.ieee]

/-- An array whose sizes are all below infinity holds real numbers. -/
theorem of_below {s : Shape} (x : FVec Ideal s .f32) {s0 : Shape} (d : Fin s0.rank → Fin s.rank) (hb : s0.BroadcastsInDim s d)
    (h : cmpf .olt (Host.absf x) (broadcastInDim s d hb (constant s0 .f32 0x7F800000#32)) = fun _ => 1#1) : Finite.All x := fun i => by
  have h' : Ideal.cmp .olt (max (x i) (-(x i))) (Ideal.ofBits .f32 0x7F800000#32) = 1#1 := congrFun h i
  rw [lit_top] at h'
  refine IsReal.of_abs_lt_top ?_
  by_contra hl
  simp only [Ideal.cmp, hl] at h'
  exact absurd h' (by decide)

end Cert.Launch

end
-- ==== Proof.Own.Device.lean ====
/-
  The value claim: over the reals the kernel's three results are the reference's.
-/
module

public import proofs.«01_k».proof.Defs
public import proofs.«01_k».proof.Proof.Own.Value
public import proofs.«01_k».proof.Proof.Own.Launch
public import proofs.«01_k».proof.Proof.Gen.Pre_finite
public import proofs.«01_k».proof.Proof.Gen.ReferenceIdeal.Run

@[expose] public section

set_option maxRecDepth 16384

noncomputable section

namespace Cert.Device

open Idealize.ShloMosaic Idealize.ShloMosaic.StableHlo Idealize.ShloMosaic.TcCoe Idealize.SL.Sem Cert.KernelIdeal Cert.KernelIdeal.Gen Cert.Reads Cert.RefEnlarge
open Cert.ReferenceIdeal.Value

/-- Every argument is real. -/
theorem real (m : (ℓ : Loc nD τ sig) → Buf (Elt Ideal) ℓ) (h : Pre_KernelIdeal_finite (hPre_finite := Cert.Pre_finite.Gen.facts) m) (c : Dev nD) :
Finite.All (m ((c.tc : Thread nD τ).loc main_arg0) : FVec Ideal S4x112x112x21 .f32)
    ∧ Finite.All (m ((c.tc : Thread nD τ).loc main_arg1) : FVec Ideal S4x112x112x256 .f32)
    ∧ Finite.All (m ((c.tc : Thread nD τ).loc main_arg2) : FVec Ideal S277x256 .f32)
    ∧ Finite.All (m ((c.tc : Thread nD τ).loc main_arg3) : FVec Ideal S256 .f32)
    ∧ Finite.All (m ((c.tc : Thread nD τ).loc main_arg4) : FVec Ideal S277x256 .f32)
    ∧ Finite.All (m ((c.tc : Thread nD τ).loc main_arg5) : FVec Ideal S256 .f32)
    ∧ Finite.All (m ((c.tc : Thread nD τ).loc main_arg6) : FVec Ideal S277x256 .f32)
    ∧ Finite.All (m ((c.tc : Thread nD τ).loc main_arg7) : FVec Ideal S256 .f32)
    ∧ Finite.All (m ((c.tc : Thread nD τ).loc main_arg8) : FVec Ideal S277x21 .f32)
    ∧ Finite.All (m ((c.tc : Thread nD τ).loc main_arg9) : FVec Ideal S21 .f32) :=
  ⟨Launch.of_below _ _ _ (h c).1, Launch.of_below _ _ _ (h c).2.1, Launch.of_below _ _ _ (h c).2.2.1, Launch.of_below _ _ _ (h c).2.2.2.1, Launch.of_below _ _ _ (h c).2.2.2.2.1, Launch.of_below _ _ _ (h c).2.2.2.2.2.1, Launch.of_below _ _ _ (h c).2.2.2.2.2.2.1, Launch.of_below _ _ _ (h c).2.2.2.2.2.2.2.1, Launch.of_below _ _ _ (h c).2.2.2.2.2.2.2.2.1, Launch.of_below _ _ _ (h c).2.2.2.2.2.2.2.2.2⟩

variable (m : (ℓ : Loc nD τ sig) → Buf (Elt Ideal) ℓ) (ρ : Dev nD → PrngReg) (c : Dev nD) (V' : RV)

/-- The kernel's results, from the launches' agreement and the arguments' being real. -/
theorem device
    (h0 : (m ((c.tc : Thread nD τ).loc main_arg0) : FVec Ideal S4x112x112x21 .f32) = V' (Proc.devRef .tc ReferenceIdeal.main_arg0))
    (h1 : (m ((c.tc : Thread nD τ).loc main_arg1) : FVec Ideal S4x112x112x256 .f32) = V' (Proc.devRef .tc ReferenceIdeal.main_arg1))
    (h2 : (m ((c.tc : Thread nD τ).loc main_arg2) : FVec Ideal S277x256 .f32) = V' (Proc.devRef .tc ReferenceIdeal.main_arg2))
    (h3 : (m ((c.tc : Thread nD τ).loc main_arg3) : FVec Ideal S256 .f32) = V' (Proc.devRef .tc ReferenceIdeal.main_arg3))
    (h4 : (m ((c.tc : Thread nD τ).loc main_arg4) : FVec Ideal S277x256 .f32) = V' (Proc.devRef .tc ReferenceIdeal.main_arg4))
    (h5 : (m ((c.tc : Thread nD τ).loc main_arg5) : FVec Ideal S256 .f32) = V' (Proc.devRef .tc ReferenceIdeal.main_arg5))
    (h6 : (m ((c.tc : Thread nD τ).loc main_arg6) : FVec Ideal S277x256 .f32) = V' (Proc.devRef .tc ReferenceIdeal.main_arg6))
    (h7 : (m ((c.tc : Thread nD τ).loc main_arg7) : FVec Ideal S256 .f32) = V' (Proc.devRef .tc ReferenceIdeal.main_arg7))
    (h8 : (m ((c.tc : Thread nD τ).loc main_arg8) : FVec Ideal S277x21 .f32) = V' (Proc.devRef .tc ReferenceIdeal.main_arg8))
    (h9 : (m ((c.tc : Thread nD τ).loc main_arg9) : FVec Ideal S21 .f32) = V' (Proc.devRef .tc ReferenceIdeal.main_arg9))
    (r0 : Finite.All (m ((c.tc : Thread nD τ).loc main_arg0) : FVec Ideal S4x112x112x21 .f32))
    (r1 : Finite.All (m ((c.tc : Thread nD τ).loc main_arg1) : FVec Ideal S4x112x112x256 .f32))
    (r2 : Finite.All (m ((c.tc : Thread nD τ).loc main_arg2) : FVec Ideal S277x256 .f32))
    (r3 : Finite.All (m ((c.tc : Thread nD τ).loc main_arg3) : FVec Ideal S256 .f32))
    (r4 : Finite.All (m ((c.tc : Thread nD τ).loc main_arg4) : FVec Ideal S277x256 .f32))
    (r5 : Finite.All (m ((c.tc : Thread nD τ).loc main_arg5) : FVec Ideal S256 .f32))
    (r6 : Finite.All (m ((c.tc : Thread nD τ).loc main_arg6) : FVec Ideal S277x256 .f32))
    (r7 : Finite.All (m ((c.tc : Thread nD τ).loc main_arg7) : FVec Ideal S256 .f32))
    (r8 : Finite.All (m ((c.tc : Thread nD τ).loc main_arg8) : FVec Ideal S277x21 .f32))
    (r9 : Finite.All (m ((c.tc : Thread nD τ).loc main_arg9) : FVec Ideal S21 .f32)) :
    (W61 m ρ c (Proc.devRef .tc main_v585) : FVec Ideal S4x224x224x21 .f32)
      = RefDown.shared (res_main_v817 V') (Host.reduceAdd (res_main_v817 V' : FVec Ideal ReferenceIdeal.S4x224x224x21 .f32) (constant ReferenceIdeal.S_ .f32 0x00000000#32)
          ReferenceIdeal.Gen.reducesTo_S4x224x224x21_S4x224x224_d3 ReferenceIdeal.Gen.h_S_)
    ∧ (W61 m ρ c (Proc.devRef .tc main_v586) : FVec Ideal S4x16384x21 .f32)
      = cat2 S4x16384x21 1 S4x8192x21 S4x8192x21 (res_main_v346 V' : FVec Ideal S4x8192x21 .f32) (res_main_v712 V' : FVec Ideal S4x8192x21 .f32)
          concatenates_S4x8192x21_S4x8192x21_S4x16384x21_d1
    ∧ (W61 m ρ c (Proc.devRef .tc main_v587) : FVec Ideal S4x16384x2 .f32)
      = cat2 S4x16384x2 1 S4x8192x2 S4x8192x2 (res_main_v97 V' : FVec Ideal S4x8192x2 .f32) (res_main_v463 V' : FVec Ideal S4x8192x2 .f32)
          concatenates_S4x8192x2_S4x8192x2_S4x16384x2_d1 := by
  have hA : States.Args (W0 m ρ c) V' := ⟨h1, h2, h3, h4, h5, h6, h7, h8, h9⟩
  have h76 := Value.real76 (W0 m ρ c) V' h0 r0
  rw [h1] at r1
  rw [h2] at r2
  rw [h3] at r3
  rw [h4] at r4
  rw [h5] at r5
  rw [h6] at r6
  rw [h7] at r7
  rw [h8] at r8
  rw [h9] at r9
  have hg := Finite.grid V' r1 r2 r3 r4 r5 r6 r7 r8 r9 h76
  have hR := Value.ready (W0 m ρ c) V' h0 r0 hA hg
  have hs := (Value.step1 (W0 m ρ c) V' h0 r0 hA).1
  have h442 : Finite.All (res_main_v442 V' : FVec Ideal ReferenceIdeal.S4x448x448x21 .f32) := StepE.real _ V' hs hg
  have hp := Final.points_real V' h442 (Finite.head2 V' r1 r2 r3 r4 r5 r6 r7 r8 r9 h442)
  rw [← Tail.before] at hR
  exact Value.results m ρ c V' hR hp

end Cert.Device

end
-- ==== Proof.Own.KernelRun.lean ====
/-
  The kernel's run, with its results read from the last state.
-/
module

public import proofs.«01_k».proof.Proof.Gen.KernelIdeal.Frame

@[expose] public section

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (m : (ℓ : Loc nD τ sig) → Buf (Elt F) ℓ) (ρ : Dev nD → PrngReg)

-- the launch's implicit arguments are found by unifying its conclusion with this one
set_option backward.isDefEq.respectTransparency.types false in
/-- The run ends with the results of the last state and with the arguments as launched. -/
theorem run : θ_run defs (onTc (τ := τ) (main (F := F))) ⟨m, fun _ => 0, ρ⟩ (fun r => ∀ c : Dev nD,
      r.2.mem ((c.tc : Thread nD τ).loc main_v585) = W61 m ρ c (Proc.devRef .tc main_v585)
      ∧ r.2.mem ((c.tc : Thread nD τ).loc main_v586) = W61 m ρ c (Proc.devRef .tc main_v586)
      ∧ r.2.mem ((c.tc : Thread nD τ).loc main_v587) = W61 m ρ c (Proc.devRef .tc main_v587)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W61 m ρ c b)
    (hfin := fun c s' => by
      iintro ⟨⟨Hh, -⟩, HSI⟩
      unfold StableHlo.held
      imodintro
      iapply (pointsTo_read_all (Pipeline.ucRefs τ sig) (fun b => (((c : Thread nD τ)).1, b)) (W61 m ρ c) s')
      isplitl [Hh] <;> iassumption)
    (hQ := fun s h _ => fun c =>
      ⟨h c _ (mem_uc main_v585 (by decide)),
       h c _ (mem_uc main_v586 (by decide)),
       h c _ (mem_uc main_v587 (by decide)),
       (h c _ (mem_uc main_arg0 (by decide))).trans (W61_main_arg0 m ρ c),
       (h c _ (mem_uc main_arg1 (by decide))).trans (W61_main_arg1 m ρ c),
       (h c _ (mem_uc main_arg2 (by decide))).trans (W61_main_arg2 m ρ c),
       (h c _ (mem_uc main_arg3 (by decide))).trans (W61_main_arg3 m ρ c),
       (h c _ (mem_uc main_arg4 (by decide))).trans (W61_main_arg4 m ρ c),
       (h c _ (mem_uc main_arg5 (by decide))).trans (W61_main_arg5 m ρ c),
       (h c _ (mem_uc main_arg6 (by decide))).trans (W61_main_arg6 m ρ c),
       (h c _ (mem_uc main_arg7 (by decide))).trans (W61_main_arg7 m ρ c),
       (h c _ (mem_uc main_arg8 (by decide))).trans (W61_main_arg8 m ρ c),
       (h c _ (mem_uc main_arg9 (by decide))).trans (W61_main_arg9 m ρ c)⟩)

end Cert.KernelRun

end
-- ==== Proof.Own.Algebraic.lean ====
/-
  The value claim: over the reals the kernel's three results are the reference's.
-/
module

public import proofs.«01_k».proof.Proof.Own.Device
public import proofs.«01_k».proof.Proof.Own.KernelRun
public import proofs.«01_k».proof.Proof.Gen.KernelIdeal
public import proofs.«01_k».proof.Proof.Gen.ReferenceIdeal

@[expose] public section

set_option maxRecDepth 16384
set_option maxHeartbeats 2000000

noncomputable section

namespace Cert.Algebraic

open Idealize.ShloMosaic Idealize.SL.Sem

/-- The kernel and the reference, launched with the same real arguments, end with the same three results. -/
theorem algebraic : algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  have key := fun c => by
    obtain ⟨h0, h1, h2, h3, h4, h5, h6, h7, h8, h9⟩ := hagree c
    obtain ⟨r0, r1, r2, r3, r4, r5, r6, r7, r8, r9⟩ := Device.real m hpre c
    exact Device.device m g c (StableHlo.launchContents m' c) h0.symm h1.symm h2.symm h3.symm h4.symm h5.symm h6.symm h7.symm h8.symm h9.symm
      r0 r1 r2 r3 r4 r5 r6 r7 r8 r9
  refine ⟨_, _, _, KernelRun.run m g, (Cert.ReferenceIdeal.Value.run (F := Ideal) m' g').mono fun r h c => ?_⟩
  obtain ⟨k1, k2, k3⟩ := key c
  obtain ⟨e1, e2, e3, ha⟩ := h c
  exact ⟨e1.trans k1.symm, e2.trans k2.symm, e3.trans k3.symm, ha⟩

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Own.Algebraic
public import Idealize.ShloMosaic.Adequacy
public import Idealize.ShloMosaic.Init

@[expose] public section

noncomputable section

namespace Cert.Proof

open Idealize.ShloMosaic Idealize.SL.Sem Cert.Kernel

/-- The reference's frame. -/
theorem frame_r : Cert.quiescent_ReferenceIdeal (hReferenceIdeal := Cert.ReferenceIdeal.Gen.facts) := fun m g _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m g)

/-- Everything claimed. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  frame_r,
  fun m ρ _ => frame_r m ρ trivial,
  trivial,
  Cert.Algebraic.algebraic⟩

end Cert.Proof

end
